-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Tiles [hPre_graphs_in_order : Cert.Pre_graphs_in_order.Facts] (m : (ℓ : Loc Cert.Tiles.nD Cert.Tiles.τ Cert.Tiles.sig) → Buf (Elt Bits) ℓ) : Prop :=
  ∀ c : Dev Cert.Tiles.nD,
    (Cert.Pre_graphs_in_order.fn (F := Bits) (m ((c.tc : Thread Cert.Tiles.nD Cert.Tiles.τ).loc Cert.Tiles.main_arg0)) (m ((c.tc : Thread Cert.Tiles.nD Cert.Tiles.τ).loc Cert.Tiles.main_arg1)) (m ((c.tc : Thread Cert.Tiles.nD Cert.Tiles.τ).loc Cert.Tiles.main_arg2))) = (fun _ => 1#1)

def Pre_TilesIdeal [hPre_graphs_in_order : Cert.Pre_graphs_in_order.Facts] (m : (ℓ : Loc Cert.TilesIdeal.nD Cert.TilesIdeal.τ Cert.TilesIdeal.sig) → Buf (Elt Ideal) ℓ) : Prop :=
  ∀ c : Dev Cert.TilesIdeal.nD,
    (Cert.Pre_graphs_in_order.fn (F := Ideal) (m ((c.tc : Thread Cert.TilesIdeal.nD Cert.TilesIdeal.τ).loc Cert.TilesIdeal.main_arg0)) (m ((c.tc : Thread Cert.TilesIdeal.nD Cert.TilesIdeal.τ).loc Cert.TilesIdeal.main_arg1)) (m ((c.tc : Thread Cert.TilesIdeal.nD Cert.TilesIdeal.τ).loc Cert.TilesIdeal.main_arg2))) = (fun _ => 1#1)

def Pre_TilesReferenceIdeal (m : (ℓ : Loc Cert.TilesReferenceIdeal.nD Cert.TilesReferenceIdeal.τ Cert.TilesReferenceIdeal.sig) → Buf (Elt Ideal) ℓ) : Prop :=
  True

def Pre_TilesReferenceIdeal_graphs_in_order [hPre_graphs_in_order : Cert.Pre_graphs_in_order.Facts] (m : (ℓ : Loc Cert.TilesReferenceIdeal.nD Cert.TilesReferenceIdeal.τ Cert.TilesReferenceIdeal.sig) → Buf (Elt Ideal) ℓ) : Prop :=
  ∀ c : Dev Cert.TilesReferenceIdeal.nD,
    (Cert.Pre_graphs_in_order.fn (F := Ideal) (m ((c.tc : Thread Cert.TilesReferenceIdeal.nD Cert.TilesReferenceIdeal.τ).loc Cert.TilesReferenceIdeal.main_arg0)) (m ((c.tc : Thread Cert.TilesReferenceIdeal.nD Cert.TilesReferenceIdeal.τ).loc Cert.TilesReferenceIdeal.main_arg1)) (m ((c.tc : Thread Cert.TilesReferenceIdeal.nD Cert.TilesReferenceIdeal.τ).loc Cert.TilesReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1))
      ∧ r.2.sem = fun _ => 0)

def quiescent_Tiles [hTiles : Cert.Tiles.Facts] [hPre_graphs_in_order : Cert.Pre_graphs_in_order.Facts] : Prop :=
  ∀ (m : (ℓ : Loc Cert.Tiles.nD Cert.Tiles.τ Cert.Tiles.sig) → Buf (Elt Bits) ℓ) (g : Dev Cert.Tiles.nD → PrngReg), Pre_Tiles m →
    θ_run (Cert.Tiles.defs (F := Bits)) (Cert.Tiles.threads (F := Bits)) ⟨m, fun _ => 0, g⟩ (fun r => (∀ c : Dev Cert.Tiles.nD,
      r.2.mem ((c.tc : Thread Cert.Tiles.nD Cert.Tiles.τ).loc Cert.Tiles.main_arg0) = m ((c.tc : Thread Cert.Tiles.nD Cert.Tiles.τ).loc Cert.Tiles.main_arg0)
      ∧ r.2.mem ((c.tc : Thread Cert.Tiles.nD Cert.Tiles.τ).loc Cert.Tiles.main_arg1) = m ((c.tc : Thread Cert.Tiles.nD Cert.Tiles.τ).loc Cert.Tiles.main_arg1)
      ∧ r.2.mem ((c.tc : Thread Cert.Tiles.nD Cert.Tiles.τ).loc Cert.Tiles.main_arg2) = m ((c.tc : Thread Cert.Tiles.nD Cert.Tiles.τ).loc Cert.Tiles.main_arg2))
      ∧ r.2.sem = fun _ => 0)

def quiescent_TilesIdeal [hTilesIdeal : Cert.TilesIdeal.Facts] [hPre_graphs_in_order : Cert.Pre_graphs_in_order.Facts] : Prop :=
  ∀ (m : (ℓ : Loc Cert.TilesIdeal.nD Cert.TilesIdeal.τ Cert.TilesIdeal.sig) → Buf (Elt Ideal) ℓ) (g : Dev Cert.TilesIdeal.nD → PrngReg), Pre_TilesIdeal m →
    θ_run (Cert.TilesIdeal.defs (F := Ideal)) (Cert.TilesIdeal.threads (F := Ideal)) ⟨m, fun _ => 0, g⟩ (fun r => (∀ c : Dev Cert.TilesIdeal.nD,
      r.2.mem ((c.tc : Thread Cert.TilesIdeal.nD Cert.TilesIdeal.τ).loc Cert.TilesIdeal.main_arg0) = m ((c.tc : Thread Cert.TilesIdeal.nD Cert.TilesIdeal.τ).loc Cert.TilesIdeal.main_arg0)
      ∧ r.2.mem ((c.tc : Thread Cert.TilesIdeal.nD Cert.TilesIdeal.τ).loc Cert.TilesIdeal.main_arg1) = m ((c.tc : Thread Cert.TilesIdeal.nD Cert.TilesIdeal.τ).loc Cert.TilesIdeal.main_arg1)
      ∧ r.2.mem ((c.tc : Thread Cert.TilesIdeal.nD Cert.TilesIdeal.τ).loc Cert.TilesIdeal.main_arg2) = m ((c.tc : Thread Cert.TilesIdeal.nD Cert.TilesIdeal.τ).loc Cert.TilesIdeal.main_arg2))
      ∧ r.2.sem = fun _ => 0)

def quiescent_TilesReferenceIdeal [hTilesReferenceIdeal : Cert.TilesReferenceIdeal.Facts] : Prop :=
  ∀ (m : (ℓ : Loc Cert.TilesReferenceIdeal.nD Cert.TilesReferenceIdeal.τ Cert.TilesReferenceIdeal.sig) → Buf (Elt Ideal) ℓ) (g : Dev Cert.TilesReferenceIdeal.nD → PrngReg), Pre_TilesReferenceIdeal m →
    θ_run (Cert.TilesReferenceIdeal.defs (F := Ideal)) (onTc (τ := Cert.TilesReferenceIdeal.τ) (Cert.TilesReferenceIdeal.main (F := Ideal))) ⟨m, fun _ => 0, g⟩ (fun r => (∀ c : Dev Cert.TilesReferenceIdeal.nD,
      r.2.mem ((c.tc : Thread Cert.TilesReferenceIdeal.nD Cert.TilesReferenceIdeal.τ).loc Cert.TilesReferenceIdeal.main_arg0) = m ((c.tc : Thread Cert.TilesReferenceIdeal.nD Cert.TilesReferenceIdeal.τ).loc Cert.TilesReferenceIdeal.main_arg0)
      ∧ r.2.mem ((c.tc : Thread Cert.TilesReferenceIdeal.nD Cert.TilesReferenceIdeal.τ).loc Cert.TilesReferenceIdeal.main_arg1) = m ((c.tc : Thread Cert.TilesReferenceIdeal.nD Cert.TilesReferenceIdeal.τ).loc Cert.TilesReferenceIdeal.main_arg1)
      ∧ r.2.mem ((c.tc : Thread Cert.TilesReferenceIdeal.nD Cert.TilesReferenceIdeal.τ).loc Cert.TilesReferenceIdeal.main_arg2) = m ((c.tc : Thread Cert.TilesReferenceIdeal.nD Cert.TilesReferenceIdeal.τ).loc Cert.TilesReferenceIdeal.main_arg2))
      ∧ r.2.sem = fun _ => 0)

def quiescent_TilesReferenceIdeal_pre_graphs_in_order [hTilesReferenceIdeal : Cert.TilesReferenceIdeal.Facts] [hPre_graphs_in_order : Cert.Pre_graphs_in_order.Facts] : Prop :=
  ∀ (m : (ℓ : Loc Cert.TilesReferenceIdeal.nD Cert.TilesReferenceIdeal.τ Cert.TilesReferenceIdeal.sig) → Buf (Elt Ideal) ℓ) (g : Dev Cert.TilesReferenceIdeal.nD → PrngReg), Pre_TilesReferenceIdeal_graphs_in_order m →
    θ_run (Cert.TilesReferenceIdeal.defs (F := Ideal)) (onTc (τ := Cert.TilesReferenceIdeal.τ) (Cert.TilesReferenceIdeal.main (F := Ideal))) ⟨m, fun _ => 0, g⟩ (fun r => (∀ c : Dev Cert.TilesReferenceIdeal.nD,
      r.2.mem ((c.tc : Thread Cert.TilesReferenceIdeal.nD Cert.TilesReferenceIdeal.τ).loc Cert.TilesReferenceIdeal.main_arg0) = m ((c.tc : Thread Cert.TilesReferenceIdeal.nD Cert.TilesReferenceIdeal.τ).loc Cert.TilesReferenceIdeal.main_arg0)
      ∧ r.2.mem ((c.tc : Thread Cert.TilesReferenceIdeal.nD Cert.TilesReferenceIdeal.τ).loc Cert.TilesReferenceIdeal.main_arg1) = m ((c.tc : Thread Cert.TilesReferenceIdeal.nD Cert.TilesReferenceIdeal.τ).loc Cert.TilesReferenceIdeal.main_arg1)
      ∧ r.2.mem ((c.tc : Thread Cert.TilesReferenceIdeal.nD Cert.TilesReferenceIdeal.τ).loc Cert.TilesReferenceIdeal.main_arg2) = m ((c.tc : Thread Cert.TilesReferenceIdeal.nD Cert.TilesReferenceIdeal.τ).loc Cert.TilesReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v1) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1))

def preserves_Tiles_TilesIdeal : Prop :=
  True

def algebraic_TilesIdeal_TilesReferenceIdeal [hTilesIdeal : Cert.TilesIdeal.Facts] [hTilesReferenceIdeal : Cert.TilesReferenceIdeal.Facts] [hPre_graphs_in_order : Cert.Pre_graphs_in_order.Facts] : Prop :=
  ∀ (m : (ℓ : Loc Cert.TilesIdeal.nD Cert.TilesIdeal.τ Cert.TilesIdeal.sig) → Buf (Elt Ideal) ℓ) (g : Dev Cert.TilesIdeal.nD → PrngReg)
    (m' : (ℓ : Loc Cert.TilesReferenceIdeal.nD Cert.TilesReferenceIdeal.τ Cert.TilesReferenceIdeal.sig) → Buf (Elt Ideal) ℓ) (g' : Dev Cert.TilesReferenceIdeal.nD → PrngReg), Pre_TilesIdeal m →
    (∀ c : Dev Cert.TilesIdeal.nD,
      m' ((c.tc : Thread Cert.TilesReferenceIdeal.nD Cert.TilesReferenceIdeal.τ).loc Cert.TilesReferenceIdeal.main_arg0) = m ((c.tc : Thread Cert.TilesIdeal.nD Cert.TilesIdeal.τ).loc Cert.TilesIdeal.main_arg0)
      ∧ m' ((c.tc : Thread Cert.TilesReferenceIdeal.nD Cert.TilesReferenceIdeal.τ).loc Cert.TilesReferenceIdeal.main_arg1) = m ((c.tc : Thread Cert.TilesIdeal.nD Cert.TilesIdeal.τ).loc Cert.TilesIdeal.main_arg1)
      ∧ m' ((c.tc : Thread Cert.TilesReferenceIdeal.nD Cert.TilesReferenceIdeal.τ).loc Cert.TilesReferenceIdeal.main_arg2) = m ((c.tc : Thread Cert.TilesIdeal.nD Cert.TilesIdeal.τ).loc Cert.TilesIdeal.main_arg2)) →
    ∃ (v0 : (c : Dev Cert.TilesIdeal.nD) → Buf (Elt Ideal) ((c.tc : Thread Cert.TilesIdeal.nD Cert.TilesIdeal.τ).loc Cert.TilesIdeal.main_v2)),
      θ_run (Cert.TilesIdeal.defs (F := Ideal)) (Cert.TilesIdeal.threads (F := Ideal)) ⟨m, fun _ => 0, g⟩ (fun r => ∀ c : Dev Cert.TilesIdeal.nD,
          r.2.mem ((c.tc : Thread Cert.TilesIdeal.nD Cert.TilesIdeal.τ).loc Cert.TilesIdeal.main_v2) = v0 c
          ∧ r.2.mem ((c.tc : Thread Cert.TilesIdeal.nD Cert.TilesIdeal.τ).loc Cert.TilesIdeal.main_arg0) = m ((c.tc : Thread Cert.TilesIdeal.nD Cert.TilesIdeal.τ).loc Cert.TilesIdeal.main_arg0)
          ∧ r.2.mem ((c.tc : Thread Cert.TilesIdeal.nD Cert.TilesIdeal.τ).loc Cert.TilesIdeal.main_arg1) = m ((c.tc : Thread Cert.TilesIdeal.nD Cert.TilesIdeal.τ).loc Cert.TilesIdeal.main_arg1)
          ∧ r.2.mem ((c.tc : Thread Cert.TilesIdeal.nD Cert.TilesIdeal.τ).loc Cert.TilesIdeal.main_arg2) = m ((c.tc : Thread Cert.TilesIdeal.nD Cert.TilesIdeal.τ).loc Cert.TilesIdeal.main_arg2))
      ∧ θ_run (Cert.TilesReferenceIdeal.defs (F := Ideal)) (onTc (τ := Cert.TilesReferenceIdeal.τ) (Cert.TilesReferenceIdeal.main (F := Ideal))) ⟨m', fun _ => 0, g'⟩ (fun r => ∀ c : Dev Cert.TilesReferenceIdeal.nD,
          r.2.mem ((c.tc : Thread Cert.TilesReferenceIdeal.nD Cert.TilesReferenceIdeal.τ).loc Cert.TilesReferenceIdeal.main_v9) = v0 c
          ∧ r.2.mem ((c.tc : Thread Cert.TilesReferenceIdeal.nD Cert.TilesReferenceIdeal.τ).loc Cert.TilesReferenceIdeal.main_arg0) = m' ((c.tc : Thread Cert.TilesReferenceIdeal.nD Cert.TilesReferenceIdeal.τ).loc Cert.TilesReferenceIdeal.main_arg0)
          ∧ r.2.mem ((c.tc : Thread Cert.TilesReferenceIdeal.nD Cert.TilesReferenceIdeal.τ).loc Cert.TilesReferenceIdeal.main_arg1) = m' ((c.tc : Thread Cert.TilesReferenceIdeal.nD Cert.TilesReferenceIdeal.τ).loc Cert.TilesReferenceIdeal.main_arg1)
          ∧ r.2.mem ((c.tc : Thread Cert.TilesReferenceIdeal.nD Cert.TilesReferenceIdeal.τ).loc Cert.TilesReferenceIdeal.main_arg2) = m' ((c.tc : Thread Cert.TilesReferenceIdeal.nD Cert.TilesReferenceIdeal.τ).loc Cert.TilesReferenceIdeal.main_arg2))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineRefIdeal : Cert.CombineRefIdeal.Facts) (hTiles : Cert.Tiles.Facts) (hTilesIdeal : Cert.TilesIdeal.Facts) (hTilesReferenceIdeal : Cert.TilesReferenceIdeal.Facts) (hPre_graphs_in_order : Cert.Pre_graphs_in_order.Facts),
    quiescent_Kernel (hKernel := hKernel)
    ∧ quiescent_KernelIdeal (hKernelIdeal := hKernelIdeal)
    ∧ quiescent_ReferenceIdeal (hReferenceIdeal := hReferenceIdeal)
    ∧ quiescent_Combine (hCombine := hCombine)
    ∧ quiescent_CombineIdeal (hCombineIdeal := hCombineIdeal)
    ∧ quiescent_CombineRefIdeal (hCombineRefIdeal := hCombineRefIdeal)
    ∧ quiescent_Tiles (hTiles := hTiles) (hPre_graphs_in_order := hPre_graphs_in_order)
    ∧ quiescent_TilesIdeal (hTilesIdeal := hTilesIdeal) (hPre_graphs_in_order := hPre_graphs_in_order)
    ∧ quiescent_TilesReferenceIdeal (hTilesReferenceIdeal := hTilesReferenceIdeal)
    ∧ quiescent_TilesReferenceIdeal_pre_graphs_in_order (hTilesReferenceIdeal := hTilesReferenceIdeal) (hPre_graphs_in_order := hPre_graphs_in_order)
    ∧ preserves_Kernel_KernelIdeal
    ∧ algebraic_KernelIdeal_ReferenceIdeal (hKernelIdeal := hKernelIdeal) (hReferenceIdeal := hReferenceIdeal)
    ∧ preserves_Combine_CombineIdeal
    ∧ algebraic_CombineIdeal_CombineRefIdeal (hCombineIdeal := hCombineIdeal) (hCombineRefIdeal := hCombineRefIdeal)
    ∧ preserves_Tiles_TilesIdeal
    ∧ algebraic_TilesIdeal_TilesReferenceIdeal (hTilesIdeal := hTilesIdeal) (hTilesReferenceIdeal := hTilesReferenceIdeal) (hPre_graphs_in_order := hPre_graphs_in_order)
-- ==== Pre_graphs_in_order.lean ====
abbrev S50000x256 : Shape := ⟨2, ![50000, 256]⟩
abbrev S50000x8 : Shape := ⟨2, ![50000, 8]⟩
abbrev S50000 : Shape := ⟨1, ![50000]⟩
abbrev S49999 : Shape := ⟨1, ![49999]⟩
abbrev S1 : Shape := ⟨1, ![1]⟩
abbrev S_ : Shape := ⟨0, ![]⟩

class Facts : Prop where
  slices_S50000_S49999_1 : S50000.Slices ![1] S49999
  slices_S50000_S1_49999 : S50000.Slices ![49999] S1
  concatenates_S49999_S1_S50000_d0 : Shape.Concatenates [S49999, S1] S50000 0
  bcast_S_S50000 : S_.BroadcastsInDim S50000 (![] : Fin 0 → Fin S50000.rank)

variable [Facts]

def fn {F : FTy → Type} [FloatOps F] (main_arg0 : FVec F S50000x256 .f32) (main_arg1 : FVec F S50000x8 .f32) (main_arg2 : IVec S50000 32) : IVec S50000 1 :=
  let main_v0 : IVec S49999 32 := (extractStridedSlice S49999 ![1] · slices_S50000_S49999_1) main_arg2
  let main_v1 : IVec S1 32 := (extractStridedSlice S1 ![49999] · slices_S50000_S1_49999) main_arg2
  let main_v2 : IVec S50000 32 := (fun a b => concatenate S50000 0 [⟨S49999, a⟩, ⟨S1, b⟩] concatenates_S49999_S1_S50000_d0) main_v0 main_v1
  let main_c : IVec S_ 32 := constantI S_ 32 0#32
  let main_v3 : IVec S50000 32 := broadcastInDim S50000 ![] bcast_S_S50000 main_c
  let main_v4 : IVec S50000 1 := cmpi .sge main_arg2 main_v3
  let main_c_0 : IVec S_ 32 := constantI S_ 32 64#32
  let main_v5 : IVec S50000 32 := broadcastInDim S50000 ![] bcast_S_S50000 main_c_0
  let main_v6 : IVec S50000 1 := cmpi .slt main_arg2 main_v5
  let main_v7 : IVec S50000 1 := andi main_v4 main_v6
  let main_v8 : IVec S50000 1 := cmpi .sle main_arg2 main_v2
  let main_v9 : IVec S50000 1 := andi main_v7 main_v8
  main_v9
-- ==== Kernel.lean ====
abbrev S50000x256 : Shape := ⟨2, ![50000, 256]⟩
abbrev S50000x8 : Shape := ⟨2, ![50000, 8]⟩
abbrev S50000 : Shape := ⟨1, ![50000]⟩
abbrev S64x256 : Shape := ⟨2, ![64, 256]⟩
abbrev S1024x256 : Shape := ⟨2, ![1024, 256]⟩
abbrev S1024x8 : Shape := ⟨2, ![1024, 8]⟩
abbrev S1024 : Shape := ⟨1, ![1024]⟩
abbrev S1024x1 : Shape := ⟨2, ![1024, 1]⟩
abbrev S64x1024 : Shape := ⟨2, ![64, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S50000x256, .f32⟩
  | .hbm, ⟨1, _⟩ => ⟨S50000x8, .f32⟩
  | .hbm, ⟨2, _⟩ => ⟨S50000, .i32⟩
  | .hbm, ⟨3, _⟩ => ⟨S64x256, .f32⟩
  | .local _ .vmem, ⟨0, _⟩ => ⟨S1024x256, .f32⟩
  | .local _ .vmem, ⟨1, _⟩ => ⟨S1024x256, .f32⟩
  | .local _ .vmem, ⟨2, _⟩ => ⟨S1024x8, .f32⟩
  | .local _ .vmem, ⟨3, _⟩ => ⟨S1024x8, .f32⟩
  | .local _ .vmem, ⟨4, _⟩ => ⟨S1024, .i32⟩
  | .local _ .vmem, ⟨5, _⟩ => ⟨S1024, .i32⟩
  | .local _ .vmem, ⟨6, _⟩ => ⟨S64x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S50000x256 : Shape := ⟨2, ![50000, 256]⟩
abbrev S50000x8 : Shape := ⟨2, ![50000, 8]⟩
abbrev S50000 : Shape := ⟨1, ![50000]⟩
abbrev S35840x1 : Shape := ⟨2, ![35840, 1]⟩
abbrev S35840 : Shape := ⟨1, ![35840]⟩
abbrev S35840x256 : Shape := ⟨2, ![35840, 256]⟩
abbrev S_ : Shape := ⟨0, ![]⟩
abbrev S64x256 : Shape := ⟨2, ![64, 256]⟩

abbrev nBuf : Space → Nat
  | .hbm => 14
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x8, .f32⟩
  | .hbm, ⟨2, _⟩ => ⟨S50000, .i32⟩
  | .hbm, ⟨3, _⟩ => ⟨S35840x1, .f32⟩
  | .hbm, ⟨4, _⟩ => ⟨S35840, .f32⟩
  | .hbm, ⟨5, _⟩ => ⟨S35840x1, .f32⟩
  | .hbm, ⟨6, _⟩ => ⟨S35840x256, .f32⟩
  | .hbm, ⟨7, _⟩ => ⟨S35840x256, .f32⟩
  | .hbm, ⟨8, _⟩ => ⟨S35840x256, .f32⟩
  | .hbm, ⟨9, _⟩ => ⟨S35840, .i32⟩
  | .hbm, ⟨10, _⟩ => ⟨S_, .f32⟩
  | .hbm, ⟨11, _⟩ => ⟨S64x256, .f32⟩
  | .hbm, ⟨12, _⟩ => ⟨S35840x1, .i32⟩
  | .hbm, ⟨13, _⟩ => ⟨S64x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Combine.lean ====
abbrev S64x256 : Shape := ⟨2, ![64, 256]⟩

abbrev nBuf : Space → Nat
  | .hbm => 3
  | .vmem => 3
  | .smem => 0
  | _ => 0

abbrev bufTy : (tb : Table) → Fin (tcTables nBuf tb) → BufTy
  | .hbm, ⟨0, _⟩ => ⟨S64x256, .f32⟩
  | .hbm, ⟨1, _⟩ => ⟨S64x256, .f32⟩
  | .hbm, ⟨2, _⟩ => ⟨S64x256, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | _, _ => ⟨S64x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CombineRefIdeal.lean ====
abbrev S64x256 : Shape := ⟨2, ![64, 256]⟩

abbrev nBuf : Space → Nat
  | .hbm => 4
  | .vmem => 0
  | .smem => 0
  | _ => 0

abbrev bufTy : (tb : Table) → Fin (tcTables nBuf tb) → BufTy
  | .hbm, ⟨0, _⟩ => ⟨S64x256, .f32⟩
  | .hbm, ⟨1, _⟩ => ⟨S64x256, .f32⟩
  | .hbm, ⟨2, _⟩ => ⟨S64x256, .f32⟩
  | .hbm, ⟨3, _⟩ => ⟨S64x256, .f32⟩
  | _, _ => ⟨S64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Tiles.lean ====
abbrev S50000x256 : Shape := ⟨2, ![50000, 256]⟩
abbrev S50000x8 : Shape := ⟨2, ![50000, 8]⟩
abbrev S50000 : Shape := ⟨1, ![50000]⟩
abbrev S25000x16 : Shape := ⟨2, ![25000, 16]⟩
abbrev S16x64x256 : Shape := ⟨3, ![16, 64, 256]⟩
abbrev S80x128 : Shape := ⟨2, ![80, 128]⟩
abbrev S40x16 : Shape := ⟨2, ![40, 16]⟩
abbrev S128 : Shape := ⟨1, ![128]⟩
abbrev S64x128 : Shape := ⟨2, ![64, 128]⟩
abbrev S64 : Shape := ⟨1, ![64]⟩
abbrev S4x128 : Shape := ⟨2, ![4, 128]⟩
abbrev S_ : Shape := ⟨0, ![]⟩
abbrev S16 : Shape := ⟨1, ![16]⟩
abbrev S1x16 : Shape := ⟨2, ![1, 16]⟩
abbrev S80 : Shape := ⟨1, ![80]⟩
abbrev S1 : Shape := ⟨1, ![1]⟩
abbrev S1x64x128 : Shape := ⟨3, ![1, 64, 128]⟩
abbrev S64x256 : Shape := ⟨2, ![64, 256]⟩

abbrev nBuf : Table → Nat
  | .hbm => 7
  | .shared => 1
  | .local .scVector .vmem => 9
  | _ => 0

abbrev bufTy : (tb : Table) → Fin (nBuf tb) → BufTy
  | .hbm, ⟨0, _⟩ => ⟨S50000x256, .f32⟩
  | .hbm, ⟨1, _⟩ => ⟨S50000x8, .f32⟩
  | .hbm, ⟨2, _⟩ => ⟨S50000, .i32⟩
  | .hbm, ⟨3, _⟩ => ⟨S25000x16, .f32⟩
  | .hbm, ⟨4, _⟩ => ⟨S16x64x256, .f32⟩
  | .hbm, ⟨5, _⟩ => ⟨S_, .f32⟩
  | .hbm, ⟨6, _⟩ => ⟨S64x256, .f32⟩
  | .shared, ⟨0, _⟩ => ⟨S64x128, .f32⟩
  | .local .scVector .vmem, ⟨0, _⟩ => ⟨S80x128, .f32⟩
  | .local .scVector .vmem, ⟨1, _⟩ => ⟨S80x128, .f32⟩
  | .local .scVector .vmem, ⟨2, _⟩ => ⟨S40x16, .f32⟩
  | .local .scVector .vmem, ⟨3, _⟩ => ⟨S40x16, .f32⟩
  | .local .scVector .vmem, ⟨4, _⟩ => ⟨S128, .i32⟩
  | .local .scVector .vmem, ⟨5, _⟩ => ⟨S128, .i32⟩
  | .local .scVector .vmem, ⟨6, _⟩ => ⟨S64x128, .f32⟩
  | .local .scVector .vmem, ⟨7, _⟩ => ⟨S64, .i32⟩
  | .local .scVector .vmem, ⟨8, _⟩ => ⟨S4x128, .f32⟩
  | _, _ => ⟨S50000x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_arg0_scv : Ref sig .scVector := ⟨.hbm, 0, rfl⟩
abbrev main_v0_scv : Ref sig .scVector := ⟨.hbm, 3, rfl⟩
abbrev main_arg2_scv : Ref sig .scVector := ⟨.hbm, 2, rfl⟩
abbrev main_v1_scv : Ref sig .scVector := ⟨.hbm, 4, rfl⟩
abbrev cc0_scratch7 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch8 : Ref sig .scVector := ⟨.vmem, 7, rfl⟩
abbrev cc0_scratch9 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c64_i32 : BitVec 32 := 64#32
  let v1 : BitVec 32 := Scalar.addi c0_i32_0 c64_i32
  let c1_i32 : BitVec 32 := 1#32
  ⟨c0_i32_0, v1, c1_i32⟩
def k0_off1 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let v38 : Index := Scalar.indexCast arg22
  let c0_11 : Index := 0#32
  ![v38.toNat, 0]
def k0_off2 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let v43 : Index := Scalar.indexCast arg22
  let c16_13 : Index := 16#32
  ![v43.toNat, 16]
def k0_off3 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let v48 : Index := Scalar.indexCast arg22
  let c32_15 : Index := 32#32
  ![v48.toNat, 32]
def k0_off4 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let v53 : Index := Scalar.indexCast arg22
  let c48_17 : Index := 48#32
  ![v53.toNat, 48]
def k0_off5 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let v58 : Index := Scalar.indexCast arg22
  let c64 : Index := 64#32
  ![v58.toNat, 64]
def k0_off6 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let v63 : Index := Scalar.indexCast arg22
  let c80 : Index := 80#32
  ![v63.toNat, 80]
def k0_off7 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let v68 : Index := Scalar.indexCast arg22
  let c96 : Index := 96#32
  ![v68.toNat, 96]
def k0_off8 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let v73 : Index := Scalar.indexCast arg22
  let c112 : Index := 112#32
  ![v73.toNat, 112]
def k0_cond1 (i : grid0.Coords) : BitVec 1 :=
  let arg1 : BitVec 32 := BitVec.ofNat 32 (i 1).val
  let c0_i32_3 : BitVec 32 := 0#32
  let v27 : BitVec 32 := Scalar.addi arg1 c0_i32_3
  let c177_i32 : BitVec 32 := 177#32
  let v28 : BitVec 1 := Scalar.cmpi .slt v27 c177_i32
  let v29 : BitVec 32 := Scalar.extui v28
  let c0_i32_4 : BitVec 32 := 0#32
  let v30 : BitVec 1 := Scalar.cmpi .ne v29 c0_i32_4
  v30

def k0_mult1 (i : grid0.Coords) : BitVec 32 :=
  let c35840_i32 : BitVec 32 := 35840#32
  let arg1 : BitVec 32 := BitVec.ofNat 32 (i 1).val
  let c0_i32_11 : BitVec 32 := 0#32
  let v37 : BitVec 32 := Scalar.addi arg1 c0_i32_11
  let c80_i32 : BitVec 32 := 80#32
  let v38 : BitVec 32 := Scalar.muli v37 c80_i32
  let v39 : BitVec 32 := Scalar.addi c35840_i32 v38
  v39
def k0_mult2 (i : grid0.Coords) : BitVec 32 :=
  let c35840_i32 : BitVec 32 := 35840#32
  let arg1 : BitVec 32 := BitVec.ofNat 32 (i 1).val
  let c0_i32_11 : BitVec 32 := 0#32
  let v37 : BitVec 32 := Scalar.addi arg1 c0_i32_11
  let c80_i32 : BitVec 32 := 80#32
  let v38 : BitVec 32 := Scalar.muli v37 c80_i32
  let v39 : BitVec 32 := Scalar.addi c35840_i32 v38
  let v40 : BitVec 32 := v39
  let c0_i32_12 : BitVec 32 := 0#32
  let v42 : BitVec 1 := Scalar.cmpi .sgt v40 c0_i32_12
  let v43 : BitVec 32 := Scalar.extui v42
  let c0_i32_13 : BitVec 32 := 0#32
  let v44 : BitVec 1 := Scalar.cmpi .slt v40 c0_i32_13
  let v45 : BitVec 32 := Scalar.extui v44
  let v46 : BitVec 32 := Scalar.subi v43 v45
  let c2_i32 : BitVec 32 := 2#32
  let c0_i32_14 : BitVec 32 := 0#32
  let v47 : BitVec 1 := Scalar.cmpi .sgt c2_i32 c0_i32_14
  let v48 : BitVec 32 := Scalar.extui v47
  let c0_i32_15 : BitVec 32 := 0#32
  let v49 : BitVec 1 := Scalar.cmpi .slt c2_i32 c0_i32_15
  let v50 : BitVec 32 := Scalar.extui v49
  let v51 : BitVec 32 := Scalar.subi v48 v50
  let v52 : BitVec 1 := Scalar.cmpi .ne v46 v51
  let v53 : BitVec 32 := Scalar.remsi v40 c2_i32
  let c0_i32_16 : BitVec 32 := 0#32
  let v54 : BitVec 1 := Scalar.cmpi .ne v53 c0_i32_16
  let v55 : BitVec 1 := Scalar.andi v52 v54
  let v41 : BitVec 32 := Scalar.divsi v40 c2_i32
  let c1_i32_17 : BitVec 32 := 1#32
  let v56 : BitVec 32 := Scalar.subi v41 c1_i32_17
  let v57 : BitVec 32 := Scalar.select v55 v56 v41
  v57
def k0_off9 (i : grid0.Coords) : Fin 2 → Nat :=
  let c35840_i32 : BitVec 32 := 35840#32
  let arg1 : BitVec 32 := BitVec.ofNat 32 (i 1).val
  let c0_i32_11 : BitVec 32 := 0#32
  let v37 : BitVec 32 := Scalar.addi arg1 c0_i32_11
  let c80_i32 : BitVec 32 := 80#32
  let v38 : BitVec 32 := Scalar.muli v37 c80_i32
  let v39 : BitVec 32 := Scalar.addi c35840_i32 v38
  let v40 : BitVec 32 := v39
  let arg0 : BitVec 32 := BitVec.ofNat 32 (i 0).val
  let c128_i32 : BitVec 32 := 128#32
  let v0 : BitVec 32 := Scalar.muli arg0 c128_i32
  ![v40.toNat, v0.toNat]
def k0_off10 (i : grid0.Coords) : Fin 2 → Nat :=
  let c35840_i32 : BitVec 32 := 35840#32
  let arg1 : BitVec 32 := BitVec.ofNat 32 (i 1).val
  let c0_i32_11 : BitVec 32 := 0#32
  let v37 : BitVec 32 := Scalar.addi arg1 c0_i32_11
  let c80_i32 : BitVec 32 := 80#32
  let v38 : BitVec 32 := Scalar.muli v37 c80_i32
  let v39 : BitVec 32 := Scalar.addi c35840_i32 v38
  let v40 : BitVec 32 := v39
  let c0_i32_12 : BitVec 32 := 0#32
  let v42 : BitVec 1 := Scalar.cmpi .sgt v40 c0_i32_12
  let v43 : BitVec 32 := Scalar.extui v42
  let c0_i32_13 : BitVec 32 := 0#32
  let v44 : BitVec 1 := Scalar.cmpi .slt v40 c0_i32_13
  let v45 : BitVec 32 := Scalar.extui v44
  let v46 : BitVec 32 := Scalar.subi v43 v45
  let c2_i32 : BitVec 32 := 2#32
  let c0_i32_14 : BitVec 32 := 0#32
  let v47 : BitVec 1 := Scalar.cmpi .sgt c2_i32 c0_i32_14
  let v48 : BitVec 32 := Scalar.extui v47
  let c0_i32_15 : BitVec 32 := 0#32
  let v49 : BitVec 1 := Scalar.cmpi .slt c2_i32 c0_i32_15
  let v50 : BitVec 32 := Scalar.extui v49
  let v51 : BitVec 32 := Scalar.subi v48 v50
  let v52 : BitVec 1 := Scalar.cmpi .ne v46 v51
  let v53 : BitVec 32 := Scalar.remsi v40 c2_i32
  let c0_i32_16 : BitVec 32 := 0#32
  let v54 : BitVec 1 := Scalar.cmpi .ne v53 c0_i32_16
  let v55 : BitVec 1 := Scalar.andi v52 v54
  let v41 : BitVec 32 := Scalar.divsi v40 c2_i32
  let c1_i32_17 : BitVec 32 := 1#32
  let v56 : BitVec 32 := Scalar.subi v41 c1_i32_17
  let v57 : BitVec 32 := Scalar.select v55 v56 v41
  let v58 : BitVec 32 := v57
  let c0_i32_18 : BitVec 32 := 0#32
  ![v58.toNat, 0]
def k0_off11 (i : grid0.Coords) : Fin 1 → Nat :=
  let c35840_i32 : BitVec 32 := 35840#32
  let arg1 : BitVec 32 := BitVec.ofNat 32 (i 1).val
  let c0_i32_11 : BitVec 32 := 0#32
  let v37 : BitVec 32 := Scalar.addi arg1 c0_i32_11
  let c80_i32 : BitVec 32 := 80#32
  let v38 : BitVec 32 := Scalar.muli v37 c80_i32
  let v39 : BitVec 32 := Scalar.addi c35840_i32 v38
  let v40 : BitVec 32 := v39
  ![v40.toNat]
@[reducible] def k0_t2_loop : Scf.Loop 32 :=
  let c0_i32_6 : BitVec 32 := 0#32
  let c6_i32 : BitVec 32 := 6#32
  let v31 : BitVec 32 := Scalar.addi c0_i32_6 c6_i32
  let c1_i32_7 : BitVec 32 := 1#32
  ⟨c0_i32_6, v31, c1_i32_7⟩
def k0_cond2 (i : grid0.Coords) (k0_t2 : Fin k0_t2_loop.trips) : BitVec 1 :=
  let arg1 : BitVec 32 := BitVec.ofNat 32 (i 1).val
  let c2_i32 : BitVec 32 := 2#32
  let c0_i32_6 : BitVec 32 := 0#32
  let c1_i32_7 : BitVec 32 := 1#32
  let arg22 : BitVec 32 := Scf.iv c0_i32_6 c1_i32_7 k0_t2
  let v37 : BitVec 32 := Scalar.muli c2_i32 arg22
  let c1_i32_11 : BitVec 32 := 1#32
  let v38 : BitVec 32 := Scalar.addi v37 c1_i32_11
  let c16_i32_12 : BitVec 32 := 16#32
  let v39 : BitVec 32 := Scalar.muli v38 c16_i32_12
  let v40 : BitVec 32 := Scalar.addi arg1 v39
  let c177_i32_13 : BitVec 32 := 177#32
  let v41 : BitVec 1 := Scalar.cmpi .slt v40 c177_i32_13
  let v42 : BitVec 32 := Scalar.extui v41
  let c0_i32_14 : BitVec 32 := 0#32
  let v43 : BitVec 1 := Scalar.cmpi .ne v42 c0_i32_14
  v43

def k0_mult3 (i : grid0.Coords) (k0_t2 : Fin k0_t2_loop.trips) : BitVec 32 :=
  let c35840_i32 : BitVec 32 := 35840#32
  let arg1 : BitVec 32 := BitVec.ofNat 32 (i 1).val
  let c2_i32 : BitVec 32 := 2#32
  let c0_i32_6 : BitVec 32 := 0#32
  let c1_i32_7 : BitVec 32 := 1#32
  let arg22 : BitVec 32 := Scf.iv c0_i32_6 c1_i32_7 k0_t2
  let v37 : BitVec 32 := Scalar.muli c2_i32 arg22
  let c1_i32_11 : BitVec 32 := 1#32
  let v38 : BitVec 32 := Scalar.addi v37 c1_i32_11
  let c16_i32_34 : BitVec 32 := 16#32
  let v72 : BitVec 32 := Scalar.muli v38 c16_i32_34
  let v73 : BitVec 32 := Scalar.addi arg1 v72
  let c80_i32 : BitVec 32 := 80#32
  let v74 : BitVec 32 := Scalar.muli v73 c80_i32
  let v75 : BitVec 32 := Scalar.addi c35840_i32 v74
  v75
def k0_mult4 (i : grid0.Coords) (k0_t2 : Fin k0_t2_loop.trips) : BitVec 32 :=
  let c35840_i32 : BitVec 32 := 35840#32
  let arg1 : BitVec 32 := BitVec.ofNat 32 (i 1).val
  let c2_i32 : BitVec 32 := 2#32
  let c0_i32_6 : BitVec 32 := 0#32
  let c1_i32_7 : BitVec 32 := 1#32
  let arg22 : BitVec 32 := Scf.iv c0_i32_6 c1_i32_7 k0_t2
  let v37 : BitVec 32 := Scalar.muli c2_i32 arg22
  let c1_i32_11 : BitVec 32 := 1#32
  let v38 : BitVec 32 := Scalar.addi v37 c1_i32_11
  let c16_i32_34 : BitVec 32 := 16#32
  let v72 : BitVec 32 := Scalar.muli v38 c16_i32_34
  let v73 : BitVec 32 := Scalar.addi arg1 v72
  let c80_i32 : BitVec 32 := 80#32
  let v74 : BitVec 32 := Scalar.muli v73 c80_i32
  let v75 : BitVec 32 := Scalar.addi c35840_i32 v74
  let v76 : BitVec 32 := v75
  let c0_i32_36 : BitVec 32 := 0#32
  let v78 : BitVec 1 := Scalar.cmpi .sgt v76 c0_i32_36
  let v79 : BitVec 32 := Scalar.extui v78
  let c0_i32_37 : BitVec 32 := 0#32
  let v80 : BitVec 1 := Scalar.cmpi .slt v76 c0_i32_37
  let v81 : BitVec 32 := Scalar.extui v80
  let v82 : BitVec 32 := Scalar.subi v79 v81
  let c2_i32_35 : BitVec 32 := 2#32
  let c0_i32_38 : BitVec 32 := 0#32
  let v83 : BitVec 1 := Scalar.cmpi .sgt c2_i32_35 c0_i32_38
  let v84 : BitVec 32 := Scalar.extui v83
  let c0_i32_39 : BitVec 32 := 0#32
  let v85 : BitVec 1 := Scalar.cmpi .slt c2_i32_35 c0_i32_39
  let v86 : BitVec 32 := Scalar.extui v85
  let v87 : BitVec 32 := Scalar.subi v84 v86
  let v88 : BitVec 1 := Scalar.cmpi .ne v82 v87
  let v89 : BitVec 32 := Scalar.remsi v76 c2_i32_35
  let c0_i32_40 : BitVec 32 := 0#32
  let v90 : BitVec 1 := Scalar.cmpi .ne v89 c0_i32_40
  let v91 : BitVec 1 := Scalar.andi v88 v90
  let v77 : BitVec 32 := Scalar.divsi v76 c2_i32_35
  let c1_i32_41 : BitVec 32 := 1#32
  let v92 : BitVec 32 := Scalar.subi v77 c1_i32_41
  let v93 : BitVec 32 := Scalar.select v91 v92 v77
  v93
def k0_off12 (i : grid0.Coords) (k0_t2 : Fin k0_t2_loop.trips) : Fin 2 → Nat :=
  let c35840_i32 : BitVec 32 := 35840#32
  let arg1 : BitVec 32 := BitVec.ofNat 32 (i 1).val
  let c2_i32 : BitVec 32 := 2#32
  let c0_i32_6 : BitVec 32 := 0#32
  let c1_i32_7 : BitVec 32 := 1#32
  let arg22 : BitVec 32 := Scf.iv c0_i32_6 c1_i32_7 k0_t2
  let v37 : BitVec 32 := Scalar.muli c2_i32 arg22
  let c1_i32_11 : BitVec 32 := 1#32
  let v38 : BitVec 32 := Scalar.addi v37 c1_i32_11
  let c16_i32_34 : BitVec 32 := 16#32
  let v72 : BitVec 32 := Scalar.muli v38 c16_i32_34
  let v73 : BitVec 32 := Scalar.addi arg1 v72
  let c80_i32 : BitVec 32 := 80#32
  let v74 : BitVec 32 := Scalar.muli v73 c80_i32
  let v75 : BitVec 32 := Scalar.addi c35840_i32 v74
  let v76 : BitVec 32 := v75
  let arg0 : BitVec 32 := BitVec.ofNat 32 (i 0).val
  let c128_i32 : BitVec 32 := 128#32
  let v0 : BitVec 32 := Scalar.muli arg0 c128_i32
  ![v76.toNat, v0.toNat]
def k0_off13 (i : grid0.Coords) (k0_t2 : Fin k0_t2_loop.trips) : Fin 2 → Nat :=
  let c35840_i32 : BitVec 32 := 35840#32
  let arg1 : BitVec 32 := BitVec.ofNat 32 (i 1).val
  let c2_i32 : BitVec 32 := 2#32
  let c0_i32_6 : BitVec 32 := 0#32
  let c1_i32_7 : BitVec 32 := 1#32
  let arg22 : BitVec 32 := Scf.iv c0_i32_6 c1_i32_7 k0_t2
  let v37 : BitVec 32 := Scalar.muli c2_i32 arg22
  let c1_i32_11 : BitVec 32 := 1#32
  let v38 : BitVec 32 := Scalar.addi v37 c1_i32_11
  let c16_i32_34 : BitVec 32 := 16#32
  let v72 : BitVec 32 := Scalar.muli v38 c16_i32_34
  let v73 : BitVec 32 := Scalar.addi arg1 v72
  let c80_i32 : BitVec 32 := 80#32
  let v74 : BitVec 32 := Scalar.muli v73 c80_i32
  let v75 : BitVec 32 := Scalar.addi c35840_i32 v74
  let v76 : BitVec 32 := v75
  let c0_i32_36 : BitVec 32 := 0#32
  let v78 : BitVec 1 := Scalar.cmpi .sgt v76 c0_i32_36
  let v79 : BitVec 32 := Scalar.extui v78
  let c0_i32_37 : BitVec 32 := 0#32
  let v80 : BitVec 1 := Scalar.cmpi .slt v76 c0_i32_37
  let v81 : BitVec 32 := Scalar.extui v80
  let v82 : BitVec 32 := Scalar.subi v79 v81
  let c2_i32_35 : BitVec 32 := 2#32
  let c0_i32_38 : BitVec 32 := 0#32
  let v83 : BitVec 1 := Scalar.cmpi .sgt c2_i32_35 c0_i32_38
  let v84 : BitVec 32 := Scalar.extui v83
  let c0_i32_39 : BitVec 32 := 0#32
  let v85 : BitVec 1 := Scalar.cmpi .slt c2_i32_35 c0_i32_39
  let v86 : BitVec 32 := Scalar.extui v85
  let v87 : BitVec 32 := Scalar.subi v84 v86
  let v88 : BitVec 1 := Scalar.cmpi .ne v82 v87
  let v89 : BitVec 32 := Scalar.remsi v76 c2_i32_35
  let c0_i32_40 : BitVec 32 := 0#32
  let v90 : BitVec 1 := Scalar.cmpi .ne v89 c0_i32_40
  let v91 : BitVec 1 := Scalar.andi v88 v90
  let v77 : BitVec 32 := Scalar.divsi v76 c2_i32_35
  let c1_i32_41 : BitVec 32 := 1#32
  let v92 : BitVec 32 := Scalar.subi v77 c1_i32_41
  let v93 : BitVec 32 := Scalar.select v91 v92 v77
  let v94 : BitVec 32 := v93
  let c0_i32_42 : BitVec 32 := 0#32
  ![v94.toNat, 0]
def k0_off14 (i : grid0.Coords) (k0_t2 : Fin k0_t2_loop.trips) : Fin 1 → Nat :=
  let c35840_i32 : BitVec 32 := 35840#32
  let arg1 : BitVec 32 := BitVec.ofNat 32 (i 1).val
  let c2_i32 : BitVec 32 := 2#32
  let c0_i32_6 : BitVec 32 := 0#32
  let c1_i32_7 : BitVec 32 := 1#32
  let arg22 : BitVec 32 := Scf.iv c0_i32_6 c1_i32_7 k0_t2
  let v37 : BitVec 32 := Scalar.muli c2_i32 arg22
  let c1_i32_11 : BitVec 32 := 1#32
  let v38 : BitVec 32 := Scalar.addi v37 c1_i32_11
  let c16_i32_34 : BitVec 32 := 16#32
  let v72 : BitVec 32 := Scalar.muli v38 c16_i32_34
  let v73 : BitVec 32 := Scalar.addi arg1 v72
  let c80_i32 : BitVec 32 := 80#32
  let v74 : BitVec 32 := Scalar.muli v73 c80_i32
  let v75 : BitVec 32 := Scalar.addi c35840_i32 v74
  let v76 : BitVec 32 := v75
  ![v76.toNat]
def k0_cond4 (i : grid0.Coords) (k0_t2 : Fin k0_t2_loop.trips) : BitVec 1 :=
  let arg1 : BitVec 32 := BitVec.ofNat 32 (i 1).val
  let c2_i32 : BitVec 32 := 2#32
  let c0_i32_6 : BitVec 32 := 0#32
  let c1_i32_7 : BitVec 32 := 1#32
  let arg22 : BitVec 32 := Scf.iv c0_i32_6 c1_i32_7 k0_t2
  let v37 : BitVec 32 := Scalar.muli c2_i32 arg22
  let c16_i32_18 : BitVec 32 := 16#32
  let v49 : BitVec 32 := Scalar.muli v37 c16_i32_18
  let v50 : BitVec 32 := Scalar.addi arg1 v49
  let c177_i32_19 : BitVec 32 := 177#32
  let v51 : BitVec 1 := Scalar.cmpi .slt v50 c177_i32_19
  let v52 : BitVec 32 := Scalar.extui v51
  let c0_i32_20 : BitVec 32 := 0#32
  let v53 : BitVec 1 := Scalar.cmpi .ne v52 c0_i32_20
  v53

@[reducible] def k0_t3_loop : Scf.Loop 32 :=
  let c0_i32_35 : BitVec 32 := 0#32
  let c5_i32 : BitVec 32 := 5#32
  let v72 : BitVec 32 := Scalar.addi c0_i32_35 c5_i32
  let c1_i32_36 : BitVec 32 := 1#32
  ⟨c0_i32_35, v72, c1_i32_36⟩
def k0_off15 (k0_t3 : Fin k0_t3_loop.trips) : Fin 1 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v76 : Index := Scalar.indexCast v74
  ![v76.toNat]
def k0_off16 (k0_t3 : Fin k0_t3_loop.trips) (c0_i32_39 : BitVec 32) : Fin 2 → Nat :=
  let c0_i32_35 : BitVec 32 := 0#32
  let c1_i32_36 : BitVec 32 := 1#32
  let arg24 : BitVec 32 := Scf.iv c0_i32_35 c1_i32_36 k0_t3
  let c8_i32 : BitVec 32 := 8#32
  let v75 : BitVec 32 := Scalar.muli arg24 c8_i32
  let v83 : BitVec 32 := Scalar.addi v75 c0_i32_39
  let v84 : Index := Scalar.indexCast v83
  let c0_40 : Index := 0#32
  ![v84.toNat, 0]
def k0_off17 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v153 : Index := Scalar.indexCast v74
  let c0_55 : Index := 0#32
  ![v153.toNat, 0]
def k0_off18 (k0_t3 : Fin k0_t3_loop.trips) (c1_i32_56 : BitVec 32) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v158 : BitVec 32 := Scalar.addi v74 c1_i32_56
  let v159 : Index := Scalar.indexCast v158
  let c0_57 : Index := 0#32
  ![v159.toNat, 0]
def k0_off19 (v80 : BitVec 32) : Fin 2 → Nat :=
  let v263 : Index := Scalar.indexCast v80
  let c0_79 : Index := 0#32
  ![v263.toNat, 0]
def k0_cond5 (v80 : BitVec 32) (v82 : BitVec 32) : BitVec 1 :=
  let v147 : BitVec 1 := Scalar.cmpi .eq v80 v82
  let v148 : BitVec 32 := Scalar.extui v147
  let c0_i32_52 : BitVec 32 := 0#32
  let v149 : BitVec 1 := Scalar.cmpi .ne v148 c0_i32_52
  v149

def k0_off20 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v271 : Index := Scalar.indexCast v74
  let c16_81 : Index := 16#32
  ![v271.toNat, 16]
def k0_off21 (k0_t3 : Fin k0_t3_loop.trips) (c1_i32_82 : BitVec 32) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v276 : BitVec 32 := Scalar.addi v74 c1_i32_82
  let v277 : Index := Scalar.indexCast v276
  let c16_83 : Index := 16#32
  ![v277.toNat, 16]
def k0_off22 (v80 : BitVec 32) : Fin 2 → Nat :=
  let v381 : Index := Scalar.indexCast v80
  let c16_112 : Index := 16#32
  ![v381.toNat, 16]
def k0_off23 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v389 : Index := Scalar.indexCast v74
  let c32_114 : Index := 32#32
  ![v389.toNat, 32]
def k0_off24 (k0_t3 : Fin k0_t3_loop.trips) (c1_i32_115 : BitVec 32) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v394 : BitVec 32 := Scalar.addi v74 c1_i32_115
  let v395 : Index := Scalar.indexCast v394
  let c32_116 : Index := 32#32
  ![v395.toNat, 32]
def k0_off25 (v80 : BitVec 32) : Fin 2 → Nat :=
  let v499 : Index := Scalar.indexCast v80
  let c32_145 : Index := 32#32
  ![v499.toNat, 32]
def k0_off26 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v507 : Index := Scalar.indexCast v74
  let c48_147 : Index := 48#32
  ![v507.toNat, 48]
def k0_off27 (k0_t3 : Fin k0_t3_loop.trips) (c1_i32_148 : BitVec 32) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v512 : BitVec 32 := Scalar.addi v74 c1_i32_148
  let v513 : Index := Scalar.indexCast v512
  let c48_149 : Index := 48#32
  ![v513.toNat, 48]
def k0_off28 (v80 : BitVec 32) : Fin 2 → Nat :=
  let v617 : Index := Scalar.indexCast v80
  let c48_178 : Index := 48#32
  ![v617.toNat, 48]
def k0_off29 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v625 : Index := Scalar.indexCast v74
  let c64 : Index := 64#32
  ![v625.toNat, 64]
def k0_off30 (k0_t3 : Fin k0_t3_loop.trips) (c1_i32_180 : BitVec 32) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v630 : BitVec 32 := Scalar.addi v74 c1_i32_180
  let v631 : Index := Scalar.indexCast v630
  let c64_181 : Index := 64#32
  ![v631.toNat, 64]
def k0_off31 (v80 : BitVec 32) : Fin 2 → Nat :=
  let v735 : Index := Scalar.indexCast v80
  let c64_210 : Index := 64#32
  ![v735.toNat, 64]
def k0_off32 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v743 : Index := Scalar.indexCast v74
  let c80 : Index := 80#32
  ![v743.toNat, 80]
def k0_off33 (k0_t3 : Fin k0_t3_loop.trips) (c1_i32_212 : BitVec 32) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v748 : BitVec 32 := Scalar.addi v74 c1_i32_212
  let v749 : Index := Scalar.indexCast v748
  let c80_213 : Index := 80#32
  ![v749.toNat, 80]
def k0_off34 (v80 : BitVec 32) : Fin 2 → Nat :=
  let v853 : Index := Scalar.indexCast v80
  let c80_242 : Index := 80#32
  ![v853.toNat, 80]
def k0_off35 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v861 : Index := Scalar.indexCast v74
  let c96 : Index := 96#32
  ![v861.toNat, 96]
def k0_off36 (k0_t3 : Fin k0_t3_loop.trips) (c1_i32_244 : BitVec 32) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v866 : BitVec 32 := Scalar.addi v74 c1_i32_244
  let v867 : Index := Scalar.indexCast v866
  let c96_245 : Index := 96#32
  ![v867.toNat, 96]
def k0_off37 (v80 : BitVec 32) : Fin 2 → Nat :=
  let v971 : Index := Scalar.indexCast v80
  let c96_274 : Index := 96#32
  ![v971.toNat, 96]
def k0_off38 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v979 : Index := Scalar.indexCast v74
  let c112 : Index := 112#32
  ![v979.toNat, 112]
def k0_off39 (k0_t3 : Fin k0_t3_loop.trips) (c1_i32_276 : BitVec 32) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let v984 : BitVec 32 := Scalar.addi v74 c1_i32_276
  let v985 : Index := Scalar.indexCast v984
  let c112_277 : Index := 112#32
  ![v985.toNat, 112]
def k0_off40 (v80 : BitVec 32) : Fin 2 → Nat :=
  let v1089 : Index := Scalar.indexCast v80
  let c112_306 : Index := 112#32
  ![v1089.toNat, 112]

def k0_chk1 (i : grid0.Coords) (k0_t2 : Fin k0_t2_loop.trips) (v80 : BitVec 32) (v82 : BitVec 32) : Prop :=
  (∀ (k0_h4 : k0_cond4 i k0_t2 = 1#1), ∀ (k0_h5 : k0_cond5 v80 v82 = 1#1), ∀ a, (k0_off19 v80) a + S1x16.size a ≤ S64x128.size a) ∧
  (∀ (k0_h4 : k0_cond4 i k0_t2 = 1#1), ∀ (k0_h5 : k0_cond5 v80 v82 = 1#1), ∀ a, (k0_off22 v80) a + S1x16.size a ≤ S64x128.size a) ∧
  (∀ (k0_h4 : k0_cond4 i k0_t2 = 1#1), ∀ (k0_h5 : k0_cond5 v80 v82 = 1#1), ∀ a, (k0_off25 v80) a + S1x16.size a ≤ S64x128.size a) ∧
  (∀ (k0_h4 : k0_cond4 i k0_t2 = 1#1), ∀ (k0_h5 : k0_cond5 v80 v82 = 1#1), ∀ a, (k0_off28 v80) a + S1x16.size a ≤ S64x128.size a) ∧
  (∀ (k0_h4 : k0_cond4 i k0_t2 = 1#1), ∀ (k0_h5 : k0_cond5 v80 v82 = 1#1), ∀ a, (k0_off31 v80) a + S1x16.size a ≤ S64x128.size a) ∧
  (∀ (k0_h4 : k0_cond4 i k0_t2 = 1#1), ∀ (k0_h5 : k0_cond5 v80 v82 = 1#1), ∀ a, (k0_off34 v80) a + S1x16.size a ≤ S64x128.size a) ∧
  (∀ (k0_h4 : k0_cond4 i k0_t2 = 1#1), ∀ (k0_h5 : k0_cond5 v80 v82 = 1#1), ∀ a, (k0_off37 v80) a + S1x16.size a ≤ S64x128.size a) ∧
  (∀ (k0_h4 : k0_cond4 i k0_t2 = 1#1), ∀ (k0_h5 : k0_cond5 v80 v82 = 1#1), ∀ a, (k0_off40 v80) a + S1x16.size a ≤ S64x128.size a)
theorem k0_off19_inb : ∀ (i : grid0.Coords) (k0_t2 : Fin k0_t2_loop.trips) (v80 : BitVec 32) (v82 : BitVec 32) (k0_hw1 : k0_chk1 i k0_t2 v80 v82), ∀ (k0_h4 : k0_cond4 i k0_t2 = 1#1), ∀ (k0_h5 : k0_cond5 v80 v82 = 1#1), ∀ a, (k0_off19 v80) a + S1x16.size a ≤ S64x128.size a := fun i k0_t2 v80 v82 k0_hw1 k0_h4 k0_h5 => k0_hw1.1 k0_h4 k0_h5
theorem k0_off22_inb : ∀ (i : grid0.Coords) (k0_t2 : Fin k0_t2_loop.trips) (v80 : BitVec 32) (v82 : BitVec 32) (k0_hw1 : k0_chk1 i k0_t2 v80 v82), ∀ (k0_h4 : k0_cond4 i k0_t2 = 1#1), ∀ (k0_h5 : k0_cond5 v80 v82 = 1#1), ∀ a, (k0_off22 v80) a + S1x16.size a ≤ S64x128.size a := fun i k0_t2 v80 v82 k0_hw1 k0_h4 k0_h5 => k0_hw1.2.1 k0_h4 k0_h5
theorem k0_off25_inb : ∀ (i : grid0.Coords) (k0_t2 : Fin k0_t2_loop.trips) (v80 : BitVec 32) (v82 : BitVec 32) (k0_hw1 : k0_chk1 i k0_t2 v80 v82), ∀ (k0_h4 : k0_cond4 i k0_t2 = 1#1), ∀ (k0_h5 : k0_cond5 v80 v82 = 1#1), ∀ a, (k0_off25 v80) a + S1x16.size a ≤ S64x128.size a := fun i k0_t2 v80 v82 k0_hw1 k0_h4 k0_h5 => k0_hw1.2.2.1 k0_h4 k0_h5
theorem k0_off28_inb : ∀ (i : grid0.Coords) (k0_t2 : Fin k0_t2_loop.trips) (v80 : BitVec 32) (v82 : BitVec 32) (k0_hw1 : k0_chk1 i k0_t2 v80 v82), ∀ (k0_h4 : k0_cond4 i k0_t2 = 1#1), ∀ (k0_h5 : k0_cond5 v80 v82 = 1#1), ∀ a, (k0_off28 v80) a + S1x16.size a ≤ S64x128.size a := fun i k0_t2 v80 v82 k0_hw1 k0_h4 k0_h5 => k0_hw1.2.2.2.1 k0_h4 k0_h5
theorem k0_off31_inb : ∀ (i : grid0.Coords) (k0_t2 : Fin k0_t2_loop.trips) (v80 : BitVec 32) (v82 : BitVec 32) (k0_hw1 : k0_chk1 i k0_t2 v80 v82), ∀ (k0_h4 : k0_cond4 i k0_t2 = 1#1), ∀ (k0_h5 : k0_cond5 v80 v82 = 1#1), ∀ a, (k0_off31 v80) a + S1x16.size a ≤ S64x128.size a := fun i k0_t2 v80 v82 k0_hw1 k0_h4 k0_h5 => k0_hw1.2.2.2.2.1 k0_h4 k0_h5
theorem k0_off34_inb : ∀ (i : grid0.Coords) (k0_t2 : Fin k0_t2_loop.trips) (v80 : BitVec 32) (v82 : BitVec 32) (k0_hw1 : k0_chk1 i k0_t2 v80 v82), ∀ (k0_h4 : k0_cond4 i k0_t2 = 1#1), ∀ (k0_h5 : k0_cond5 v80 v82 = 1#1), ∀ a, (k0_off34 v80) a + S1x16.size a ≤ S64x128.size a := fun i k0_t2 v80 v82 k0_hw1 k0_h4 k0_h5 => k0_hw1.2.2.2.2.2.1 k0_h4 k0_h5
theorem k0_off37_inb : ∀ (i : grid0.Coords) (k0_t2 : Fin k0_t2_loop.trips) (v80 : BitVec 32) (v82 : BitVec 32) (k0_hw1 : k0_chk1 i k0_t2 v80 v82), ∀ (k0_h4 : k0_cond4 i k0_t2 = 1#1), ∀ (k0_h5 : k0_cond5 v80 v82 = 1#1), ∀ a, (k0_off37 v80) a + S1x16.size a ≤ S64x128.size a := fun i k0_t2 v80 v82 k0_hw1 k0_h4 k0_h5 => k0_hw1.2.2.2.2.2.2.1 k0_h4 k0_h5
theorem k0_off40_inb : ∀ (i : grid0.Coords) (k0_t2 : Fin k0_t2_loop.trips) (v80 : BitVec 32) (v82 : BitVec 32) (k0_hw1 : k0_chk1 i k0_t2 v80 v82), ∀ (k0_h4 : k0_cond4 i k0_t2 = 1#1), ∀ (k0_h5 : k0_cond5 v80 v82 = 1#1), ∀ a, (k0_off40 v80) a + S1x16.size a ≤ S64x128.size a := fun i k0_t2 v80 v82 k0_hw1 k0_h4 k0_h5 => k0_hw1.2.2.2.2.2.2.2 k0_h4 k0_h5

def k0_off41 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c0_i32_55 : BitVec 32 := 0#32
  let v155 : BitVec 32 := Scalar.addi v74 c0_i32_55
  let v156 : Index := Scalar.indexCast v155
  let c0_56 : Index := 0#32
  ![v156.toNat, 0]
def k0_off42 (v154 : BitVec 32) : Fin 2 → Nat :=
  let v161 : Index := Scalar.indexCast v154
  let c0_57 : Index := 0#32
  ![v161.toNat, 0]
def k0_cond6 (v80 : BitVec 32) (v82 : BitVec 32) : BitVec 1 :=
  let v150 : BitVec 1 := Scalar.cmpi .ne v80 v82
  let v151 : BitVec 32 := Scalar.extui v150
  let c0_i32_53 : BitVec 32 := 0#32
  let v152 : BitVec 1 := Scalar.cmpi .ne v151 c0_i32_53
  v152

def k0_off43 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c0_i32_59 : BitVec 32 := 0#32
  let v169 : BitVec 32 := Scalar.addi v74 c0_i32_59
  let v170 : Index := Scalar.indexCast v169
  let c16_60 : Index := 16#32
  ![v170.toNat, 16]
def k0_off44 (v154 : BitVec 32) : Fin 2 → Nat :=
  let v175 : Index := Scalar.indexCast v154
  let c16_61 : Index := 16#32
  ![v175.toNat, 16]
def k0_off45 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c0_i32_63 : BitVec 32 := 0#32
  let v183 : BitVec 32 := Scalar.addi v74 c0_i32_63
  let v184 : Index := Scalar.indexCast v183
  let c32_64 : Index := 32#32
  ![v184.toNat, 32]
def k0_off46 (v154 : BitVec 32) : Fin 2 → Nat :=
  let v189 : Index := Scalar.indexCast v154
  let c32_65 : Index := 32#32
  ![v189.toNat, 32]
def k0_off47 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c0_i32_67 : BitVec 32 := 0#32
  let v197 : BitVec 32 := Scalar.addi v74 c0_i32_67
  let v198 : Index := Scalar.indexCast v197
  let c48_68 : Index := 48#32
  ![v198.toNat, 48]
def k0_off48 (v154 : BitVec 32) : Fin 2 → Nat :=
  let v203 : Index := Scalar.indexCast v154
  let c48_69 : Index := 48#32
  ![v203.toNat, 48]
def k0_off49 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c0_i32_71 : BitVec 32 := 0#32
  let v211 : BitVec 32 := Scalar.addi v74 c0_i32_71
  let v212 : Index := Scalar.indexCast v211
  let c64 : Index := 64#32
  ![v212.toNat, 64]
def k0_off50 (v154 : BitVec 32) : Fin 2 → Nat :=
  let v217 : Index := Scalar.indexCast v154
  let c64_72 : Index := 64#32
  ![v217.toNat, 64]
def k0_off51 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c0_i32_74 : BitVec 32 := 0#32
  let v225 : BitVec 32 := Scalar.addi v74 c0_i32_74
  let v226 : Index := Scalar.indexCast v225
  let c80 : Index := 80#32
  ![v226.toNat, 80]
def k0_off52 (v154 : BitVec 32) : Fin 2 → Nat :=
  let v231 : Index := Scalar.indexCast v154
  let c80_75 : Index := 80#32
  ![v231.toNat, 80]
def k0_off53 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c0_i32_77 : BitVec 32 := 0#32
  let v239 : BitVec 32 := Scalar.addi v74 c0_i32_77
  let v240 : Index := Scalar.indexCast v239
  let c96 : Index := 96#32
  ![v240.toNat, 96]
def k0_off54 (v154 : BitVec 32) : Fin 2 → Nat :=
  let v245 : Index := Scalar.indexCast v154
  let c96_78 : Index := 96#32
  ![v245.toNat, 96]
def k0_off55 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c0_i32_80 : BitVec 32 := 0#32
  let v253 : BitVec 32 := Scalar.addi v74 c0_i32_80
  let v254 : Index := Scalar.indexCast v253
  let c112 : Index := 112#32
  ![v254.toNat, 112]
def k0_off56 (v154 : BitVec 32) : Fin 2 → Nat :=
  let v259 : Index := Scalar.indexCast v154
  let c112_81 : Index := 112#32
  ![v259.toNat, 112]

def k0_chk2 (i : grid0.Coords) (k0_t2 : Fin k0_t2_loop.trips) (v80 : BitVec 32) (v82 : BitVec 32) (v154 : BitVec 32) : Prop :=
  (∀ (k0_h4 : k0_cond4 i k0_t2 = 1#1), ∀ (k0_h6 : k0_cond6 v80 v82 = 1#1), ∀ a, (k0_off42 v154) a + S1x16.size a ≤ S64x128.size a) ∧
  (∀ (k0_h4 : k0_cond4 i k0_t2 = 1#1), ∀ (k0_h6 : k0_cond6 v80 v82 = 1#1), ∀ a, (k0_off44 v154) a + S1x16.size a ≤ S64x128.size a) ∧
  (∀ (k0_h4 : k0_cond4 i k0_t2 = 1#1), ∀ (k0_h6 : k0_cond6 v80 v82 = 1#1), ∀ a, (k0_off46 v154) a + S1x16.size a ≤ S64x128.size a) ∧
  (∀ (k0_h4 : k0_cond4 i k0_t2 = 1#1), ∀ (k0_h6 : k0_cond6 v80 v82 = 1#1), ∀ a, (k0_off48 v154) a + S1x16.size a ≤ S64x128.size a) ∧
  (∀ (k0_h4 : k0_cond4 i k0_t2 = 1#1), ∀ (k0_h6 : k0_cond6 v80 v82 = 1#1), ∀ a, (k0_off50 v154) a + S1x16.size a ≤ S64x128.size a) ∧
  (∀ (k0_h4 : k0_cond4 i k0_t2 = 1#1), ∀ (k0_h6 : k0_cond6 v80 v82 = 1#1), ∀ a, (k0_off52 v154) a + S1x16.size a ≤ S64x128.size a) ∧
  (∀ (k0_h4 : k0_cond4 i k0_t2 = 1#1), ∀ (k0_h6 : k0_cond6 v80 v82 = 1#1), ∀ a, (k0_off54 v154) a + S1x16.size a ≤ S64x128.size a) ∧
  (∀ (k0_h4 : k0_cond4 i k0_t2 = 1#1), ∀ (k0_h6 : k0_cond6 v80 v82 = 1#1), ∀ a, (k0_off56 v154) a + S1x16.size a ≤ S64x128.size a)
theorem k0_off42_inb : ∀ (i : grid0.Coords) (k0_t2 : Fin k0_t2_loop.trips) (v80 : BitVec 32) (v82 : BitVec 32) (v154 : BitVec 32) (k0_hw2 : k0_chk2 i k0_t2 v80 v82 v154), ∀ (k0_h4 : k0_cond4 i k0_t2 = 1#1), ∀ (k0_h6 : k0_cond6 v80 v82 = 1#1), ∀ a, (k0_off42 v154) a + S1x16.size a ≤ S64x128.size a := fun i k0_t2 v80 v82 v154 k0_hw2 k0_h4 k0_h6 => k0_hw2.1 k0_h4 k0_h6
theorem k0_off44_inb : ∀ (i : grid0.Coords) (k0_t2 : Fin k0_t2_loop.trips) (v80 : BitVec 32) (v82 : BitVec 32) (v154 : BitVec 32) (k0_hw2 : k0_chk2 i k0_t2 v80 v82 v154), ∀ (k0_h4 : k0_cond4 i k0_t2 = 1#1), ∀ (k0_h6 : k0_cond6 v80 v82 = 1#1), ∀ a, (k0_off44 v154) a + S1x16.size a ≤ S64x128.size a := fun i k0_t2 v80 v82 v154 k0_hw2 k0_h4 k0_h6 => k0_hw2.2.1 k0_h4 k0_h6
theorem k0_off46_inb : ∀ (i : grid0.Coords) (k0_t2 : Fin k0_t2_loop.trips) (v80 : BitVec 32) (v82 : BitVec 32) (v154 : BitVec 32) (k0_hw2 : k0_chk2 i k0_t2 v80 v82 v154), ∀ (k0_h4 : k0_cond4 i k0_t2 = 1#1), ∀ (k0_h6 : k0_cond6 v80 v82 = 1#1), ∀ a, (k0_off46 v154) a + S1x16.size a ≤ S64x128.size a := fun i k0_t2 v80 v82 v154 k0_hw2 k0_h4 k0_h6 => k0_hw2.2.2.1 k0_h4 k0_h6
theorem k0_off48_inb : ∀ (i : grid0.Coords) (k0_t2 : Fin k0_t2_loop.trips) (v80 : BitVec 32) (v82 : BitVec 32) (v154 : BitVec 32) (k0_hw2 : k0_chk2 i k0_t2 v80 v82 v154), ∀ (k0_h4 : k0_cond4 i k0_t2 = 1#1), ∀ (k0_h6 : k0_cond6 v80 v82 = 1#1), ∀ a, (k0_off48 v154) a + S1x16.size a ≤ S64x128.size a := fun i k0_t2 v80 v82 v154 k0_hw2 k0_h4 k0_h6 => k0_hw2.2.2.2.1 k0_h4 k0_h6
theorem k0_off50_inb : ∀ (i : grid0.Coords) (k0_t2 : Fin k0_t2_loop.trips) (v80 : BitVec 32) (v82 : BitVec 32) (v154 : BitVec 32) (k0_hw2 : k0_chk2 i k0_t2 v80 v82 v154), ∀ (k0_h4 : k0_cond4 i k0_t2 = 1#1), ∀ (k0_h6 : k0_cond6 v80 v82 = 1#1), ∀ a, (k0_off50 v154) a + S1x16.size a ≤ S64x128.size a := fun i k0_t2 v80 v82 v154 k0_hw2 k0_h4 k0_h6 => k0_hw2.2.2.2.2.1 k0_h4 k0_h6
theorem k0_off52_inb : ∀ (i : grid0.Coords) (k0_t2 : Fin k0_t2_loop.trips) (v80 : BitVec 32) (v82 : BitVec 32) (v154 : BitVec 32) (k0_hw2 : k0_chk2 i k0_t2 v80 v82 v154), ∀ (k0_h4 : k0_cond4 i k0_t2 = 1#1), ∀ (k0_h6 : k0_cond6 v80 v82 = 1#1), ∀ a, (k0_off52 v154) a + S1x16.size a ≤ S64x128.size a := fun i k0_t2 v80 v82 v154 k0_hw2 k0_h4 k0_h6 => k0_hw2.2.2.2.2.2.1 k0_h4 k0_h6
theorem k0_off54_inb : ∀ (i : grid0.Coords) (k0_t2 : Fin k0_t2_loop.trips) (v80 : BitVec 32) (v82 : BitVec 32) (v154 : BitVec 32) (k0_hw2 : k0_chk2 i k0_t2 v80 v82 v154), ∀ (k0_h4 : k0_cond4 i k0_t2 = 1#1), ∀ (k0_h6 : k0_cond6 v80 v82 = 1#1), ∀ a, (k0_off54 v154) a + S1x16.size a ≤ S64x128.size a := fun i k0_t2 v80 v82 v154 k0_hw2 k0_h4 k0_h6 => k0_hw2.2.2.2.2.2.2.1 k0_h4 k0_h6
theorem k0_off56_inb : ∀ (i : grid0.Coords) (k0_t2 : Fin k0_t2_loop.trips) (v80 : BitVec 32) (v82 : BitVec 32) (v154 : BitVec 32) (k0_hw2 : k0_chk2 i k0_t2 v80 v82 v154), ∀ (k0_h4 : k0_cond4 i k0_t2 = 1#1), ∀ (k0_h6 : k0_cond6 v80 v82 = 1#1), ∀ a, (k0_off56 v154) a + S1x16.size a ≤ S64x128.size a := fun i k0_t2 v80 v82 v154 k0_hw2 k0_h4 k0_h6 => k0_hw2.2.2.2.2.2.2.2 k0_h4 k0_h6

def k0_off57 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c1_i32_83 : BitVec 32 := 1#32
  let v269 : BitVec 32 := Scalar.addi v74 c1_i32_83
  let v270 : Index := Scalar.indexCast v269
  let c0_84 : Index := 0#32
  ![v270.toNat, 0]
def k0_off58 (v268 : BitVec 32) : Fin 2 → Nat :=
  let v275 : Index := Scalar.indexCast v268
  let c0_85 : Index := 0#32
  ![v275.toNat, 0]

def k0_off59 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c1_i32_87 : BitVec 32 := 1#32
  let v283 : BitVec 32 := Scalar.addi v74 c1_i32_87
  let v284 : Index := Scalar.indexCast v283
  let c16_88 : Index := 16#32
  ![v284.toNat, 16]
def k0_off60 (v268 : BitVec 32) : Fin 2 → Nat :=
  let v289 : Index := Scalar.indexCast v268
  let c16_89 : Index := 16#32
  ![v289.toNat, 16]
def k0_off61 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c1_i32_91 : BitVec 32 := 1#32
  let v297 : BitVec 32 := Scalar.addi v74 c1_i32_91
  let v298 : Index := Scalar.indexCast v297
  let c32_92 : Index := 32#32
  ![v298.toNat, 32]
def k0_off62 (v268 : BitVec 32) : Fin 2 → Nat :=
  let v303 : Index := Scalar.indexCast v268
  let c32_93 : Index := 32#32
  ![v303.toNat, 32]
def k0_off63 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c1_i32_95 : BitVec 32 := 1#32
  let v311 : BitVec 32 := Scalar.addi v74 c1_i32_95
  let v312 : Index := Scalar.indexCast v311
  let c48_96 : Index := 48#32
  ![v312.toNat, 48]
def k0_off64 (v268 : BitVec 32) : Fin 2 → Nat :=
  let v317 : Index := Scalar.indexCast v268
  let c48_97 : Index := 48#32
  ![v317.toNat, 48]
def k0_off65 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c1_i32_99 : BitVec 32 := 1#32
  let v325 : BitVec 32 := Scalar.addi v74 c1_i32_99
  let v326 : Index := Scalar.indexCast v325
  let c64_100 : Index := 64#32
  ![v326.toNat, 64]
def k0_off66 (v268 : BitVec 32) : Fin 2 → Nat :=
  let v331 : Index := Scalar.indexCast v268
  let c64_101 : Index := 64#32
  ![v331.toNat, 64]
def k0_off67 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c1_i32_103 : BitVec 32 := 1#32
  let v339 : BitVec 32 := Scalar.addi v74 c1_i32_103
  let v340 : Index := Scalar.indexCast v339
  let c80_104 : Index := 80#32
  ![v340.toNat, 80]
def k0_off68 (v268 : BitVec 32) : Fin 2 → Nat :=
  let v345 : Index := Scalar.indexCast v268
  let c80_105 : Index := 80#32
  ![v345.toNat, 80]
def k0_off69 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c1_i32_107 : BitVec 32 := 1#32
  let v353 : BitVec 32 := Scalar.addi v74 c1_i32_107
  let v354 : Index := Scalar.indexCast v353
  let c96_108 : Index := 96#32
  ![v354.toNat, 96]
def k0_off70 (v268 : BitVec 32) : Fin 2 → Nat :=
  let v359 : Index := Scalar.indexCast v268
  let c96_109 : Index := 96#32
  ![v359.toNat, 96]
def k0_off71 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c1_i32_111 : BitVec 32 := 1#32
  let v367 : BitVec 32 := Scalar.addi v74 c1_i32_111
  let v368 : Index := Scalar.indexCast v367
  let c112_112 : Index := 112#32
  ![v368.toNat, 112]
def k0_off72 (v268 : BitVec 32) : Fin 2 → Nat :=
  let v373 : Index := Scalar.indexCast v268
  let c112_113 : Index := 112#32
  ![v373.toNat, 112]

def k0_chk3 (i : grid0.Coords) (k0_t2 : Fin k0_t2_loop.trips) (v80 : BitVec 32) (v82 : BitVec 32) (v268 : BitVec 32) : Prop :=
  (∀ (k0_h4 : k0_cond4 i k0_t2 = 1#1), ∀ (k0_h6 : k0_cond6 v80 v82 = 1#1), ∀ a, (k0_off58 v268) a + S1x16.size a ≤ S64x128.size a) ∧
  (∀ (k0_h4 : k0_cond4 i k0_t2 = 1#1), ∀ (k0_h6 : k0_cond6 v80 v82 = 1#1), ∀ a, (k0_off60 v268) a + S1x16.size a ≤ S64x128.size a) ∧
  (∀ (k0_h4 : k0_cond4 i k0_t2 = 1#1), ∀ (k0_h6 : k0_cond6 v80 v82 = 1#1), ∀ a, (k0_off62 v268) a + S1x16.size a ≤ S64x128.size a) ∧
  (∀ (k0_h4 : k0_cond4 i k0_t2 = 1#1), ∀ (k0_h6 : k0_cond6 v80 v82 = 1#1), ∀ a, (k0_off64 v268) a + S1x16.size a ≤ S64x128.size a) ∧
  (∀ (k0_h4 : k0_cond4 i k0_t2 = 1#1), ∀ (k0_h6 : k0_cond6 v80 v82 = 1#1), ∀ a, (k0_off66 v268) a + S1x16.size a ≤ S64x128.size a) ∧
  (∀ (k0_h4 : k0_cond4 i k0_t2 = 1#1), ∀ (k0_h6 : k0_cond6 v80 v82 = 1#1), ∀ a, (k0_off68 v268) a + S1x16.size a ≤ S64x128.size a) ∧
  (∀ (k0_h4 : k0_cond4 i k0_t2 = 1#1), ∀ (k0_h6 : k0_cond6 v80 v82 = 1#1), ∀ a, (k0_off70 v268) a + S1x16.size a ≤ S64x128.size a) ∧
  (∀ (k0_h4 : k0_cond4 i k0_t2 = 1#1), ∀ (k0_h6 : k0_cond6 v80 v82 = 1#1), ∀ a, (k0_off72 v268) a + S1x16.size a ≤ S64x128.size a)
theorem k0_off58_inb : ∀ (i : grid0.Coords) (k0_t2 : Fin k0_t2_loop.trips) (v80 : BitVec 32) (v82 : BitVec 32) (v268 : BitVec 32) (k0_hw3 : k0_chk3 i k0_t2 v80 v82 v268), ∀ (k0_h4 : k0_cond4 i k0_t2 = 1#1), ∀ (k0_h6 : k0_cond6 v80 v82 = 1#1), ∀ a, (k0_off58 v268) a + S1x16.size a ≤ S64x128.size a := fun i k0_t2 v80 v82 v268 k0_hw3 k0_h4 k0_h6 => k0_hw3.1 k0_h4 k0_h6
theorem k0_off60_inb : ∀ (i : grid0.Coords) (k0_t2 : Fin k0_t2_loop.trips) (v80 : BitVec 32) (v82 : BitVec 32) (v268 : BitVec 32) (k0_hw3 : k0_chk3 i k0_t2 v80 v82 v268), ∀ (k0_h4 : k0_cond4 i k0_t2 = 1#1), ∀ (k0_h6 : k0_cond6 v80 v82 = 1#1), ∀ a, (k0_off60 v268) a + S1x16.size a ≤ S64x128.size a := fun i k0_t2 v80 v82 v268 k0_hw3 k0_h4 k0_h6 => k0_hw3.2.1 k0_h4 k0_h6
theorem k0_off62_inb : ∀ (i : grid0.Coords) (k0_t2 : Fin k0_t2_loop.trips) (v80 : BitVec 32) (v82 : BitVec 32) (v268 : BitVec 32) (k0_hw3 : k0_chk3 i k0_t2 v80 v82 v268), ∀ (k0_h4 : k0_cond4 i k0_t2 = 1#1), ∀ (k0_h6 : k0_cond6 v80 v82 = 1#1), ∀ a, (k0_off62 v268) a + S1x16.size a ≤ S64x128.size a := fun i k0_t2 v80 v82 v268 k0_hw3 k0_h4 k0_h6 => k0_hw3.2.2.1 k0_h4 k0_h6
theorem k0_off64_inb : ∀ (i : grid0.Coords) (k0_t2 : Fin k0_t2_loop.trips) (v80 : BitVec 32) (v82 : BitVec 32) (v268 : BitVec 32) (k0_hw3 : k0_chk3 i k0_t2 v80 v82 v268), ∀ (k0_h4 : k0_cond4 i k0_t2 = 1#1), ∀ (k0_h6 : k0_cond6 v80 v82 = 1#1), ∀ a, (k0_off64 v268) a + S1x16.size a ≤ S64x128.size a := fun i k0_t2 v80 v82 v268 k0_hw3 k0_h4 k0_h6 => k0_hw3.2.2.2.1 k0_h4 k0_h6
theorem k0_off66_inb : ∀ (i : grid0.Coords) (k0_t2 : Fin k0_t2_loop.trips) (v80 : BitVec 32) (v82 : BitVec 32) (v268 : BitVec 32) (k0_hw3 : k0_chk3 i k0_t2 v80 v82 v268), ∀ (k0_h4 : k0_cond4 i k0_t2 = 1#1), ∀ (k0_h6 : k0_cond6 v80 v82 = 1#1), ∀ a, (k0_off66 v268) a + S1x16.size a ≤ S64x128.size a := fun i k0_t2 v80 v82 v268 k0_hw3 k0_h4 k0_h6 => k0_hw3.2.2.2.2.1 k0_h4 k0_h6
theorem k0_off68_inb : ∀ (i : grid0.Coords) (k0_t2 : Fin k0_t2_loop.trips) (v80 : BitVec 32) (v82 : BitVec 32) (v268 : BitVec 32) (k0_hw3 : k0_chk3 i k0_t2 v80 v82 v268), ∀ (k0_h4 : k0_cond4 i k0_t2 = 1#1), ∀ (k0_h6 : k0_cond6 v80 v82 = 1#1), ∀ a, (k0_off68 v268) a + S1x16.size a ≤ S64x128.size a := fun i k0_t2 v80 v82 v268 k0_hw3 k0_h4 k0_h6 => k0_hw3.2.2.2.2.2.1 k0_h4 k0_h6
theorem k0_off70_inb : ∀ (i : grid0.Coords) (k0_t2 : Fin k0_t2_loop.trips) (v80 : BitVec 32) (v82 : BitVec 32) (v268 : BitVec 32) (k0_hw3 : k0_chk3 i k0_t2 v80 v82 v268), ∀ (k0_h4 : k0_cond4 i k0_t2 = 1#1), ∀ (k0_h6 : k0_cond6 v80 v82 = 1#1), ∀ a, (k0_off70 v268) a + S1x16.size a ≤ S64x128.size a := fun i k0_t2 v80 v82 v268 k0_hw3 k0_h4 k0_h6 => k0_hw3.2.2.2.2.2.2.1 k0_h4 k0_h6
theorem k0_off72_inb : ∀ (i : grid0.Coords) (k0_t2 : Fin k0_t2_loop.trips) (v80 : BitVec 32) (v82 : BitVec 32) (v268 : BitVec 32) (k0_hw3 : k0_chk3 i k0_t2 v80 v82 v268), ∀ (k0_h4 : k0_cond4 i k0_t2 = 1#1), ∀ (k0_h6 : k0_cond6 v80 v82 = 1#1), ∀ a, (k0_off72 v268) a + S1x16.size a ≤ S64x128.size a := fun i k0_t2 v80 v82 v268 k0_hw3 k0_h4 k0_h6 => k0_hw3.2.2.2.2.2.2.2 k0_h4 k0_h6

def k0_off73 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c2_i32_115 : BitVec 32 := 2#32
  let v383 : BitVec 32 := Scalar.addi v74 c2_i32_115
  let v384 : Index := Scalar.indexCast v383
  let c0_116 : Index := 0#32
  ![v384.toNat, 0]
def k0_off74 (v382 : BitVec 32) : Fin 2 → Nat :=
  let v389 : Index := Scalar.indexCast v382
  let c0_117 : Index := 0#32
  ![v389.toNat, 0]

def k0_off75 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c2_i32_119 : BitVec 32 := 2#32
  let v397 : BitVec 32 := Scalar.addi v74 c2_i32_119
  let v398 : Index := Scalar.indexCast v397
  let c16_120 : Index := 16#32
  ![v398.toNat, 16]
def k0_off76 (v382 : BitVec 32) : Fin 2 → Nat :=
  let v403 : Index := Scalar.indexCast v382
  let c16_121 : Index := 16#32
  ![v403.toNat, 16]
def k0_off77 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c2_i32_123 : BitVec 32 := 2#32
  let v411 : BitVec 32 := Scalar.addi v74 c2_i32_123
  let v412 : Index := Scalar.indexCast v411
  let c32_124 : Index := 32#32
  ![v412.toNat, 32]
def k0_off78 (v382 : BitVec 32) : Fin 2 → Nat :=
  let v417 : Index := Scalar.indexCast v382
  let c32_125 : Index := 32#32
  ![v417.toNat, 32]
def k0_off79 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c2_i32_127 : BitVec 32 := 2#32
  let v425 : BitVec 32 := Scalar.addi v74 c2_i32_127
  let v426 : Index := Scalar.indexCast v425
  let c48_128 : Index := 48#32
  ![v426.toNat, 48]
def k0_off80 (v382 : BitVec 32) : Fin 2 → Nat :=
  let v431 : Index := Scalar.indexCast v382
  let c48_129 : Index := 48#32
  ![v431.toNat, 48]
def k0_off81 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c2_i32_131 : BitVec 32 := 2#32
  let v439 : BitVec 32 := Scalar.addi v74 c2_i32_131
  let v440 : Index := Scalar.indexCast v439
  let c64_132 : Index := 64#32
  ![v440.toNat, 64]
def k0_off82 (v382 : BitVec 32) : Fin 2 → Nat :=
  let v445 : Index := Scalar.indexCast v382
  let c64_133 : Index := 64#32
  ![v445.toNat, 64]
def k0_off83 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c2_i32_135 : BitVec 32 := 2#32
  let v453 : BitVec 32 := Scalar.addi v74 c2_i32_135
  let v454 : Index := Scalar.indexCast v453
  let c80_136 : Index := 80#32
  ![v454.toNat, 80]
def k0_off84 (v382 : BitVec 32) : Fin 2 → Nat :=
  let v459 : Index := Scalar.indexCast v382
  let c80_137 : Index := 80#32
  ![v459.toNat, 80]
def k0_off85 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c2_i32_139 : BitVec 32 := 2#32
  let v467 : BitVec 32 := Scalar.addi v74 c2_i32_139
  let v468 : Index := Scalar.indexCast v467
  let c96_140 : Index := 96#32
  ![v468.toNat, 96]
def k0_off86 (v382 : BitVec 32) : Fin 2 → Nat :=
  let v473 : Index := Scalar.indexCast v382
  let c96_141 : Index := 96#32
  ![v473.toNat, 96]
def k0_off87 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c2_i32_143 : BitVec 32 := 2#32
  let v481 : BitVec 32 := Scalar.addi v74 c2_i32_143
  let v482 : Index := Scalar.indexCast v481
  let c112_144 : Index := 112#32
  ![v482.toNat, 112]
def k0_off88 (v382 : BitVec 32) : Fin 2 → Nat :=
  let v487 : Index := Scalar.indexCast v382
  let c112_145 : Index := 112#32
  ![v487.toNat, 112]

def k0_chk4 (i : grid0.Coords) (k0_t2 : Fin k0_t2_loop.trips) (v80 : BitVec 32) (v82 : BitVec 32) (v382 : BitVec 32) : Prop :=
  (∀ (k0_h4 : k0_cond4 i k0_t2 = 1#1), ∀ (k0_h6 : k0_cond6 v80 v82 = 1#1), ∀ a, (k0_off74 v382) a + S1x16.size a ≤ S64x128.size a) ∧
  (∀ (k0_h4 : k0_cond4 i k0_t2 = 1#1), ∀ (k0_h6 : k0_cond6 v80 v82 = 1#1), ∀ a, (k0_off76 v382) a + S1x16.size a ≤ S64x128.size a) ∧
  (∀ (k0_h4 : k0_cond4 i k0_t2 = 1#1), ∀ (k0_h6 : k0_cond6 v80 v82 = 1#1), ∀ a, (k0_off78 v382) a + S1x16.size a ≤ S64x128.size a) ∧
  (∀ (k0_h4 : k0_cond4 i k0_t2 = 1#1), ∀ (k0_h6 : k0_cond6 v80 v82 = 1#1), ∀ a, (k0_off80 v382) a + S1x16.size a ≤ S64x128.size a) ∧
  (∀ (k0_h4 : k0_cond4 i k0_t2 = 1#1), ∀ (k0_h6 : k0_cond6 v80 v82 = 1#1), ∀ a, (k0_off82 v382) a + S1x16.size a ≤ S64x128.size a) ∧
  (∀ (k0_h4 : k0_cond4 i k0_t2 = 1#1), ∀ (k0_h6 : k0_cond6 v80 v82 = 1#1), ∀ a, (k0_off84 v382) a + S1x16.size a ≤ S64x128.size a) ∧
  (∀ (k0_h4 : k0_cond4 i k0_t2 = 1#1), ∀ (k0_h6 : k0_cond6 v80 v82 = 1#1), ∀ a, (k0_off86 v382) a + S1x16.size a ≤ S64x128.size a) ∧
  (∀ (k0_h4 : k0_cond4 i k0_t2 = 1#1), ∀ (k0_h6 : k0_cond6 v80 v82 = 1#1), ∀ a, (k0_off88 v382) a + S1x16.size a ≤ S64x128.size a)
theorem k0_off74_inb : ∀ (i : grid0.Coords) (k0_t2 : Fin k0_t2_loop.trips) (v80 : BitVec 32) (v82 : BitVec 32) (v382 : BitVec 32) (k0_hw4 : k0_chk4 i k0_t2 v80 v82 v382), ∀ (k0_h4 : k0_cond4 i k0_t2 = 1#1), ∀ (k0_h6 : k0_cond6 v80 v82 = 1#1), ∀ a, (k0_off74 v382) a + S1x16.size a ≤ S64x128.size a := fun i k0_t2 v80 v82 v382 k0_hw4 k0_h4 k0_h6 => k0_hw4.1 k0_h4 k0_h6
theorem k0_off76_inb : ∀ (i : grid0.Coords) (k0_t2 : Fin k0_t2_loop.trips) (v80 : BitVec 32) (v82 : BitVec 32) (v382 : BitVec 32) (k0_hw4 : k0_chk4 i k0_t2 v80 v82 v382), ∀ (k0_h4 : k0_cond4 i k0_t2 = 1#1), ∀ (k0_h6 : k0_cond6 v80 v82 = 1#1), ∀ a, (k0_off76 v382) a + S1x16.size a ≤ S64x128.size a := fun i k0_t2 v80 v82 v382 k0_hw4 k0_h4 k0_h6 => k0_hw4.2.1 k0_h4 k0_h6
theorem k0_off78_inb : ∀ (i : grid0.Coords) (k0_t2 : Fin k0_t2_loop.trips) (v80 : BitVec 32) (v82 : BitVec 32) (v382 : BitVec 32) (k0_hw4 : k0_chk4 i k0_t2 v80 v82 v382), ∀ (k0_h4 : k0_cond4 i k0_t2 = 1#1), ∀ (k0_h6 : k0_cond6 v80 v82 = 1#1), ∀ a, (k0_off78 v382) a + S1x16.size a ≤ S64x128.size a := fun i k0_t2 v80 v82 v382 k0_hw4 k0_h4 k0_h6 => k0_hw4.2.2.1 k0_h4 k0_h6
theorem k0_off80_inb : ∀ (i : grid0.Coords) (k0_t2 : Fin k0_t2_loop.trips) (v80 : BitVec 32) (v82 : BitVec 32) (v382 : BitVec 32) (k0_hw4 : k0_chk4 i k0_t2 v80 v82 v382), ∀ (k0_h4 : k0_cond4 i k0_t2 = 1#1), ∀ (k0_h6 : k0_cond6 v80 v82 = 1#1), ∀ a, (k0_off80 v382) a + S1x16.size a ≤ S64x128.size a := fun i k0_t2 v80 v82 v382 k0_hw4 k0_h4 k0_h6 => k0_hw4.2.2.2.1 k0_h4 k0_h6
theorem k0_off82_inb : ∀ (i : grid0.Coords) (k0_t2 : Fin k0_t2_loop.trips) (v80 : BitVec 32) (v82 : BitVec 32) (v382 : BitVec 32) (k0_hw4 : k0_chk4 i k0_t2 v80 v82 v382), ∀ (k0_h4 : k0_cond4 i k0_t2 = 1#1), ∀ (k0_h6 : k0_cond6 v80 v82 = 1#1), ∀ a, (k0_off82 v382) a + S1x16.size a ≤ S64x128.size a := fun i k0_t2 v80 v82 v382 k0_hw4 k0_h4 k0_h6 => k0_hw4.2.2.2.2.1 k0_h4 k0_h6
theorem k0_off84_inb : ∀ (i : grid0.Coords) (k0_t2 : Fin k0_t2_loop.trips) (v80 : BitVec 32) (v82 : BitVec 32) (v382 : BitVec 32) (k0_hw4 : k0_chk4 i k0_t2 v80 v82 v382), ∀ (k0_h4 : k0_cond4 i k0_t2 = 1#1), ∀ (k0_h6 : k0_cond6 v80 v82 = 1#1), ∀ a, (k0_off84 v382) a + S1x16.size a ≤ S64x128.size a := fun i k0_t2 v80 v82 v382 k0_hw4 k0_h4 k0_h6 => k0_hw4.2.2.2.2.2.1 k0_h4 k0_h6
theorem k0_off86_inb : ∀ (i : grid0.Coords) (k0_t2 : Fin k0_t2_loop.trips) (v80 : BitVec 32) (v82 : BitVec 32) (v382 : BitVec 32) (k0_hw4 : k0_chk4 i k0_t2 v80 v82 v382), ∀ (k0_h4 : k0_cond4 i k0_t2 = 1#1), ∀ (k0_h6 : k0_cond6 v80 v82 = 1#1), ∀ a, (k0_off86 v382) a + S1x16.size a ≤ S64x128.size a := fun i k0_t2 v80 v82 v382 k0_hw4 k0_h4 k0_h6 => k0_hw4.2.2.2.2.2.2.1 k0_h4 k0_h6
theorem k0_off88_inb : ∀ (i : grid0.Coords) (k0_t2 : Fin k0_t2_loop.trips) (v80 : BitVec 32) (v82 : BitVec 32) (v382 : BitVec 32) (k0_hw4 : k0_chk4 i k0_t2 v80 v82 v382), ∀ (k0_h4 : k0_cond4 i k0_t2 = 1#1), ∀ (k0_h6 : k0_cond6 v80 v82 = 1#1), ∀ a, (k0_off88 v382) a + S1x16.size a ≤ S64x128.size a := fun i k0_t2 v80 v82 v382 k0_hw4 k0_h4 k0_h6 => k0_hw4.2.2.2.2.2.2.2 k0_h4 k0_h6

def k0_off89 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c3_i32_147 : BitVec 32 := 3#32
  let v497 : BitVec 32 := Scalar.addi v74 c3_i32_147
  let v498 : Index := Scalar.indexCast v497
  let c0_148 : Index := 0#32
  ![v498.toNat, 0]
def k0_off90 (v496 : BitVec 32) : Fin 2 → Nat :=
  let v503 : Index := Scalar.indexCast v496
  let c0_149 : Index := 0#32
  ![v503.toNat, 0]

def k0_off91 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c3_i32_151 : BitVec 32 := 3#32
  let v511 : BitVec 32 := Scalar.addi v74 c3_i32_151
  let v512 : Index := Scalar.indexCast v511
  let c16_152 : Index := 16#32
  ![v512.toNat, 16]
def k0_off92 (v496 : BitVec 32) : Fin 2 → Nat :=
  let v517 : Index := Scalar.indexCast v496
  let c16_153 : Index := 16#32
  ![v517.toNat, 16]
def k0_off93 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c3_i32_155 : BitVec 32 := 3#32
  let v525 : BitVec 32 := Scalar.addi v74 c3_i32_155
  let v526 : Index := Scalar.indexCast v525
  let c32_156 : Index := 32#32
  ![v526.toNat, 32]
def k0_off94 (v496 : BitVec 32) : Fin 2 → Nat :=
  let v531 : Index := Scalar.indexCast v496
  let c32_157 : Index := 32#32
  ![v531.toNat, 32]
def k0_off95 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c3_i32_159 : BitVec 32 := 3#32
  let v539 : BitVec 32 := Scalar.addi v74 c3_i32_159
  let v540 : Index := Scalar.indexCast v539
  let c48_160 : Index := 48#32
  ![v540.toNat, 48]
def k0_off96 (v496 : BitVec 32) : Fin 2 → Nat :=
  let v545 : Index := Scalar.indexCast v496
  let c48_161 : Index := 48#32
  ![v545.toNat, 48]
def k0_off97 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c3_i32_163 : BitVec 32 := 3#32
  let v553 : BitVec 32 := Scalar.addi v74 c3_i32_163
  let v554 : Index := Scalar.indexCast v553
  let c64_164 : Index := 64#32
  ![v554.toNat, 64]
def k0_off98 (v496 : BitVec 32) : Fin 2 → Nat :=
  let v559 : Index := Scalar.indexCast v496
  let c64_165 : Index := 64#32
  ![v559.toNat, 64]
def k0_off99 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c3_i32_167 : BitVec 32 := 3#32
  let v567 : BitVec 32 := Scalar.addi v74 c3_i32_167
  let v568 : Index := Scalar.indexCast v567
  let c80_168 : Index := 80#32
  ![v568.toNat, 80]
def k0_off100 (v496 : BitVec 32) : Fin 2 → Nat :=
  let v573 : Index := Scalar.indexCast v496
  let c80_169 : Index := 80#32
  ![v573.toNat, 80]
def k0_off101 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c3_i32_171 : BitVec 32 := 3#32
  let v581 : BitVec 32 := Scalar.addi v74 c3_i32_171
  let v582 : Index := Scalar.indexCast v581
  let c96_172 : Index := 96#32
  ![v582.toNat, 96]
def k0_off102 (v496 : BitVec 32) : Fin 2 → Nat :=
  let v587 : Index := Scalar.indexCast v496
  let c96_173 : Index := 96#32
  ![v587.toNat, 96]
def k0_off103 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c3_i32_175 : BitVec 32 := 3#32
  let v595 : BitVec 32 := Scalar.addi v74 c3_i32_175
  let v596 : Index := Scalar.indexCast v595
  let c112_176 : Index := 112#32
  ![v596.toNat, 112]
def k0_off104 (v496 : BitVec 32) : Fin 2 → Nat :=
  let v601 : Index := Scalar.indexCast v496
  let c112_177 : Index := 112#32
  ![v601.toNat, 112]

def k0_chk5 (i : grid0.Coords) (k0_t2 : Fin k0_t2_loop.trips) (v80 : BitVec 32) (v82 : BitVec 32) (v496 : BitVec 32) : Prop :=
  (∀ (k0_h4 : k0_cond4 i k0_t2 = 1#1), ∀ (k0_h6 : k0_cond6 v80 v82 = 1#1), ∀ a, (k0_off90 v496) a + S1x16.size a ≤ S64x128.size a) ∧
  (∀ (k0_h4 : k0_cond4 i k0_t2 = 1#1), ∀ (k0_h6 : k0_cond6 v80 v82 = 1#1), ∀ a, (k0_off92 v496) a + S1x16.size a ≤ S64x128.size a) ∧
  (∀ (k0_h4 : k0_cond4 i k0_t2 = 1#1), ∀ (k0_h6 : k0_cond6 v80 v82 = 1#1), ∀ a, (k0_off94 v496) a + S1x16.size a ≤ S64x128.size a) ∧
  (∀ (k0_h4 : k0_cond4 i k0_t2 = 1#1), ∀ (k0_h6 : k0_cond6 v80 v82 = 1#1), ∀ a, (k0_off96 v496) a + S1x16.size a ≤ S64x128.size a) ∧
  (∀ (k0_h4 : k0_cond4 i k0_t2 = 1#1), ∀ (k0_h6 : k0_cond6 v80 v82 = 1#1), ∀ a, (k0_off98 v496) a + S1x16.size a ≤ S64x128.size a) ∧
  (∀ (k0_h4 : k0_cond4 i k0_t2 = 1#1), ∀ (k0_h6 : k0_cond6 v80 v82 = 1#1), ∀ a, (k0_off100 v496) a + S1x16.size a ≤ S64x128.size a) ∧
  (∀ (k0_h4 : k0_cond4 i k0_t2 = 1#1), ∀ (k0_h6 : k0_cond6 v80 v82 = 1#1), ∀ a, (k0_off102 v496) a + S1x16.size a ≤ S64x128.size a) ∧
  (∀ (k0_h4 : k0_cond4 i k0_t2 = 1#1), ∀ (k0_h6 : k0_cond6 v80 v82 = 1#1), ∀ a, (k0_off104 v496) a + S1x16.size a ≤ S64x128.size a)
theorem k0_off90_inb : ∀ (i : grid0.Coords) (k0_t2 : Fin k0_t2_loop.trips) (v80 : BitVec 32) (v82 : BitVec 32) (v496 : BitVec 32) (k0_hw5 : k0_chk5 i k0_t2 v80 v82 v496), ∀ (k0_h4 : k0_cond4 i k0_t2 = 1#1), ∀ (k0_h6 : k0_cond6 v80 v82 = 1#1), ∀ a, (k0_off90 v496) a + S1x16.size a ≤ S64x128.size a := fun i k0_t2 v80 v82 v496 k0_hw5 k0_h4 k0_h6 => k0_hw5.1 k0_h4 k0_h6
theorem k0_off92_inb : ∀ (i : grid0.Coords) (k0_t2 : Fin k0_t2_loop.trips) (v80 : BitVec 32) (v82 : BitVec 32) (v496 : BitVec 32) (k0_hw5 : k0_chk5 i k0_t2 v80 v82 v496), ∀ (k0_h4 : k0_cond4 i k0_t2 = 1#1), ∀ (k0_h6 : k0_cond6 v80 v82 = 1#1), ∀ a, (k0_off92 v496) a + S1x16.size a ≤ S64x128.size a := fun i k0_t2 v80 v82 v496 k0_hw5 k0_h4 k0_h6 => k0_hw5.2.1 k0_h4 k0_h6
theorem k0_off94_inb : ∀ (i : grid0.Coords) (k0_t2 : Fin k0_t2_loop.trips) (v80 : BitVec 32) (v82 : BitVec 32) (v496 : BitVec 32) (k0_hw5 : k0_chk5 i k0_t2 v80 v82 v496), ∀ (k0_h4 : k0_cond4 i k0_t2 = 1#1), ∀ (k0_h6 : k0_cond6 v80 v82 = 1#1), ∀ a, (k0_off94 v496) a + S1x16.size a ≤ S64x128.size a := fun i k0_t2 v80 v82 v496 k0_hw5 k0_h4 k0_h6 => k0_hw5.2.2.1 k0_h4 k0_h6
theorem k0_off96_inb : ∀ (i : grid0.Coords) (k0_t2 : Fin k0_t2_loop.trips) (v80 : BitVec 32) (v82 : BitVec 32) (v496 : BitVec 32) (k0_hw5 : k0_chk5 i k0_t2 v80 v82 v496), ∀ (k0_h4 : k0_cond4 i k0_t2 = 1#1), ∀ (k0_h6 : k0_cond6 v80 v82 = 1#1), ∀ a, (k0_off96 v496) a + S1x16.size a ≤ S64x128.size a := fun i k0_t2 v80 v82 v496 k0_hw5 k0_h4 k0_h6 => k0_hw5.2.2.2.1 k0_h4 k0_h6
theorem k0_off98_inb : ∀ (i : grid0.Coords) (k0_t2 : Fin k0_t2_loop.trips) (v80 : BitVec 32) (v82 : BitVec 32) (v496 : BitVec 32) (k0_hw5 : k0_chk5 i k0_t2 v80 v82 v496), ∀ (k0_h4 : k0_cond4 i k0_t2 = 1#1), ∀ (k0_h6 : k0_cond6 v80 v82 = 1#1), ∀ a, (k0_off98 v496) a + S1x16.size a ≤ S64x128.size a := fun i k0_t2 v80 v82 v496 k0_hw5 k0_h4 k0_h6 => k0_hw5.2.2.2.2.1 k0_h4 k0_h6
theorem k0_off100_inb : ∀ (i : grid0.Coords) (k0_t2 : Fin k0_t2_loop.trips) (v80 : BitVec 32) (v82 : BitVec 32) (v496 : BitVec 32) (k0_hw5 : k0_chk5 i k0_t2 v80 v82 v496), ∀ (k0_h4 : k0_cond4 i k0_t2 = 1#1), ∀ (k0_h6 : k0_cond6 v80 v82 = 1#1), ∀ a, (k0_off100 v496) a + S1x16.size a ≤ S64x128.size a := fun i k0_t2 v80 v82 v496 k0_hw5 k0_h4 k0_h6 => k0_hw5.2.2.2.2.2.1 k0_h4 k0_h6
theorem k0_off102_inb : ∀ (i : grid0.Coords) (k0_t2 : Fin k0_t2_loop.trips) (v80 : BitVec 32) (v82 : BitVec 32) (v496 : BitVec 32) (k0_hw5 : k0_chk5 i k0_t2 v80 v82 v496), ∀ (k0_h4 : k0_cond4 i k0_t2 = 1#1), ∀ (k0_h6 : k0_cond6 v80 v82 = 1#1), ∀ a, (k0_off102 v496) a + S1x16.size a ≤ S64x128.size a := fun i k0_t2 v80 v82 v496 k0_hw5 k0_h4 k0_h6 => k0_hw5.2.2.2.2.2.2.1 k0_h4 k0_h6
theorem k0_off104_inb : ∀ (i : grid0.Coords) (k0_t2 : Fin k0_t2_loop.trips) (v80 : BitVec 32) (v82 : BitVec 32) (v496 : BitVec 32) (k0_hw5 : k0_chk5 i k0_t2 v80 v82 v496), ∀ (k0_h4 : k0_cond4 i k0_t2 = 1#1), ∀ (k0_h6 : k0_cond6 v80 v82 = 1#1), ∀ a, (k0_off104 v496) a + S1x16.size a ≤ S64x128.size a := fun i k0_t2 v80 v82 v496 k0_hw5 k0_h4 k0_h6 => k0_hw5.2.2.2.2.2.2.2 k0_h4 k0_h6

def k0_off105 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c4_i32_179 : BitVec 32 := 4#32
  let v611 : BitVec 32 := Scalar.addi v74 c4_i32_179
  let v612 : Index := Scalar.indexCast v611
  let c0_180 : Index := 0#32
  ![v612.toNat, 0]
def k0_off106 (v610 : BitVec 32) : Fin 2 → Nat :=
  let v617 : Index := Scalar.indexCast v610
  let c0_181 : Index := 0#32
  ![v617.toNat, 0]

def k0_off107 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c4_i32_183 : BitVec 32 := 4#32
  let v625 : BitVec 32 := Scalar.addi v74 c4_i32_183
  let v626 : Index := Scalar.indexCast v625
  let c16_184 : Index := 16#32
  ![v626.toNat, 16]
def k0_off108 (v610 : BitVec 32) : Fin 2 → Nat :=
  let v631 : Index := Scalar.indexCast v610
  let c16_185 : Index := 16#32
  ![v631.toNat, 16]
def k0_off109 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c4_i32_187 : BitVec 32 := 4#32
  let v639 : BitVec 32 := Scalar.addi v74 c4_i32_187
  let v640 : Index := Scalar.indexCast v639
  let c32_188 : Index := 32#32
  ![v640.toNat, 32]
def k0_off110 (v610 : BitVec 32) : Fin 2 → Nat :=
  let v645 : Index := Scalar.indexCast v610
  let c32_189 : Index := 32#32
  ![v645.toNat, 32]
def k0_off111 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c4_i32_191 : BitVec 32 := 4#32
  let v653 : BitVec 32 := Scalar.addi v74 c4_i32_191
  let v654 : Index := Scalar.indexCast v653
  let c48_192 : Index := 48#32
  ![v654.toNat, 48]
def k0_off112 (v610 : BitVec 32) : Fin 2 → Nat :=
  let v659 : Index := Scalar.indexCast v610
  let c48_193 : Index := 48#32
  ![v659.toNat, 48]
def k0_off113 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c4_i32_195 : BitVec 32 := 4#32
  let v667 : BitVec 32 := Scalar.addi v74 c4_i32_195
  let v668 : Index := Scalar.indexCast v667
  let c64_196 : Index := 64#32
  ![v668.toNat, 64]
def k0_off114 (v610 : BitVec 32) : Fin 2 → Nat :=
  let v673 : Index := Scalar.indexCast v610
  let c64_197 : Index := 64#32
  ![v673.toNat, 64]
def k0_off115 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c4_i32_199 : BitVec 32 := 4#32
  let v681 : BitVec 32 := Scalar.addi v74 c4_i32_199
  let v682 : Index := Scalar.indexCast v681
  let c80_200 : Index := 80#32
  ![v682.toNat, 80]
def k0_off116 (v610 : BitVec 32) : Fin 2 → Nat :=
  let v687 : Index := Scalar.indexCast v610
  let c80_201 : Index := 80#32
  ![v687.toNat, 80]
def k0_off117 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c4_i32_203 : BitVec 32 := 4#32
  let v695 : BitVec 32 := Scalar.addi v74 c4_i32_203
  let v696 : Index := Scalar.indexCast v695
  let c96_204 : Index := 96#32
  ![v696.toNat, 96]
def k0_off118 (v610 : BitVec 32) : Fin 2 → Nat :=
  let v701 : Index := Scalar.indexCast v610
  let c96_205 : Index := 96#32
  ![v701.toNat, 96]
def k0_off119 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c4_i32_207 : BitVec 32 := 4#32
  let v709 : BitVec 32 := Scalar.addi v74 c4_i32_207
  let v710 : Index := Scalar.indexCast v709
  let c112_208 : Index := 112#32
  ![v710.toNat, 112]
def k0_off120 (v610 : BitVec 32) : Fin 2 → Nat :=
  let v715 : Index := Scalar.indexCast v610
  let c112_209 : Index := 112#32
  ![v715.toNat, 112]

def k0_chk6 (i : grid0.Coords) (k0_t2 : Fin k0_t2_loop.trips) (v80 : BitVec 32) (v82 : BitVec 32) (v610 : BitVec 32) : Prop :=
  (∀ (k0_h4 : k0_cond4 i k0_t2 = 1#1), ∀ (k0_h6 : k0_cond6 v80 v82 = 1#1), ∀ a, (k0_off106 v610) a + S1x16.size a ≤ S64x128.size a) ∧
  (∀ (k0_h4 : k0_cond4 i k0_t2 = 1#1), ∀ (k0_h6 : k0_cond6 v80 v82 = 1#1), ∀ a, (k0_off108 v610) a + S1x16.size a ≤ S64x128.size a) ∧
  (∀ (k0_h4 : k0_cond4 i k0_t2 = 1#1), ∀ (k0_h6 : k0_cond6 v80 v82 = 1#1), ∀ a, (k0_off110 v610) a + S1x16.size a ≤ S64x128.size a) ∧
  (∀ (k0_h4 : k0_cond4 i k0_t2 = 1#1), ∀ (k0_h6 : k0_cond6 v80 v82 = 1#1), ∀ a, (k0_off112 v610) a + S1x16.size a ≤ S64x128.size a) ∧
  (∀ (k0_h4 : k0_cond4 i k0_t2 = 1#1), ∀ (k0_h6 : k0_cond6 v80 v82 = 1#1), ∀ a, (k0_off114 v610) a + S1x16.size a ≤ S64x128.size a) ∧
  (∀ (k0_h4 : k0_cond4 i k0_t2 = 1#1), ∀ (k0_h6 : k0_cond6 v80 v82 = 1#1), ∀ a, (k0_off116 v610) a + S1x16.size a ≤ S64x128.size a) ∧
  (∀ (k0_h4 : k0_cond4 i k0_t2 = 1#1), ∀ (k0_h6 : k0_cond6 v80 v82 = 1#1), ∀ a, (k0_off118 v610) a + S1x16.size a ≤ S64x128.size a) ∧
  (∀ (k0_h4 : k0_cond4 i k0_t2 = 1#1), ∀ (k0_h6 : k0_cond6 v80 v82 = 1#1), ∀ a, (k0_off120 v610) a + S1x16.size a ≤ S64x128.size a)
theorem k0_off106_inb : ∀ (i : grid0.Coords) (k0_t2 : Fin k0_t2_loop.trips) (v80 : BitVec 32) (v82 : BitVec 32) (v610 : BitVec 32) (k0_hw6 : k0_chk6 i k0_t2 v80 v82 v610), ∀ (k0_h4 : k0_cond4 i k0_t2 = 1#1), ∀ (k0_h6 : k0_cond6 v80 v82 = 1#1), ∀ a, (k0_off106 v610) a + S1x16.size a ≤ S64x128.size a := fun i k0_t2 v80 v82 v610 k0_hw6 k0_h4 k0_h6 => k0_hw6.1 k0_h4 k0_h6
theorem k0_off108_inb : ∀ (i : grid0.Coords) (k0_t2 : Fin k0_t2_loop.trips) (v80 : BitVec 32) (v82 : BitVec 32) (v610 : BitVec 32) (k0_hw6 : k0_chk6 i k0_t2 v80 v82 v610), ∀ (k0_h4 : k0_cond4 i k0_t2 = 1#1), ∀ (k0_h6 : k0_cond6 v80 v82 = 1#1), ∀ a, (k0_off108 v610) a + S1x16.size a ≤ S64x128.size a := fun i k0_t2 v80 v82 v610 k0_hw6 k0_h4 k0_h6 => k0_hw6.2.1 k0_h4 k0_h6
theorem k0_off110_inb : ∀ (i : grid0.Coords) (k0_t2 : Fin k0_t2_loop.trips) (v80 : BitVec 32) (v82 : BitVec 32) (v610 : BitVec 32) (k0_hw6 : k0_chk6 i k0_t2 v80 v82 v610), ∀ (k0_h4 : k0_cond4 i k0_t2 = 1#1), ∀ (k0_h6 : k0_cond6 v80 v82 = 1#1), ∀ a, (k0_off110 v610) a + S1x16.size a ≤ S64x128.size a := fun i k0_t2 v80 v82 v610 k0_hw6 k0_h4 k0_h6 => k0_hw6.2.2.1 k0_h4 k0_h6
theorem k0_off112_inb : ∀ (i : grid0.Coords) (k0_t2 : Fin k0_t2_loop.trips) (v80 : BitVec 32) (v82 : BitVec 32) (v610 : BitVec 32) (k0_hw6 : k0_chk6 i k0_t2 v80 v82 v610), ∀ (k0_h4 : k0_cond4 i k0_t2 = 1#1), ∀ (k0_h6 : k0_cond6 v80 v82 = 1#1), ∀ a, (k0_off112 v610) a + S1x16.size a ≤ S64x128.size a := fun i k0_t2 v80 v82 v610 k0_hw6 k0_h4 k0_h6 => k0_hw6.2.2.2.1 k0_h4 k0_h6
theorem k0_off114_inb : ∀ (i : grid0.Coords) (k0_t2 : Fin k0_t2_loop.trips) (v80 : BitVec 32) (v82 : BitVec 32) (v610 : BitVec 32) (k0_hw6 : k0_chk6 i k0_t2 v80 v82 v610), ∀ (k0_h4 : k0_cond4 i k0_t2 = 1#1), ∀ (k0_h6 : k0_cond6 v80 v82 = 1#1), ∀ a, (k0_off114 v610) a + S1x16.size a ≤ S64x128.size a := fun i k0_t2 v80 v82 v610 k0_hw6 k0_h4 k0_h6 => k0_hw6.2.2.2.2.1 k0_h4 k0_h6
theorem k0_off116_inb : ∀ (i : grid0.Coords) (k0_t2 : Fin k0_t2_loop.trips) (v80 : BitVec 32) (v82 : BitVec 32) (v610 : BitVec 32) (k0_hw6 : k0_chk6 i k0_t2 v80 v82 v610), ∀ (k0_h4 : k0_cond4 i k0_t2 = 1#1), ∀ (k0_h6 : k0_cond6 v80 v82 = 1#1), ∀ a, (k0_off116 v610) a + S1x16.size a ≤ S64x128.size a := fun i k0_t2 v80 v82 v610 k0_hw6 k0_h4 k0_h6 => k0_hw6.2.2.2.2.2.1 k0_h4 k0_h6
theorem k0_off118_inb : ∀ (i : grid0.Coords) (k0_t2 : Fin k0_t2_loop.trips) (v80 : BitVec 32) (v82 : BitVec 32) (v610 : BitVec 32) (k0_hw6 : k0_chk6 i k0_t2 v80 v82 v610), ∀ (k0_h4 : k0_cond4 i k0_t2 = 1#1), ∀ (k0_h6 : k0_cond6 v80 v82 = 1#1), ∀ a, (k0_off118 v610) a + S1x16.size a ≤ S64x128.size a := fun i k0_t2 v80 v82 v610 k0_hw6 k0_h4 k0_h6 => k0_hw6.2.2.2.2.2.2.1 k0_h4 k0_h6
theorem k0_off120_inb : ∀ (i : grid0.Coords) (k0_t2 : Fin k0_t2_loop.trips) (v80 : BitVec 32) (v82 : BitVec 32) (v610 : BitVec 32) (k0_hw6 : k0_chk6 i k0_t2 v80 v82 v610), ∀ (k0_h4 : k0_cond4 i k0_t2 = 1#1), ∀ (k0_h6 : k0_cond6 v80 v82 = 1#1), ∀ a, (k0_off120 v610) a + S1x16.size a ≤ S64x128.size a := fun i k0_t2 v80 v82 v610 k0_hw6 k0_h4 k0_h6 => k0_hw6.2.2.2.2.2.2.2 k0_h4 k0_h6

def k0_off121 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c5_i32_211 : BitVec 32 := 5#32
  let v725 : BitVec 32 := Scalar.addi v74 c5_i32_211
  let v726 : Index := Scalar.indexCast v725
  let c0_212 : Index := 0#32
  ![v726.toNat, 0]
def k0_off122 (v724 : BitVec 32) : Fin 2 → Nat :=
  let v731 : Index := Scalar.indexCast v724
  let c0_213 : Index := 0#32
  ![v731.toNat, 0]

def k0_off123 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c5_i32_215 : BitVec 32 := 5#32
  let v739 : BitVec 32 := Scalar.addi v74 c5_i32_215
  let v740 : Index := Scalar.indexCast v739
  let c16_216 : Index := 16#32
  ![v740.toNat, 16]
def k0_off124 (v724 : BitVec 32) : Fin 2 → Nat :=
  let v745 : Index := Scalar.indexCast v724
  let c16_217 : Index := 16#32
  ![v745.toNat, 16]
def k0_off125 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c5_i32_219 : BitVec 32 := 5#32
  let v753 : BitVec 32 := Scalar.addi v74 c5_i32_219
  let v754 : Index := Scalar.indexCast v753
  let c32_220 : Index := 32#32
  ![v754.toNat, 32]
def k0_off126 (v724 : BitVec 32) : Fin 2 → Nat :=
  let v759 : Index := Scalar.indexCast v724
  let c32_221 : Index := 32#32
  ![v759.toNat, 32]
def k0_off127 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c5_i32_223 : BitVec 32 := 5#32
  let v767 : BitVec 32 := Scalar.addi v74 c5_i32_223
  let v768 : Index := Scalar.indexCast v767
  let c48_224 : Index := 48#32
  ![v768.toNat, 48]
def k0_off128 (v724 : BitVec 32) : Fin 2 → Nat :=
  let v773 : Index := Scalar.indexCast v724
  let c48_225 : Index := 48#32
  ![v773.toNat, 48]
def k0_off129 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c5_i32_227 : BitVec 32 := 5#32
  let v781 : BitVec 32 := Scalar.addi v74 c5_i32_227
  let v782 : Index := Scalar.indexCast v781
  let c64_228 : Index := 64#32
  ![v782.toNat, 64]
def k0_off130 (v724 : BitVec 32) : Fin 2 → Nat :=
  let v787 : Index := Scalar.indexCast v724
  let c64_229 : Index := 64#32
  ![v787.toNat, 64]
def k0_off131 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c5_i32_231 : BitVec 32 := 5#32
  let v795 : BitVec 32 := Scalar.addi v74 c5_i32_231
  let v796 : Index := Scalar.indexCast v795
  let c80_232 : Index := 80#32
  ![v796.toNat, 80]
def k0_off132 (v724 : BitVec 32) : Fin 2 → Nat :=
  let v801 : Index := Scalar.indexCast v724
  let c80_233 : Index := 80#32
  ![v801.toNat, 80]
def k0_off133 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c5_i32_235 : BitVec 32 := 5#32
  let v809 : BitVec 32 := Scalar.addi v74 c5_i32_235
  let v810 : Index := Scalar.indexCast v809
  let c96_236 : Index := 96#32
  ![v810.toNat, 96]
def k0_off134 (v724 : BitVec 32) : Fin 2 → Nat :=
  let v815 : Index := Scalar.indexCast v724
  let c96_237 : Index := 96#32
  ![v815.toNat, 96]
def k0_off135 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c5_i32_239 : BitVec 32 := 5#32
  let v823 : BitVec 32 := Scalar.addi v74 c5_i32_239
  let v824 : Index := Scalar.indexCast v823
  let c112_240 : Index := 112#32
  ![v824.toNat, 112]
def k0_off136 (v724 : BitVec 32) : Fin 2 → Nat :=
  let v829 : Index := Scalar.indexCast v724
  let c112_241 : Index := 112#32
  ![v829.toNat, 112]

def k0_chk7 (i : grid0.Coords) (k0_t2 : Fin k0_t2_loop.trips) (v80 : BitVec 32) (v82 : BitVec 32) (v724 : BitVec 32) : Prop :=
  (∀ (k0_h4 : k0_cond4 i k0_t2 = 1#1), ∀ (k0_h6 : k0_cond6 v80 v82 = 1#1), ∀ a, (k0_off122 v724) a + S1x16.size a ≤ S64x128.size a) ∧
  (∀ (k0_h4 : k0_cond4 i k0_t2 = 1#1), ∀ (k0_h6 : k0_cond6 v80 v82 = 1#1), ∀ a, (k0_off124 v724) a + S1x16.size a ≤ S64x128.size a) ∧
  (∀ (k0_h4 : k0_cond4 i k0_t2 = 1#1), ∀ (k0_h6 : k0_cond6 v80 v82 = 1#1), ∀ a, (k0_off126 v724) a + S1x16.size a ≤ S64x128.size a) ∧
  (∀ (k0_h4 : k0_cond4 i k0_t2 = 1#1), ∀ (k0_h6 : k0_cond6 v80 v82 = 1#1), ∀ a, (k0_off128 v724) a + S1x16.size a ≤ S64x128.size a) ∧
  (∀ (k0_h4 : k0_cond4 i k0_t2 = 1#1), ∀ (k0_h6 : k0_cond6 v80 v82 = 1#1), ∀ a, (k0_off130 v724) a + S1x16.size a ≤ S64x128.size a) ∧
  (∀ (k0_h4 : k0_cond4 i k0_t2 = 1#1), ∀ (k0_h6 : k0_cond6 v80 v82 = 1#1), ∀ a, (k0_off132 v724) a + S1x16.size a ≤ S64x128.size a) ∧
  (∀ (k0_h4 : k0_cond4 i k0_t2 = 1#1), ∀ (k0_h6 : k0_cond6 v80 v82 = 1#1), ∀ a, (k0_off134 v724) a + S1x16.size a ≤ S64x128.size a) ∧
  (∀ (k0_h4 : k0_cond4 i k0_t2 = 1#1), ∀ (k0_h6 : k0_cond6 v80 v82 = 1#1), ∀ a, (k0_off136 v724) a + S1x16.size a ≤ S64x128.size a)
theorem k0_off122_inb : ∀ (i : grid0.Coords) (k0_t2 : Fin k0_t2_loop.trips) (v80 : BitVec 32) (v82 : BitVec 32) (v724 : BitVec 32) (k0_hw7 : k0_chk7 i k0_t2 v80 v82 v724), ∀ (k0_h4 : k0_cond4 i k0_t2 = 1#1), ∀ (k0_h6 : k0_cond6 v80 v82 = 1#1), ∀ a, (k0_off122 v724) a + S1x16.size a ≤ S64x128.size a := fun i k0_t2 v80 v82 v724 k0_hw7 k0_h4 k0_h6 => k0_hw7.1 k0_h4 k0_h6
theorem k0_off124_inb : ∀ (i : grid0.Coords) (k0_t2 : Fin k0_t2_loop.trips) (v80 : BitVec 32) (v82 : BitVec 32) (v724 : BitVec 32) (k0_hw7 : k0_chk7 i k0_t2 v80 v82 v724), ∀ (k0_h4 : k0_cond4 i k0_t2 = 1#1), ∀ (k0_h6 : k0_cond6 v80 v82 = 1#1), ∀ a, (k0_off124 v724) a + S1x16.size a ≤ S64x128.size a := fun i k0_t2 v80 v82 v724 k0_hw7 k0_h4 k0_h6 => k0_hw7.2.1 k0_h4 k0_h6
theorem k0_off126_inb : ∀ (i : grid0.Coords) (k0_t2 : Fin k0_t2_loop.trips) (v80 : BitVec 32) (v82 : BitVec 32) (v724 : BitVec 32) (k0_hw7 : k0_chk7 i k0_t2 v80 v82 v724), ∀ (k0_h4 : k0_cond4 i k0_t2 = 1#1), ∀ (k0_h6 : k0_cond6 v80 v82 = 1#1), ∀ a, (k0_off126 v724) a + S1x16.size a ≤ S64x128.size a := fun i k0_t2 v80 v82 v724 k0_hw7 k0_h4 k0_h6 => k0_hw7.2.2.1 k0_h4 k0_h6
theorem k0_off128_inb : ∀ (i : grid0.Coords) (k0_t2 : Fin k0_t2_loop.trips) (v80 : BitVec 32) (v82 : BitVec 32) (v724 : BitVec 32) (k0_hw7 : k0_chk7 i k0_t2 v80 v82 v724), ∀ (k0_h4 : k0_cond4 i k0_t2 = 1#1), ∀ (k0_h6 : k0_cond6 v80 v82 = 1#1), ∀ a, (k0_off128 v724) a + S1x16.size a ≤ S64x128.size a := fun i k0_t2 v80 v82 v724 k0_hw7 k0_h4 k0_h6 => k0_hw7.2.2.2.1 k0_h4 k0_h6
theorem k0_off130_inb : ∀ (i : grid0.Coords) (k0_t2 : Fin k0_t2_loop.trips) (v80 : BitVec 32) (v82 : BitVec 32) (v724 : BitVec 32) (k0_hw7 : k0_chk7 i k0_t2 v80 v82 v724), ∀ (k0_h4 : k0_cond4 i k0_t2 = 1#1), ∀ (k0_h6 : k0_cond6 v80 v82 = 1#1), ∀ a, (k0_off130 v724) a + S1x16.size a ≤ S64x128.size a := fun i k0_t2 v80 v82 v724 k0_hw7 k0_h4 k0_h6 => k0_hw7.2.2.2.2.1 k0_h4 k0_h6
theorem k0_off132_inb : ∀ (i : grid0.Coords) (k0_t2 : Fin k0_t2_loop.trips) (v80 : BitVec 32) (v82 : BitVec 32) (v724 : BitVec 32) (k0_hw7 : k0_chk7 i k0_t2 v80 v82 v724), ∀ (k0_h4 : k0_cond4 i k0_t2 = 1#1), ∀ (k0_h6 : k0_cond6 v80 v82 = 1#1), ∀ a, (k0_off132 v724) a + S1x16.size a ≤ S64x128.size a := fun i k0_t2 v80 v82 v724 k0_hw7 k0_h4 k0_h6 => k0_hw7.2.2.2.2.2.1 k0_h4 k0_h6
theorem k0_off134_inb : ∀ (i : grid0.Coords) (k0_t2 : Fin k0_t2_loop.trips) (v80 : BitVec 32) (v82 : BitVec 32) (v724 : BitVec 32) (k0_hw7 : k0_chk7 i k0_t2 v80 v82 v724), ∀ (k0_h4 : k0_cond4 i k0_t2 = 1#1), ∀ (k0_h6 : k0_cond6 v80 v82 = 1#1), ∀ a, (k0_off134 v724) a + S1x16.size a ≤ S64x128.size a := fun i k0_t2 v80 v82 v724 k0_hw7 k0_h4 k0_h6 => k0_hw7.2.2.2.2.2.2.1 k0_h4 k0_h6
theorem k0_off136_inb : ∀ (i : grid0.Coords) (k0_t2 : Fin k0_t2_loop.trips) (v80 : BitVec 32) (v82 : BitVec 32) (v724 : BitVec 32) (k0_hw7 : k0_chk7 i k0_t2 v80 v82 v724), ∀ (k0_h4 : k0_cond4 i k0_t2 = 1#1), ∀ (k0_h6 : k0_cond6 v80 v82 = 1#1), ∀ a, (k0_off136 v724) a + S1x16.size a ≤ S64x128.size a := fun i k0_t2 v80 v82 v724 k0_hw7 k0_h4 k0_h6 => k0_hw7.2.2.2.2.2.2.2 k0_h4 k0_h6

def k0_off137 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c6_i32_243 : BitVec 32 := 6#32
  let v839 : BitVec 32 := Scalar.addi v74 c6_i32_243
  let v840 : Index := Scalar.indexCast v839
  let c0_244 : Index := 0#32
  ![v840.toNat, 0]
def k0_off138 (v838 : BitVec 32) : Fin 2 → Nat :=
  let v845 : Index := Scalar.indexCast v838
  let c0_245 : Index := 0#32
  ![v845.toNat, 0]

def k0_off139 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c6_i32_247 : BitVec 32 := 6#32
  let v853 : BitVec 32 := Scalar.addi v74 c6_i32_247
  let v854 : Index := Scalar.indexCast v853
  let c16_248 : Index := 16#32
  ![v854.toNat, 16]
def k0_off140 (v838 : BitVec 32) : Fin 2 → Nat :=
  let v859 : Index := Scalar.indexCast v838
  let c16_249 : Index := 16#32
  ![v859.toNat, 16]
def k0_off141 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c6_i32_251 : BitVec 32 := 6#32
  let v867 : BitVec 32 := Scalar.addi v74 c6_i32_251
  let v868 : Index := Scalar.indexCast v867
  let c32_252 : Index := 32#32
  ![v868.toNat, 32]
def k0_off142 (v838 : BitVec 32) : Fin 2 → Nat :=
  let v873 : Index := Scalar.indexCast v838
  let c32_253 : Index := 32#32
  ![v873.toNat, 32]
def k0_off143 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c6_i32_255 : BitVec 32 := 6#32
  let v881 : BitVec 32 := Scalar.addi v74 c6_i32_255
  let v882 : Index := Scalar.indexCast v881
  let c48_256 : Index := 48#32
  ![v882.toNat, 48]
def k0_off144 (v838 : BitVec 32) : Fin 2 → Nat :=
  let v887 : Index := Scalar.indexCast v838
  let c48_257 : Index := 48#32
  ![v887.toNat, 48]
def k0_off145 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c6_i32_259 : BitVec 32 := 6#32
  let v895 : BitVec 32 := Scalar.addi v74 c6_i32_259
  let v896 : Index := Scalar.indexCast v895
  let c64_260 : Index := 64#32
  ![v896.toNat, 64]
def k0_off146 (v838 : BitVec 32) : Fin 2 → Nat :=
  let v901 : Index := Scalar.indexCast v838
  let c64_261 : Index := 64#32
  ![v901.toNat, 64]
def k0_off147 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c6_i32_263 : BitVec 32 := 6#32
  let v909 : BitVec 32 := Scalar.addi v74 c6_i32_263
  let v910 : Index := Scalar.indexCast v909
  let c80_264 : Index := 80#32
  ![v910.toNat, 80]
def k0_off148 (v838 : BitVec 32) : Fin 2 → Nat :=
  let v915 : Index := Scalar.indexCast v838
  let c80_265 : Index := 80#32
  ![v915.toNat, 80]
def k0_off149 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c6_i32_267 : BitVec 32 := 6#32
  let v923 : BitVec 32 := Scalar.addi v74 c6_i32_267
  let v924 : Index := Scalar.indexCast v923
  let c96_268 : Index := 96#32
  ![v924.toNat, 96]
def k0_off150 (v838 : BitVec 32) : Fin 2 → Nat :=
  let v929 : Index := Scalar.indexCast v838
  let c96_269 : Index := 96#32
  ![v929.toNat, 96]
def k0_off151 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c6_i32_271 : BitVec 32 := 6#32
  let v937 : BitVec 32 := Scalar.addi v74 c6_i32_271
  let v938 : Index := Scalar.indexCast v937
  let c112_272 : Index := 112#32
  ![v938.toNat, 112]
def k0_off152 (v838 : BitVec 32) : Fin 2 → Nat :=
  let v943 : Index := Scalar.indexCast v838
  let c112_273 : Index := 112#32
  ![v943.toNat, 112]

def k0_chk8 (i : grid0.Coords) (k0_t2 : Fin k0_t2_loop.trips) (v80 : BitVec 32) (v82 : BitVec 32) (v838 : BitVec 32) : Prop :=
  (∀ (k0_h4 : k0_cond4 i k0_t2 = 1#1), ∀ (k0_h6 : k0_cond6 v80 v82 = 1#1), ∀ a, (k0_off138 v838) a + S1x16.size a ≤ S64x128.size a) ∧
  (∀ (k0_h4 : k0_cond4 i k0_t2 = 1#1), ∀ (k0_h6 : k0_cond6 v80 v82 = 1#1), ∀ a, (k0_off140 v838) a + S1x16.size a ≤ S64x128.size a) ∧
  (∀ (k0_h4 : k0_cond4 i k0_t2 = 1#1), ∀ (k0_h6 : k0_cond6 v80 v82 = 1#1), ∀ a, (k0_off142 v838) a + S1x16.size a ≤ S64x128.size a) ∧
  (∀ (k0_h4 : k0_cond4 i k0_t2 = 1#1), ∀ (k0_h6 : k0_cond6 v80 v82 = 1#1), ∀ a, (k0_off144 v838) a + S1x16.size a ≤ S64x128.size a) ∧
  (∀ (k0_h4 : k0_cond4 i k0_t2 = 1#1), ∀ (k0_h6 : k0_cond6 v80 v82 = 1#1), ∀ a, (k0_off146 v838) a + S1x16.size a ≤ S64x128.size a) ∧
  (∀ (k0_h4 : k0_cond4 i k0_t2 = 1#1), ∀ (k0_h6 : k0_cond6 v80 v82 = 1#1), ∀ a, (k0_off148 v838) a + S1x16.size a ≤ S64x128.size a) ∧
  (∀ (k0_h4 : k0_cond4 i k0_t2 = 1#1), ∀ (k0_h6 : k0_cond6 v80 v82 = 1#1), ∀ a, (k0_off150 v838) a + S1x16.size a ≤ S64x128.size a) ∧
  (∀ (k0_h4 : k0_cond4 i k0_t2 = 1#1), ∀ (k0_h6 : k0_cond6 v80 v82 = 1#1), ∀ a, (k0_off152 v838) a + S1x16.size a ≤ S64x128.size a)
theorem k0_off138_inb : ∀ (i : grid0.Coords) (k0_t2 : Fin k0_t2_loop.trips) (v80 : BitVec 32) (v82 : BitVec 32) (v838 : BitVec 32) (k0_hw8 : k0_chk8 i k0_t2 v80 v82 v838), ∀ (k0_h4 : k0_cond4 i k0_t2 = 1#1), ∀ (k0_h6 : k0_cond6 v80 v82 = 1#1), ∀ a, (k0_off138 v838) a + S1x16.size a ≤ S64x128.size a := fun i k0_t2 v80 v82 v838 k0_hw8 k0_h4 k0_h6 => k0_hw8.1 k0_h4 k0_h6
theorem k0_off140_inb : ∀ (i : grid0.Coords) (k0_t2 : Fin k0_t2_loop.trips) (v80 : BitVec 32) (v82 : BitVec 32) (v838 : BitVec 32) (k0_hw8 : k0_chk8 i k0_t2 v80 v82 v838), ∀ (k0_h4 : k0_cond4 i k0_t2 = 1#1), ∀ (k0_h6 : k0_cond6 v80 v82 = 1#1), ∀ a, (k0_off140 v838) a + S1x16.size a ≤ S64x128.size a := fun i k0_t2 v80 v82 v838 k0_hw8 k0_h4 k0_h6 => k0_hw8.2.1 k0_h4 k0_h6
theorem k0_off142_inb : ∀ (i : grid0.Coords) (k0_t2 : Fin k0_t2_loop.trips) (v80 : BitVec 32) (v82 : BitVec 32) (v838 : BitVec 32) (k0_hw8 : k0_chk8 i k0_t2 v80 v82 v838), ∀ (k0_h4 : k0_cond4 i k0_t2 = 1#1), ∀ (k0_h6 : k0_cond6 v80 v82 = 1#1), ∀ a, (k0_off142 v838) a + S1x16.size a ≤ S64x128.size a := fun i k0_t2 v80 v82 v838 k0_hw8 k0_h4 k0_h6 => k0_hw8.2.2.1 k0_h4 k0_h6
theorem k0_off144_inb : ∀ (i : grid0.Coords) (k0_t2 : Fin k0_t2_loop.trips) (v80 : BitVec 32) (v82 : BitVec 32) (v838 : BitVec 32) (k0_hw8 : k0_chk8 i k0_t2 v80 v82 v838), ∀ (k0_h4 : k0_cond4 i k0_t2 = 1#1), ∀ (k0_h6 : k0_cond6 v80 v82 = 1#1), ∀ a, (k0_off144 v838) a + S1x16.size a ≤ S64x128.size a := fun i k0_t2 v80 v82 v838 k0_hw8 k0_h4 k0_h6 => k0_hw8.2.2.2.1 k0_h4 k0_h6
theorem k0_off146_inb : ∀ (i : grid0.Coords) (k0_t2 : Fin k0_t2_loop.trips) (v80 : BitVec 32) (v82 : BitVec 32) (v838 : BitVec 32) (k0_hw8 : k0_chk8 i k0_t2 v80 v82 v838), ∀ (k0_h4 : k0_cond4 i k0_t2 = 1#1), ∀ (k0_h6 : k0_cond6 v80 v82 = 1#1), ∀ a, (k0_off146 v838) a + S1x16.size a ≤ S64x128.size a := fun i k0_t2 v80 v82 v838 k0_hw8 k0_h4 k0_h6 => k0_hw8.2.2.2.2.1 k0_h4 k0_h6
theorem k0_off148_inb : ∀ (i : grid0.Coords) (k0_t2 : Fin k0_t2_loop.trips) (v80 : BitVec 32) (v82 : BitVec 32) (v838 : BitVec 32) (k0_hw8 : k0_chk8 i k0_t2 v80 v82 v838), ∀ (k0_h4 : k0_cond4 i k0_t2 = 1#1), ∀ (k0_h6 : k0_cond6 v80 v82 = 1#1), ∀ a, (k0_off148 v838) a + S1x16.size a ≤ S64x128.size a := fun i k0_t2 v80 v82 v838 k0_hw8 k0_h4 k0_h6 => k0_hw8.2.2.2.2.2.1 k0_h4 k0_h6
theorem k0_off150_inb : ∀ (i : grid0.Coords) (k0_t2 : Fin k0_t2_loop.trips) (v80 : BitVec 32) (v82 : BitVec 32) (v838 : BitVec 32) (k0_hw8 : k0_chk8 i k0_t2 v80 v82 v838), ∀ (k0_h4 : k0_cond4 i k0_t2 = 1#1), ∀ (k0_h6 : k0_cond6 v80 v82 = 1#1), ∀ a, (k0_off150 v838) a + S1x16.size a ≤ S64x128.size a := fun i k0_t2 v80 v82 v838 k0_hw8 k0_h4 k0_h6 => k0_hw8.2.2.2.2.2.2.1 k0_h4 k0_h6
theorem k0_off152_inb : ∀ (i : grid0.Coords) (k0_t2 : Fin k0_t2_loop.trips) (v80 : BitVec 32) (v82 : BitVec 32) (v838 : BitVec 32) (k0_hw8 : k0_chk8 i k0_t2 v80 v82 v838), ∀ (k0_h4 : k0_cond4 i k0_t2 = 1#1), ∀ (k0_h6 : k0_cond6 v80 v82 = 1#1), ∀ a, (k0_off152 v838) a + S1x16.size a ≤ S64x128.size a := fun i k0_t2 v80 v82 v838 k0_hw8 k0_h4 k0_h6 => k0_hw8.2.2.2.2.2.2.2 k0_h4 k0_h6

def k0_off153 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c7_i32_275 : BitVec 32 := 7#32
  let v953 : BitVec 32 := Scalar.addi v74 c7_i32_275
  let v954 : Index := Scalar.indexCast v953
  let c0_276 : Index := 0#32
  ![v954.toNat, 0]
def k0_off154 (v952 : BitVec 32) : Fin 2 → Nat :=
  let v959 : Index := Scalar.indexCast v952
  let c0_277 : Index := 0#32
  ![v959.toNat, 0]

def k0_off155 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c7_i32_279 : BitVec 32 := 7#32
  let v967 : BitVec 32 := Scalar.addi v74 c7_i32_279
  let v968 : Index := Scalar.indexCast v967
  let c16_280 : Index := 16#32
  ![v968.toNat, 16]
def k0_off156 (v952 : BitVec 32) : Fin 2 → Nat :=
  let v973 : Index := Scalar.indexCast v952
  let c16_281 : Index := 16#32
  ![v973.toNat, 16]
def k0_off157 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c7_i32_283 : BitVec 32 := 7#32
  let v981 : BitVec 32 := Scalar.addi v74 c7_i32_283
  let v982 : Index := Scalar.indexCast v981
  let c32_284 : Index := 32#32
  ![v982.toNat, 32]
def k0_off158 (v952 : BitVec 32) : Fin 2 → Nat :=
  let v987 : Index := Scalar.indexCast v952
  let c32_285 : Index := 32#32
  ![v987.toNat, 32]
def k0_off159 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c7_i32_287 : BitVec 32 := 7#32
  let v995 : BitVec 32 := Scalar.addi v74 c7_i32_287
  let v996 : Index := Scalar.indexCast v995
  let c48_288 : Index := 48#32
  ![v996.toNat, 48]
def k0_off160 (v952 : BitVec 32) : Fin 2 → Nat :=
  let v1001 : Index := Scalar.indexCast v952
  let c48_289 : Index := 48#32
  ![v1001.toNat, 48]
def k0_off161 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c7_i32_291 : BitVec 32 := 7#32
  let v1009 : BitVec 32 := Scalar.addi v74 c7_i32_291
  let v1010 : Index := Scalar.indexCast v1009
  let c64_292 : Index := 64#32
  ![v1010.toNat, 64]
def k0_off162 (v952 : BitVec 32) : Fin 2 → Nat :=
  let v1015 : Index := Scalar.indexCast v952
  let c64_293 : Index := 64#32
  ![v1015.toNat, 64]
def k0_off163 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c7_i32_295 : BitVec 32 := 7#32
  let v1023 : BitVec 32 := Scalar.addi v74 c7_i32_295
  let v1024 : Index := Scalar.indexCast v1023
  let c80_296 : Index := 80#32
  ![v1024.toNat, 80]
def k0_off164 (v952 : BitVec 32) : Fin 2 → Nat :=
  let v1029 : Index := Scalar.indexCast v952
  let c80_297 : Index := 80#32
  ![v1029.toNat, 80]
def k0_off165 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c7_i32_299 : BitVec 32 := 7#32
  let v1037 : BitVec 32 := Scalar.addi v74 c7_i32_299
  let v1038 : Index := Scalar.indexCast v1037
  let c96_300 : Index := 96#32
  ![v1038.toNat, 96]
def k0_off166 (v952 : BitVec 32) : Fin 2 → Nat :=
  let v1043 : Index := Scalar.indexCast v952
  let c96_301 : Index := 96#32
  ![v1043.toNat, 96]
def k0_off167 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c7_i32_303 : BitVec 32 := 7#32
  let v1051 : BitVec 32 := Scalar.addi v74 c7_i32_303
  let v1052 : Index := Scalar.indexCast v1051
  let c112_304 : Index := 112#32
  ![v1052.toNat, 112]
def k0_off168 (v952 : BitVec 32) : Fin 2 → Nat :=
  let v1057 : Index := Scalar.indexCast v952
  let c112_305 : Index := 112#32
  ![v1057.toNat, 112]

def k0_chk9 (i : grid0.Coords) (k0_t2 : Fin k0_t2_loop.trips) (v80 : BitVec 32) (v82 : BitVec 32) (v952 : BitVec 32) : Prop :=
  (∀ (k0_h4 : k0_cond4 i k0_t2 = 1#1), ∀ (k0_h6 : k0_cond6 v80 v82 = 1#1), ∀ a, (k0_off154 v952) a + S1x16.size a ≤ S64x128.size a) ∧
  (∀ (k0_h4 : k0_cond4 i k0_t2 = 1#1), ∀ (k0_h6 : k0_cond6 v80 v82 = 1#1), ∀ a, (k0_off156 v952) a + S1x16.size a ≤ S64x128.size a) ∧
  (∀ (k0_h4 : k0_cond4 i k0_t2 = 1#1), ∀ (k0_h6 : k0_cond6 v80 v82 = 1#1), ∀ a, (k0_off158 v952) a + S1x16.size a ≤ S64x128.size a) ∧
  (∀ (k0_h4 : k0_cond4 i k0_t2 = 1#1), ∀ (k0_h6 : k0_cond6 v80 v82 = 1#1), ∀ a, (k0_off160 v952) a + S1x16.size a ≤ S64x128.size a) ∧
  (∀ (k0_h4 : k0_cond4 i k0_t2 = 1#1), ∀ (k0_h6 : k0_cond6 v80 v82 = 1#1), ∀ a, (k0_off162 v952) a + S1x16.size a ≤ S64x128.size a) ∧
  (∀ (k0_h4 : k0_cond4 i k0_t2 = 1#1), ∀ (k0_h6 : k0_cond6 v80 v82 = 1#1), ∀ a, (k0_off164 v952) a + S1x16.size a ≤ S64x128.size a) ∧
  (∀ (k0_h4 : k0_cond4 i k0_t2 = 1#1), ∀ (k0_h6 : k0_cond6 v80 v82 = 1#1), ∀ a, (k0_off166 v952) a + S1x16.size a ≤ S64x128.size a) ∧
  (∀ (k0_h4 : k0_cond4 i k0_t2 = 1#1), ∀ (k0_h6 : k0_cond6 v80 v82 = 1#1), ∀ a, (k0_off168 v952) a + S1x16.size a ≤ S64x128.size a)
theorem k0_off154_inb : ∀ (i : grid0.Coords) (k0_t2 : Fin k0_t2_loop.trips) (v80 : BitVec 32) (v82 : BitVec 32) (v952 : BitVec 32) (k0_hw9 : k0_chk9 i k0_t2 v80 v82 v952), ∀ (k0_h4 : k0_cond4 i k0_t2 = 1#1), ∀ (k0_h6 : k0_cond6 v80 v82 = 1#1), ∀ a, (k0_off154 v952) a + S1x16.size a ≤ S64x128.size a := fun i k0_t2 v80 v82 v952 k0_hw9 k0_h4 k0_h6 => k0_hw9.1 k0_h4 k0_h6
theorem k0_off156_inb : ∀ (i : grid0.Coords) (k0_t2 : Fin k0_t2_loop.trips) (v80 : BitVec 32) (v82 : BitVec 32) (v952 : BitVec 32) (k0_hw9 : k0_chk9 i k0_t2 v80 v82 v952), ∀ (k0_h4 : k0_cond4 i k0_t2 = 1#1), ∀ (k0_h6 : k0_cond6 v80 v82 = 1#1), ∀ a, (k0_off156 v952) a + S1x16.size a ≤ S64x128.size a := fun i k0_t2 v80 v82 v952 k0_hw9 k0_h4 k0_h6 => k0_hw9.2.1 k0_h4 k0_h6
theorem k0_off158_inb : ∀ (i : grid0.Coords) (k0_t2 : Fin k0_t2_loop.trips) (v80 : BitVec 32) (v82 : BitVec 32) (v952 : BitVec 32) (k0_hw9 : k0_chk9 i k0_t2 v80 v82 v952), ∀ (k0_h4 : k0_cond4 i k0_t2 = 1#1), ∀ (k0_h6 : k0_cond6 v80 v82 = 1#1), ∀ a, (k0_off158 v952) a + S1x16.size a ≤ S64x128.size a := fun i k0_t2 v80 v82 v952 k0_hw9 k0_h4 k0_h6 => k0_hw9.2.2.1 k0_h4 k0_h6
theorem k0_off160_inb : ∀ (i : grid0.Coords) (k0_t2 : Fin k0_t2_loop.trips) (v80 : BitVec 32) (v82 : BitVec 32) (v952 : BitVec 32) (k0_hw9 : k0_chk9 i k0_t2 v80 v82 v952), ∀ (k0_h4 : k0_cond4 i k0_t2 = 1#1), ∀ (k0_h6 : k0_cond6 v80 v82 = 1#1), ∀ a, (k0_off160 v952) a + S1x16.size a ≤ S64x128.size a := fun i k0_t2 v80 v82 v952 k0_hw9 k0_h4 k0_h6 => k0_hw9.2.2.2.1 k0_h4 k0_h6
theorem k0_off162_inb : ∀ (i : grid0.Coords) (k0_t2 : Fin k0_t2_loop.trips) (v80 : BitVec 32) (v82 : BitVec 32) (v952 : BitVec 32) (k0_hw9 : k0_chk9 i k0_t2 v80 v82 v952), ∀ (k0_h4 : k0_cond4 i k0_t2 = 1#1), ∀ (k0_h6 : k0_cond6 v80 v82 = 1#1), ∀ a, (k0_off162 v952) a + S1x16.size a ≤ S64x128.size a := fun i k0_t2 v80 v82 v952 k0_hw9 k0_h4 k0_h6 => k0_hw9.2.2.2.2.1 k0_h4 k0_h6
theorem k0_off164_inb : ∀ (i : grid0.Coords) (k0_t2 : Fin k0_t2_loop.trips) (v80 : BitVec 32) (v82 : BitVec 32) (v952 : BitVec 32) (k0_hw9 : k0_chk9 i k0_t2 v80 v82 v952), ∀ (k0_h4 : k0_cond4 i k0_t2 = 1#1), ∀ (k0_h6 : k0_cond6 v80 v82 = 1#1), ∀ a, (k0_off164 v952) a + S1x16.size a ≤ S64x128.size a := fun i k0_t2 v80 v82 v952 k0_hw9 k0_h4 k0_h6 => k0_hw9.2.2.2.2.2.1 k0_h4 k0_h6
theorem k0_off166_inb : ∀ (i : grid0.Coords) (k0_t2 : Fin k0_t2_loop.trips) (v80 : BitVec 32) (v82 : BitVec 32) (v952 : BitVec 32) (k0_hw9 : k0_chk9 i k0_t2 v80 v82 v952), ∀ (k0_h4 : k0_cond4 i k0_t2 = 1#1), ∀ (k0_h6 : k0_cond6 v80 v82 = 1#1), ∀ a, (k0_off166 v952) a + S1x16.size a ≤ S64x128.size a := fun i k0_t2 v80 v82 v952 k0_hw9 k0_h4 k0_h6 => k0_hw9.2.2.2.2.2.2.1 k0_h4 k0_h6
theorem k0_off168_inb : ∀ (i : grid0.Coords) (k0_t2 : Fin k0_t2_loop.trips) (v80 : BitVec 32) (v82 : BitVec 32) (v952 : BitVec 32) (k0_hw9 : k0_chk9 i k0_t2 v80 v82 v952), ∀ (k0_h4 : k0_cond4 i k0_t2 = 1#1), ∀ (k0_h6 : k0_cond6 v80 v82 = 1#1), ∀ a, (k0_off168 v952) a + S1x16.size a ≤ S64x128.size a := fun i k0_t2 v80 v82 v952 k0_hw9 k0_h4 k0_h6 => k0_hw9.2.2.2.2.2.2.2 k0_h4 k0_h6

def k0_off169 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c8_i32_307 : BitVec 32 := 8#32
  let v1067 : BitVec 32 := Scalar.addi v74 c8_i32_307
  let v1068 : Index := Scalar.indexCast v1067
  let c0_308 : Index := 0#32
  ![v1068.toNat, 0]
def k0_off170 (v1066 : BitVec 32) : Fin 2 → Nat :=
  let v1073 : Index := Scalar.indexCast v1066
  let c0_309 : Index := 0#32
  ![v1073.toNat, 0]

def k0_off171 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c8_i32_311 : BitVec 32 := 8#32
  let v1081 : BitVec 32 := Scalar.addi v74 c8_i32_311
  let v1082 : Index := Scalar.indexCast v1081
  let c16_312 : Index := 16#32
  ![v1082.toNat, 16]
def k0_off172 (v1066 : BitVec 32) : Fin 2 → Nat :=
  let v1087 : Index := Scalar.indexCast v1066
  let c16_313 : Index := 16#32
  ![v1087.toNat, 16]
def k0_off173 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c8_i32_315 : BitVec 32 := 8#32
  let v1095 : BitVec 32 := Scalar.addi v74 c8_i32_315
  let v1096 : Index := Scalar.indexCast v1095
  let c32_316 : Index := 32#32
  ![v1096.toNat, 32]
def k0_off174 (v1066 : BitVec 32) : Fin 2 → Nat :=
  let v1101 : Index := Scalar.indexCast v1066
  let c32_317 : Index := 32#32
  ![v1101.toNat, 32]
def k0_off175 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c8_i32_319 : BitVec 32 := 8#32
  let v1109 : BitVec 32 := Scalar.addi v74 c8_i32_319
  let v1110 : Index := Scalar.indexCast v1109
  let c48_320 : Index := 48#32
  ![v1110.toNat, 48]
def k0_off176 (v1066 : BitVec 32) : Fin 2 → Nat :=
  let v1115 : Index := Scalar.indexCast v1066
  let c48_321 : Index := 48#32
  ![v1115.toNat, 48]
def k0_off177 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c8_i32_323 : BitVec 32 := 8#32
  let v1123 : BitVec 32 := Scalar.addi v74 c8_i32_323
  let v1124 : Index := Scalar.indexCast v1123
  let c64_324 : Index := 64#32
  ![v1124.toNat, 64]
def k0_off178 (v1066 : BitVec 32) : Fin 2 → Nat :=
  let v1129 : Index := Scalar.indexCast v1066
  let c64_325 : Index := 64#32
  ![v1129.toNat, 64]
def k0_off179 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c8_i32_327 : BitVec 32 := 8#32
  let v1137 : BitVec 32 := Scalar.addi v74 c8_i32_327
  let v1138 : Index := Scalar.indexCast v1137
  let c80_328 : Index := 80#32
  ![v1138.toNat, 80]
def k0_off180 (v1066 : BitVec 32) : Fin 2 → Nat :=
  let v1143 : Index := Scalar.indexCast v1066
  let c80_329 : Index := 80#32
  ![v1143.toNat, 80]
def k0_off181 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c8_i32_331 : BitVec 32 := 8#32
  let v1151 : BitVec 32 := Scalar.addi v74 c8_i32_331
  let v1152 : Index := Scalar.indexCast v1151
  let c96_332 : Index := 96#32
  ![v1152.toNat, 96]
def k0_off182 (v1066 : BitVec 32) : Fin 2 → Nat :=
  let v1157 : Index := Scalar.indexCast v1066
  let c96_333 : Index := 96#32
  ![v1157.toNat, 96]
def k0_off183 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c8_i32_335 : BitVec 32 := 8#32
  let v1165 : BitVec 32 := Scalar.addi v74 c8_i32_335
  let v1166 : Index := Scalar.indexCast v1165
  let c112_336 : Index := 112#32
  ![v1166.toNat, 112]
def k0_off184 (v1066 : BitVec 32) : Fin 2 → Nat :=
  let v1171 : Index := Scalar.indexCast v1066
  let c112_337 : Index := 112#32
  ![v1171.toNat, 112]

def k0_chk10 (i : grid0.Coords) (k0_t2 : Fin k0_t2_loop.trips) (v80 : BitVec 32) (v82 : BitVec 32) (v1066 : BitVec 32) : Prop :=
  (∀ (k0_h4 : k0_cond4 i k0_t2 = 1#1), ∀ (k0_h6 : k0_cond6 v80 v82 = 1#1), ∀ a, (k0_off170 v1066) a + S1x16.size a ≤ S64x128.size a) ∧
  (∀ (k0_h4 : k0_cond4 i k0_t2 = 1#1), ∀ (k0_h6 : k0_cond6 v80 v82 = 1#1), ∀ a, (k0_off172 v1066) a + S1x16.size a ≤ S64x128.size a) ∧
  (∀ (k0_h4 : k0_cond4 i k0_t2 = 1#1), ∀ (k0_h6 : k0_cond6 v80 v82 = 1#1), ∀ a, (k0_off174 v1066) a + S1x16.size a ≤ S64x128.size a) ∧
  (∀ (k0_h4 : k0_cond4 i k0_t2 = 1#1), ∀ (k0_h6 : k0_cond6 v80 v82 = 1#1), ∀ a, (k0_off176 v1066) a + S1x16.size a ≤ S64x128.size a) ∧
  (∀ (k0_h4 : k0_cond4 i k0_t2 = 1#1), ∀ (k0_h6 : k0_cond6 v80 v82 = 1#1), ∀ a, (k0_off178 v1066) a + S1x16.size a ≤ S64x128.size a) ∧
  (∀ (k0_h4 : k0_cond4 i k0_t2 = 1#1), ∀ (k0_h6 : k0_cond6 v80 v82 = 1#1), ∀ a, (k0_off180 v1066) a + S1x16.size a ≤ S64x128.size a) ∧
  (∀ (k0_h4 : k0_cond4 i k0_t2 = 1#1), ∀ (k0_h6 : k0_cond6 v80 v82 = 1#1), ∀ a, (k0_off182 v1066) a + S1x16.size a ≤ S64x128.size a) ∧
  (∀ (k0_h4 : k0_cond4 i k0_t2 = 1#1), ∀ (k0_h6 : k0_cond6 v80 v82 = 1#1), ∀ a, (k0_off184 v1066) a + S1x16.size a ≤ S64x128.size a)
theorem k0_off170_inb : ∀ (i : grid0.Coords) (k0_t2 : Fin k0_t2_loop.trips) (v80 : BitVec 32) (v82 : BitVec 32) (v1066 : BitVec 32) (k0_hw10 : k0_chk10 i k0_t2 v80 v82 v1066), ∀ (k0_h4 : k0_cond4 i k0_t2 = 1#1), ∀ (k0_h6 : k0_cond6 v80 v82 = 1#1), ∀ a, (k0_off170 v1066) a + S1x16.size a ≤ S64x128.size a := fun i k0_t2 v80 v82 v1066 k0_hw10 k0_h4 k0_h6 => k0_hw10.1 k0_h4 k0_h6
theorem k0_off172_inb : ∀ (i : grid0.Coords) (k0_t2 : Fin k0_t2_loop.trips) (v80 : BitVec 32) (v82 : BitVec 32) (v1066 : BitVec 32) (k0_hw10 : k0_chk10 i k0_t2 v80 v82 v1066), ∀ (k0_h4 : k0_cond4 i k0_t2 = 1#1), ∀ (k0_h6 : k0_cond6 v80 v82 = 1#1), ∀ a, (k0_off172 v1066) a + S1x16.size a ≤ S64x128.size a := fun i k0_t2 v80 v82 v1066 k0_hw10 k0_h4 k0_h6 => k0_hw10.2.1 k0_h4 k0_h6
theorem k0_off174_inb : ∀ (i : grid0.Coords) (k0_t2 : Fin k0_t2_loop.trips) (v80 : BitVec 32) (v82 : BitVec 32) (v1066 : BitVec 32) (k0_hw10 : k0_chk10 i k0_t2 v80 v82 v1066), ∀ (k0_h4 : k0_cond4 i k0_t2 = 1#1), ∀ (k0_h6 : k0_cond6 v80 v82 = 1#1), ∀ a, (k0_off174 v1066) a + S1x16.size a ≤ S64x128.size a := fun i k0_t2 v80 v82 v1066 k0_hw10 k0_h4 k0_h6 => k0_hw10.2.2.1 k0_h4 k0_h6
theorem k0_off176_inb : ∀ (i : grid0.Coords) (k0_t2 : Fin k0_t2_loop.trips) (v80 : BitVec 32) (v82 : BitVec 32) (v1066 : BitVec 32) (k0_hw10 : k0_chk10 i k0_t2 v80 v82 v1066), ∀ (k0_h4 : k0_cond4 i k0_t2 = 1#1), ∀ (k0_h6 : k0_cond6 v80 v82 = 1#1), ∀ a, (k0_off176 v1066) a + S1x16.size a ≤ S64x128.size a := fun i k0_t2 v80 v82 v1066 k0_hw10 k0_h4 k0_h6 => k0_hw10.2.2.2.1 k0_h4 k0_h6
theorem k0_off178_inb : ∀ (i : grid0.Coords) (k0_t2 : Fin k0_t2_loop.trips) (v80 : BitVec 32) (v82 : BitVec 32) (v1066 : BitVec 32) (k0_hw10 : k0_chk10 i k0_t2 v80 v82 v1066), ∀ (k0_h4 : k0_cond4 i k0_t2 = 1#1), ∀ (k0_h6 : k0_cond6 v80 v82 = 1#1), ∀ a, (k0_off178 v1066) a + S1x16.size a ≤ S64x128.size a := fun i k0_t2 v80 v82 v1066 k0_hw10 k0_h4 k0_h6 => k0_hw10.2.2.2.2.1 k0_h4 k0_h6
theorem k0_off180_inb : ∀ (i : grid0.Coords) (k0_t2 : Fin k0_t2_loop.trips) (v80 : BitVec 32) (v82 : BitVec 32) (v1066 : BitVec 32) (k0_hw10 : k0_chk10 i k0_t2 v80 v82 v1066), ∀ (k0_h4 : k0_cond4 i k0_t2 = 1#1), ∀ (k0_h6 : k0_cond6 v80 v82 = 1#1), ∀ a, (k0_off180 v1066) a + S1x16.size a ≤ S64x128.size a := fun i k0_t2 v80 v82 v1066 k0_hw10 k0_h4 k0_h6 => k0_hw10.2.2.2.2.2.1 k0_h4 k0_h6
theorem k0_off182_inb : ∀ (i : grid0.Coords) (k0_t2 : Fin k0_t2_loop.trips) (v80 : BitVec 32) (v82 : BitVec 32) (v1066 : BitVec 32) (k0_hw10 : k0_chk10 i k0_t2 v80 v82 v1066), ∀ (k0_h4 : k0_cond4 i k0_t2 = 1#1), ∀ (k0_h6 : k0_cond6 v80 v82 = 1#1), ∀ a, (k0_off182 v1066) a + S1x16.size a ≤ S64x128.size a := fun i k0_t2 v80 v82 v1066 k0_hw10 k0_h4 k0_h6 => k0_hw10.2.2.2.2.2.2.1 k0_h4 k0_h6
theorem k0_off184_inb : ∀ (i : grid0.Coords) (k0_t2 : Fin k0_t2_loop.trips) (v80 : BitVec 32) (v82 : BitVec 32) (v1066 : BitVec 32) (k0_hw10 : k0_chk10 i k0_t2 v80 v82 v1066), ∀ (k0_h4 : k0_cond4 i k0_t2 = 1#1), ∀ (k0_h6 : k0_cond6 v80 v82 = 1#1), ∀ a, (k0_off184 v1066) a + S1x16.size a ≤ S64x128.size a := fun i k0_t2 v80 v82 v1066 k0_hw10 k0_h4 k0_h6 => k0_hw10.2.2.2.2.2.2.2 k0_h4 k0_h6

def k0_off185 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c9_i32 : BitVec 32 := 9#32
  let v1181 : BitVec 32 := Scalar.addi v74 c9_i32
  let v1182 : Index := Scalar.indexCast v1181
  let c0_339 : Index := 0#32
  ![v1182.toNat, 0]
def k0_off186 (v1180 : BitVec 32) : Fin 2 → Nat :=
  let v1187 : Index := Scalar.indexCast v1180
  let c0_340 : Index := 0#32
  ![v1187.toNat, 0]

def k0_off187 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c9_i32_342 : BitVec 32 := 9#32
  let v1195 : BitVec 32 := Scalar.addi v74 c9_i32_342
  let v1196 : Index := Scalar.indexCast v1195
  let c16_343 : Index := 16#32
  ![v1196.toNat, 16]
def k0_off188 (v1180 : BitVec 32) : Fin 2 → Nat :=
  let v1201 : Index := Scalar.indexCast v1180
  let c16_344 : Index := 16#32
  ![v1201.toNat, 16]
def k0_off189 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c9_i32_346 : BitVec 32 := 9#32
  let v1209 : BitVec 32 := Scalar.addi v74 c9_i32_346
  let v1210 : Index := Scalar.indexCast v1209
  let c32_347 : Index := 32#32
  ![v1210.toNat, 32]
def k0_off190 (v1180 : BitVec 32) : Fin 2 → Nat :=
  let v1215 : Index := Scalar.indexCast v1180
  let c32_348 : Index := 32#32
  ![v1215.toNat, 32]
def k0_off191 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c9_i32_350 : BitVec 32 := 9#32
  let v1223 : BitVec 32 := Scalar.addi v74 c9_i32_350
  let v1224 : Index := Scalar.indexCast v1223
  let c48_351 : Index := 48#32
  ![v1224.toNat, 48]
def k0_off192 (v1180 : BitVec 32) : Fin 2 → Nat :=
  let v1229 : Index := Scalar.indexCast v1180
  let c48_352 : Index := 48#32
  ![v1229.toNat, 48]
def k0_off193 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c9_i32_354 : BitVec 32 := 9#32
  let v1237 : BitVec 32 := Scalar.addi v74 c9_i32_354
  let v1238 : Index := Scalar.indexCast v1237
  let c64_355 : Index := 64#32
  ![v1238.toNat, 64]
def k0_off194 (v1180 : BitVec 32) : Fin 2 → Nat :=
  let v1243 : Index := Scalar.indexCast v1180
  let c64_356 : Index := 64#32
  ![v1243.toNat, 64]
def k0_off195 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c9_i32_358 : BitVec 32 := 9#32
  let v1251 : BitVec 32 := Scalar.addi v74 c9_i32_358
  let v1252 : Index := Scalar.indexCast v1251
  let c80_359 : Index := 80#32
  ![v1252.toNat, 80]
def k0_off196 (v1180 : BitVec 32) : Fin 2 → Nat :=
  let v1257 : Index := Scalar.indexCast v1180
  let c80_360 : Index := 80#32
  ![v1257.toNat, 80]
def k0_off197 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c9_i32_362 : BitVec 32 := 9#32
  let v1265 : BitVec 32 := Scalar.addi v74 c9_i32_362
  let v1266 : Index := Scalar.indexCast v1265
  let c96_363 : Index := 96#32
  ![v1266.toNat, 96]
def k0_off198 (v1180 : BitVec 32) : Fin 2 → Nat :=
  let v1271 : Index := Scalar.indexCast v1180
  let c96_364 : Index := 96#32
  ![v1271.toNat, 96]
def k0_off199 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c9_i32_366 : BitVec 32 := 9#32
  let v1279 : BitVec 32 := Scalar.addi v74 c9_i32_366
  let v1280 : Index := Scalar.indexCast v1279
  let c112_367 : Index := 112#32
  ![v1280.toNat, 112]
def k0_off200 (v1180 : BitVec 32) : Fin 2 → Nat :=
  let v1285 : Index := Scalar.indexCast v1180
  let c112_368 : Index := 112#32
  ![v1285.toNat, 112]

def k0_chk11 (i : grid0.Coords) (k0_t2 : Fin k0_t2_loop.trips) (v80 : BitVec 32) (v82 : BitVec 32) (v1180 : BitVec 32) : Prop :=
  (∀ (k0_h4 : k0_cond4 i k0_t2 = 1#1), ∀ (k0_h6 : k0_cond6 v80 v82 = 1#1), ∀ a, (k0_off186 v1180) a + S1x16.size a ≤ S64x128.size a) ∧
  (∀ (k0_h4 : k0_cond4 i k0_t2 = 1#1), ∀ (k0_h6 : k0_cond6 v80 v82 = 1#1), ∀ a, (k0_off188 v1180) a + S1x16.size a ≤ S64x128.size a) ∧
  (∀ (k0_h4 : k0_cond4 i k0_t2 = 1#1), ∀ (k0_h6 : k0_cond6 v80 v82 = 1#1), ∀ a, (k0_off190 v1180) a + S1x16.size a ≤ S64x128.size a) ∧
  (∀ (k0_h4 : k0_cond4 i k0_t2 = 1#1), ∀ (k0_h6 : k0_cond6 v80 v82 = 1#1), ∀ a, (k0_off192 v1180) a + S1x16.size a ≤ S64x128.size a) ∧
  (∀ (k0_h4 : k0_cond4 i k0_t2 = 1#1), ∀ (k0_h6 : k0_cond6 v80 v82 = 1#1), ∀ a, (k0_off194 v1180) a + S1x16.size a ≤ S64x128.size a) ∧
  (∀ (k0_h4 : k0_cond4 i k0_t2 = 1#1), ∀ (k0_h6 : k0_cond6 v80 v82 = 1#1), ∀ a, (k0_off196 v1180) a + S1x16.size a ≤ S64x128.size a) ∧
  (∀ (k0_h4 : k0_cond4 i k0_t2 = 1#1), ∀ (k0_h6 : k0_cond6 v80 v82 = 1#1), ∀ a, (k0_off198 v1180) a + S1x16.size a ≤ S64x128.size a) ∧
  (∀ (k0_h4 : k0_cond4 i k0_t2 = 1#1), ∀ (k0_h6 : k0_cond6 v80 v82 = 1#1), ∀ a, (k0_off200 v1180) a + S1x16.size a ≤ S64x128.size a)
theorem k0_off186_inb : ∀ (i : grid0.Coords) (k0_t2 : Fin k0_t2_loop.trips) (v80 : BitVec 32) (v82 : BitVec 32) (v1180 : BitVec 32) (k0_hw11 : k0_chk11 i k0_t2 v80 v82 v1180), ∀ (k0_h4 : k0_cond4 i k0_t2 = 1#1), ∀ (k0_h6 : k0_cond6 v80 v82 = 1#1), ∀ a, (k0_off186 v1180) a + S1x16.size a ≤ S64x128.size a := fun i k0_t2 v80 v82 v1180 k0_hw11 k0_h4 k0_h6 => k0_hw11.1 k0_h4 k0_h6
theorem k0_off188_inb : ∀ (i : grid0.Coords) (k0_t2 : Fin k0_t2_loop.trips) (v80 : BitVec 32) (v82 : BitVec 32) (v1180 : BitVec 32) (k0_hw11 : k0_chk11 i k0_t2 v80 v82 v1180), ∀ (k0_h4 : k0_cond4 i k0_t2 = 1#1), ∀ (k0_h6 : k0_cond6 v80 v82 = 1#1), ∀ a, (k0_off188 v1180) a + S1x16.size a ≤ S64x128.size a := fun i k0_t2 v80 v82 v1180 k0_hw11 k0_h4 k0_h6 => k0_hw11.2.1 k0_h4 k0_h6
theorem k0_off190_inb : ∀ (i : grid0.Coords) (k0_t2 : Fin k0_t2_loop.trips) (v80 : BitVec 32) (v82 : BitVec 32) (v1180 : BitVec 32) (k0_hw11 : k0_chk11 i k0_t2 v80 v82 v1180), ∀ (k0_h4 : k0_cond4 i k0_t2 = 1#1), ∀ (k0_h6 : k0_cond6 v80 v82 = 1#1), ∀ a, (k0_off190 v1180) a + S1x16.size a ≤ S64x128.size a := fun i k0_t2 v80 v82 v1180 k0_hw11 k0_h4 k0_h6 => k0_hw11.2.2.1 k0_h4 k0_h6
theorem k0_off192_inb : ∀ (i : grid0.Coords) (k0_t2 : Fin k0_t2_loop.trips) (v80 : BitVec 32) (v82 : BitVec 32) (v1180 : BitVec 32) (k0_hw11 : k0_chk11 i k0_t2 v80 v82 v1180), ∀ (k0_h4 : k0_cond4 i k0_t2 = 1#1), ∀ (k0_h6 : k0_cond6 v80 v82 = 1#1), ∀ a, (k0_off192 v1180) a + S1x16.size a ≤ S64x128.size a := fun i k0_t2 v80 v82 v1180 k0_hw11 k0_h4 k0_h6 => k0_hw11.2.2.2.1 k0_h4 k0_h6
theorem k0_off194_inb : ∀ (i : grid0.Coords) (k0_t2 : Fin k0_t2_loop.trips) (v80 : BitVec 32) (v82 : BitVec 32) (v1180 : BitVec 32) (k0_hw11 : k0_chk11 i k0_t2 v80 v82 v1180), ∀ (k0_h4 : k0_cond4 i k0_t2 = 1#1), ∀ (k0_h6 : k0_cond6 v80 v82 = 1#1), ∀ a, (k0_off194 v1180) a + S1x16.size a ≤ S64x128.size a := fun i k0_t2 v80 v82 v1180 k0_hw11 k0_h4 k0_h6 => k0_hw11.2.2.2.2.1 k0_h4 k0_h6
theorem k0_off196_inb : ∀ (i : grid0.Coords) (k0_t2 : Fin k0_t2_loop.trips) (v80 : BitVec 32) (v82 : BitVec 32) (v1180 : BitVec 32) (k0_hw11 : k0_chk11 i k0_t2 v80 v82 v1180), ∀ (k0_h4 : k0_cond4 i k0_t2 = 1#1), ∀ (k0_h6 : k0_cond6 v80 v82 = 1#1), ∀ a, (k0_off196 v1180) a + S1x16.size a ≤ S64x128.size a := fun i k0_t2 v80 v82 v1180 k0_hw11 k0_h4 k0_h6 => k0_hw11.2.2.2.2.2.1 k0_h4 k0_h6
theorem k0_off198_inb : ∀ (i : grid0.Coords) (k0_t2 : Fin k0_t2_loop.trips) (v80 : BitVec 32) (v82 : BitVec 32) (v1180 : BitVec 32) (k0_hw11 : k0_chk11 i k0_t2 v80 v82 v1180), ∀ (k0_h4 : k0_cond4 i k0_t2 = 1#1), ∀ (k0_h6 : k0_cond6 v80 v82 = 1#1), ∀ a, (k0_off198 v1180) a + S1x16.size a ≤ S64x128.size a := fun i k0_t2 v80 v82 v1180 k0_hw11 k0_h4 k0_h6 => k0_hw11.2.2.2.2.2.2.1 k0_h4 k0_h6
theorem k0_off200_inb : ∀ (i : grid0.Coords) (k0_t2 : Fin k0_t2_loop.trips) (v80 : BitVec 32) (v82 : BitVec 32) (v1180 : BitVec 32) (k0_hw11 : k0_chk11 i k0_t2 v80 v82 v1180), ∀ (k0_h4 : k0_cond4 i k0_t2 = 1#1), ∀ (k0_h6 : k0_cond6 v80 v82 = 1#1), ∀ a, (k0_off200 v1180) a + S1x16.size a ≤ S64x128.size a := fun i k0_t2 v80 v82 v1180 k0_hw11 k0_h4 k0_h6 => k0_hw11.2.2.2.2.2.2.2 k0_h4 k0_h6

def k0_off201 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c10_i32 : BitVec 32 := 10#32
  let v1295 : BitVec 32 := Scalar.addi v74 c10_i32
  let v1296 : Index := Scalar.indexCast v1295
  let c0_370 : Index := 0#32
  ![v1296.toNat, 0]
def k0_off202 (v1294 : BitVec 32) : Fin 2 → Nat :=
  let v1301 : Index := Scalar.indexCast v1294
  let c0_371 : Index := 0#32
  ![v1301.toNat, 0]

def k0_off203 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c10_i32_373 : BitVec 32 := 10#32
  let v1309 : BitVec 32 := Scalar.addi v74 c10_i32_373
  let v1310 : Index := Scalar.indexCast v1309
  let c16_374 : Index := 16#32
  ![v1310.toNat, 16]
def k0_off204 (v1294 : BitVec 32) : Fin 2 → Nat :=
  let v1315 : Index := Scalar.indexCast v1294
  let c16_375 : Index := 16#32
  ![v1315.toNat, 16]
def k0_off205 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c10_i32_377 : BitVec 32 := 10#32
  let v1323 : BitVec 32 := Scalar.addi v74 c10_i32_377
  let v1324 : Index := Scalar.indexCast v1323
  let c32_378 : Index := 32#32
  ![v1324.toNat, 32]
def k0_off206 (v1294 : BitVec 32) : Fin 2 → Nat :=
  let v1329 : Index := Scalar.indexCast v1294
  let c32_379 : Index := 32#32
  ![v1329.toNat, 32]
def k0_off207 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c10_i32_381 : BitVec 32 := 10#32
  let v1337 : BitVec 32 := Scalar.addi v74 c10_i32_381
  let v1338 : Index := Scalar.indexCast v1337
  let c48_382 : Index := 48#32
  ![v1338.toNat, 48]
def k0_off208 (v1294 : BitVec 32) : Fin 2 → Nat :=
  let v1343 : Index := Scalar.indexCast v1294
  let c48_383 : Index := 48#32
  ![v1343.toNat, 48]
def k0_off209 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c10_i32_385 : BitVec 32 := 10#32
  let v1351 : BitVec 32 := Scalar.addi v74 c10_i32_385
  let v1352 : Index := Scalar.indexCast v1351
  let c64_386 : Index := 64#32
  ![v1352.toNat, 64]
def k0_off210 (v1294 : BitVec 32) : Fin 2 → Nat :=
  let v1357 : Index := Scalar.indexCast v1294
  let c64_387 : Index := 64#32
  ![v1357.toNat, 64]
def k0_off211 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c10_i32_389 : BitVec 32 := 10#32
  let v1365 : BitVec 32 := Scalar.addi v74 c10_i32_389
  let v1366 : Index := Scalar.indexCast v1365
  let c80_390 : Index := 80#32
  ![v1366.toNat, 80]
def k0_off212 (v1294 : BitVec 32) : Fin 2 → Nat :=
  let v1371 : Index := Scalar.indexCast v1294
  let c80_391 : Index := 80#32
  ![v1371.toNat, 80]
def k0_off213 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c10_i32_393 : BitVec 32 := 10#32
  let v1379 : BitVec 32 := Scalar.addi v74 c10_i32_393
  let v1380 : Index := Scalar.indexCast v1379
  let c96_394 : Index := 96#32
  ![v1380.toNat, 96]
def k0_off214 (v1294 : BitVec 32) : Fin 2 → Nat :=
  let v1385 : Index := Scalar.indexCast v1294
  let c96_395 : Index := 96#32
  ![v1385.toNat, 96]
def k0_off215 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c10_i32_397 : BitVec 32 := 10#32
  let v1393 : BitVec 32 := Scalar.addi v74 c10_i32_397
  let v1394 : Index := Scalar.indexCast v1393
  let c112_398 : Index := 112#32
  ![v1394.toNat, 112]
def k0_off216 (v1294 : BitVec 32) : Fin 2 → Nat :=
  let v1399 : Index := Scalar.indexCast v1294
  let c112_399 : Index := 112#32
  ![v1399.toNat, 112]

def k0_chk12 (i : grid0.Coords) (k0_t2 : Fin k0_t2_loop.trips) (v80 : BitVec 32) (v82 : BitVec 32) (v1294 : BitVec 32) : Prop :=
  (∀ (k0_h4 : k0_cond4 i k0_t2 = 1#1), ∀ (k0_h6 : k0_cond6 v80 v82 = 1#1), ∀ a, (k0_off202 v1294) a + S1x16.size a ≤ S64x128.size a) ∧
  (∀ (k0_h4 : k0_cond4 i k0_t2 = 1#1), ∀ (k0_h6 : k0_cond6 v80 v82 = 1#1), ∀ a, (k0_off204 v1294) a + S1x16.size a ≤ S64x128.size a) ∧
  (∀ (k0_h4 : k0_cond4 i k0_t2 = 1#1), ∀ (k0_h6 : k0_cond6 v80 v82 = 1#1), ∀ a, (k0_off206 v1294) a + S1x16.size a ≤ S64x128.size a) ∧
  (∀ (k0_h4 : k0_cond4 i k0_t2 = 1#1), ∀ (k0_h6 : k0_cond6 v80 v82 = 1#1), ∀ a, (k0_off208 v1294) a + S1x16.size a ≤ S64x128.size a) ∧
  (∀ (k0_h4 : k0_cond4 i k0_t2 = 1#1), ∀ (k0_h6 : k0_cond6 v80 v82 = 1#1), ∀ a, (k0_off210 v1294) a + S1x16.size a ≤ S64x128.size a) ∧
  (∀ (k0_h4 : k0_cond4 i k0_t2 = 1#1), ∀ (k0_h6 : k0_cond6 v80 v82 = 1#1), ∀ a, (k0_off212 v1294) a + S1x16.size a ≤ S64x128.size a) ∧
  (∀ (k0_h4 : k0_cond4 i k0_t2 = 1#1), ∀ (k0_h6 : k0_cond6 v80 v82 = 1#1), ∀ a, (k0_off214 v1294) a + S1x16.size a ≤ S64x128.size a) ∧
  (∀ (k0_h4 : k0_cond4 i k0_t2 = 1#1), ∀ (k0_h6 : k0_cond6 v80 v82 = 1#1), ∀ a, (k0_off216 v1294) a + S1x16.size a ≤ S64x128.size a)
theorem k0_off202_inb : ∀ (i : grid0.Coords) (k0_t2 : Fin k0_t2_loop.trips) (v80 : BitVec 32) (v82 : BitVec 32) (v1294 : BitVec 32) (k0_hw12 : k0_chk12 i k0_t2 v80 v82 v1294), ∀ (k0_h4 : k0_cond4 i k0_t2 = 1#1), ∀ (k0_h6 : k0_cond6 v80 v82 = 1#1), ∀ a, (k0_off202 v1294) a + S1x16.size a ≤ S64x128.size a := fun i k0_t2 v80 v82 v1294 k0_hw12 k0_h4 k0_h6 => k0_hw12.1 k0_h4 k0_h6
theorem k0_off204_inb : ∀ (i : grid0.Coords) (k0_t2 : Fin k0_t2_loop.trips) (v80 : BitVec 32) (v82 : BitVec 32) (v1294 : BitVec 32) (k0_hw12 : k0_chk12 i k0_t2 v80 v82 v1294), ∀ (k0_h4 : k0_cond4 i k0_t2 = 1#1), ∀ (k0_h6 : k0_cond6 v80 v82 = 1#1), ∀ a, (k0_off204 v1294) a + S1x16.size a ≤ S64x128.size a := fun i k0_t2 v80 v82 v1294 k0_hw12 k0_h4 k0_h6 => k0_hw12.2.1 k0_h4 k0_h6
theorem k0_off206_inb : ∀ (i : grid0.Coords) (k0_t2 : Fin k0_t2_loop.trips) (v80 : BitVec 32) (v82 : BitVec 32) (v1294 : BitVec 32) (k0_hw12 : k0_chk12 i k0_t2 v80 v82 v1294), ∀ (k0_h4 : k0_cond4 i k0_t2 = 1#1), ∀ (k0_h6 : k0_cond6 v80 v82 = 1#1), ∀ a, (k0_off206 v1294) a + S1x16.size a ≤ S64x128.size a := fun i k0_t2 v80 v82 v1294 k0_hw12 k0_h4 k0_h6 => k0_hw12.2.2.1 k0_h4 k0_h6
theorem k0_off208_inb : ∀ (i : grid0.Coords) (k0_t2 : Fin k0_t2_loop.trips) (v80 : BitVec 32) (v82 : BitVec 32) (v1294 : BitVec 32) (k0_hw12 : k0_chk12 i k0_t2 v80 v82 v1294), ∀ (k0_h4 : k0_cond4 i k0_t2 = 1#1), ∀ (k0_h6 : k0_cond6 v80 v82 = 1#1), ∀ a, (k0_off208 v1294) a + S1x16.size a ≤ S64x128.size a := fun i k0_t2 v80 v82 v1294 k0_hw12 k0_h4 k0_h6 => k0_hw12.2.2.2.1 k0_h4 k0_h6
theorem k0_off210_inb : ∀ (i : grid0.Coords) (k0_t2 : Fin k0_t2_loop.trips) (v80 : BitVec 32) (v82 : BitVec 32) (v1294 : BitVec 32) (k0_hw12 : k0_chk12 i k0_t2 v80 v82 v1294), ∀ (k0_h4 : k0_cond4 i k0_t2 = 1#1), ∀ (k0_h6 : k0_cond6 v80 v82 = 1#1), ∀ a, (k0_off210 v1294) a + S1x16.size a ≤ S64x128.size a := fun i k0_t2 v80 v82 v1294 k0_hw12 k0_h4 k0_h6 => k0_hw12.2.2.2.2.1 k0_h4 k0_h6
theorem k0_off212_inb : ∀ (i : grid0.Coords) (k0_t2 : Fin k0_t2_loop.trips) (v80 : BitVec 32) (v82 : BitVec 32) (v1294 : BitVec 32) (k0_hw12 : k0_chk12 i k0_t2 v80 v82 v1294), ∀ (k0_h4 : k0_cond4 i k0_t2 = 1#1), ∀ (k0_h6 : k0_cond6 v80 v82 = 1#1), ∀ a, (k0_off212 v1294) a + S1x16.size a ≤ S64x128.size a := fun i k0_t2 v80 v82 v1294 k0_hw12 k0_h4 k0_h6 => k0_hw12.2.2.2.2.2.1 k0_h4 k0_h6
theorem k0_off214_inb : ∀ (i : grid0.Coords) (k0_t2 : Fin k0_t2_loop.trips) (v80 : BitVec 32) (v82 : BitVec 32) (v1294 : BitVec 32) (k0_hw12 : k0_chk12 i k0_t2 v80 v82 v1294), ∀ (k0_h4 : k0_cond4 i k0_t2 = 1#1), ∀ (k0_h6 : k0_cond6 v80 v82 = 1#1), ∀ a, (k0_off214 v1294) a + S1x16.size a ≤ S64x128.size a := fun i k0_t2 v80 v82 v1294 k0_hw12 k0_h4 k0_h6 => k0_hw12.2.2.2.2.2.2.1 k0_h4 k0_h6
theorem k0_off216_inb : ∀ (i : grid0.Coords) (k0_t2 : Fin k0_t2_loop.trips) (v80 : BitVec 32) (v82 : BitVec 32) (v1294 : BitVec 32) (k0_hw12 : k0_chk12 i k0_t2 v80 v82 v1294), ∀ (k0_h4 : k0_cond4 i k0_t2 = 1#1), ∀ (k0_h6 : k0_cond6 v80 v82 = 1#1), ∀ a, (k0_off216 v1294) a + S1x16.size a ≤ S64x128.size a := fun i k0_t2 v80 v82 v1294 k0_hw12 k0_h4 k0_h6 => k0_hw12.2.2.2.2.2.2.2 k0_h4 k0_h6

def k0_off217 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c11_i32 : BitVec 32 := 11#32
  let v1409 : BitVec 32 := Scalar.addi v74 c11_i32
  let v1410 : Index := Scalar.indexCast v1409
  let c0_401 : Index := 0#32
  ![v1410.toNat, 0]
def k0_off218 (v1408 : BitVec 32) : Fin 2 → Nat :=
  let v1415 : Index := Scalar.indexCast v1408
  let c0_402 : Index := 0#32
  ![v1415.toNat, 0]

def k0_off219 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c11_i32_404 : BitVec 32 := 11#32
  let v1423 : BitVec 32 := Scalar.addi v74 c11_i32_404
  let v1424 : Index := Scalar.indexCast v1423
  let c16_405 : Index := 16#32
  ![v1424.toNat, 16]
def k0_off220 (v1408 : BitVec 32) : Fin 2 → Nat :=
  let v1429 : Index := Scalar.indexCast v1408
  let c16_406 : Index := 16#32
  ![v1429.toNat, 16]
def k0_off221 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c11_i32_408 : BitVec 32 := 11#32
  let v1437 : BitVec 32 := Scalar.addi v74 c11_i32_408
  let v1438 : Index := Scalar.indexCast v1437
  let c32_409 : Index := 32#32
  ![v1438.toNat, 32]
def k0_off222 (v1408 : BitVec 32) : Fin 2 → Nat :=
  let v1443 : Index := Scalar.indexCast v1408
  let c32_410 : Index := 32#32
  ![v1443.toNat, 32]
def k0_off223 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c11_i32_412 : BitVec 32 := 11#32
  let v1451 : BitVec 32 := Scalar.addi v74 c11_i32_412
  let v1452 : Index := Scalar.indexCast v1451
  let c48_413 : Index := 48#32
  ![v1452.toNat, 48]
def k0_off224 (v1408 : BitVec 32) : Fin 2 → Nat :=
  let v1457 : Index := Scalar.indexCast v1408
  let c48_414 : Index := 48#32
  ![v1457.toNat, 48]
def k0_off225 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c11_i32_416 : BitVec 32 := 11#32
  let v1465 : BitVec 32 := Scalar.addi v74 c11_i32_416
  let v1466 : Index := Scalar.indexCast v1465
  let c64_417 : Index := 64#32
  ![v1466.toNat, 64]
def k0_off226 (v1408 : BitVec 32) : Fin 2 → Nat :=
  let v1471 : Index := Scalar.indexCast v1408
  let c64_418 : Index := 64#32
  ![v1471.toNat, 64]
def k0_off227 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c11_i32_420 : BitVec 32 := 11#32
  let v1479 : BitVec 32 := Scalar.addi v74 c11_i32_420
  let v1480 : Index := Scalar.indexCast v1479
  let c80_421 : Index := 80#32
  ![v1480.toNat, 80]
def k0_off228 (v1408 : BitVec 32) : Fin 2 → Nat :=
  let v1485 : Index := Scalar.indexCast v1408
  let c80_422 : Index := 80#32
  ![v1485.toNat, 80]
def k0_off229 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c11_i32_424 : BitVec 32 := 11#32
  let v1493 : BitVec 32 := Scalar.addi v74 c11_i32_424
  let v1494 : Index := Scalar.indexCast v1493
  let c96_425 : Index := 96#32
  ![v1494.toNat, 96]
def k0_off230 (v1408 : BitVec 32) : Fin 2 → Nat :=
  let v1499 : Index := Scalar.indexCast v1408
  let c96_426 : Index := 96#32
  ![v1499.toNat, 96]
def k0_off231 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c11_i32_428 : BitVec 32 := 11#32
  let v1507 : BitVec 32 := Scalar.addi v74 c11_i32_428
  let v1508 : Index := Scalar.indexCast v1507
  let c112_429 : Index := 112#32
  ![v1508.toNat, 112]
def k0_off232 (v1408 : BitVec 32) : Fin 2 → Nat :=
  let v1513 : Index := Scalar.indexCast v1408
  let c112_430 : Index := 112#32
  ![v1513.toNat, 112]

def k0_chk13 (i : grid0.Coords) (k0_t2 : Fin k0_t2_loop.trips) (v80 : BitVec 32) (v82 : BitVec 32) (v1408 : BitVec 32) : Prop :=
  (∀ (k0_h4 : k0_cond4 i k0_t2 = 1#1), ∀ (k0_h6 : k0_cond6 v80 v82 = 1#1), ∀ a, (k0_off218 v1408) a + S1x16.size a ≤ S64x128.size a) ∧
  (∀ (k0_h4 : k0_cond4 i k0_t2 = 1#1), ∀ (k0_h6 : k0_cond6 v80 v82 = 1#1), ∀ a, (k0_off220 v1408) a + S1x16.size a ≤ S64x128.size a) ∧
  (∀ (k0_h4 : k0_cond4 i k0_t2 = 1#1), ∀ (k0_h6 : k0_cond6 v80 v82 = 1#1), ∀ a, (k0_off222 v1408) a + S1x16.size a ≤ S64x128.size a) ∧
  (∀ (k0_h4 : k0_cond4 i k0_t2 = 1#1), ∀ (k0_h6 : k0_cond6 v80 v82 = 1#1), ∀ a, (k0_off224 v1408) a + S1x16.size a ≤ S64x128.size a) ∧
  (∀ (k0_h4 : k0_cond4 i k0_t2 = 1#1), ∀ (k0_h6 : k0_cond6 v80 v82 = 1#1), ∀ a, (k0_off226 v1408) a + S1x16.size a ≤ S64x128.size a) ∧
  (∀ (k0_h4 : k0_cond4 i k0_t2 = 1#1), ∀ (k0_h6 : k0_cond6 v80 v82 = 1#1), ∀ a, (k0_off228 v1408) a + S1x16.size a ≤ S64x128.size a) ∧
  (∀ (k0_h4 : k0_cond4 i k0_t2 = 1#1), ∀ (k0_h6 : k0_cond6 v80 v82 = 1#1), ∀ a, (k0_off230 v1408) a + S1x16.size a ≤ S64x128.size a) ∧
  (∀ (k0_h4 : k0_cond4 i k0_t2 = 1#1), ∀ (k0_h6 : k0_cond6 v80 v82 = 1#1), ∀ a, (k0_off232 v1408) a + S1x16.size a ≤ S64x128.size a)
theorem k0_off218_inb : ∀ (i : grid0.Coords) (k0_t2 : Fin k0_t2_loop.trips) (v80 : BitVec 32) (v82 : BitVec 32) (v1408 : BitVec 32) (k0_hw13 : k0_chk13 i k0_t2 v80 v82 v1408), ∀ (k0_h4 : k0_cond4 i k0_t2 = 1#1), ∀ (k0_h6 : k0_cond6 v80 v82 = 1#1), ∀ a, (k0_off218 v1408) a + S1x16.size a ≤ S64x128.size a := fun i k0_t2 v80 v82 v1408 k0_hw13 k0_h4 k0_h6 => k0_hw13.1 k0_h4 k0_h6
theorem k0_off220_inb : ∀ (i : grid0.Coords) (k0_t2 : Fin k0_t2_loop.trips) (v80 : BitVec 32) (v82 : BitVec 32) (v1408 : BitVec 32) (k0_hw13 : k0_chk13 i k0_t2 v80 v82 v1408), ∀ (k0_h4 : k0_cond4 i k0_t2 = 1#1), ∀ (k0_h6 : k0_cond6 v80 v82 = 1#1), ∀ a, (k0_off220 v1408) a + S1x16.size a ≤ S64x128.size a := fun i k0_t2 v80 v82 v1408 k0_hw13 k0_h4 k0_h6 => k0_hw13.2.1 k0_h4 k0_h6
theorem k0_off222_inb : ∀ (i : grid0.Coords) (k0_t2 : Fin k0_t2_loop.trips) (v80 : BitVec 32) (v82 : BitVec 32) (v1408 : BitVec 32) (k0_hw13 : k0_chk13 i k0_t2 v80 v82 v1408), ∀ (k0_h4 : k0_cond4 i k0_t2 = 1#1), ∀ (k0_h6 : k0_cond6 v80 v82 = 1#1), ∀ a, (k0_off222 v1408) a + S1x16.size a ≤ S64x128.size a := fun i k0_t2 v80 v82 v1408 k0_hw13 k0_h4 k0_h6 => k0_hw13.2.2.1 k0_h4 k0_h6
theorem k0_off224_inb : ∀ (i : grid0.Coords) (k0_t2 : Fin k0_t2_loop.trips) (v80 : BitVec 32) (v82 : BitVec 32) (v1408 : BitVec 32) (k0_hw13 : k0_chk13 i k0_t2 v80 v82 v1408), ∀ (k0_h4 : k0_cond4 i k0_t2 = 1#1), ∀ (k0_h6 : k0_cond6 v80 v82 = 1#1), ∀ a, (k0_off224 v1408) a + S1x16.size a ≤ S64x128.size a := fun i k0_t2 v80 v82 v1408 k0_hw13 k0_h4 k0_h6 => k0_hw13.2.2.2.1 k0_h4 k0_h6
theorem k0_off226_inb : ∀ (i : grid0.Coords) (k0_t2 : Fin k0_t2_loop.trips) (v80 : BitVec 32) (v82 : BitVec 32) (v1408 : BitVec 32) (k0_hw13 : k0_chk13 i k0_t2 v80 v82 v1408), ∀ (k0_h4 : k0_cond4 i k0_t2 = 1#1), ∀ (k0_h6 : k0_cond6 v80 v82 = 1#1), ∀ a, (k0_off226 v1408) a + S1x16.size a ≤ S64x128.size a := fun i k0_t2 v80 v82 v1408 k0_hw13 k0_h4 k0_h6 => k0_hw13.2.2.2.2.1 k0_h4 k0_h6
theorem k0_off228_inb : ∀ (i : grid0.Coords) (k0_t2 : Fin k0_t2_loop.trips) (v80 : BitVec 32) (v82 : BitVec 32) (v1408 : BitVec 32) (k0_hw13 : k0_chk13 i k0_t2 v80 v82 v1408), ∀ (k0_h4 : k0_cond4 i k0_t2 = 1#1), ∀ (k0_h6 : k0_cond6 v80 v82 = 1#1), ∀ a, (k0_off228 v1408) a + S1x16.size a ≤ S64x128.size a := fun i k0_t2 v80 v82 v1408 k0_hw13 k0_h4 k0_h6 => k0_hw13.2.2.2.2.2.1 k0_h4 k0_h6
theorem k0_off230_inb : ∀ (i : grid0.Coords) (k0_t2 : Fin k0_t2_loop.trips) (v80 : BitVec 32) (v82 : BitVec 32) (v1408 : BitVec 32) (k0_hw13 : k0_chk13 i k0_t2 v80 v82 v1408), ∀ (k0_h4 : k0_cond4 i k0_t2 = 1#1), ∀ (k0_h6 : k0_cond6 v80 v82 = 1#1), ∀ a, (k0_off230 v1408) a + S1x16.size a ≤ S64x128.size a := fun i k0_t2 v80 v82 v1408 k0_hw13 k0_h4 k0_h6 => k0_hw13.2.2.2.2.2.2.1 k0_h4 k0_h6
theorem k0_off232_inb : ∀ (i : grid0.Coords) (k0_t2 : Fin k0_t2_loop.trips) (v80 : BitVec 32) (v82 : BitVec 32) (v1408 : BitVec 32) (k0_hw13 : k0_chk13 i k0_t2 v80 v82 v1408), ∀ (k0_h4 : k0_cond4 i k0_t2 = 1#1), ∀ (k0_h6 : k0_cond6 v80 v82 = 1#1), ∀ a, (k0_off232 v1408) a + S1x16.size a ≤ S64x128.size a := fun i k0_t2 v80 v82 v1408 k0_hw13 k0_h4 k0_h6 => k0_hw13.2.2.2.2.2.2.2 k0_h4 k0_h6

def k0_off233 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c12_i32 : BitVec 32 := 12#32
  let v1523 : BitVec 32 := Scalar.addi v74 c12_i32
  let v1524 : Index := Scalar.indexCast v1523
  let c0_432 : Index := 0#32
  ![v1524.toNat, 0]
def k0_off234 (v1522 : BitVec 32) : Fin 2 → Nat :=
  let v1529 : Index := Scalar.indexCast v1522
  let c0_433 : Index := 0#32
  ![v1529.toNat, 0]

def k0_off235 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c12_i32_435 : BitVec 32 := 12#32
  let v1537 : BitVec 32 := Scalar.addi v74 c12_i32_435
  let v1538 : Index := Scalar.indexCast v1537
  let c16_436 : Index := 16#32
  ![v1538.toNat, 16]
def k0_off236 (v1522 : BitVec 32) : Fin 2 → Nat :=
  let v1543 : Index := Scalar.indexCast v1522
  let c16_437 : Index := 16#32
  ![v1543.toNat, 16]
def k0_off237 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c12_i32_439 : BitVec 32 := 12#32
  let v1551 : BitVec 32 := Scalar.addi v74 c12_i32_439
  let v1552 : Index := Scalar.indexCast v1551
  let c32_440 : Index := 32#32
  ![v1552.toNat, 32]
def k0_off238 (v1522 : BitVec 32) : Fin 2 → Nat :=
  let v1557 : Index := Scalar.indexCast v1522
  let c32_441 : Index := 32#32
  ![v1557.toNat, 32]
def k0_off239 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c12_i32_443 : BitVec 32 := 12#32
  let v1565 : BitVec 32 := Scalar.addi v74 c12_i32_443
  let v1566 : Index := Scalar.indexCast v1565
  let c48_444 : Index := 48#32
  ![v1566.toNat, 48]
def k0_off240 (v1522 : BitVec 32) : Fin 2 → Nat :=
  let v1571 : Index := Scalar.indexCast v1522
  let c48_445 : Index := 48#32
  ![v1571.toNat, 48]
def k0_off241 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c12_i32_447 : BitVec 32 := 12#32
  let v1579 : BitVec 32 := Scalar.addi v74 c12_i32_447
  let v1580 : Index := Scalar.indexCast v1579
  let c64_448 : Index := 64#32
  ![v1580.toNat, 64]
def k0_off242 (v1522 : BitVec 32) : Fin 2 → Nat :=
  let v1585 : Index := Scalar.indexCast v1522
  let c64_449 : Index := 64#32
  ![v1585.toNat, 64]
def k0_off243 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c12_i32_451 : BitVec 32 := 12#32
  let v1593 : BitVec 32 := Scalar.addi v74 c12_i32_451
  let v1594 : Index := Scalar.indexCast v1593
  let c80_452 : Index := 80#32
  ![v1594.toNat, 80]
def k0_off244 (v1522 : BitVec 32) : Fin 2 → Nat :=
  let v1599 : Index := Scalar.indexCast v1522
  let c80_453 : Index := 80#32
  ![v1599.toNat, 80]
def k0_off245 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c12_i32_455 : BitVec 32 := 12#32
  let v1607 : BitVec 32 := Scalar.addi v74 c12_i32_455
  let v1608 : Index := Scalar.indexCast v1607
  let c96_456 : Index := 96#32
  ![v1608.toNat, 96]
def k0_off246 (v1522 : BitVec 32) : Fin 2 → Nat :=
  let v1613 : Index := Scalar.indexCast v1522
  let c96_457 : Index := 96#32
  ![v1613.toNat, 96]
def k0_off247 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c12_i32_459 : BitVec 32 := 12#32
  let v1621 : BitVec 32 := Scalar.addi v74 c12_i32_459
  let v1622 : Index := Scalar.indexCast v1621
  let c112_460 : Index := 112#32
  ![v1622.toNat, 112]
def k0_off248 (v1522 : BitVec 32) : Fin 2 → Nat :=
  let v1627 : Index := Scalar.indexCast v1522
  let c112_461 : Index := 112#32
  ![v1627.toNat, 112]

def k0_chk14 (i : grid0.Coords) (k0_t2 : Fin k0_t2_loop.trips) (v80 : BitVec 32) (v82 : BitVec 32) (v1522 : BitVec 32) : Prop :=
  (∀ (k0_h4 : k0_cond4 i k0_t2 = 1#1), ∀ (k0_h6 : k0_cond6 v80 v82 = 1#1), ∀ a, (k0_off234 v1522) a + S1x16.size a ≤ S64x128.size a) ∧
  (∀ (k0_h4 : k0_cond4 i k0_t2 = 1#1), ∀ (k0_h6 : k0_cond6 v80 v82 = 1#1), ∀ a, (k0_off236 v1522) a + S1x16.size a ≤ S64x128.size a) ∧
  (∀ (k0_h4 : k0_cond4 i k0_t2 = 1#1), ∀ (k0_h6 : k0_cond6 v80 v82 = 1#1), ∀ a, (k0_off238 v1522) a + S1x16.size a ≤ S64x128.size a) ∧
  (∀ (k0_h4 : k0_cond4 i k0_t2 = 1#1), ∀ (k0_h6 : k0_cond6 v80 v82 = 1#1), ∀ a, (k0_off240 v1522) a + S1x16.size a ≤ S64x128.size a) ∧
  (∀ (k0_h4 : k0_cond4 i k0_t2 = 1#1), ∀ (k0_h6 : k0_cond6 v80 v82 = 1#1), ∀ a, (k0_off242 v1522) a + S1x16.size a ≤ S64x128.size a) ∧
  (∀ (k0_h4 : k0_cond4 i k0_t2 = 1#1), ∀ (k0_h6 : k0_cond6 v80 v82 = 1#1), ∀ a, (k0_off244 v1522) a + S1x16.size a ≤ S64x128.size a) ∧
  (∀ (k0_h4 : k0_cond4 i k0_t2 = 1#1), ∀ (k0_h6 : k0_cond6 v80 v82 = 1#1), ∀ a, (k0_off246 v1522) a + S1x16.size a ≤ S64x128.size a) ∧
  (∀ (k0_h4 : k0_cond4 i k0_t2 = 1#1), ∀ (k0_h6 : k0_cond6 v80 v82 = 1#1), ∀ a, (k0_off248 v1522) a + S1x16.size a ≤ S64x128.size a)
theorem k0_off234_inb : ∀ (i : grid0.Coords) (k0_t2 : Fin k0_t2_loop.trips) (v80 : BitVec 32) (v82 : BitVec 32) (v1522 : BitVec 32) (k0_hw14 : k0_chk14 i k0_t2 v80 v82 v1522), ∀ (k0_h4 : k0_cond4 i k0_t2 = 1#1), ∀ (k0_h6 : k0_cond6 v80 v82 = 1#1), ∀ a, (k0_off234 v1522) a + S1x16.size a ≤ S64x128.size a := fun i k0_t2 v80 v82 v1522 k0_hw14 k0_h4 k0_h6 => k0_hw14.1 k0_h4 k0_h6
theorem k0_off236_inb : ∀ (i : grid0.Coords) (k0_t2 : Fin k0_t2_loop.trips) (v80 : BitVec 32) (v82 : BitVec 32) (v1522 : BitVec 32) (k0_hw14 : k0_chk14 i k0_t2 v80 v82 v1522), ∀ (k0_h4 : k0_cond4 i k0_t2 = 1#1), ∀ (k0_h6 : k0_cond6 v80 v82 = 1#1), ∀ a, (k0_off236 v1522) a + S1x16.size a ≤ S64x128.size a := fun i k0_t2 v80 v82 v1522 k0_hw14 k0_h4 k0_h6 => k0_hw14.2.1 k0_h4 k0_h6
theorem k0_off238_inb : ∀ (i : grid0.Coords) (k0_t2 : Fin k0_t2_loop.trips) (v80 : BitVec 32) (v82 : BitVec 32) (v1522 : BitVec 32) (k0_hw14 : k0_chk14 i k0_t2 v80 v82 v1522), ∀ (k0_h4 : k0_cond4 i k0_t2 = 1#1), ∀ (k0_h6 : k0_cond6 v80 v82 = 1#1), ∀ a, (k0_off238 v1522) a + S1x16.size a ≤ S64x128.size a := fun i k0_t2 v80 v82 v1522 k0_hw14 k0_h4 k0_h6 => k0_hw14.2.2.1 k0_h4 k0_h6
theorem k0_off240_inb : ∀ (i : grid0.Coords) (k0_t2 : Fin k0_t2_loop.trips) (v80 : BitVec 32) (v82 : BitVec 32) (v1522 : BitVec 32) (k0_hw14 : k0_chk14 i k0_t2 v80 v82 v1522), ∀ (k0_h4 : k0_cond4 i k0_t2 = 1#1), ∀ (k0_h6 : k0_cond6 v80 v82 = 1#1), ∀ a, (k0_off240 v1522) a + S1x16.size a ≤ S64x128.size a := fun i k0_t2 v80 v82 v1522 k0_hw14 k0_h4 k0_h6 => k0_hw14.2.2.2.1 k0_h4 k0_h6
theorem k0_off242_inb : ∀ (i : grid0.Coords) (k0_t2 : Fin k0_t2_loop.trips) (v80 : BitVec 32) (v82 : BitVec 32) (v1522 : BitVec 32) (k0_hw14 : k0_chk14 i k0_t2 v80 v82 v1522), ∀ (k0_h4 : k0_cond4 i k0_t2 = 1#1), ∀ (k0_h6 : k0_cond6 v80 v82 = 1#1), ∀ a, (k0_off242 v1522) a + S1x16.size a ≤ S64x128.size a := fun i k0_t2 v80 v82 v1522 k0_hw14 k0_h4 k0_h6 => k0_hw14.2.2.2.2.1 k0_h4 k0_h6
theorem k0_off244_inb : ∀ (i : grid0.Coords) (k0_t2 : Fin k0_t2_loop.trips) (v80 : BitVec 32) (v82 : BitVec 32) (v1522 : BitVec 32) (k0_hw14 : k0_chk14 i k0_t2 v80 v82 v1522), ∀ (k0_h4 : k0_cond4 i k0_t2 = 1#1), ∀ (k0_h6 : k0_cond6 v80 v82 = 1#1), ∀ a, (k0_off244 v1522) a + S1x16.size a ≤ S64x128.size a := fun i k0_t2 v80 v82 v1522 k0_hw14 k0_h4 k0_h6 => k0_hw14.2.2.2.2.2.1 k0_h4 k0_h6
theorem k0_off246_inb : ∀ (i : grid0.Coords) (k0_t2 : Fin k0_t2_loop.trips) (v80 : BitVec 32) (v82 : BitVec 32) (v1522 : BitVec 32) (k0_hw14 : k0_chk14 i k0_t2 v80 v82 v1522), ∀ (k0_h4 : k0_cond4 i k0_t2 = 1#1), ∀ (k0_h6 : k0_cond6 v80 v82 = 1#1), ∀ a, (k0_off246 v1522) a + S1x16.size a ≤ S64x128.size a := fun i k0_t2 v80 v82 v1522 k0_hw14 k0_h4 k0_h6 => k0_hw14.2.2.2.2.2.2.1 k0_h4 k0_h6
theorem k0_off248_inb : ∀ (i : grid0.Coords) (k0_t2 : Fin k0_t2_loop.trips) (v80 : BitVec 32) (v82 : BitVec 32) (v1522 : BitVec 32) (k0_hw14 : k0_chk14 i k0_t2 v80 v82 v1522), ∀ (k0_h4 : k0_cond4 i k0_t2 = 1#1), ∀ (k0_h6 : k0_cond6 v80 v82 = 1#1), ∀ a, (k0_off248 v1522) a + S1x16.size a ≤ S64x128.size a := fun i k0_t2 v80 v82 v1522 k0_hw14 k0_h4 k0_h6 => k0_hw14.2.2.2.2.2.2.2 k0_h4 k0_h6

def k0_off249 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c13_i32 : BitVec 32 := 13#32
  let v1637 : BitVec 32 := Scalar.addi v74 c13_i32
  let v1638 : Index := Scalar.indexCast v1637
  let c0_463 : Index := 0#32
  ![v1638.toNat, 0]
def k0_off250 (v1636 : BitVec 32) : Fin 2 → Nat :=
  let v1643 : Index := Scalar.indexCast v1636
  let c0_464 : Index := 0#32
  ![v1643.toNat, 0]

def k0_off251 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c13_i32_466 : BitVec 32 := 13#32
  let v1651 : BitVec 32 := Scalar.addi v74 c13_i32_466
  let v1652 : Index := Scalar.indexCast v1651
  let c16_467 : Index := 16#32
  ![v1652.toNat, 16]
def k0_off252 (v1636 : BitVec 32) : Fin 2 → Nat :=
  let v1657 : Index := Scalar.indexCast v1636
  let c16_468 : Index := 16#32
  ![v1657.toNat, 16]
def k0_off253 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c13_i32_470 : BitVec 32 := 13#32
  let v1665 : BitVec 32 := Scalar.addi v74 c13_i32_470
  let v1666 : Index := Scalar.indexCast v1665
  let c32_471 : Index := 32#32
  ![v1666.toNat, 32]
def k0_off254 (v1636 : BitVec 32) : Fin 2 → Nat :=
  let v1671 : Index := Scalar.indexCast v1636
  let c32_472 : Index := 32#32
  ![v1671.toNat, 32]
def k0_off255 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c13_i32_474 : BitVec 32 := 13#32
  let v1679 : BitVec 32 := Scalar.addi v74 c13_i32_474
  let v1680 : Index := Scalar.indexCast v1679
  let c48_475 : Index := 48#32
  ![v1680.toNat, 48]
def k0_off256 (v1636 : BitVec 32) : Fin 2 → Nat :=
  let v1685 : Index := Scalar.indexCast v1636
  let c48_476 : Index := 48#32
  ![v1685.toNat, 48]
def k0_off257 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c13_i32_478 : BitVec 32 := 13#32
  let v1693 : BitVec 32 := Scalar.addi v74 c13_i32_478
  let v1694 : Index := Scalar.indexCast v1693
  let c64_479 : Index := 64#32
  ![v1694.toNat, 64]
def k0_off258 (v1636 : BitVec 32) : Fin 2 → Nat :=
  let v1699 : Index := Scalar.indexCast v1636
  let c64_480 : Index := 64#32
  ![v1699.toNat, 64]
def k0_off259 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c13_i32_482 : BitVec 32 := 13#32
  let v1707 : BitVec 32 := Scalar.addi v74 c13_i32_482
  let v1708 : Index := Scalar.indexCast v1707
  let c80_483 : Index := 80#32
  ![v1708.toNat, 80]
def k0_off260 (v1636 : BitVec 32) : Fin 2 → Nat :=
  let v1713 : Index := Scalar.indexCast v1636
  let c80_484 : Index := 80#32
  ![v1713.toNat, 80]
def k0_off261 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c13_i32_486 : BitVec 32 := 13#32
  let v1721 : BitVec 32 := Scalar.addi v74 c13_i32_486
  let v1722 : Index := Scalar.indexCast v1721
  let c96_487 : Index := 96#32
  ![v1722.toNat, 96]
def k0_off262 (v1636 : BitVec 32) : Fin 2 → Nat :=
  let v1727 : Index := Scalar.indexCast v1636
  let c96_488 : Index := 96#32
  ![v1727.toNat, 96]
def k0_off263 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c13_i32_490 : BitVec 32 := 13#32
  let v1735 : BitVec 32 := Scalar.addi v74 c13_i32_490
  let v1736 : Index := Scalar.indexCast v1735
  let c112_491 : Index := 112#32
  ![v1736.toNat, 112]
def k0_off264 (v1636 : BitVec 32) : Fin 2 → Nat :=
  let v1741 : Index := Scalar.indexCast v1636
  let c112_492 : Index := 112#32
  ![v1741.toNat, 112]

def k0_chk15 (i : grid0.Coords) (k0_t2 : Fin k0_t2_loop.trips) (v80 : BitVec 32) (v82 : BitVec 32) (v1636 : BitVec 32) : Prop :=
  (∀ (k0_h4 : k0_cond4 i k0_t2 = 1#1), ∀ (k0_h6 : k0_cond6 v80 v82 = 1#1), ∀ a, (k0_off250 v1636) a + S1x16.size a ≤ S64x128.size a) ∧
  (∀ (k0_h4 : k0_cond4 i k0_t2 = 1#1), ∀ (k0_h6 : k0_cond6 v80 v82 = 1#1), ∀ a, (k0_off252 v1636) a + S1x16.size a ≤ S64x128.size a) ∧
  (∀ (k0_h4 : k0_cond4 i k0_t2 = 1#1), ∀ (k0_h6 : k0_cond6 v80 v82 = 1#1), ∀ a, (k0_off254 v1636) a + S1x16.size a ≤ S64x128.size a) ∧
  (∀ (k0_h4 : k0_cond4 i k0_t2 = 1#1), ∀ (k0_h6 : k0_cond6 v80 v82 = 1#1), ∀ a, (k0_off256 v1636) a + S1x16.size a ≤ S64x128.size a) ∧
  (∀ (k0_h4 : k0_cond4 i k0_t2 = 1#1), ∀ (k0_h6 : k0_cond6 v80 v82 = 1#1), ∀ a, (k0_off258 v1636) a + S1x16.size a ≤ S64x128.size a) ∧
  (∀ (k0_h4 : k0_cond4 i k0_t2 = 1#1), ∀ (k0_h6 : k0_cond6 v80 v82 = 1#1), ∀ a, (k0_off260 v1636) a + S1x16.size a ≤ S64x128.size a) ∧
  (∀ (k0_h4 : k0_cond4 i k0_t2 = 1#1), ∀ (k0_h6 : k0_cond6 v80 v82 = 1#1), ∀ a, (k0_off262 v1636) a + S1x16.size a ≤ S64x128.size a) ∧
  (∀ (k0_h4 : k0_cond4 i k0_t2 = 1#1), ∀ (k0_h6 : k0_cond6 v80 v82 = 1#1), ∀ a, (k0_off264 v1636) a + S1x16.size a ≤ S64x128.size a)
theorem k0_off250_inb : ∀ (i : grid0.Coords) (k0_t2 : Fin k0_t2_loop.trips) (v80 : BitVec 32) (v82 : BitVec 32) (v1636 : BitVec 32) (k0_hw15 : k0_chk15 i k0_t2 v80 v82 v1636), ∀ (k0_h4 : k0_cond4 i k0_t2 = 1#1), ∀ (k0_h6 : k0_cond6 v80 v82 = 1#1), ∀ a, (k0_off250 v1636) a + S1x16.size a ≤ S64x128.size a := fun i k0_t2 v80 v82 v1636 k0_hw15 k0_h4 k0_h6 => k0_hw15.1 k0_h4 k0_h6
theorem k0_off252_inb : ∀ (i : grid0.Coords) (k0_t2 : Fin k0_t2_loop.trips) (v80 : BitVec 32) (v82 : BitVec 32) (v1636 : BitVec 32) (k0_hw15 : k0_chk15 i k0_t2 v80 v82 v1636), ∀ (k0_h4 : k0_cond4 i k0_t2 = 1#1), ∀ (k0_h6 : k0_cond6 v80 v82 = 1#1), ∀ a, (k0_off252 v1636) a + S1x16.size a ≤ S64x128.size a := fun i k0_t2 v80 v82 v1636 k0_hw15 k0_h4 k0_h6 => k0_hw15.2.1 k0_h4 k0_h6
theorem k0_off254_inb : ∀ (i : grid0.Coords) (k0_t2 : Fin k0_t2_loop.trips) (v80 : BitVec 32) (v82 : BitVec 32) (v1636 : BitVec 32) (k0_hw15 : k0_chk15 i k0_t2 v80 v82 v1636), ∀ (k0_h4 : k0_cond4 i k0_t2 = 1#1), ∀ (k0_h6 : k0_cond6 v80 v82 = 1#1), ∀ a, (k0_off254 v1636) a + S1x16.size a ≤ S64x128.size a := fun i k0_t2 v80 v82 v1636 k0_hw15 k0_h4 k0_h6 => k0_hw15.2.2.1 k0_h4 k0_h6
theorem k0_off256_inb : ∀ (i : grid0.Coords) (k0_t2 : Fin k0_t2_loop.trips) (v80 : BitVec 32) (v82 : BitVec 32) (v1636 : BitVec 32) (k0_hw15 : k0_chk15 i k0_t2 v80 v82 v1636), ∀ (k0_h4 : k0_cond4 i k0_t2 = 1#1), ∀ (k0_h6 : k0_cond6 v80 v82 = 1#1), ∀ a, (k0_off256 v1636) a + S1x16.size a ≤ S64x128.size a := fun i k0_t2 v80 v82 v1636 k0_hw15 k0_h4 k0_h6 => k0_hw15.2.2.2.1 k0_h4 k0_h6
theorem k0_off258_inb : ∀ (i : grid0.Coords) (k0_t2 : Fin k0_t2_loop.trips) (v80 : BitVec 32) (v82 : BitVec 32) (v1636 : BitVec 32) (k0_hw15 : k0_chk15 i k0_t2 v80 v82 v1636), ∀ (k0_h4 : k0_cond4 i k0_t2 = 1#1), ∀ (k0_h6 : k0_cond6 v80 v82 = 1#1), ∀ a, (k0_off258 v1636) a + S1x16.size a ≤ S64x128.size a := fun i k0_t2 v80 v82 v1636 k0_hw15 k0_h4 k0_h6 => k0_hw15.2.2.2.2.1 k0_h4 k0_h6
theorem k0_off260_inb : ∀ (i : grid0.Coords) (k0_t2 : Fin k0_t2_loop.trips) (v80 : BitVec 32) (v82 : BitVec 32) (v1636 : BitVec 32) (k0_hw15 : k0_chk15 i k0_t2 v80 v82 v1636), ∀ (k0_h4 : k0_cond4 i k0_t2 = 1#1), ∀ (k0_h6 : k0_cond6 v80 v82 = 1#1), ∀ a, (k0_off260 v1636) a + S1x16.size a ≤ S64x128.size a := fun i k0_t2 v80 v82 v1636 k0_hw15 k0_h4 k0_h6 => k0_hw15.2.2.2.2.2.1 k0_h4 k0_h6
theorem k0_off262_inb : ∀ (i : grid0.Coords) (k0_t2 : Fin k0_t2_loop.trips) (v80 : BitVec 32) (v82 : BitVec 32) (v1636 : BitVec 32) (k0_hw15 : k0_chk15 i k0_t2 v80 v82 v1636), ∀ (k0_h4 : k0_cond4 i k0_t2 = 1#1), ∀ (k0_h6 : k0_cond6 v80 v82 = 1#1), ∀ a, (k0_off262 v1636) a + S1x16.size a ≤ S64x128.size a := fun i k0_t2 v80 v82 v1636 k0_hw15 k0_h4 k0_h6 => k0_hw15.2.2.2.2.2.2.1 k0_h4 k0_h6
theorem k0_off264_inb : ∀ (i : grid0.Coords) (k0_t2 : Fin k0_t2_loop.trips) (v80 : BitVec 32) (v82 : BitVec 32) (v1636 : BitVec 32) (k0_hw15 : k0_chk15 i k0_t2 v80 v82 v1636), ∀ (k0_h4 : k0_cond4 i k0_t2 = 1#1), ∀ (k0_h6 : k0_cond6 v80 v82 = 1#1), ∀ a, (k0_off264 v1636) a + S1x16.size a ≤ S64x128.size a := fun i k0_t2 v80 v82 v1636 k0_hw15 k0_h4 k0_h6 => k0_hw15.2.2.2.2.2.2.2 k0_h4 k0_h6

def k0_off265 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c14_i32 : BitVec 32 := 14#32
  let v1751 : BitVec 32 := Scalar.addi v74 c14_i32
  let v1752 : Index := Scalar.indexCast v1751
  let c0_494 : Index := 0#32
  ![v1752.toNat, 0]
def k0_off266 (v1750 : BitVec 32) : Fin 2 → Nat :=
  let v1757 : Index := Scalar.indexCast v1750
  let c0_495 : Index := 0#32
  ![v1757.toNat, 0]

def k0_off267 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c14_i32_497 : BitVec 32 := 14#32
  let v1765 : BitVec 32 := Scalar.addi v74 c14_i32_497
  let v1766 : Index := Scalar.indexCast v1765
  let c16_498 : Index := 16#32
  ![v1766.toNat, 16]
def k0_off268 (v1750 : BitVec 32) : Fin 2 → Nat :=
  let v1771 : Index := Scalar.indexCast v1750
  let c16_499 : Index := 16#32
  ![v1771.toNat, 16]
def k0_off269 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c14_i32_501 : BitVec 32 := 14#32
  let v1779 : BitVec 32 := Scalar.addi v74 c14_i32_501
  let v1780 : Index := Scalar.indexCast v1779
  let c32_502 : Index := 32#32
  ![v1780.toNat, 32]
def k0_off270 (v1750 : BitVec 32) : Fin 2 → Nat :=
  let v1785 : Index := Scalar.indexCast v1750
  let c32_503 : Index := 32#32
  ![v1785.toNat, 32]
def k0_off271 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c14_i32_505 : BitVec 32 := 14#32
  let v1793 : BitVec 32 := Scalar.addi v74 c14_i32_505
  let v1794 : Index := Scalar.indexCast v1793
  let c48_506 : Index := 48#32
  ![v1794.toNat, 48]
def k0_off272 (v1750 : BitVec 32) : Fin 2 → Nat :=
  let v1799 : Index := Scalar.indexCast v1750
  let c48_507 : Index := 48#32
  ![v1799.toNat, 48]
def k0_off273 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c14_i32_509 : BitVec 32 := 14#32
  let v1807 : BitVec 32 := Scalar.addi v74 c14_i32_509
  let v1808 : Index := Scalar.indexCast v1807
  let c64_510 : Index := 64#32
  ![v1808.toNat, 64]
def k0_off274 (v1750 : BitVec 32) : Fin 2 → Nat :=
  let v1813 : Index := Scalar.indexCast v1750
  let c64_511 : Index := 64#32
  ![v1813.toNat, 64]
def k0_off275 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c14_i32_513 : BitVec 32 := 14#32
  let v1821 : BitVec 32 := Scalar.addi v74 c14_i32_513
  let v1822 : Index := Scalar.indexCast v1821
  let c80_514 : Index := 80#32
  ![v1822.toNat, 80]
def k0_off276 (v1750 : BitVec 32) : Fin 2 → Nat :=
  let v1827 : Index := Scalar.indexCast v1750
  let c80_515 : Index := 80#32
  ![v1827.toNat, 80]
def k0_off277 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c14_i32_517 : BitVec 32 := 14#32
  let v1835 : BitVec 32 := Scalar.addi v74 c14_i32_517
  let v1836 : Index := Scalar.indexCast v1835
  let c96_518 : Index := 96#32
  ![v1836.toNat, 96]
def k0_off278 (v1750 : BitVec 32) : Fin 2 → Nat :=
  let v1841 : Index := Scalar.indexCast v1750
  let c96_519 : Index := 96#32
  ![v1841.toNat, 96]
def k0_off279 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c14_i32_521 : BitVec 32 := 14#32
  let v1849 : BitVec 32 := Scalar.addi v74 c14_i32_521
  let v1850 : Index := Scalar.indexCast v1849
  let c112_522 : Index := 112#32
  ![v1850.toNat, 112]
def k0_off280 (v1750 : BitVec 32) : Fin 2 → Nat :=
  let v1855 : Index := Scalar.indexCast v1750
  let c112_523 : Index := 112#32
  ![v1855.toNat, 112]

def k0_chk16 (i : grid0.Coords) (k0_t2 : Fin k0_t2_loop.trips) (v80 : BitVec 32) (v82 : BitVec 32) (v1750 : BitVec 32) : Prop :=
  (∀ (k0_h4 : k0_cond4 i k0_t2 = 1#1), ∀ (k0_h6 : k0_cond6 v80 v82 = 1#1), ∀ a, (k0_off266 v1750) a + S1x16.size a ≤ S64x128.size a) ∧
  (∀ (k0_h4 : k0_cond4 i k0_t2 = 1#1), ∀ (k0_h6 : k0_cond6 v80 v82 = 1#1), ∀ a, (k0_off268 v1750) a + S1x16.size a ≤ S64x128.size a) ∧
  (∀ (k0_h4 : k0_cond4 i k0_t2 = 1#1), ∀ (k0_h6 : k0_cond6 v80 v82 = 1#1), ∀ a, (k0_off270 v1750) a + S1x16.size a ≤ S64x128.size a) ∧
  (∀ (k0_h4 : k0_cond4 i k0_t2 = 1#1), ∀ (k0_h6 : k0_cond6 v80 v82 = 1#1), ∀ a, (k0_off272 v1750) a + S1x16.size a ≤ S64x128.size a) ∧
  (∀ (k0_h4 : k0_cond4 i k0_t2 = 1#1), ∀ (k0_h6 : k0_cond6 v80 v82 = 1#1), ∀ a, (k0_off274 v1750) a + S1x16.size a ≤ S64x128.size a) ∧
  (∀ (k0_h4 : k0_cond4 i k0_t2 = 1#1), ∀ (k0_h6 : k0_cond6 v80 v82 = 1#1), ∀ a, (k0_off276 v1750) a + S1x16.size a ≤ S64x128.size a) ∧
  (∀ (k0_h4 : k0_cond4 i k0_t2 = 1#1), ∀ (k0_h6 : k0_cond6 v80 v82 = 1#1), ∀ a, (k0_off278 v1750) a + S1x16.size a ≤ S64x128.size a) ∧
  (∀ (k0_h4 : k0_cond4 i k0_t2 = 1#1), ∀ (k0_h6 : k0_cond6 v80 v82 = 1#1), ∀ a, (k0_off280 v1750) a + S1x16.size a ≤ S64x128.size a)
theorem k0_off266_inb : ∀ (i : grid0.Coords) (k0_t2 : Fin k0_t2_loop.trips) (v80 : BitVec 32) (v82 : BitVec 32) (v1750 : BitVec 32) (k0_hw16 : k0_chk16 i k0_t2 v80 v82 v1750), ∀ (k0_h4 : k0_cond4 i k0_t2 = 1#1), ∀ (k0_h6 : k0_cond6 v80 v82 = 1#1), ∀ a, (k0_off266 v1750) a + S1x16.size a ≤ S64x128.size a := fun i k0_t2 v80 v82 v1750 k0_hw16 k0_h4 k0_h6 => k0_hw16.1 k0_h4 k0_h6
theorem k0_off268_inb : ∀ (i : grid0.Coords) (k0_t2 : Fin k0_t2_loop.trips) (v80 : BitVec 32) (v82 : BitVec 32) (v1750 : BitVec 32) (k0_hw16 : k0_chk16 i k0_t2 v80 v82 v1750), ∀ (k0_h4 : k0_cond4 i k0_t2 = 1#1), ∀ (k0_h6 : k0_cond6 v80 v82 = 1#1), ∀ a, (k0_off268 v1750) a + S1x16.size a ≤ S64x128.size a := fun i k0_t2 v80 v82 v1750 k0_hw16 k0_h4 k0_h6 => k0_hw16.2.1 k0_h4 k0_h6
theorem k0_off270_inb : ∀ (i : grid0.Coords) (k0_t2 : Fin k0_t2_loop.trips) (v80 : BitVec 32) (v82 : BitVec 32) (v1750 : BitVec 32) (k0_hw16 : k0_chk16 i k0_t2 v80 v82 v1750), ∀ (k0_h4 : k0_cond4 i k0_t2 = 1#1), ∀ (k0_h6 : k0_cond6 v80 v82 = 1#1), ∀ a, (k0_off270 v1750) a + S1x16.size a ≤ S64x128.size a := fun i k0_t2 v80 v82 v1750 k0_hw16 k0_h4 k0_h6 => k0_hw16.2.2.1 k0_h4 k0_h6
theorem k0_off272_inb : ∀ (i : grid0.Coords) (k0_t2 : Fin k0_t2_loop.trips) (v80 : BitVec 32) (v82 : BitVec 32) (v1750 : BitVec 32) (k0_hw16 : k0_chk16 i k0_t2 v80 v82 v1750), ∀ (k0_h4 : k0_cond4 i k0_t2 = 1#1), ∀ (k0_h6 : k0_cond6 v80 v82 = 1#1), ∀ a, (k0_off272 v1750) a + S1x16.size a ≤ S64x128.size a := fun i k0_t2 v80 v82 v1750 k0_hw16 k0_h4 k0_h6 => k0_hw16.2.2.2.1 k0_h4 k0_h6
theorem k0_off274_inb : ∀ (i : grid0.Coords) (k0_t2 : Fin k0_t2_loop.trips) (v80 : BitVec 32) (v82 : BitVec 32) (v1750 : BitVec 32) (k0_hw16 : k0_chk16 i k0_t2 v80 v82 v1750), ∀ (k0_h4 : k0_cond4 i k0_t2 = 1#1), ∀ (k0_h6 : k0_cond6 v80 v82 = 1#1), ∀ a, (k0_off274 v1750) a + S1x16.size a ≤ S64x128.size a := fun i k0_t2 v80 v82 v1750 k0_hw16 k0_h4 k0_h6 => k0_hw16.2.2.2.2.1 k0_h4 k0_h6
theorem k0_off276_inb : ∀ (i : grid0.Coords) (k0_t2 : Fin k0_t2_loop.trips) (v80 : BitVec 32) (v82 : BitVec 32) (v1750 : BitVec 32) (k0_hw16 : k0_chk16 i k0_t2 v80 v82 v1750), ∀ (k0_h4 : k0_cond4 i k0_t2 = 1#1), ∀ (k0_h6 : k0_cond6 v80 v82 = 1#1), ∀ a, (k0_off276 v1750) a + S1x16.size a ≤ S64x128.size a := fun i k0_t2 v80 v82 v1750 k0_hw16 k0_h4 k0_h6 => k0_hw16.2.2.2.2.2.1 k0_h4 k0_h6
theorem k0_off278_inb : ∀ (i : grid0.Coords) (k0_t2 : Fin k0_t2_loop.trips) (v80 : BitVec 32) (v82 : BitVec 32) (v1750 : BitVec 32) (k0_hw16 : k0_chk16 i k0_t2 v80 v82 v1750), ∀ (k0_h4 : k0_cond4 i k0_t2 = 1#1), ∀ (k0_h6 : k0_cond6 v80 v82 = 1#1), ∀ a, (k0_off278 v1750) a + S1x16.size a ≤ S64x128.size a := fun i k0_t2 v80 v82 v1750 k0_hw16 k0_h4 k0_h6 => k0_hw16.2.2.2.2.2.2.1 k0_h4 k0_h6
theorem k0_off280_inb : ∀ (i : grid0.Coords) (k0_t2 : Fin k0_t2_loop.trips) (v80 : BitVec 32) (v82 : BitVec 32) (v1750 : BitVec 32) (k0_hw16 : k0_chk16 i k0_t2 v80 v82 v1750), ∀ (k0_h4 : k0_cond4 i k0_t2 = 1#1), ∀ (k0_h6 : k0_cond6 v80 v82 = 1#1), ∀ a, (k0_off280 v1750) a + S1x16.size a ≤ S64x128.size a := fun i k0_t2 v80 v82 v1750 k0_hw16 k0_h4 k0_h6 => k0_hw16.2.2.2.2.2.2.2 k0_h4 k0_h6

def k0_off281 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c15_i32 : BitVec 32 := 15#32
  let v1865 : BitVec 32 := Scalar.addi v74 c15_i32
  let v1866 : Index := Scalar.indexCast v1865
  let c0_525 : Index := 0#32
  ![v1866.toNat, 0]
def k0_off282 (v1864 : BitVec 32) : Fin 2 → Nat :=
  let v1871 : Index := Scalar.indexCast v1864
  let c0_526 : Index := 0#32
  ![v1871.toNat, 0]

def k0_off283 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c15_i32_528 : BitVec 32 := 15#32
  let v1879 : BitVec 32 := Scalar.addi v74 c15_i32_528
  let v1880 : Index := Scalar.indexCast v1879
  let c16_529 : Index := 16#32
  ![v1880.toNat, 16]
def k0_off284 (v1864 : BitVec 32) : Fin 2 → Nat :=
  let v1885 : Index := Scalar.indexCast v1864
  let c16_530 : Index := 16#32
  ![v1885.toNat, 16]
def k0_off285 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c15_i32_532 : BitVec 32 := 15#32
  let v1893 : BitVec 32 := Scalar.addi v74 c15_i32_532
  let v1894 : Index := Scalar.indexCast v1893
  let c32_533 : Index := 32#32
  ![v1894.toNat, 32]
def k0_off286 (v1864 : BitVec 32) : Fin 2 → Nat :=
  let v1899 : Index := Scalar.indexCast v1864
  let c32_534 : Index := 32#32
  ![v1899.toNat, 32]
def k0_off287 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c15_i32_536 : BitVec 32 := 15#32
  let v1907 : BitVec 32 := Scalar.addi v74 c15_i32_536
  let v1908 : Index := Scalar.indexCast v1907
  let c48_537 : Index := 48#32
  ![v1908.toNat, 48]
def k0_off288 (v1864 : BitVec 32) : Fin 2 → Nat :=
  let v1913 : Index := Scalar.indexCast v1864
  let c48_538 : Index := 48#32
  ![v1913.toNat, 48]
def k0_off289 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c15_i32_540 : BitVec 32 := 15#32
  let v1921 : BitVec 32 := Scalar.addi v74 c15_i32_540
  let v1922 : Index := Scalar.indexCast v1921
  let c64_541 : Index := 64#32
  ![v1922.toNat, 64]
def k0_off290 (v1864 : BitVec 32) : Fin 2 → Nat :=
  let v1927 : Index := Scalar.indexCast v1864
  let c64_542 : Index := 64#32
  ![v1927.toNat, 64]
def k0_off291 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c15_i32_544 : BitVec 32 := 15#32
  let v1935 : BitVec 32 := Scalar.addi v74 c15_i32_544
  let v1936 : Index := Scalar.indexCast v1935
  let c80_545 : Index := 80#32
  ![v1936.toNat, 80]
def k0_off292 (v1864 : BitVec 32) : Fin 2 → Nat :=
  let v1941 : Index := Scalar.indexCast v1864
  let c80_546 : Index := 80#32
  ![v1941.toNat, 80]
def k0_off293 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c15_i32_548 : BitVec 32 := 15#32
  let v1949 : BitVec 32 := Scalar.addi v74 c15_i32_548
  let v1950 : Index := Scalar.indexCast v1949
  let c96_549 : Index := 96#32
  ![v1950.toNat, 96]
def k0_off294 (v1864 : BitVec 32) : Fin 2 → Nat :=
  let v1955 : Index := Scalar.indexCast v1864
  let c96_550 : Index := 96#32
  ![v1955.toNat, 96]
def k0_off295 (k0_t3 : Fin k0_t3_loop.trips) : Fin 2 → Nat :=
  let c0_i32_35 : BitVec 32 := 0#32
  let c1_i32_36 : BitVec 32 := 1#32
  let arg24 : BitVec 32 := Scf.iv c0_i32_35 c1_i32_36 k0_t3
  let c16_i32_38 : BitVec 32 := 16#32
  let v74 : BitVec 32 := Scalar.muli arg24 c16_i32_38
  let c15_i32_552 : BitVec 32 := 15#32
  let v1963 : BitVec 32 := Scalar.addi v74 c15_i32_552
  let v1964 : Index := Scalar.indexCast v1963
  let c112_553 : Index := 112#32
  ![v1964.toNat, 112]
def k0_off296 (v1864 : BitVec 32) : Fin 2 → Nat :=
  let v1969 : Index := Scalar.indexCast v1864
  let c112_554 : Index := 112#32
  ![v1969.toNat, 112]

def k0_chk17 (i : grid0.Coords) (k0_t2 : Fin k0_t2_loop.trips) (v80 : BitVec 32) (v82 : BitVec 32) (v1864 : BitVec 32) : Prop :=
  (∀ (k0_h4 : k0_cond4 i k0_t2 = 1#1), ∀ (k0_h6 : k0_cond6 v80 v82 = 1#1), ∀ a, (k0_off282 v1864) a + S1x16.size a ≤ S64x128.size a) ∧
  (∀ (k0_h4 : k0_cond4 i k0_t2 = 1#1), ∀ (k0_h6 : k0_cond6 v80 v82 = 1#1), ∀ a, (k0_off284 v1864) a + S1x16.size a ≤ S64x128.size a) ∧
  (∀ (k0_h4 : k0_cond4 i k0_t2 = 1#1), ∀ (k0_h6 : k0_cond6 v80 v82 = 1#1), ∀ a, (k0_off286 v1864) a + S1x16.size a ≤ S64x128.size a) ∧
  (∀ (k0_h4 : k0_cond4 i k0_t2 = 1#1), ∀ (k0_h6 : k0_cond6 v80 v82 = 1#1), ∀ a, (k0_off288 v1864) a + S1x16.size a ≤ S64x128.size a) ∧
  (∀ (k0_h4 : k0_cond4 i k0_t2 = 1#1), ∀ (k0_h6 : k0_cond6 v80 v82 = 1#1), ∀ a, (k0_off290 v1864) a + S1x16.size a ≤ S64x128.size a) ∧
  (∀ (k0_h4 : k0_cond4 i k0_t2 = 1#1), ∀ (k0_h6 : k0_cond6 v80 v82 = 1#1), ∀ a, (k0_off292 v1864) a + S1x16.size a ≤ S64x128.size a) ∧
  (∀ (k0_h4 : k0_cond4 i k0_t2 = 1#1), ∀ (k0_h6 : k0_cond6 v80 v82 = 1#1), ∀ a, (k0_off294 v1864) a + S1x16.size a ≤ S64x128.size a) ∧
  (∀ (k0_h4 : k0_cond4 i k0_t2 = 1#1), ∀ (k0_h6 : k0_cond6 v80 v82 = 1#1), ∀ a, (k0_off296 v1864) a + S1x16.size a ≤ S64x128.size a)
theorem k0_off282_inb : ∀ (i : grid0.Coords) (k0_t2 : Fin k0_t2_loop.trips) (v80 : BitVec 32) (v82 : BitVec 32) (v1864 : BitVec 32) (k0_hw17 : k0_chk17 i k0_t2 v80 v82 v1864), ∀ (k0_h4 : k0_cond4 i k0_t2 = 1#1), ∀ (k0_h6 : k0_cond6 v80 v82 = 1#1), ∀ a, (k0_off282 v1864) a + S1x16.size a ≤ S64x128.size a := fun i k0_t2 v80 v82 v1864 k0_hw17 k0_h4 k0_h6 => k0_hw17.1 k0_h4 k0_h6
theorem k0_off284_inb : ∀ (i : grid0.Coords) (k0_t2 : Fin k0_t2_loop.trips) (v80 : BitVec 32) (v82 : BitVec 32) (v1864 : BitVec 32) (k0_hw17 : k0_chk17 i k0_t2 v80 v82 v1864), ∀ (k0_h4 : k0_cond4 i k0_t2 = 1#1), ∀ (k0_h6 : k0_cond6 v80 v82 = 1#1), ∀ a, (k0_off284 v1864) a + S1x16.size a ≤ S64x128.size a := fun i k0_t2 v80 v82 v1864 k0_hw17 k0_h4 k0_h6 => k0_hw17.2.1 k0_h4 k0_h6
theorem k0_off286_inb : ∀ (i : grid0.Coords) (k0_t2 : Fin k0_t2_loop.trips) (v80 : BitVec 32) (v82 : BitVec 32) (v1864 : BitVec 32) (k0_hw17 : k0_chk17 i k0_t2 v80 v82 v1864), ∀ (k0_h4 : k0_cond4 i k0_t2 = 1#1), ∀ (k0_h6 : k0_cond6 v80 v82 = 1#1), ∀ a, (k0_off286 v1864) a + S1x16.size a ≤ S64x128.size a := fun i k0_t2 v80 v82 v1864 k0_hw17 k0_h4 k0_h6 => k0_hw17.2.2.1 k0_h4 k0_h6
theorem k0_off288_inb : ∀ (i : grid0.Coords) (k0_t2 : Fin k0_t2_loop.trips) (v80 : BitVec 32) (v82 : BitVec 32) (v1864 : BitVec 32) (k0_hw17 : k0_chk17 i k0_t2 v80 v82 v1864), ∀ (k0_h4 : k0_cond4 i k0_t2 = 1#1), ∀ (k0_h6 : k0_cond6 v80 v82 = 1#1), ∀ a, (k0_off288 v1864) a + S1x16.size a ≤ S64x128.size a := fun i k0_t2 v80 v82 v1864 k0_hw17 k0_h4 k0_h6 => k0_hw17.2.2.2.1 k0_h4 k0_h6
theorem k0_off290_inb : ∀ (i : grid0.Coords) (k0_t2 : Fin k0_t2_loop.trips) (v80 : BitVec 32) (v82 : BitVec 32) (v1864 : BitVec 32) (k0_hw17 : k0_chk17 i k0_t2 v80 v82 v1864), ∀ (k0_h4 : k0_cond4 i k0_t2 = 1#1), ∀ (k0_h6 : k0_cond6 v80 v82 = 1#1), ∀ a, (k0_off290 v1864) a + S1x16.size a ≤ S64x128.size a := fun i k0_t2 v80 v82 v1864 k0_hw17 k0_h4 k0_h6 => k0_hw17.2.2.2.2.1 k0_h4 k0_h6
theorem k0_off292_inb : ∀ (i : grid0.Coords) (k0_t2 : Fin k0_t2_loop.trips) (v80 : BitVec 32) (v82 : BitVec 32) (v1864 : BitVec 32) (k0_hw17 : k0_chk17 i k0_t2 v80 v82 v1864), ∀ (k0_h4 : k0_cond4 i k0_t2 = 1#1), ∀ (k0_h6 : k0_cond6 v80 v82 = 1#1), ∀ a, (k0_off292 v1864) a + S1x16.size a ≤ S64x128.size a := fun i k0_t2 v80 v82 v1864 k0_hw17 k0_h4 k0_h6 => k0_hw17.2.2.2.2.2.1 k0_h4 k0_h6
theorem k0_off294_inb : ∀ (i : grid0.Coords) (k0_t2 : Fin k0_t2_loop.trips) (v80 : BitVec 32) (v82 : BitVec 32) (v1864 : BitVec 32) (k0_hw17 : k0_chk17 i k0_t2 v80 v82 v1864), ∀ (k0_h4 : k0_cond4 i k0_t2 = 1#1), ∀ (k0_h6 : k0_cond6 v80 v82 = 1#1), ∀ a, (k0_off294 v1864) a + S1x16.size a ≤ S64x128.size a := fun i k0_t2 v80 v82 v1864 k0_hw17 k0_h4 k0_h6 => k0_hw17.2.2.2.2.2.2.1 k0_h4 k0_h6
theorem k0_off296_inb : ∀ (i : grid0.Coords) (k0_t2 : Fin k0_t2_loop.trips) (v80 : BitVec 32) (v82 : BitVec 32) (v1864 : BitVec 32) (k0_hw17 : k0_chk17 i k0_t2 v80 v82 v1864), ∀ (k0_h4 : k0_cond4 i k0_t2 = 1#1), ∀ (k0_h6 : k0_cond6 v80 v82 = 1#1), ∀ a, (k0_off296 v1864) a + S1x16.size a ≤ S64x128.size a := fun i k0_t2 v80 v82 v1864 k0_hw17 k0_h4 k0_h6 => k0_hw17.2.2.2.2.2.2.2 k0_h4 k0_h6

def k0_cond7 (i : grid0.Coords) (k0_t2 : Fin k0_t2_loop.trips) : BitVec 1 :=
  let arg1 : BitVec 32 := BitVec.ofNat 32 (i 1).val
  let c2_i32 : BitVec 32 := 2#32
  let c0_i32_6 : BitVec 32 := 0#32
  let c1_i32_7 : BitVec 32 := 1#32
  let arg22 : BitVec 32 := Scf.iv c0_i32_6 c1_i32_7 k0_t2
  let v37 : BitVec 32 := Scalar.muli c2_i32 arg22
  let c2_i32_21 : BitVec 32 := 2#32
  let v54 : BitVec 32 := Scalar.addi v37 c2_i32_21
  let c16_i32_22 : BitVec 32 := 16#32
  let v55 : BitVec 32 := Scalar.muli v54 c16_i32_22
  let v56 : BitVec 32 := Scalar.addi arg1 v55
  let c177_i32_23 : BitVec 32 := 177#32
  let v57 : BitVec 1 := Scalar.cmpi .slt v56 c177_i32_23
  let v58 : BitVec 32 := Scalar.extui v57
  let c0_i32_24 : BitVec 32 := 0#32
  let v59 : BitVec 1 := Scalar.cmpi .ne v58 c0_i32_24
  v59

def k0_mult5 (i : grid0.Coords) (k0_t2 : Fin k0_t2_loop.trips) : BitVec 32 :=
  let c35840_i32 : BitVec 32 := 35840#32
  let arg1 : BitVec 32 := BitVec.ofNat 32 (i 1).val
  let c2_i32 : BitVec 32 := 2#32
  let c0_i32_6 : BitVec 32 := 0#32
  let c1_i32_7 : BitVec 32 := 1#32
  let arg22 : BitVec 32 := Scf.iv c0_i32_6 c1_i32_7 k0_t2
  let v37 : BitVec 32 := Scalar.muli c2_i32 arg22
  let c2_i32_21 : BitVec 32 := 2#32
  let v54 : BitVec 32 := Scalar.addi v37 c2_i32_21
  let c16_i32_34 : BitVec 32 := 16#32
  let v72 : BitVec 32 := Scalar.muli v54 c16_i32_34
  let v73 : BitVec 32 := Scalar.addi arg1 v72
  let c80_i32 : BitVec 32 := 80#32
  let v74 : BitVec 32 := Scalar.muli v73 c80_i32
  let v75 : BitVec 32 := Scalar.addi c35840_i32 v74
  v75
def k0_mult6 (i : grid0.Coords) (k0_t2 : Fin k0_t2_loop.trips) : BitVec 32 :=
  let c35840_i32 : BitVec 32 := 35840#32
  let arg1 : BitVec 32 := BitVec.ofNat 32 (i 1).val
  let c2_i32 : BitVec 32 := 2#32
  let c0_i32_6 : BitVec 32 := 0#32
  let c1_i32_7 : BitVec 32 := 1#32
  let arg22 : BitVec 32 := Scf.iv c0_i32_6 c1_i32_7 k0_t2
  let v37 : BitVec 32 := Scalar.muli c2_i32 arg22
  let c2_i32_21 : BitVec 32 := 2#32
  let v54 : BitVec 32 := Scalar.addi v37 c2_i32_21
  let c16_i32_34 : BitVec 32 := 16#32
  let v72 : BitVec 32 := Scalar.muli v54 c16_i32_34
  let v73 : BitVec 32 := Scalar.addi arg1 v72
  let c80_i32 : BitVec 32 := 80#32
  let v74 : BitVec 32 := Scalar.muli v73 c80_i32
  let v75 : BitVec 32 := Scalar.addi c35840_i32 v74
  let v76 : BitVec 32 := v75
  let c0_i32_36 : BitVec 32 := 0#32
  let v78 : BitVec 1 := Scalar.cmpi .sgt v76 c0_i32_36
  let v79 : BitVec 32 := Scalar.extui v78
  let c0_i32_37 : BitVec 32 := 0#32
  let v80 : BitVec 1 := Scalar.cmpi .slt v76 c0_i32_37
  let v81 : BitVec 32 := Scalar.extui v80
  let v82 : BitVec 32 := Scalar.subi v79 v81
  let c2_i32_35 : BitVec 32 := 2#32
  let c0_i32_38 : BitVec 32 := 0#32
  let v83 : BitVec 1 := Scalar.cmpi .sgt c2_i32_35 c0_i32_38
  let v84 : BitVec 32 := Scalar.extui v83
  let c0_i32_39 : BitVec 32 := 0#32
  let v85 : BitVec 1 := Scalar.cmpi .slt c2_i32_35 c0_i32_39
  let v86 : BitVec 32 := Scalar.extui v85
  let v87 : BitVec 32 := Scalar.subi v84 v86
  let v88 : BitVec 1 := Scalar.cmpi .ne v82 v87
  let v89 : BitVec 32 := Scalar.remsi v76 c2_i32_35
  let c0_i32_40 : BitVec 32 := 0#32
  let v90 : BitVec 1 := Scalar.cmpi .ne v89 c0_i32_40
  let v91 : BitVec 1 := Scalar.andi v88 v90
  let v77 : BitVec 32 := Scalar.divsi v76 c2_i32_35
  let c1_i32_41 : BitVec 32 := 1#32
  let v92 : BitVec 32 := Scalar.subi v77 c1_i32_41
  let v93 : BitVec 32 := Scalar.select v91 v92 v77
  v93
def k0_off297 (i : grid0.Coords) (k0_t2 : Fin k0_t2_loop.trips) : Fin 2 → Nat :=
  let c35840_i32 : BitVec 32 := 35840#32
  let arg1 : BitVec 32 := BitVec.ofNat 32 (i 1).val
  let c2_i32 : BitVec 32 := 2#32
  let c0_i32_6 : BitVec 32 := 0#32
  let c1_i32_7 : BitVec 32 := 1#32
  let arg22 : BitVec 32 := Scf.iv c0_i32_6 c1_i32_7 k0_t2
  let v37 : BitVec 32 := Scalar.muli c2_i32 arg22
  let c2_i32_21 : BitVec 32 := 2#32
  let v54 : BitVec 32 := Scalar.addi v37 c2_i32_21
  let c16_i32_34 : BitVec 32 := 16#32
  let v72 : BitVec 32 := Scalar.muli v54 c16_i32_34
  let v73 : BitVec 32 := Scalar.addi arg1 v72
  let c80_i32 : BitVec 32 := 80#32
  let v74 : BitVec 32 := Scalar.muli v73 c80_i32
  let v75 : BitVec 32 := Scalar.addi c35840_i32 v74
  let v76 : BitVec 32 := v75
  let arg0 : BitVec 32 := BitVec.ofNat 32 (i 0).val
  let c128_i32 : BitVec 32 := 128#32
  let v0 : BitVec 32 := Scalar.muli arg0 c128_i32
  ![v76.toNat, v0.toNat]
def k0_off298 (i : grid0.Coords) (k0_t2 : Fin k0_t2_loop.trips) : Fin 2 → Nat :=
  let c35840_i32 : BitVec 32 := 35840#32
  let arg1 : BitVec 32 := BitVec.ofNat 32 (i 1).val
  let c2_i32 : BitVec 32 := 2#32
  let c0_i32_6 : BitVec 32 := 0#32
  let c1_i32_7 : BitVec 32 := 1#32
  let arg22 : BitVec 32 := Scf.iv c0_i32_6 c1_i32_7 k0_t2
  let v37 : BitVec 32 := Scalar.muli c2_i32 arg22
  let c2_i32_21 : BitVec 32 := 2#32
  let v54 : BitVec 32 := Scalar.addi v37 c2_i32_21
  let c16_i32_34 : BitVec 32 := 16#32
  let v72 : BitVec 32 := Scalar.muli v54 c16_i32_34
  let v73 : BitVec 32 := Scalar.addi arg1 v72
  let c80_i32 : BitVec 32 := 80#32
  let v74 : BitVec 32 := Scalar.muli v73 c80_i32
  let v75 : BitVec 32 := Scalar.addi c35840_i32 v74
  let v76 : BitVec 32 := v75
  let c0_i32_36 : BitVec 32 := 0#32
  let v78 : BitVec 1 := Scalar.cmpi .sgt v76 c0_i32_36
  let v79 : BitVec 32 := Scalar.extui v78
  let c0_i32_37 : BitVec 32 := 0#32
  let v80 : BitVec 1 := Scalar.cmpi .slt v76 c0_i32_37
  let v81 : BitVec 32 := Scalar.extui v80
  let v82 : BitVec 32 := Scalar.subi v79 v81
  let c2_i32_35 : BitVec 32 := 2#32
  let c0_i32_38 : BitVec 32 := 0#32
  let v83 : BitVec 1 := Scalar.cmpi .sgt c2_i32_35 c0_i32_38
  let v84 : BitVec 32 := Scalar.extui v83
  let c0_i32_39 : BitVec 32 := 0#32
  let v85 : BitVec 1 := Scalar.cmpi .slt c2_i32_35 c0_i32_39
  let v86 : BitVec 32 := Scalar.extui v85
  let v87 : BitVec 32 := Scalar.subi v84 v86
  let v88 : BitVec 1 := Scalar.cmpi .ne v82 v87
  let v89 : BitVec 32 := Scalar.remsi v76 c2_i32_35
  let c0_i32_40 : BitVec 32 := 0#32
  let v90 : BitVec 1 := Scalar.cmpi .ne v89 c0_i32_40
  let v91 : BitVec 1 := Scalar.andi v88 v90
  let v77 : BitVec 32 := Scalar.divsi v76 c2_i32_35
  let c1_i32_41 : BitVec 32 := 1#32
  let v92 : BitVec 32 := Scalar.subi v77 c1_i32_41
  let v93 : BitVec 32 := Scalar.select v91 v92 v77
  let v94 : BitVec 32 := v93
  let c0_i32_42 : BitVec 32 := 0#32
  ![v94.toNat, 0]
def k0_off299 (i : grid0.Coords) (k0_t2 : Fin k0_t2_loop.trips) : Fin 1 → Nat :=
  let c35840_i32 : BitVec 32 := 35840#32
  let arg1 : BitVec 32 := BitVec.ofNat 32 (i 1).val
  let c2_i32 : BitVec 32 := 2#32
  let c0_i32_6 : BitVec 32 := 0#32
  let c1_i32_7 : BitVec 32 := 1#32
  let arg22 : BitVec 32 := Scf.iv c0_i32_6 c1_i32_7 k0_t2
  let v37 : BitVec 32 := Scalar.muli c2_i32 arg22
  let c2_i32_21 : BitVec 32 := 2#32
  let v54 : BitVec 32 := Scalar.addi v37 c2_i32_21
  let c16_i32_34 : BitVec 32 := 16#32
  let v72 : BitVec 32 := Scalar.muli v54 c16_i32_34
  let v73 : BitVec 32 := Scalar.addi arg1 v72
  let c80_i32 : BitVec 32 := 80#32
  let v74 : BitVec 32 := Scalar.muli v73 c80_i32
  let v75 : BitVec 32 := Scalar.addi c35840_i32 v74
  let v76 : BitVec 32 := v75
  ![v76.toNat]
def k0_cond9 (i : grid0.Coords) (k0_t2 : Fin k0_t2_loop.trips) : BitVec 1 :=
  let arg1 : BitVec 32 := BitVec.ofNat 32 (i 1).val
  let c2_i32 : BitVec 32 := 2#32
  let c0_i32_6 : BitVec 32 := 0#32
  let c1_i32_7 : BitVec 32 := 1#32
  let arg22 : BitVec 32 := Scf.iv c0_i32_6 c1_i32_7 k0_t2
  let v37 : BitVec 32 := Scalar.muli c2_i32 arg22
  let c1_i32_29 : BitVec 32 := 1#32
  let v66 : BitVec 32 := Scalar.addi v37 c1_i32_29
  let c16_i32_30 : BitVec 32 := 16#32
  let v67 : BitVec 32 := Scalar.muli v66 c16_i32_30
  let v68 : BitVec 32 := Scalar.addi arg1 v67
  let c177_i32_31 : BitVec 32 := 177#32
  let v69 : BitVec 1 := Scalar.cmpi .slt v68 c177_i32_31
  let v70 : BitVec 32 := Scalar.extui v69
  let c0_i32_32 : BitVec 32 := 0#32
  let v71 : BitVec 1 := Scalar.cmpi .ne v70 c0_i32_32
  v71

@[reducible] def k0_t4_loop : Scf.Loop 32 :=
  let c0_i32_35 : BitVec 32 := 0#32
  let c5_i32 : BitVec 32 := 5#32
  let v72 : BitVec 32 := Scalar.addi c0_i32_35 c5_i32
  let c1_i32_36 : BitVec 32 := 1#32
  ⟨c0_i32_35, v72, c1_i32_36⟩
def k0_off300 (k0_t4 : Fin k0_t4_loop.trips) : Fin 1 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v76 : Index := Scalar.indexCast v74
  ![v76.toNat]
def k0_off301 (k0_t4 : Fin k0_t4_loop.trips) (c0_i32_39 : BitVec 32) : Fin 2 → Nat :=
  let c0_i32_35 : BitVec 32 := 0#32
  let c1_i32_36 : BitVec 32 := 1#32
  let arg24 : BitVec 32 := Scf.iv c0_i32_35 c1_i32_36 k0_t4
  let c8_i32 : BitVec 32 := 8#32
  let v75 : BitVec 32 := Scalar.muli arg24 c8_i32
  let v83 : BitVec 32 := Scalar.addi v75 c0_i32_39
  let v84 : Index := Scalar.indexCast v83
  let c0_40 : Index := 0#32
  ![v84.toNat, 0]
def k0_off302 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v153 : Index := Scalar.indexCast v74
  let c0_55 : Index := 0#32
  ![v153.toNat, 0]
def k0_off303 (k0_t4 : Fin k0_t4_loop.trips) (c1_i32_56 : BitVec 32) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v158 : BitVec 32 := Scalar.addi v74 c1_i32_56
  let v159 : Index := Scalar.indexCast v158
  let c0_57 : Index := 0#32
  ![v159.toNat, 0]
def k0_off304 (v80 : BitVec 32) : Fin 2 → Nat :=
  let v263 : Index := Scalar.indexCast v80
  let c0_79 : Index := 0#32
  ![v263.toNat, 0]
def k0_cond10 (v80 : BitVec 32) (v82 : BitVec 32) : BitVec 1 :=
  let v147 : BitVec 1 := Scalar.cmpi .eq v80 v82
  let v148 : BitVec 32 := Scalar.extui v147
  let c0_i32_52 : BitVec 32 := 0#32
  let v149 : BitVec 1 := Scalar.cmpi .ne v148 c0_i32_52
  v149

def k0_off305 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v271 : Index := Scalar.indexCast v74
  let c16_81 : Index := 16#32
  ![v271.toNat, 16]
def k0_off306 (k0_t4 : Fin k0_t4_loop.trips) (c1_i32_82 : BitVec 32) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v276 : BitVec 32 := Scalar.addi v74 c1_i32_82
  let v277 : Index := Scalar.indexCast v276
  let c16_83 : Index := 16#32
  ![v277.toNat, 16]
def k0_off307 (v80 : BitVec 32) : Fin 2 → Nat :=
  let v381 : Index := Scalar.indexCast v80
  let c16_112 : Index := 16#32
  ![v381.toNat, 16]
def k0_off308 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v389 : Index := Scalar.indexCast v74
  let c32_114 : Index := 32#32
  ![v389.toNat, 32]
def k0_off309 (k0_t4 : Fin k0_t4_loop.trips) (c1_i32_115 : BitVec 32) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v394 : BitVec 32 := Scalar.addi v74 c1_i32_115
  let v395 : Index := Scalar.indexCast v394
  let c32_116 : Index := 32#32
  ![v395.toNat, 32]
def k0_off310 (v80 : BitVec 32) : Fin 2 → Nat :=
  let v499 : Index := Scalar.indexCast v80
  let c32_145 : Index := 32#32
  ![v499.toNat, 32]
def k0_off311 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v507 : Index := Scalar.indexCast v74
  let c48_147 : Index := 48#32
  ![v507.toNat, 48]
def k0_off312 (k0_t4 : Fin k0_t4_loop.trips) (c1_i32_148 : BitVec 32) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v512 : BitVec 32 := Scalar.addi v74 c1_i32_148
  let v513 : Index := Scalar.indexCast v512
  let c48_149 : Index := 48#32
  ![v513.toNat, 48]
def k0_off313 (v80 : BitVec 32) : Fin 2 → Nat :=
  let v617 : Index := Scalar.indexCast v80
  let c48_178 : Index := 48#32
  ![v617.toNat, 48]
def k0_off314 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v625 : Index := Scalar.indexCast v74
  let c64 : Index := 64#32
  ![v625.toNat, 64]
def k0_off315 (k0_t4 : Fin k0_t4_loop.trips) (c1_i32_180 : BitVec 32) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v630 : BitVec 32 := Scalar.addi v74 c1_i32_180
  let v631 : Index := Scalar.indexCast v630
  let c64_181 : Index := 64#32
  ![v631.toNat, 64]
def k0_off316 (v80 : BitVec 32) : Fin 2 → Nat :=
  let v735 : Index := Scalar.indexCast v80
  let c64_210 : Index := 64#32
  ![v735.toNat, 64]
def k0_off317 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v743 : Index := Scalar.indexCast v74
  let c80 : Index := 80#32
  ![v743.toNat, 80]
def k0_off318 (k0_t4 : Fin k0_t4_loop.trips) (c1_i32_212 : BitVec 32) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v748 : BitVec 32 := Scalar.addi v74 c1_i32_212
  let v749 : Index := Scalar.indexCast v748
  let c80_213 : Index := 80#32
  ![v749.toNat, 80]
def k0_off319 (v80 : BitVec 32) : Fin 2 → Nat :=
  let v853 : Index := Scalar.indexCast v80
  let c80_242 : Index := 80#32
  ![v853.toNat, 80]
def k0_off320 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v861 : Index := Scalar.indexCast v74
  let c96 : Index := 96#32
  ![v861.toNat, 96]
def k0_off321 (k0_t4 : Fin k0_t4_loop.trips) (c1_i32_244 : BitVec 32) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v866 : BitVec 32 := Scalar.addi v74 c1_i32_244
  let v867 : Index := Scalar.indexCast v866
  let c96_245 : Index := 96#32
  ![v867.toNat, 96]
def k0_off322 (v80 : BitVec 32) : Fin 2 → Nat :=
  let v971 : Index := Scalar.indexCast v80
  let c96_274 : Index := 96#32
  ![v971.toNat, 96]
def k0_off323 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v979 : Index := Scalar.indexCast v74
  let c112 : Index := 112#32
  ![v979.toNat, 112]
def k0_off324 (k0_t4 : Fin k0_t4_loop.trips) (c1_i32_276 : BitVec 32) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let v984 : BitVec 32 := Scalar.addi v74 c1_i32_276
  let v985 : Index := Scalar.indexCast v984
  let c112_277 : Index := 112#32
  ![v985.toNat, 112]
def k0_off325 (v80 : BitVec 32) : Fin 2 → Nat :=
  let v1089 : Index := Scalar.indexCast v80
  let c112_306 : Index := 112#32
  ![v1089.toNat, 112]

def k0_chk18 (i : grid0.Coords) (k0_t2 : Fin k0_t2_loop.trips) (v80 : BitVec 32) (v82 : BitVec 32) : Prop :=
  (∀ (k0_h9 : k0_cond9 i k0_t2 = 1#1), ∀ (k0_h10 : k0_cond10 v80 v82 = 1#1), ∀ a, (k0_off304 v80) a + S1x16.size a ≤ S64x128.size a) ∧
  (∀ (k0_h9 : k0_cond9 i k0_t2 = 1#1), ∀ (k0_h10 : k0_cond10 v80 v82 = 1#1), ∀ a, (k0_off307 v80) a + S1x16.size a ≤ S64x128.size a) ∧
  (∀ (k0_h9 : k0_cond9 i k0_t2 = 1#1), ∀ (k0_h10 : k0_cond10 v80 v82 = 1#1), ∀ a, (k0_off310 v80) a + S1x16.size a ≤ S64x128.size a) ∧
  (∀ (k0_h9 : k0_cond9 i k0_t2 = 1#1), ∀ (k0_h10 : k0_cond10 v80 v82 = 1#1), ∀ a, (k0_off313 v80) a + S1x16.size a ≤ S64x128.size a) ∧
  (∀ (k0_h9 : k0_cond9 i k0_t2 = 1#1), ∀ (k0_h10 : k0_cond10 v80 v82 = 1#1), ∀ a, (k0_off316 v80) a + S1x16.size a ≤ S64x128.size a) ∧
  (∀ (k0_h9 : k0_cond9 i k0_t2 = 1#1), ∀ (k0_h10 : k0_cond10 v80 v82 = 1#1), ∀ a, (k0_off319 v80) a + S1x16.size a ≤ S64x128.size a) ∧
  (∀ (k0_h9 : k0_cond9 i k0_t2 = 1#1), ∀ (k0_h10 : k0_cond10 v80 v82 = 1#1), ∀ a, (k0_off322 v80) a + S1x16.size a ≤ S64x128.size a) ∧
  (∀ (k0_h9 : k0_cond9 i k0_t2 = 1#1), ∀ (k0_h10 : k0_cond10 v80 v82 = 1#1), ∀ a, (k0_off325 v80) a + S1x16.size a ≤ S64x128.size a)
theorem k0_off304_inb : ∀ (i : grid0.Coords) (k0_t2 : Fin k0_t2_loop.trips) (v80 : BitVec 32) (v82 : BitVec 32) (k0_hw18 : k0_chk18 i k0_t2 v80 v82), ∀ (k0_h9 : k0_cond9 i k0_t2 = 1#1), ∀ (k0_h10 : k0_cond10 v80 v82 = 1#1), ∀ a, (k0_off304 v80) a + S1x16.size a ≤ S64x128.size a := fun i k0_t2 v80 v82 k0_hw18 k0_h9 k0_h10 => k0_hw18.1 k0_h9 k0_h10
theorem k0_off307_inb : ∀ (i : grid0.Coords) (k0_t2 : Fin k0_t2_loop.trips) (v80 : BitVec 32) (v82 : BitVec 32) (k0_hw18 : k0_chk18 i k0_t2 v80 v82), ∀ (k0_h9 : k0_cond9 i k0_t2 = 1#1), ∀ (k0_h10 : k0_cond10 v80 v82 = 1#1), ∀ a, (k0_off307 v80) a + S1x16.size a ≤ S64x128.size a := fun i k0_t2 v80 v82 k0_hw18 k0_h9 k0_h10 => k0_hw18.2.1 k0_h9 k0_h10
theorem k0_off310_inb : ∀ (i : grid0.Coords) (k0_t2 : Fin k0_t2_loop.trips) (v80 : BitVec 32) (v82 : BitVec 32) (k0_hw18 : k0_chk18 i k0_t2 v80 v82), ∀ (k0_h9 : k0_cond9 i k0_t2 = 1#1), ∀ (k0_h10 : k0_cond10 v80 v82 = 1#1), ∀ a, (k0_off310 v80) a + S1x16.size a ≤ S64x128.size a := fun i k0_t2 v80 v82 k0_hw18 k0_h9 k0_h10 => k0_hw18.2.2.1 k0_h9 k0_h10
theorem k0_off313_inb : ∀ (i : grid0.Coords) (k0_t2 : Fin k0_t2_loop.trips) (v80 : BitVec 32) (v82 : BitVec 32) (k0_hw18 : k0_chk18 i k0_t2 v80 v82), ∀ (k0_h9 : k0_cond9 i k0_t2 = 1#1), ∀ (k0_h10 : k0_cond10 v80 v82 = 1#1), ∀ a, (k0_off313 v80) a + S1x16.size a ≤ S64x128.size a := fun i k0_t2 v80 v82 k0_hw18 k0_h9 k0_h10 => k0_hw18.2.2.2.1 k0_h9 k0_h10
theorem k0_off316_inb : ∀ (i : grid0.Coords) (k0_t2 : Fin k0_t2_loop.trips) (v80 : BitVec 32) (v82 : BitVec 32) (k0_hw18 : k0_chk18 i k0_t2 v80 v82), ∀ (k0_h9 : k0_cond9 i k0_t2 = 1#1), ∀ (k0_h10 : k0_cond10 v80 v82 = 1#1), ∀ a, (k0_off316 v80) a + S1x16.size a ≤ S64x128.size a := fun i k0_t2 v80 v82 k0_hw18 k0_h9 k0_h10 => k0_hw18.2.2.2.2.1 k0_h9 k0_h10
theorem k0_off319_inb : ∀ (i : grid0.Coords) (k0_t2 : Fin k0_t2_loop.trips) (v80 : BitVec 32) (v82 : BitVec 32) (k0_hw18 : k0_chk18 i k0_t2 v80 v82), ∀ (k0_h9 : k0_cond9 i k0_t2 = 1#1), ∀ (k0_h10 : k0_cond10 v80 v82 = 1#1), ∀ a, (k0_off319 v80) a + S1x16.size a ≤ S64x128.size a := fun i k0_t2 v80 v82 k0_hw18 k0_h9 k0_h10 => k0_hw18.2.2.2.2.2.1 k0_h9 k0_h10
theorem k0_off322_inb : ∀ (i : grid0.Coords) (k0_t2 : Fin k0_t2_loop.trips) (v80 : BitVec 32) (v82 : BitVec 32) (k0_hw18 : k0_chk18 i k0_t2 v80 v82), ∀ (k0_h9 : k0_cond9 i k0_t2 = 1#1), ∀ (k0_h10 : k0_cond10 v80 v82 = 1#1), ∀ a, (k0_off322 v80) a + S1x16.size a ≤ S64x128.size a := fun i k0_t2 v80 v82 k0_hw18 k0_h9 k0_h10 => k0_hw18.2.2.2.2.2.2.1 k0_h9 k0_h10
theorem k0_off325_inb : ∀ (i : grid0.Coords) (k0_t2 : Fin k0_t2_loop.trips) (v80 : BitVec 32) (v82 : BitVec 32) (k0_hw18 : k0_chk18 i k0_t2 v80 v82), ∀ (k0_h9 : k0_cond9 i k0_t2 = 1#1), ∀ (k0_h10 : k0_cond10 v80 v82 = 1#1), ∀ a, (k0_off325 v80) a + S1x16.size a ≤ S64x128.size a := fun i k0_t2 v80 v82 k0_hw18 k0_h9 k0_h10 => k0_hw18.2.2.2.2.2.2.2 k0_h9 k0_h10

def k0_off326 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c0_i32_55 : BitVec 32 := 0#32
  let v155 : BitVec 32 := Scalar.addi v74 c0_i32_55
  let v156 : Index := Scalar.indexCast v155
  let c0_56 : Index := 0#32
  ![v156.toNat, 0]
def k0_off327 (v154 : BitVec 32) : Fin 2 → Nat :=
  let v161 : Index := Scalar.indexCast v154
  let c0_57 : Index := 0#32
  ![v161.toNat, 0]
def k0_cond11 (v80 : BitVec 32) (v82 : BitVec 32) : BitVec 1 :=
  let v150 : BitVec 1 := Scalar.cmpi .ne v80 v82
  let v151 : BitVec 32 := Scalar.extui v150
  let c0_i32_53 : BitVec 32 := 0#32
  let v152 : BitVec 1 := Scalar.cmpi .ne v151 c0_i32_53
  v152

def k0_off328 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c0_i32_59 : BitVec 32 := 0#32
  let v169 : BitVec 32 := Scalar.addi v74 c0_i32_59
  let v170 : Index := Scalar.indexCast v169
  let c16_60 : Index := 16#32
  ![v170.toNat, 16]
def k0_off329 (v154 : BitVec 32) : Fin 2 → Nat :=
  let v175 : Index := Scalar.indexCast v154
  let c16_61 : Index := 16#32
  ![v175.toNat, 16]
def k0_off330 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c0_i32_63 : BitVec 32 := 0#32
  let v183 : BitVec 32 := Scalar.addi v74 c0_i32_63
  let v184 : Index := Scalar.indexCast v183
  let c32_64 : Index := 32#32
  ![v184.toNat, 32]
def k0_off331 (v154 : BitVec 32) : Fin 2 → Nat :=
  let v189 : Index := Scalar.indexCast v154
  let c32_65 : Index := 32#32
  ![v189.toNat, 32]
def k0_off332 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c0_i32_67 : BitVec 32 := 0#32
  let v197 : BitVec 32 := Scalar.addi v74 c0_i32_67
  let v198 : Index := Scalar.indexCast v197
  let c48_68 : Index := 48#32
  ![v198.toNat, 48]
def k0_off333 (v154 : BitVec 32) : Fin 2 → Nat :=
  let v203 : Index := Scalar.indexCast v154
  let c48_69 : Index := 48#32
  ![v203.toNat, 48]
def k0_off334 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c0_i32_71 : BitVec 32 := 0#32
  let v211 : BitVec 32 := Scalar.addi v74 c0_i32_71
  let v212 : Index := Scalar.indexCast v211
  let c64 : Index := 64#32
  ![v212.toNat, 64]
def k0_off335 (v154 : BitVec 32) : Fin 2 → Nat :=
  let v217 : Index := Scalar.indexCast v154
  let c64_72 : Index := 64#32
  ![v217.toNat, 64]
def k0_off336 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c0_i32_74 : BitVec 32 := 0#32
  let v225 : BitVec 32 := Scalar.addi v74 c0_i32_74
  let v226 : Index := Scalar.indexCast v225
  let c80 : Index := 80#32
  ![v226.toNat, 80]
def k0_off337 (v154 : BitVec 32) : Fin 2 → Nat :=
  let v231 : Index := Scalar.indexCast v154
  let c80_75 : Index := 80#32
  ![v231.toNat, 80]
def k0_off338 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c0_i32_77 : BitVec 32 := 0#32
  let v239 : BitVec 32 := Scalar.addi v74 c0_i32_77
  let v240 : Index := Scalar.indexCast v239
  let c96 : Index := 96#32
  ![v240.toNat, 96]
def k0_off339 (v154 : BitVec 32) : Fin 2 → Nat :=
  let v245 : Index := Scalar.indexCast v154
  let c96_78 : Index := 96#32
  ![v245.toNat, 96]
def k0_off340 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c0_i32_80 : BitVec 32 := 0#32
  let v253 : BitVec 32 := Scalar.addi v74 c0_i32_80
  let v254 : Index := Scalar.indexCast v253
  let c112 : Index := 112#32
  ![v254.toNat, 112]
def k0_off341 (v154 : BitVec 32) : Fin 2 → Nat :=
  let v259 : Index := Scalar.indexCast v154
  let c112_81 : Index := 112#32
  ![v259.toNat, 112]

def k0_chk19 (i : grid0.Coords) (k0_t2 : Fin k0_t2_loop.trips) (v80 : BitVec 32) (v82 : BitVec 32) (v154 : BitVec 32) : Prop :=
  (∀ (k0_h9 : k0_cond9 i k0_t2 = 1#1), ∀ (k0_h11 : k0_cond11 v80 v82 = 1#1), ∀ a, (k0_off327 v154) a + S1x16.size a ≤ S64x128.size a) ∧
  (∀ (k0_h9 : k0_cond9 i k0_t2 = 1#1), ∀ (k0_h11 : k0_cond11 v80 v82 = 1#1), ∀ a, (k0_off329 v154) a + S1x16.size a ≤ S64x128.size a) ∧
  (∀ (k0_h9 : k0_cond9 i k0_t2 = 1#1), ∀ (k0_h11 : k0_cond11 v80 v82 = 1#1), ∀ a, (k0_off331 v154) a + S1x16.size a ≤ S64x128.size a) ∧
  (∀ (k0_h9 : k0_cond9 i k0_t2 = 1#1), ∀ (k0_h11 : k0_cond11 v80 v82 = 1#1), ∀ a, (k0_off333 v154) a + S1x16.size a ≤ S64x128.size a) ∧
  (∀ (k0_h9 : k0_cond9 i k0_t2 = 1#1), ∀ (k0_h11 : k0_cond11 v80 v82 = 1#1), ∀ a, (k0_off335 v154) a + S1x16.size a ≤ S64x128.size a) ∧
  (∀ (k0_h9 : k0_cond9 i k0_t2 = 1#1), ∀ (k0_h11 : k0_cond11 v80 v82 = 1#1), ∀ a, (k0_off337 v154) a + S1x16.size a ≤ S64x128.size a) ∧
  (∀ (k0_h9 : k0_cond9 i k0_t2 = 1#1), ∀ (k0_h11 : k0_cond11 v80 v82 = 1#1), ∀ a, (k0_off339 v154) a + S1x16.size a ≤ S64x128.size a) ∧
  (∀ (k0_h9 : k0_cond9 i k0_t2 = 1#1), ∀ (k0_h11 : k0_cond11 v80 v82 = 1#1), ∀ a, (k0_off341 v154) a + S1x16.size a ≤ S64x128.size a)
theorem k0_off327_inb : ∀ (i : grid0.Coords) (k0_t2 : Fin k0_t2_loop.trips) (v80 : BitVec 32) (v82 : BitVec 32) (v154 : BitVec 32) (k0_hw19 : k0_chk19 i k0_t2 v80 v82 v154), ∀ (k0_h9 : k0_cond9 i k0_t2 = 1#1), ∀ (k0_h11 : k0_cond11 v80 v82 = 1#1), ∀ a, (k0_off327 v154) a + S1x16.size a ≤ S64x128.size a := fun i k0_t2 v80 v82 v154 k0_hw19 k0_h9 k0_h11 => k0_hw19.1 k0_h9 k0_h11
theorem k0_off329_inb : ∀ (i : grid0.Coords) (k0_t2 : Fin k0_t2_loop.trips) (v80 : BitVec 32) (v82 : BitVec 32) (v154 : BitVec 32) (k0_hw19 : k0_chk19 i k0_t2 v80 v82 v154), ∀ (k0_h9 : k0_cond9 i k0_t2 = 1#1), ∀ (k0_h11 : k0_cond11 v80 v82 = 1#1), ∀ a, (k0_off329 v154) a + S1x16.size a ≤ S64x128.size a := fun i k0_t2 v80 v82 v154 k0_hw19 k0_h9 k0_h11 => k0_hw19.2.1 k0_h9 k0_h11
theorem k0_off331_inb : ∀ (i : grid0.Coords) (k0_t2 : Fin k0_t2_loop.trips) (v80 : BitVec 32) (v82 : BitVec 32) (v154 : BitVec 32) (k0_hw19 : k0_chk19 i k0_t2 v80 v82 v154), ∀ (k0_h9 : k0_cond9 i k0_t2 = 1#1), ∀ (k0_h11 : k0_cond11 v80 v82 = 1#1), ∀ a, (k0_off331 v154) a + S1x16.size a ≤ S64x128.size a := fun i k0_t2 v80 v82 v154 k0_hw19 k0_h9 k0_h11 => k0_hw19.2.2.1 k0_h9 k0_h11
theorem k0_off333_inb : ∀ (i : grid0.Coords) (k0_t2 : Fin k0_t2_loop.trips) (v80 : BitVec 32) (v82 : BitVec 32) (v154 : BitVec 32) (k0_hw19 : k0_chk19 i k0_t2 v80 v82 v154), ∀ (k0_h9 : k0_cond9 i k0_t2 = 1#1), ∀ (k0_h11 : k0_cond11 v80 v82 = 1#1), ∀ a, (k0_off333 v154) a + S1x16.size a ≤ S64x128.size a := fun i k0_t2 v80 v82 v154 k0_hw19 k0_h9 k0_h11 => k0_hw19.2.2.2.1 k0_h9 k0_h11
theorem k0_off335_inb : ∀ (i : grid0.Coords) (k0_t2 : Fin k0_t2_loop.trips) (v80 : BitVec 32) (v82 : BitVec 32) (v154 : BitVec 32) (k0_hw19 : k0_chk19 i k0_t2 v80 v82 v154), ∀ (k0_h9 : k0_cond9 i k0_t2 = 1#1), ∀ (k0_h11 : k0_cond11 v80 v82 = 1#1), ∀ a, (k0_off335 v154) a + S1x16.size a ≤ S64x128.size a := fun i k0_t2 v80 v82 v154 k0_hw19 k0_h9 k0_h11 => k0_hw19.2.2.2.2.1 k0_h9 k0_h11
theorem k0_off337_inb : ∀ (i : grid0.Coords) (k0_t2 : Fin k0_t2_loop.trips) (v80 : BitVec 32) (v82 : BitVec 32) (v154 : BitVec 32) (k0_hw19 : k0_chk19 i k0_t2 v80 v82 v154), ∀ (k0_h9 : k0_cond9 i k0_t2 = 1#1), ∀ (k0_h11 : k0_cond11 v80 v82 = 1#1), ∀ a, (k0_off337 v154) a + S1x16.size a ≤ S64x128.size a := fun i k0_t2 v80 v82 v154 k0_hw19 k0_h9 k0_h11 => k0_hw19.2.2.2.2.2.1 k0_h9 k0_h11
theorem k0_off339_inb : ∀ (i : grid0.Coords) (k0_t2 : Fin k0_t2_loop.trips) (v80 : BitVec 32) (v82 : BitVec 32) (v154 : BitVec 32) (k0_hw19 : k0_chk19 i k0_t2 v80 v82 v154), ∀ (k0_h9 : k0_cond9 i k0_t2 = 1#1), ∀ (k0_h11 : k0_cond11 v80 v82 = 1#1), ∀ a, (k0_off339 v154) a + S1x16.size a ≤ S64x128.size a := fun i k0_t2 v80 v82 v154 k0_hw19 k0_h9 k0_h11 => k0_hw19.2.2.2.2.2.2.1 k0_h9 k0_h11
theorem k0_off341_inb : ∀ (i : grid0.Coords) (k0_t2 : Fin k0_t2_loop.trips) (v80 : BitVec 32) (v82 : BitVec 32) (v154 : BitVec 32) (k0_hw19 : k0_chk19 i k0_t2 v80 v82 v154), ∀ (k0_h9 : k0_cond9 i k0_t2 = 1#1), ∀ (k0_h11 : k0_cond11 v80 v82 = 1#1), ∀ a, (k0_off341 v154) a + S1x16.size a ≤ S64x128.size a := fun i k0_t2 v80 v82 v154 k0_hw19 k0_h9 k0_h11 => k0_hw19.2.2.2.2.2.2.2 k0_h9 k0_h11

def k0_off342 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c1_i32_83 : BitVec 32 := 1#32
  let v269 : BitVec 32 := Scalar.addi v74 c1_i32_83
  let v270 : Index := Scalar.indexCast v269
  let c0_84 : Index := 0#32
  ![v270.toNat, 0]
def k0_off343 (v268 : BitVec 32) : Fin 2 → Nat :=
  let v275 : Index := Scalar.indexCast v268
  let c0_85 : Index := 0#32
  ![v275.toNat, 0]

def k0_off344 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c1_i32_87 : BitVec 32 := 1#32
  let v283 : BitVec 32 := Scalar.addi v74 c1_i32_87
  let v284 : Index := Scalar.indexCast v283
  let c16_88 : Index := 16#32
  ![v284.toNat, 16]
def k0_off345 (v268 : BitVec 32) : Fin 2 → Nat :=
  let v289 : Index := Scalar.indexCast v268
  let c16_89 : Index := 16#32
  ![v289.toNat, 16]
def k0_off346 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c1_i32_91 : BitVec 32 := 1#32
  let v297 : BitVec 32 := Scalar.addi v74 c1_i32_91
  let v298 : Index := Scalar.indexCast v297
  let c32_92 : Index := 32#32
  ![v298.toNat, 32]
def k0_off347 (v268 : BitVec 32) : Fin 2 → Nat :=
  let v303 : Index := Scalar.indexCast v268
  let c32_93 : Index := 32#32
  ![v303.toNat, 32]
def k0_off348 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c1_i32_95 : BitVec 32 := 1#32
  let v311 : BitVec 32 := Scalar.addi v74 c1_i32_95
  let v312 : Index := Scalar.indexCast v311
  let c48_96 : Index := 48#32
  ![v312.toNat, 48]
def k0_off349 (v268 : BitVec 32) : Fin 2 → Nat :=
  let v317 : Index := Scalar.indexCast v268
  let c48_97 : Index := 48#32
  ![v317.toNat, 48]
def k0_off350 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c1_i32_99 : BitVec 32 := 1#32
  let v325 : BitVec 32 := Scalar.addi v74 c1_i32_99
  let v326 : Index := Scalar.indexCast v325
  let c64_100 : Index := 64#32
  ![v326.toNat, 64]
def k0_off351 (v268 : BitVec 32) : Fin 2 → Nat :=
  let v331 : Index := Scalar.indexCast v268
  let c64_101 : Index := 64#32
  ![v331.toNat, 64]
def k0_off352 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c1_i32_103 : BitVec 32 := 1#32
  let v339 : BitVec 32 := Scalar.addi v74 c1_i32_103
  let v340 : Index := Scalar.indexCast v339
  let c80_104 : Index := 80#32
  ![v340.toNat, 80]
def k0_off353 (v268 : BitVec 32) : Fin 2 → Nat :=
  let v345 : Index := Scalar.indexCast v268
  let c80_105 : Index := 80#32
  ![v345.toNat, 80]
def k0_off354 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c1_i32_107 : BitVec 32 := 1#32
  let v353 : BitVec 32 := Scalar.addi v74 c1_i32_107
  let v354 : Index := Scalar.indexCast v353
  let c96_108 : Index := 96#32
  ![v354.toNat, 96]
def k0_off355 (v268 : BitVec 32) : Fin 2 → Nat :=
  let v359 : Index := Scalar.indexCast v268
  let c96_109 : Index := 96#32
  ![v359.toNat, 96]
def k0_off356 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c1_i32_111 : BitVec 32 := 1#32
  let v367 : BitVec 32 := Scalar.addi v74 c1_i32_111
  let v368 : Index := Scalar.indexCast v367
  let c112_112 : Index := 112#32
  ![v368.toNat, 112]
def k0_off357 (v268 : BitVec 32) : Fin 2 → Nat :=
  let v373 : Index := Scalar.indexCast v268
  let c112_113 : Index := 112#32
  ![v373.toNat, 112]

def k0_chk20 (i : grid0.Coords) (k0_t2 : Fin k0_t2_loop.trips) (v80 : BitVec 32) (v82 : BitVec 32) (v268 : BitVec 32) : Prop :=
  (∀ (k0_h9 : k0_cond9 i k0_t2 = 1#1), ∀ (k0_h11 : k0_cond11 v80 v82 = 1#1), ∀ a, (k0_off343 v268) a + S1x16.size a ≤ S64x128.size a) ∧
  (∀ (k0_h9 : k0_cond9 i k0_t2 = 1#1), ∀ (k0_h11 : k0_cond11 v80 v82 = 1#1), ∀ a, (k0_off345 v268) a + S1x16.size a ≤ S64x128.size a) ∧
  (∀ (k0_h9 : k0_cond9 i k0_t2 = 1#1), ∀ (k0_h11 : k0_cond11 v80 v82 = 1#1), ∀ a, (k0_off347 v268) a + S1x16.size a ≤ S64x128.size a) ∧
  (∀ (k0_h9 : k0_cond9 i k0_t2 = 1#1), ∀ (k0_h11 : k0_cond11 v80 v82 = 1#1), ∀ a, (k0_off349 v268) a + S1x16.size a ≤ S64x128.size a) ∧
  (∀ (k0_h9 : k0_cond9 i k0_t2 = 1#1), ∀ (k0_h11 : k0_cond11 v80 v82 = 1#1), ∀ a, (k0_off351 v268) a + S1x16.size a ≤ S64x128.size a) ∧
  (∀ (k0_h9 : k0_cond9 i k0_t2 = 1#1), ∀ (k0_h11 : k0_cond11 v80 v82 = 1#1), ∀ a, (k0_off353 v268) a + S1x16.size a ≤ S64x128.size a) ∧
  (∀ (k0_h9 : k0_cond9 i k0_t2 = 1#1), ∀ (k0_h11 : k0_cond11 v80 v82 = 1#1), ∀ a, (k0_off355 v268) a + S1x16.size a ≤ S64x128.size a) ∧
  (∀ (k0_h9 : k0_cond9 i k0_t2 = 1#1), ∀ (k0_h11 : k0_cond11 v80 v82 = 1#1), ∀ a, (k0_off357 v268) a + S1x16.size a ≤ S64x128.size a)
theorem k0_off343_inb : ∀ (i : grid0.Coords) (k0_t2 : Fin k0_t2_loop.trips) (v80 : BitVec 32) (v82 : BitVec 32) (v268 : BitVec 32) (k0_hw20 : k0_chk20 i k0_t2 v80 v82 v268), ∀ (k0_h9 : k0_cond9 i k0_t2 = 1#1), ∀ (k0_h11 : k0_cond11 v80 v82 = 1#1), ∀ a, (k0_off343 v268) a + S1x16.size a ≤ S64x128.size a := fun i k0_t2 v80 v82 v268 k0_hw20 k0_h9 k0_h11 => k0_hw20.1 k0_h9 k0_h11
theorem k0_off345_inb : ∀ (i : grid0.Coords) (k0_t2 : Fin k0_t2_loop.trips) (v80 : BitVec 32) (v82 : BitVec 32) (v268 : BitVec 32) (k0_hw20 : k0_chk20 i k0_t2 v80 v82 v268), ∀ (k0_h9 : k0_cond9 i k0_t2 = 1#1), ∀ (k0_h11 : k0_cond11 v80 v82 = 1#1), ∀ a, (k0_off345 v268) a + S1x16.size a ≤ S64x128.size a := fun i k0_t2 v80 v82 v268 k0_hw20 k0_h9 k0_h11 => k0_hw20.2.1 k0_h9 k0_h11
theorem k0_off347_inb : ∀ (i : grid0.Coords) (k0_t2 : Fin k0_t2_loop.trips) (v80 : BitVec 32) (v82 : BitVec 32) (v268 : BitVec 32) (k0_hw20 : k0_chk20 i k0_t2 v80 v82 v268), ∀ (k0_h9 : k0_cond9 i k0_t2 = 1#1), ∀ (k0_h11 : k0_cond11 v80 v82 = 1#1), ∀ a, (k0_off347 v268) a + S1x16.size a ≤ S64x128.size a := fun i k0_t2 v80 v82 v268 k0_hw20 k0_h9 k0_h11 => k0_hw20.2.2.1 k0_h9 k0_h11
theorem k0_off349_inb : ∀ (i : grid0.Coords) (k0_t2 : Fin k0_t2_loop.trips) (v80 : BitVec 32) (v82 : BitVec 32) (v268 : BitVec 32) (k0_hw20 : k0_chk20 i k0_t2 v80 v82 v268), ∀ (k0_h9 : k0_cond9 i k0_t2 = 1#1), ∀ (k0_h11 : k0_cond11 v80 v82 = 1#1), ∀ a, (k0_off349 v268) a + S1x16.size a ≤ S64x128.size a := fun i k0_t2 v80 v82 v268 k0_hw20 k0_h9 k0_h11 => k0_hw20.2.2.2.1 k0_h9 k0_h11
theorem k0_off351_inb : ∀ (i : grid0.Coords) (k0_t2 : Fin k0_t2_loop.trips) (v80 : BitVec 32) (v82 : BitVec 32) (v268 : BitVec 32) (k0_hw20 : k0_chk20 i k0_t2 v80 v82 v268), ∀ (k0_h9 : k0_cond9 i k0_t2 = 1#1), ∀ (k0_h11 : k0_cond11 v80 v82 = 1#1), ∀ a, (k0_off351 v268) a + S1x16.size a ≤ S64x128.size a := fun i k0_t2 v80 v82 v268 k0_hw20 k0_h9 k0_h11 => k0_hw20.2.2.2.2.1 k0_h9 k0_h11
theorem k0_off353_inb : ∀ (i : grid0.Coords) (k0_t2 : Fin k0_t2_loop.trips) (v80 : BitVec 32) (v82 : BitVec 32) (v268 : BitVec 32) (k0_hw20 : k0_chk20 i k0_t2 v80 v82 v268), ∀ (k0_h9 : k0_cond9 i k0_t2 = 1#1), ∀ (k0_h11 : k0_cond11 v80 v82 = 1#1), ∀ a, (k0_off353 v268) a + S1x16.size a ≤ S64x128.size a := fun i k0_t2 v80 v82 v268 k0_hw20 k0_h9 k0_h11 => k0_hw20.2.2.2.2.2.1 k0_h9 k0_h11
theorem k0_off355_inb : ∀ (i : grid0.Coords) (k0_t2 : Fin k0_t2_loop.trips) (v80 : BitVec 32) (v82 : BitVec 32) (v268 : BitVec 32) (k0_hw20 : k0_chk20 i k0_t2 v80 v82 v268), ∀ (k0_h9 : k0_cond9 i k0_t2 = 1#1), ∀ (k0_h11 : k0_cond11 v80 v82 = 1#1), ∀ a, (k0_off355 v268) a + S1x16.size a ≤ S64x128.size a := fun i k0_t2 v80 v82 v268 k0_hw20 k0_h9 k0_h11 => k0_hw20.2.2.2.2.2.2.1 k0_h9 k0_h11
theorem k0_off357_inb : ∀ (i : grid0.Coords) (k0_t2 : Fin k0_t2_loop.trips) (v80 : BitVec 32) (v82 : BitVec 32) (v268 : BitVec 32) (k0_hw20 : k0_chk20 i k0_t2 v80 v82 v268), ∀ (k0_h9 : k0_cond9 i k0_t2 = 1#1), ∀ (k0_h11 : k0_cond11 v80 v82 = 1#1), ∀ a, (k0_off357 v268) a + S1x16.size a ≤ S64x128.size a := fun i k0_t2 v80 v82 v268 k0_hw20 k0_h9 k0_h11 => k0_hw20.2.2.2.2.2.2.2 k0_h9 k0_h11

def k0_off358 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c2_i32_115 : BitVec 32 := 2#32
  let v383 : BitVec 32 := Scalar.addi v74 c2_i32_115
  let v384 : Index := Scalar.indexCast v383
  let c0_116 : Index := 0#32
  ![v384.toNat, 0]
def k0_off359 (v382 : BitVec 32) : Fin 2 → Nat :=
  let v389 : Index := Scalar.indexCast v382
  let c0_117 : Index := 0#32
  ![v389.toNat, 0]

def k0_off360 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c2_i32_119 : BitVec 32 := 2#32
  let v397 : BitVec 32 := Scalar.addi v74 c2_i32_119
  let v398 : Index := Scalar.indexCast v397
  let c16_120 : Index := 16#32
  ![v398.toNat, 16]
def k0_off361 (v382 : BitVec 32) : Fin 2 → Nat :=
  let v403 : Index := Scalar.indexCast v382
  let c16_121 : Index := 16#32
  ![v403.toNat, 16]
def k0_off362 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c2_i32_123 : BitVec 32 := 2#32
  let v411 : BitVec 32 := Scalar.addi v74 c2_i32_123
  let v412 : Index := Scalar.indexCast v411
  let c32_124 : Index := 32#32
  ![v412.toNat, 32]
def k0_off363 (v382 : BitVec 32) : Fin 2 → Nat :=
  let v417 : Index := Scalar.indexCast v382
  let c32_125 : Index := 32#32
  ![v417.toNat, 32]
def k0_off364 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c2_i32_127 : BitVec 32 := 2#32
  let v425 : BitVec 32 := Scalar.addi v74 c2_i32_127
  let v426 : Index := Scalar.indexCast v425
  let c48_128 : Index := 48#32
  ![v426.toNat, 48]
def k0_off365 (v382 : BitVec 32) : Fin 2 → Nat :=
  let v431 : Index := Scalar.indexCast v382
  let c48_129 : Index := 48#32
  ![v431.toNat, 48]
def k0_off366 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c2_i32_131 : BitVec 32 := 2#32
  let v439 : BitVec 32 := Scalar.addi v74 c2_i32_131
  let v440 : Index := Scalar.indexCast v439
  let c64_132 : Index := 64#32
  ![v440.toNat, 64]
def k0_off367 (v382 : BitVec 32) : Fin 2 → Nat :=
  let v445 : Index := Scalar.indexCast v382
  let c64_133 : Index := 64#32
  ![v445.toNat, 64]
def k0_off368 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c2_i32_135 : BitVec 32 := 2#32
  let v453 : BitVec 32 := Scalar.addi v74 c2_i32_135
  let v454 : Index := Scalar.indexCast v453
  let c80_136 : Index := 80#32
  ![v454.toNat, 80]
def k0_off369 (v382 : BitVec 32) : Fin 2 → Nat :=
  let v459 : Index := Scalar.indexCast v382
  let c80_137 : Index := 80#32
  ![v459.toNat, 80]
def k0_off370 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c2_i32_139 : BitVec 32 := 2#32
  let v467 : BitVec 32 := Scalar.addi v74 c2_i32_139
  let v468 : Index := Scalar.indexCast v467
  let c96_140 : Index := 96#32
  ![v468.toNat, 96]
def k0_off371 (v382 : BitVec 32) : Fin 2 → Nat :=
  let v473 : Index := Scalar.indexCast v382
  let c96_141 : Index := 96#32
  ![v473.toNat, 96]
def k0_off372 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c2_i32_143 : BitVec 32 := 2#32
  let v481 : BitVec 32 := Scalar.addi v74 c2_i32_143
  let v482 : Index := Scalar.indexCast v481
  let c112_144 : Index := 112#32
  ![v482.toNat, 112]
def k0_off373 (v382 : BitVec 32) : Fin 2 → Nat :=
  let v487 : Index := Scalar.indexCast v382
  let c112_145 : Index := 112#32
  ![v487.toNat, 112]

def k0_chk21 (i : grid0.Coords) (k0_t2 : Fin k0_t2_loop.trips) (v80 : BitVec 32) (v82 : BitVec 32) (v382 : BitVec 32) : Prop :=
  (∀ (k0_h9 : k0_cond9 i k0_t2 = 1#1), ∀ (k0_h11 : k0_cond11 v80 v82 = 1#1), ∀ a, (k0_off359 v382) a + S1x16.size a ≤ S64x128.size a) ∧
  (∀ (k0_h9 : k0_cond9 i k0_t2 = 1#1), ∀ (k0_h11 : k0_cond11 v80 v82 = 1#1), ∀ a, (k0_off361 v382) a + S1x16.size a ≤ S64x128.size a) ∧
  (∀ (k0_h9 : k0_cond9 i k0_t2 = 1#1), ∀ (k0_h11 : k0_cond11 v80 v82 = 1#1), ∀ a, (k0_off363 v382) a + S1x16.size a ≤ S64x128.size a) ∧
  (∀ (k0_h9 : k0_cond9 i k0_t2 = 1#1), ∀ (k0_h11 : k0_cond11 v80 v82 = 1#1), ∀ a, (k0_off365 v382) a + S1x16.size a ≤ S64x128.size a) ∧
  (∀ (k0_h9 : k0_cond9 i k0_t2 = 1#1), ∀ (k0_h11 : k0_cond11 v80 v82 = 1#1), ∀ a, (k0_off367 v382) a + S1x16.size a ≤ S64x128.size a) ∧
  (∀ (k0_h9 : k0_cond9 i k0_t2 = 1#1), ∀ (k0_h11 : k0_cond11 v80 v82 = 1#1), ∀ a, (k0_off369 v382) a + S1x16.size a ≤ S64x128.size a) ∧
  (∀ (k0_h9 : k0_cond9 i k0_t2 = 1#1), ∀ (k0_h11 : k0_cond11 v80 v82 = 1#1), ∀ a, (k0_off371 v382) a + S1x16.size a ≤ S64x128.size a) ∧
  (∀ (k0_h9 : k0_cond9 i k0_t2 = 1#1), ∀ (k0_h11 : k0_cond11 v80 v82 = 1#1), ∀ a, (k0_off373 v382) a + S1x16.size a ≤ S64x128.size a)
theorem k0_off359_inb : ∀ (i : grid0.Coords) (k0_t2 : Fin k0_t2_loop.trips) (v80 : BitVec 32) (v82 : BitVec 32) (v382 : BitVec 32) (k0_hw21 : k0_chk21 i k0_t2 v80 v82 v382), ∀ (k0_h9 : k0_cond9 i k0_t2 = 1#1), ∀ (k0_h11 : k0_cond11 v80 v82 = 1#1), ∀ a, (k0_off359 v382) a + S1x16.size a ≤ S64x128.size a := fun i k0_t2 v80 v82 v382 k0_hw21 k0_h9 k0_h11 => k0_hw21.1 k0_h9 k0_h11
theorem k0_off361_inb : ∀ (i : grid0.Coords) (k0_t2 : Fin k0_t2_loop.trips) (v80 : BitVec 32) (v82 : BitVec 32) (v382 : BitVec 32) (k0_hw21 : k0_chk21 i k0_t2 v80 v82 v382), ∀ (k0_h9 : k0_cond9 i k0_t2 = 1#1), ∀ (k0_h11 : k0_cond11 v80 v82 = 1#1), ∀ a, (k0_off361 v382) a + S1x16.size a ≤ S64x128.size a := fun i k0_t2 v80 v82 v382 k0_hw21 k0_h9 k0_h11 => k0_hw21.2.1 k0_h9 k0_h11
theorem k0_off363_inb : ∀ (i : grid0.Coords) (k0_t2 : Fin k0_t2_loop.trips) (v80 : BitVec 32) (v82 : BitVec 32) (v382 : BitVec 32) (k0_hw21 : k0_chk21 i k0_t2 v80 v82 v382), ∀ (k0_h9 : k0_cond9 i k0_t2 = 1#1), ∀ (k0_h11 : k0_cond11 v80 v82 = 1#1), ∀ a, (k0_off363 v382) a + S1x16.size a ≤ S64x128.size a := fun i k0_t2 v80 v82 v382 k0_hw21 k0_h9 k0_h11 => k0_hw21.2.2.1 k0_h9 k0_h11
theorem k0_off365_inb : ∀ (i : grid0.Coords) (k0_t2 : Fin k0_t2_loop.trips) (v80 : BitVec 32) (v82 : BitVec 32) (v382 : BitVec 32) (k0_hw21 : k0_chk21 i k0_t2 v80 v82 v382), ∀ (k0_h9 : k0_cond9 i k0_t2 = 1#1), ∀ (k0_h11 : k0_cond11 v80 v82 = 1#1), ∀ a, (k0_off365 v382) a + S1x16.size a ≤ S64x128.size a := fun i k0_t2 v80 v82 v382 k0_hw21 k0_h9 k0_h11 => k0_hw21.2.2.2.1 k0_h9 k0_h11
theorem k0_off367_inb : ∀ (i : grid0.Coords) (k0_t2 : Fin k0_t2_loop.trips) (v80 : BitVec 32) (v82 : BitVec 32) (v382 : BitVec 32) (k0_hw21 : k0_chk21 i k0_t2 v80 v82 v382), ∀ (k0_h9 : k0_cond9 i k0_t2 = 1#1), ∀ (k0_h11 : k0_cond11 v80 v82 = 1#1), ∀ a, (k0_off367 v382) a + S1x16.size a ≤ S64x128.size a := fun i k0_t2 v80 v82 v382 k0_hw21 k0_h9 k0_h11 => k0_hw21.2.2.2.2.1 k0_h9 k0_h11
theorem k0_off369_inb : ∀ (i : grid0.Coords) (k0_t2 : Fin k0_t2_loop.trips) (v80 : BitVec 32) (v82 : BitVec 32) (v382 : BitVec 32) (k0_hw21 : k0_chk21 i k0_t2 v80 v82 v382), ∀ (k0_h9 : k0_cond9 i k0_t2 = 1#1), ∀ (k0_h11 : k0_cond11 v80 v82 = 1#1), ∀ a, (k0_off369 v382) a + S1x16.size a ≤ S64x128.size a := fun i k0_t2 v80 v82 v382 k0_hw21 k0_h9 k0_h11 => k0_hw21.2.2.2.2.2.1 k0_h9 k0_h11
theorem k0_off371_inb : ∀ (i : grid0.Coords) (k0_t2 : Fin k0_t2_loop.trips) (v80 : BitVec 32) (v82 : BitVec 32) (v382 : BitVec 32) (k0_hw21 : k0_chk21 i k0_t2 v80 v82 v382), ∀ (k0_h9 : k0_cond9 i k0_t2 = 1#1), ∀ (k0_h11 : k0_cond11 v80 v82 = 1#1), ∀ a, (k0_off371 v382) a + S1x16.size a ≤ S64x128.size a := fun i k0_t2 v80 v82 v382 k0_hw21 k0_h9 k0_h11 => k0_hw21.2.2.2.2.2.2.1 k0_h9 k0_h11
theorem k0_off373_inb : ∀ (i : grid0.Coords) (k0_t2 : Fin k0_t2_loop.trips) (v80 : BitVec 32) (v82 : BitVec 32) (v382 : BitVec 32) (k0_hw21 : k0_chk21 i k0_t2 v80 v82 v382), ∀ (k0_h9 : k0_cond9 i k0_t2 = 1#1), ∀ (k0_h11 : k0_cond11 v80 v82 = 1#1), ∀ a, (k0_off373 v382) a + S1x16.size a ≤ S64x128.size a := fun i k0_t2 v80 v82 v382 k0_hw21 k0_h9 k0_h11 => k0_hw21.2.2.2.2.2.2.2 k0_h9 k0_h11

def k0_off374 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c3_i32_147 : BitVec 32 := 3#32
  let v497 : BitVec 32 := Scalar.addi v74 c3_i32_147
  let v498 : Index := Scalar.indexCast v497
  let c0_148 : Index := 0#32
  ![v498.toNat, 0]
def k0_off375 (v496 : BitVec 32) : Fin 2 → Nat :=
  let v503 : Index := Scalar.indexCast v496
  let c0_149 : Index := 0#32
  ![v503.toNat, 0]

def k0_off376 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c3_i32_151 : BitVec 32 := 3#32
  let v511 : BitVec 32 := Scalar.addi v74 c3_i32_151
  let v512 : Index := Scalar.indexCast v511
  let c16_152 : Index := 16#32
  ![v512.toNat, 16]
def k0_off377 (v496 : BitVec 32) : Fin 2 → Nat :=
  let v517 : Index := Scalar.indexCast v496
  let c16_153 : Index := 16#32
  ![v517.toNat, 16]
def k0_off378 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c3_i32_155 : BitVec 32 := 3#32
  let v525 : BitVec 32 := Scalar.addi v74 c3_i32_155
  let v526 : Index := Scalar.indexCast v525
  let c32_156 : Index := 32#32
  ![v526.toNat, 32]
def k0_off379 (v496 : BitVec 32) : Fin 2 → Nat :=
  let v531 : Index := Scalar.indexCast v496
  let c32_157 : Index := 32#32
  ![v531.toNat, 32]
def k0_off380 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c3_i32_159 : BitVec 32 := 3#32
  let v539 : BitVec 32 := Scalar.addi v74 c3_i32_159
  let v540 : Index := Scalar.indexCast v539
  let c48_160 : Index := 48#32
  ![v540.toNat, 48]
def k0_off381 (v496 : BitVec 32) : Fin 2 → Nat :=
  let v545 : Index := Scalar.indexCast v496
  let c48_161 : Index := 48#32
  ![v545.toNat, 48]
def k0_off382 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c3_i32_163 : BitVec 32 := 3#32
  let v553 : BitVec 32 := Scalar.addi v74 c3_i32_163
  let v554 : Index := Scalar.indexCast v553
  let c64_164 : Index := 64#32
  ![v554.toNat, 64]
def k0_off383 (v496 : BitVec 32) : Fin 2 → Nat :=
  let v559 : Index := Scalar.indexCast v496
  let c64_165 : Index := 64#32
  ![v559.toNat, 64]
def k0_off384 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c3_i32_167 : BitVec 32 := 3#32
  let v567 : BitVec 32 := Scalar.addi v74 c3_i32_167
  let v568 : Index := Scalar.indexCast v567
  let c80_168 : Index := 80#32
  ![v568.toNat, 80]
def k0_off385 (v496 : BitVec 32) : Fin 2 → Nat :=
  let v573 : Index := Scalar.indexCast v496
  let c80_169 : Index := 80#32
  ![v573.toNat, 80]
def k0_off386 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c3_i32_171 : BitVec 32 := 3#32
  let v581 : BitVec 32 := Scalar.addi v74 c3_i32_171
  let v582 : Index := Scalar.indexCast v581
  let c96_172 : Index := 96#32
  ![v582.toNat, 96]
def k0_off387 (v496 : BitVec 32) : Fin 2 → Nat :=
  let v587 : Index := Scalar.indexCast v496
  let c96_173 : Index := 96#32
  ![v587.toNat, 96]
def k0_off388 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c3_i32_175 : BitVec 32 := 3#32
  let v595 : BitVec 32 := Scalar.addi v74 c3_i32_175
  let v596 : Index := Scalar.indexCast v595
  let c112_176 : Index := 112#32
  ![v596.toNat, 112]
def k0_off389 (v496 : BitVec 32) : Fin 2 → Nat :=
  let v601 : Index := Scalar.indexCast v496
  let c112_177 : Index := 112#32
  ![v601.toNat, 112]

def k0_chk22 (i : grid0.Coords) (k0_t2 : Fin k0_t2_loop.trips) (v80 : BitVec 32) (v82 : BitVec 32) (v496 : BitVec 32) : Prop :=
  (∀ (k0_h9 : k0_cond9 i k0_t2 = 1#1), ∀ (k0_h11 : k0_cond11 v80 v82 = 1#1), ∀ a, (k0_off375 v496) a + S1x16.size a ≤ S64x128.size a) ∧
  (∀ (k0_h9 : k0_cond9 i k0_t2 = 1#1), ∀ (k0_h11 : k0_cond11 v80 v82 = 1#1), ∀ a, (k0_off377 v496) a + S1x16.size a ≤ S64x128.size a) ∧
  (∀ (k0_h9 : k0_cond9 i k0_t2 = 1#1), ∀ (k0_h11 : k0_cond11 v80 v82 = 1#1), ∀ a, (k0_off379 v496) a + S1x16.size a ≤ S64x128.size a) ∧
  (∀ (k0_h9 : k0_cond9 i k0_t2 = 1#1), ∀ (k0_h11 : k0_cond11 v80 v82 = 1#1), ∀ a, (k0_off381 v496) a + S1x16.size a ≤ S64x128.size a) ∧
  (∀ (k0_h9 : k0_cond9 i k0_t2 = 1#1), ∀ (k0_h11 : k0_cond11 v80 v82 = 1#1), ∀ a, (k0_off383 v496) a + S1x16.size a ≤ S64x128.size a) ∧
  (∀ (k0_h9 : k0_cond9 i k0_t2 = 1#1), ∀ (k0_h11 : k0_cond11 v80 v82 = 1#1), ∀ a, (k0_off385 v496) a + S1x16.size a ≤ S64x128.size a) ∧
  (∀ (k0_h9 : k0_cond9 i k0_t2 = 1#1), ∀ (k0_h11 : k0_cond11 v80 v82 = 1#1), ∀ a, (k0_off387 v496) a + S1x16.size a ≤ S64x128.size a) ∧
  (∀ (k0_h9 : k0_cond9 i k0_t2 = 1#1), ∀ (k0_h11 : k0_cond11 v80 v82 = 1#1), ∀ a, (k0_off389 v496) a + S1x16.size a ≤ S64x128.size a)
theorem k0_off375_inb : ∀ (i : grid0.Coords) (k0_t2 : Fin k0_t2_loop.trips) (v80 : BitVec 32) (v82 : BitVec 32) (v496 : BitVec 32) (k0_hw22 : k0_chk22 i k0_t2 v80 v82 v496), ∀ (k0_h9 : k0_cond9 i k0_t2 = 1#1), ∀ (k0_h11 : k0_cond11 v80 v82 = 1#1), ∀ a, (k0_off375 v496) a + S1x16.size a ≤ S64x128.size a := fun i k0_t2 v80 v82 v496 k0_hw22 k0_h9 k0_h11 => k0_hw22.1 k0_h9 k0_h11
theorem k0_off377_inb : ∀ (i : grid0.Coords) (k0_t2 : Fin k0_t2_loop.trips) (v80 : BitVec 32) (v82 : BitVec 32) (v496 : BitVec 32) (k0_hw22 : k0_chk22 i k0_t2 v80 v82 v496), ∀ (k0_h9 : k0_cond9 i k0_t2 = 1#1), ∀ (k0_h11 : k0_cond11 v80 v82 = 1#1), ∀ a, (k0_off377 v496) a + S1x16.size a ≤ S64x128.size a := fun i k0_t2 v80 v82 v496 k0_hw22 k0_h9 k0_h11 => k0_hw22.2.1 k0_h9 k0_h11
theorem k0_off379_inb : ∀ (i : grid0.Coords) (k0_t2 : Fin k0_t2_loop.trips) (v80 : BitVec 32) (v82 : BitVec 32) (v496 : BitVec 32) (k0_hw22 : k0_chk22 i k0_t2 v80 v82 v496), ∀ (k0_h9 : k0_cond9 i k0_t2 = 1#1), ∀ (k0_h11 : k0_cond11 v80 v82 = 1#1), ∀ a, (k0_off379 v496) a + S1x16.size a ≤ S64x128.size a := fun i k0_t2 v80 v82 v496 k0_hw22 k0_h9 k0_h11 => k0_hw22.2.2.1 k0_h9 k0_h11
theorem k0_off381_inb : ∀ (i : grid0.Coords) (k0_t2 : Fin k0_t2_loop.trips) (v80 : BitVec 32) (v82 : BitVec 32) (v496 : BitVec 32) (k0_hw22 : k0_chk22 i k0_t2 v80 v82 v496), ∀ (k0_h9 : k0_cond9 i k0_t2 = 1#1), ∀ (k0_h11 : k0_cond11 v80 v82 = 1#1), ∀ a, (k0_off381 v496) a + S1x16.size a ≤ S64x128.size a := fun i k0_t2 v80 v82 v496 k0_hw22 k0_h9 k0_h11 => k0_hw22.2.2.2.1 k0_h9 k0_h11
theorem k0_off383_inb : ∀ (i : grid0.Coords) (k0_t2 : Fin k0_t2_loop.trips) (v80 : BitVec 32) (v82 : BitVec 32) (v496 : BitVec 32) (k0_hw22 : k0_chk22 i k0_t2 v80 v82 v496), ∀ (k0_h9 : k0_cond9 i k0_t2 = 1#1), ∀ (k0_h11 : k0_cond11 v80 v82 = 1#1), ∀ a, (k0_off383 v496) a + S1x16.size a ≤ S64x128.size a := fun i k0_t2 v80 v82 v496 k0_hw22 k0_h9 k0_h11 => k0_hw22.2.2.2.2.1 k0_h9 k0_h11
theorem k0_off385_inb : ∀ (i : grid0.Coords) (k0_t2 : Fin k0_t2_loop.trips) (v80 : BitVec 32) (v82 : BitVec 32) (v496 : BitVec 32) (k0_hw22 : k0_chk22 i k0_t2 v80 v82 v496), ∀ (k0_h9 : k0_cond9 i k0_t2 = 1#1), ∀ (k0_h11 : k0_cond11 v80 v82 = 1#1), ∀ a, (k0_off385 v496) a + S1x16.size a ≤ S64x128.size a := fun i k0_t2 v80 v82 v496 k0_hw22 k0_h9 k0_h11 => k0_hw22.2.2.2.2.2.1 k0_h9 k0_h11
theorem k0_off387_inb : ∀ (i : grid0.Coords) (k0_t2 : Fin k0_t2_loop.trips) (v80 : BitVec 32) (v82 : BitVec 32) (v496 : BitVec 32) (k0_hw22 : k0_chk22 i k0_t2 v80 v82 v496), ∀ (k0_h9 : k0_cond9 i k0_t2 = 1#1), ∀ (k0_h11 : k0_cond11 v80 v82 = 1#1), ∀ a, (k0_off387 v496) a + S1x16.size a ≤ S64x128.size a := fun i k0_t2 v80 v82 v496 k0_hw22 k0_h9 k0_h11 => k0_hw22.2.2.2.2.2.2.1 k0_h9 k0_h11
theorem k0_off389_inb : ∀ (i : grid0.Coords) (k0_t2 : Fin k0_t2_loop.trips) (v80 : BitVec 32) (v82 : BitVec 32) (v496 : BitVec 32) (k0_hw22 : k0_chk22 i k0_t2 v80 v82 v496), ∀ (k0_h9 : k0_cond9 i k0_t2 = 1#1), ∀ (k0_h11 : k0_cond11 v80 v82 = 1#1), ∀ a, (k0_off389 v496) a + S1x16.size a ≤ S64x128.size a := fun i k0_t2 v80 v82 v496 k0_hw22 k0_h9 k0_h11 => k0_hw22.2.2.2.2.2.2.2 k0_h9 k0_h11

def k0_off390 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c4_i32_179 : BitVec 32 := 4#32
  let v611 : BitVec 32 := Scalar.addi v74 c4_i32_179
  let v612 : Index := Scalar.indexCast v611
  let c0_180 : Index := 0#32
  ![v612.toNat, 0]
def k0_off391 (v610 : BitVec 32) : Fin 2 → Nat :=
  let v617 : Index := Scalar.indexCast v610
  let c0_181 : Index := 0#32
  ![v617.toNat, 0]

def k0_off392 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c4_i32_183 : BitVec 32 := 4#32
  let v625 : BitVec 32 := Scalar.addi v74 c4_i32_183
  let v626 : Index := Scalar.indexCast v625
  let c16_184 : Index := 16#32
  ![v626.toNat, 16]
def k0_off393 (v610 : BitVec 32) : Fin 2 → Nat :=
  let v631 : Index := Scalar.indexCast v610
  let c16_185 : Index := 16#32
  ![v631.toNat, 16]
def k0_off394 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c4_i32_187 : BitVec 32 := 4#32
  let v639 : BitVec 32 := Scalar.addi v74 c4_i32_187
  let v640 : Index := Scalar.indexCast v639
  let c32_188 : Index := 32#32
  ![v640.toNat, 32]
def k0_off395 (v610 : BitVec 32) : Fin 2 → Nat :=
  let v645 : Index := Scalar.indexCast v610
  let c32_189 : Index := 32#32
  ![v645.toNat, 32]
def k0_off396 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c4_i32_191 : BitVec 32 := 4#32
  let v653 : BitVec 32 := Scalar.addi v74 c4_i32_191
  let v654 : Index := Scalar.indexCast v653
  let c48_192 : Index := 48#32
  ![v654.toNat, 48]
def k0_off397 (v610 : BitVec 32) : Fin 2 → Nat :=
  let v659 : Index := Scalar.indexCast v610
  let c48_193 : Index := 48#32
  ![v659.toNat, 48]
def k0_off398 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c4_i32_195 : BitVec 32 := 4#32
  let v667 : BitVec 32 := Scalar.addi v74 c4_i32_195
  let v668 : Index := Scalar.indexCast v667
  let c64_196 : Index := 64#32
  ![v668.toNat, 64]
def k0_off399 (v610 : BitVec 32) : Fin 2 → Nat :=
  let v673 : Index := Scalar.indexCast v610
  let c64_197 : Index := 64#32
  ![v673.toNat, 64]
def k0_off400 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c4_i32_199 : BitVec 32 := 4#32
  let v681 : BitVec 32 := Scalar.addi v74 c4_i32_199
  let v682 : Index := Scalar.indexCast v681
  let c80_200 : Index := 80#32
  ![v682.toNat, 80]
def k0_off401 (v610 : BitVec 32) : Fin 2 → Nat :=
  let v687 : Index := Scalar.indexCast v610
  let c80_201 : Index := 80#32
  ![v687.toNat, 80]
def k0_off402 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c4_i32_203 : BitVec 32 := 4#32
  let v695 : BitVec 32 := Scalar.addi v74 c4_i32_203
  let v696 : Index := Scalar.indexCast v695
  let c96_204 : Index := 96#32
  ![v696.toNat, 96]
def k0_off403 (v610 : BitVec 32) : Fin 2 → Nat :=
  let v701 : Index := Scalar.indexCast v610
  let c96_205 : Index := 96#32
  ![v701.toNat, 96]
def k0_off404 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c4_i32_207 : BitVec 32 := 4#32
  let v709 : BitVec 32 := Scalar.addi v74 c4_i32_207
  let v710 : Index := Scalar.indexCast v709
  let c112_208 : Index := 112#32
  ![v710.toNat, 112]
def k0_off405 (v610 : BitVec 32) : Fin 2 → Nat :=
  let v715 : Index := Scalar.indexCast v610
  let c112_209 : Index := 112#32
  ![v715.toNat, 112]

def k0_chk23 (i : grid0.Coords) (k0_t2 : Fin k0_t2_loop.trips) (v80 : BitVec 32) (v82 : BitVec 32) (v610 : BitVec 32) : Prop :=
  (∀ (k0_h9 : k0_cond9 i k0_t2 = 1#1), ∀ (k0_h11 : k0_cond11 v80 v82 = 1#1), ∀ a, (k0_off391 v610) a + S1x16.size a ≤ S64x128.size a) ∧
  (∀ (k0_h9 : k0_cond9 i k0_t2 = 1#1), ∀ (k0_h11 : k0_cond11 v80 v82 = 1#1), ∀ a, (k0_off393 v610) a + S1x16.size a ≤ S64x128.size a) ∧
  (∀ (k0_h9 : k0_cond9 i k0_t2 = 1#1), ∀ (k0_h11 : k0_cond11 v80 v82 = 1#1), ∀ a, (k0_off395 v610) a + S1x16.size a ≤ S64x128.size a) ∧
  (∀ (k0_h9 : k0_cond9 i k0_t2 = 1#1), ∀ (k0_h11 : k0_cond11 v80 v82 = 1#1), ∀ a, (k0_off397 v610) a + S1x16.size a ≤ S64x128.size a) ∧
  (∀ (k0_h9 : k0_cond9 i k0_t2 = 1#1), ∀ (k0_h11 : k0_cond11 v80 v82 = 1#1), ∀ a, (k0_off399 v610) a + S1x16.size a ≤ S64x128.size a) ∧
  (∀ (k0_h9 : k0_cond9 i k0_t2 = 1#1), ∀ (k0_h11 : k0_cond11 v80 v82 = 1#1), ∀ a, (k0_off401 v610) a + S1x16.size a ≤ S64x128.size a) ∧
  (∀ (k0_h9 : k0_cond9 i k0_t2 = 1#1), ∀ (k0_h11 : k0_cond11 v80 v82 = 1#1), ∀ a, (k0_off403 v610) a + S1x16.size a ≤ S64x128.size a) ∧
  (∀ (k0_h9 : k0_cond9 i k0_t2 = 1#1), ∀ (k0_h11 : k0_cond11 v80 v82 = 1#1), ∀ a, (k0_off405 v610) a + S1x16.size a ≤ S64x128.size a)
theorem k0_off391_inb : ∀ (i : grid0.Coords) (k0_t2 : Fin k0_t2_loop.trips) (v80 : BitVec 32) (v82 : BitVec 32) (v610 : BitVec 32) (k0_hw23 : k0_chk23 i k0_t2 v80 v82 v610), ∀ (k0_h9 : k0_cond9 i k0_t2 = 1#1), ∀ (k0_h11 : k0_cond11 v80 v82 = 1#1), ∀ a, (k0_off391 v610) a + S1x16.size a ≤ S64x128.size a := fun i k0_t2 v80 v82 v610 k0_hw23 k0_h9 k0_h11 => k0_hw23.1 k0_h9 k0_h11
theorem k0_off393_inb : ∀ (i : grid0.Coords) (k0_t2 : Fin k0_t2_loop.trips) (v80 : BitVec 32) (v82 : BitVec 32) (v610 : BitVec 32) (k0_hw23 : k0_chk23 i k0_t2 v80 v82 v610), ∀ (k0_h9 : k0_cond9 i k0_t2 = 1#1), ∀ (k0_h11 : k0_cond11 v80 v82 = 1#1), ∀ a, (k0_off393 v610) a + S1x16.size a ≤ S64x128.size a := fun i k0_t2 v80 v82 v610 k0_hw23 k0_h9 k0_h11 => k0_hw23.2.1 k0_h9 k0_h11
theorem k0_off395_inb : ∀ (i : grid0.Coords) (k0_t2 : Fin k0_t2_loop.trips) (v80 : BitVec 32) (v82 : BitVec 32) (v610 : BitVec 32) (k0_hw23 : k0_chk23 i k0_t2 v80 v82 v610), ∀ (k0_h9 : k0_cond9 i k0_t2 = 1#1), ∀ (k0_h11 : k0_cond11 v80 v82 = 1#1), ∀ a, (k0_off395 v610) a + S1x16.size a ≤ S64x128.size a := fun i k0_t2 v80 v82 v610 k0_hw23 k0_h9 k0_h11 => k0_hw23.2.2.1 k0_h9 k0_h11
theorem k0_off397_inb : ∀ (i : grid0.Coords) (k0_t2 : Fin k0_t2_loop.trips) (v80 : BitVec 32) (v82 : BitVec 32) (v610 : BitVec 32) (k0_hw23 : k0_chk23 i k0_t2 v80 v82 v610), ∀ (k0_h9 : k0_cond9 i k0_t2 = 1#1), ∀ (k0_h11 : k0_cond11 v80 v82 = 1#1), ∀ a, (k0_off397 v610) a + S1x16.size a ≤ S64x128.size a := fun i k0_t2 v80 v82 v610 k0_hw23 k0_h9 k0_h11 => k0_hw23.2.2.2.1 k0_h9 k0_h11
theorem k0_off399_inb : ∀ (i : grid0.Coords) (k0_t2 : Fin k0_t2_loop.trips) (v80 : BitVec 32) (v82 : BitVec 32) (v610 : BitVec 32) (k0_hw23 : k0_chk23 i k0_t2 v80 v82 v610), ∀ (k0_h9 : k0_cond9 i k0_t2 = 1#1), ∀ (k0_h11 : k0_cond11 v80 v82 = 1#1), ∀ a, (k0_off399 v610) a + S1x16.size a ≤ S64x128.size a := fun i k0_t2 v80 v82 v610 k0_hw23 k0_h9 k0_h11 => k0_hw23.2.2.2.2.1 k0_h9 k0_h11
theorem k0_off401_inb : ∀ (i : grid0.Coords) (k0_t2 : Fin k0_t2_loop.trips) (v80 : BitVec 32) (v82 : BitVec 32) (v610 : BitVec 32) (k0_hw23 : k0_chk23 i k0_t2 v80 v82 v610), ∀ (k0_h9 : k0_cond9 i k0_t2 = 1#1), ∀ (k0_h11 : k0_cond11 v80 v82 = 1#1), ∀ a, (k0_off401 v610) a + S1x16.size a ≤ S64x128.size a := fun i k0_t2 v80 v82 v610 k0_hw23 k0_h9 k0_h11 => k0_hw23.2.2.2.2.2.1 k0_h9 k0_h11
theorem k0_off403_inb : ∀ (i : grid0.Coords) (k0_t2 : Fin k0_t2_loop.trips) (v80 : BitVec 32) (v82 : BitVec 32) (v610 : BitVec 32) (k0_hw23 : k0_chk23 i k0_t2 v80 v82 v610), ∀ (k0_h9 : k0_cond9 i k0_t2 = 1#1), ∀ (k0_h11 : k0_cond11 v80 v82 = 1#1), ∀ a, (k0_off403 v610) a + S1x16.size a ≤ S64x128.size a := fun i k0_t2 v80 v82 v610 k0_hw23 k0_h9 k0_h11 => k0_hw23.2.2.2.2.2.2.1 k0_h9 k0_h11
theorem k0_off405_inb : ∀ (i : grid0.Coords) (k0_t2 : Fin k0_t2_loop.trips) (v80 : BitVec 32) (v82 : BitVec 32) (v610 : BitVec 32) (k0_hw23 : k0_chk23 i k0_t2 v80 v82 v610), ∀ (k0_h9 : k0_cond9 i k0_t2 = 1#1), ∀ (k0_h11 : k0_cond11 v80 v82 = 1#1), ∀ a, (k0_off405 v610) a + S1x16.size a ≤ S64x128.size a := fun i k0_t2 v80 v82 v610 k0_hw23 k0_h9 k0_h11 => k0_hw23.2.2.2.2.2.2.2 k0_h9 k0_h11

def k0_off406 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c5_i32_211 : BitVec 32 := 5#32
  let v725 : BitVec 32 := Scalar.addi v74 c5_i32_211
  let v726 : Index := Scalar.indexCast v725
  let c0_212 : Index := 0#32
  ![v726.toNat, 0]
def k0_off407 (v724 : BitVec 32) : Fin 2 → Nat :=
  let v731 : Index := Scalar.indexCast v724
  let c0_213 : Index := 0#32
  ![v731.toNat, 0]

def k0_off408 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c5_i32_215 : BitVec 32 := 5#32
  let v739 : BitVec 32 := Scalar.addi v74 c5_i32_215
  let v740 : Index := Scalar.indexCast v739
  let c16_216 : Index := 16#32
  ![v740.toNat, 16]
def k0_off409 (v724 : BitVec 32) : Fin 2 → Nat :=
  let v745 : Index := Scalar.indexCast v724
  let c16_217 : Index := 16#32
  ![v745.toNat, 16]
def k0_off410 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c5_i32_219 : BitVec 32 := 5#32
  let v753 : BitVec 32 := Scalar.addi v74 c5_i32_219
  let v754 : Index := Scalar.indexCast v753
  let c32_220 : Index := 32#32
  ![v754.toNat, 32]
def k0_off411 (v724 : BitVec 32) : Fin 2 → Nat :=
  let v759 : Index := Scalar.indexCast v724
  let c32_221 : Index := 32#32
  ![v759.toNat, 32]
def k0_off412 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c5_i32_223 : BitVec 32 := 5#32
  let v767 : BitVec 32 := Scalar.addi v74 c5_i32_223
  let v768 : Index := Scalar.indexCast v767
  let c48_224 : Index := 48#32
  ![v768.toNat, 48]
def k0_off413 (v724 : BitVec 32) : Fin 2 → Nat :=
  let v773 : Index := Scalar.indexCast v724
  let c48_225 : Index := 48#32
  ![v773.toNat, 48]
def k0_off414 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c5_i32_227 : BitVec 32 := 5#32
  let v781 : BitVec 32 := Scalar.addi v74 c5_i32_227
  let v782 : Index := Scalar.indexCast v781
  let c64_228 : Index := 64#32
  ![v782.toNat, 64]
def k0_off415 (v724 : BitVec 32) : Fin 2 → Nat :=
  let v787 : Index := Scalar.indexCast v724
  let c64_229 : Index := 64#32
  ![v787.toNat, 64]
def k0_off416 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c5_i32_231 : BitVec 32 := 5#32
  let v795 : BitVec 32 := Scalar.addi v74 c5_i32_231
  let v796 : Index := Scalar.indexCast v795
  let c80_232 : Index := 80#32
  ![v796.toNat, 80]
def k0_off417 (v724 : BitVec 32) : Fin 2 → Nat :=
  let v801 : Index := Scalar.indexCast v724
  let c80_233 : Index := 80#32
  ![v801.toNat, 80]
def k0_off418 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c5_i32_235 : BitVec 32 := 5#32
  let v809 : BitVec 32 := Scalar.addi v74 c5_i32_235
  let v810 : Index := Scalar.indexCast v809
  let c96_236 : Index := 96#32
  ![v810.toNat, 96]
def k0_off419 (v724 : BitVec 32) : Fin 2 → Nat :=
  let v815 : Index := Scalar.indexCast v724
  let c96_237 : Index := 96#32
  ![v815.toNat, 96]
def k0_off420 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c5_i32_239 : BitVec 32 := 5#32
  let v823 : BitVec 32 := Scalar.addi v74 c5_i32_239
  let v824 : Index := Scalar.indexCast v823
  let c112_240 : Index := 112#32
  ![v824.toNat, 112]
def k0_off421 (v724 : BitVec 32) : Fin 2 → Nat :=
  let v829 : Index := Scalar.indexCast v724
  let c112_241 : Index := 112#32
  ![v829.toNat, 112]

def k0_chk24 (i : grid0.Coords) (k0_t2 : Fin k0_t2_loop.trips) (v80 : BitVec 32) (v82 : BitVec 32) (v724 : BitVec 32) : Prop :=
  (∀ (k0_h9 : k0_cond9 i k0_t2 = 1#1), ∀ (k0_h11 : k0_cond11 v80 v82 = 1#1), ∀ a, (k0_off407 v724) a + S1x16.size a ≤ S64x128.size a) ∧
  (∀ (k0_h9 : k0_cond9 i k0_t2 = 1#1), ∀ (k0_h11 : k0_cond11 v80 v82 = 1#1), ∀ a, (k0_off409 v724) a + S1x16.size a ≤ S64x128.size a) ∧
  (∀ (k0_h9 : k0_cond9 i k0_t2 = 1#1), ∀ (k0_h11 : k0_cond11 v80 v82 = 1#1), ∀ a, (k0_off411 v724) a + S1x16.size a ≤ S64x128.size a) ∧
  (∀ (k0_h9 : k0_cond9 i k0_t2 = 1#1), ∀ (k0_h11 : k0_cond11 v80 v82 = 1#1), ∀ a, (k0_off413 v724) a + S1x16.size a ≤ S64x128.size a) ∧
  (∀ (k0_h9 : k0_cond9 i k0_t2 = 1#1), ∀ (k0_h11 : k0_cond11 v80 v82 = 1#1), ∀ a, (k0_off415 v724) a + S1x16.size a ≤ S64x128.size a) ∧
  (∀ (k0_h9 : k0_cond9 i k0_t2 = 1#1), ∀ (k0_h11 : k0_cond11 v80 v82 = 1#1), ∀ a, (k0_off417 v724) a + S1x16.size a ≤ S64x128.size a) ∧
  (∀ (k0_h9 : k0_cond9 i k0_t2 = 1#1), ∀ (k0_h11 : k0_cond11 v80 v82 = 1#1), ∀ a, (k0_off419 v724) a + S1x16.size a ≤ S64x128.size a) ∧
  (∀ (k0_h9 : k0_cond9 i k0_t2 = 1#1), ∀ (k0_h11 : k0_cond11 v80 v82 = 1#1), ∀ a, (k0_off421 v724) a + S1x16.size a ≤ S64x128.size a)
theorem k0_off407_inb : ∀ (i : grid0.Coords) (k0_t2 : Fin k0_t2_loop.trips) (v80 : BitVec 32) (v82 : BitVec 32) (v724 : BitVec 32) (k0_hw24 : k0_chk24 i k0_t2 v80 v82 v724), ∀ (k0_h9 : k0_cond9 i k0_t2 = 1#1), ∀ (k0_h11 : k0_cond11 v80 v82 = 1#1), ∀ a, (k0_off407 v724) a + S1x16.size a ≤ S64x128.size a := fun i k0_t2 v80 v82 v724 k0_hw24 k0_h9 k0_h11 => k0_hw24.1 k0_h9 k0_h11
theorem k0_off409_inb : ∀ (i : grid0.Coords) (k0_t2 : Fin k0_t2_loop.trips) (v80 : BitVec 32) (v82 : BitVec 32) (v724 : BitVec 32) (k0_hw24 : k0_chk24 i k0_t2 v80 v82 v724), ∀ (k0_h9 : k0_cond9 i k0_t2 = 1#1), ∀ (k0_h11 : k0_cond11 v80 v82 = 1#1), ∀ a, (k0_off409 v724) a + S1x16.size a ≤ S64x128.size a := fun i k0_t2 v80 v82 v724 k0_hw24 k0_h9 k0_h11 => k0_hw24.2.1 k0_h9 k0_h11
theorem k0_off411_inb : ∀ (i : grid0.Coords) (k0_t2 : Fin k0_t2_loop.trips) (v80 : BitVec 32) (v82 : BitVec 32) (v724 : BitVec 32) (k0_hw24 : k0_chk24 i k0_t2 v80 v82 v724), ∀ (k0_h9 : k0_cond9 i k0_t2 = 1#1), ∀ (k0_h11 : k0_cond11 v80 v82 = 1#1), ∀ a, (k0_off411 v724) a + S1x16.size a ≤ S64x128.size a := fun i k0_t2 v80 v82 v724 k0_hw24 k0_h9 k0_h11 => k0_hw24.2.2.1 k0_h9 k0_h11
theorem k0_off413_inb : ∀ (i : grid0.Coords) (k0_t2 : Fin k0_t2_loop.trips) (v80 : BitVec 32) (v82 : BitVec 32) (v724 : BitVec 32) (k0_hw24 : k0_chk24 i k0_t2 v80 v82 v724), ∀ (k0_h9 : k0_cond9 i k0_t2 = 1#1), ∀ (k0_h11 : k0_cond11 v80 v82 = 1#1), ∀ a, (k0_off413 v724) a + S1x16.size a ≤ S64x128.size a := fun i k0_t2 v80 v82 v724 k0_hw24 k0_h9 k0_h11 => k0_hw24.2.2.2.1 k0_h9 k0_h11
theorem k0_off415_inb : ∀ (i : grid0.Coords) (k0_t2 : Fin k0_t2_loop.trips) (v80 : BitVec 32) (v82 : BitVec 32) (v724 : BitVec 32) (k0_hw24 : k0_chk24 i k0_t2 v80 v82 v724), ∀ (k0_h9 : k0_cond9 i k0_t2 = 1#1), ∀ (k0_h11 : k0_cond11 v80 v82 = 1#1), ∀ a, (k0_off415 v724) a + S1x16.size a ≤ S64x128.size a := fun i k0_t2 v80 v82 v724 k0_hw24 k0_h9 k0_h11 => k0_hw24.2.2.2.2.1 k0_h9 k0_h11
theorem k0_off417_inb : ∀ (i : grid0.Coords) (k0_t2 : Fin k0_t2_loop.trips) (v80 : BitVec 32) (v82 : BitVec 32) (v724 : BitVec 32) (k0_hw24 : k0_chk24 i k0_t2 v80 v82 v724), ∀ (k0_h9 : k0_cond9 i k0_t2 = 1#1), ∀ (k0_h11 : k0_cond11 v80 v82 = 1#1), ∀ a, (k0_off417 v724) a + S1x16.size a ≤ S64x128.size a := fun i k0_t2 v80 v82 v724 k0_hw24 k0_h9 k0_h11 => k0_hw24.2.2.2.2.2.1 k0_h9 k0_h11
theorem k0_off419_inb : ∀ (i : grid0.Coords) (k0_t2 : Fin k0_t2_loop.trips) (v80 : BitVec 32) (v82 : BitVec 32) (v724 : BitVec 32) (k0_hw24 : k0_chk24 i k0_t2 v80 v82 v724), ∀ (k0_h9 : k0_cond9 i k0_t2 = 1#1), ∀ (k0_h11 : k0_cond11 v80 v82 = 1#1), ∀ a, (k0_off419 v724) a + S1x16.size a ≤ S64x128.size a := fun i k0_t2 v80 v82 v724 k0_hw24 k0_h9 k0_h11 => k0_hw24.2.2.2.2.2.2.1 k0_h9 k0_h11
theorem k0_off421_inb : ∀ (i : grid0.Coords) (k0_t2 : Fin k0_t2_loop.trips) (v80 : BitVec 32) (v82 : BitVec 32) (v724 : BitVec 32) (k0_hw24 : k0_chk24 i k0_t2 v80 v82 v724), ∀ (k0_h9 : k0_cond9 i k0_t2 = 1#1), ∀ (k0_h11 : k0_cond11 v80 v82 = 1#1), ∀ a, (k0_off421 v724) a + S1x16.size a ≤ S64x128.size a := fun i k0_t2 v80 v82 v724 k0_hw24 k0_h9 k0_h11 => k0_hw24.2.2.2.2.2.2.2 k0_h9 k0_h11

def k0_off422 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c6_i32_243 : BitVec 32 := 6#32
  let v839 : BitVec 32 := Scalar.addi v74 c6_i32_243
  let v840 : Index := Scalar.indexCast v839
  let c0_244 : Index := 0#32
  ![v840.toNat, 0]
def k0_off423 (v838 : BitVec 32) : Fin 2 → Nat :=
  let v845 : Index := Scalar.indexCast v838
  let c0_245 : Index := 0#32
  ![v845.toNat, 0]

def k0_off424 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c6_i32_247 : BitVec 32 := 6#32
  let v853 : BitVec 32 := Scalar.addi v74 c6_i32_247
  let v854 : Index := Scalar.indexCast v853
  let c16_248 : Index := 16#32
  ![v854.toNat, 16]
def k0_off425 (v838 : BitVec 32) : Fin 2 → Nat :=
  let v859 : Index := Scalar.indexCast v838
  let c16_249 : Index := 16#32
  ![v859.toNat, 16]
def k0_off426 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c6_i32_251 : BitVec 32 := 6#32
  let v867 : BitVec 32 := Scalar.addi v74 c6_i32_251
  let v868 : Index := Scalar.indexCast v867
  let c32_252 : Index := 32#32
  ![v868.toNat, 32]
def k0_off427 (v838 : BitVec 32) : Fin 2 → Nat :=
  let v873 : Index := Scalar.indexCast v838
  let c32_253 : Index := 32#32
  ![v873.toNat, 32]
def k0_off428 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c6_i32_255 : BitVec 32 := 6#32
  let v881 : BitVec 32 := Scalar.addi v74 c6_i32_255
  let v882 : Index := Scalar.indexCast v881
  let c48_256 : Index := 48#32
  ![v882.toNat, 48]
def k0_off429 (v838 : BitVec 32) : Fin 2 → Nat :=
  let v887 : Index := Scalar.indexCast v838
  let c48_257 : Index := 48#32
  ![v887.toNat, 48]
def k0_off430 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c6_i32_259 : BitVec 32 := 6#32
  let v895 : BitVec 32 := Scalar.addi v74 c6_i32_259
  let v896 : Index := Scalar.indexCast v895
  let c64_260 : Index := 64#32
  ![v896.toNat, 64]
def k0_off431 (v838 : BitVec 32) : Fin 2 → Nat :=
  let v901 : Index := Scalar.indexCast v838
  let c64_261 : Index := 64#32
  ![v901.toNat, 64]
def k0_off432 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c6_i32_263 : BitVec 32 := 6#32
  let v909 : BitVec 32 := Scalar.addi v74 c6_i32_263
  let v910 : Index := Scalar.indexCast v909
  let c80_264 : Index := 80#32
  ![v910.toNat, 80]
def k0_off433 (v838 : BitVec 32) : Fin 2 → Nat :=
  let v915 : Index := Scalar.indexCast v838
  let c80_265 : Index := 80#32
  ![v915.toNat, 80]
def k0_off434 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c6_i32_267 : BitVec 32 := 6#32
  let v923 : BitVec 32 := Scalar.addi v74 c6_i32_267
  let v924 : Index := Scalar.indexCast v923
  let c96_268 : Index := 96#32
  ![v924.toNat, 96]
def k0_off435 (v838 : BitVec 32) : Fin 2 → Nat :=
  let v929 : Index := Scalar.indexCast v838
  let c96_269 : Index := 96#32
  ![v929.toNat, 96]
def k0_off436 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c6_i32_271 : BitVec 32 := 6#32
  let v937 : BitVec 32 := Scalar.addi v74 c6_i32_271
  let v938 : Index := Scalar.indexCast v937
  let c112_272 : Index := 112#32
  ![v938.toNat, 112]
def k0_off437 (v838 : BitVec 32) : Fin 2 → Nat :=
  let v943 : Index := Scalar.indexCast v838
  let c112_273 : Index := 112#32
  ![v943.toNat, 112]

def k0_chk25 (i : grid0.Coords) (k0_t2 : Fin k0_t2_loop.trips) (v80 : BitVec 32) (v82 : BitVec 32) (v838 : BitVec 32) : Prop :=
  (∀ (k0_h9 : k0_cond9 i k0_t2 = 1#1), ∀ (k0_h11 : k0_cond11 v80 v82 = 1#1), ∀ a, (k0_off423 v838) a + S1x16.size a ≤ S64x128.size a) ∧
  (∀ (k0_h9 : k0_cond9 i k0_t2 = 1#1), ∀ (k0_h11 : k0_cond11 v80 v82 = 1#1), ∀ a, (k0_off425 v838) a + S1x16.size a ≤ S64x128.size a) ∧
  (∀ (k0_h9 : k0_cond9 i k0_t2 = 1#1), ∀ (k0_h11 : k0_cond11 v80 v82 = 1#1), ∀ a, (k0_off427 v838) a + S1x16.size a ≤ S64x128.size a) ∧
  (∀ (k0_h9 : k0_cond9 i k0_t2 = 1#1), ∀ (k0_h11 : k0_cond11 v80 v82 = 1#1), ∀ a, (k0_off429 v838) a + S1x16.size a ≤ S64x128.size a) ∧
  (∀ (k0_h9 : k0_cond9 i k0_t2 = 1#1), ∀ (k0_h11 : k0_cond11 v80 v82 = 1#1), ∀ a, (k0_off431 v838) a + S1x16.size a ≤ S64x128.size a) ∧
  (∀ (k0_h9 : k0_cond9 i k0_t2 = 1#1), ∀ (k0_h11 : k0_cond11 v80 v82 = 1#1), ∀ a, (k0_off433 v838) a + S1x16.size a ≤ S64x128.size a) ∧
  (∀ (k0_h9 : k0_cond9 i k0_t2 = 1#1), ∀ (k0_h11 : k0_cond11 v80 v82 = 1#1), ∀ a, (k0_off435 v838) a + S1x16.size a ≤ S64x128.size a) ∧
  (∀ (k0_h9 : k0_cond9 i k0_t2 = 1#1), ∀ (k0_h11 : k0_cond11 v80 v82 = 1#1), ∀ a, (k0_off437 v838) a + S1x16.size a ≤ S64x128.size a)
theorem k0_off423_inb : ∀ (i : grid0.Coords) (k0_t2 : Fin k0_t2_loop.trips) (v80 : BitVec 32) (v82 : BitVec 32) (v838 : BitVec 32) (k0_hw25 : k0_chk25 i k0_t2 v80 v82 v838), ∀ (k0_h9 : k0_cond9 i k0_t2 = 1#1), ∀ (k0_h11 : k0_cond11 v80 v82 = 1#1), ∀ a, (k0_off423 v838) a + S1x16.size a ≤ S64x128.size a := fun i k0_t2 v80 v82 v838 k0_hw25 k0_h9 k0_h11 => k0_hw25.1 k0_h9 k0_h11
theorem k0_off425_inb : ∀ (i : grid0.Coords) (k0_t2 : Fin k0_t2_loop.trips) (v80 : BitVec 32) (v82 : BitVec 32) (v838 : BitVec 32) (k0_hw25 : k0_chk25 i k0_t2 v80 v82 v838), ∀ (k0_h9 : k0_cond9 i k0_t2 = 1#1), ∀ (k0_h11 : k0_cond11 v80 v82 = 1#1), ∀ a, (k0_off425 v838) a + S1x16.size a ≤ S64x128.size a := fun i k0_t2 v80 v82 v838 k0_hw25 k0_h9 k0_h11 => k0_hw25.2.1 k0_h9 k0_h11
theorem k0_off427_inb : ∀ (i : grid0.Coords) (k0_t2 : Fin k0_t2_loop.trips) (v80 : BitVec 32) (v82 : BitVec 32) (v838 : BitVec 32) (k0_hw25 : k0_chk25 i k0_t2 v80 v82 v838), ∀ (k0_h9 : k0_cond9 i k0_t2 = 1#1), ∀ (k0_h11 : k0_cond11 v80 v82 = 1#1), ∀ a, (k0_off427 v838) a + S1x16.size a ≤ S64x128.size a := fun i k0_t2 v80 v82 v838 k0_hw25 k0_h9 k0_h11 => k0_hw25.2.2.1 k0_h9 k0_h11
theorem k0_off429_inb : ∀ (i : grid0.Coords) (k0_t2 : Fin k0_t2_loop.trips) (v80 : BitVec 32) (v82 : BitVec 32) (v838 : BitVec 32) (k0_hw25 : k0_chk25 i k0_t2 v80 v82 v838), ∀ (k0_h9 : k0_cond9 i k0_t2 = 1#1), ∀ (k0_h11 : k0_cond11 v80 v82 = 1#1), ∀ a, (k0_off429 v838) a + S1x16.size a ≤ S64x128.size a := fun i k0_t2 v80 v82 v838 k0_hw25 k0_h9 k0_h11 => k0_hw25.2.2.2.1 k0_h9 k0_h11
theorem k0_off431_inb : ∀ (i : grid0.Coords) (k0_t2 : Fin k0_t2_loop.trips) (v80 : BitVec 32) (v82 : BitVec 32) (v838 : BitVec 32) (k0_hw25 : k0_chk25 i k0_t2 v80 v82 v838), ∀ (k0_h9 : k0_cond9 i k0_t2 = 1#1), ∀ (k0_h11 : k0_cond11 v80 v82 = 1#1), ∀ a, (k0_off431 v838) a + S1x16.size a ≤ S64x128.size a := fun i k0_t2 v80 v82 v838 k0_hw25 k0_h9 k0_h11 => k0_hw25.2.2.2.2.1 k0_h9 k0_h11
theorem k0_off433_inb : ∀ (i : grid0.Coords) (k0_t2 : Fin k0_t2_loop.trips) (v80 : BitVec 32) (v82 : BitVec 32) (v838 : BitVec 32) (k0_hw25 : k0_chk25 i k0_t2 v80 v82 v838), ∀ (k0_h9 : k0_cond9 i k0_t2 = 1#1), ∀ (k0_h11 : k0_cond11 v80 v82 = 1#1), ∀ a, (k0_off433 v838) a + S1x16.size a ≤ S64x128.size a := fun i k0_t2 v80 v82 v838 k0_hw25 k0_h9 k0_h11 => k0_hw25.2.2.2.2.2.1 k0_h9 k0_h11
theorem k0_off435_inb : ∀ (i : grid0.Coords) (k0_t2 : Fin k0_t2_loop.trips) (v80 : BitVec 32) (v82 : BitVec 32) (v838 : BitVec 32) (k0_hw25 : k0_chk25 i k0_t2 v80 v82 v838), ∀ (k0_h9 : k0_cond9 i k0_t2 = 1#1), ∀ (k0_h11 : k0_cond11 v80 v82 = 1#1), ∀ a, (k0_off435 v838) a + S1x16.size a ≤ S64x128.size a := fun i k0_t2 v80 v82 v838 k0_hw25 k0_h9 k0_h11 => k0_hw25.2.2.2.2.2.2.1 k0_h9 k0_h11
theorem k0_off437_inb : ∀ (i : grid0.Coords) (k0_t2 : Fin k0_t2_loop.trips) (v80 : BitVec 32) (v82 : BitVec 32) (v838 : BitVec 32) (k0_hw25 : k0_chk25 i k0_t2 v80 v82 v838), ∀ (k0_h9 : k0_cond9 i k0_t2 = 1#1), ∀ (k0_h11 : k0_cond11 v80 v82 = 1#1), ∀ a, (k0_off437 v838) a + S1x16.size a ≤ S64x128.size a := fun i k0_t2 v80 v82 v838 k0_hw25 k0_h9 k0_h11 => k0_hw25.2.2.2.2.2.2.2 k0_h9 k0_h11

def k0_off438 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c7_i32_275 : BitVec 32 := 7#32
  let v953 : BitVec 32 := Scalar.addi v74 c7_i32_275
  let v954 : Index := Scalar.indexCast v953
  let c0_276 : Index := 0#32
  ![v954.toNat, 0]
def k0_off439 (v952 : BitVec 32) : Fin 2 → Nat :=
  let v959 : Index := Scalar.indexCast v952
  let c0_277 : Index := 0#32
  ![v959.toNat, 0]

def k0_off440 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c7_i32_279 : BitVec 32 := 7#32
  let v967 : BitVec 32 := Scalar.addi v74 c7_i32_279
  let v968 : Index := Scalar.indexCast v967
  let c16_280 : Index := 16#32
  ![v968.toNat, 16]
def k0_off441 (v952 : BitVec 32) : Fin 2 → Nat :=
  let v973 : Index := Scalar.indexCast v952
  let c16_281 : Index := 16#32
  ![v973.toNat, 16]
def k0_off442 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c7_i32_283 : BitVec 32 := 7#32
  let v981 : BitVec 32 := Scalar.addi v74 c7_i32_283
  let v982 : Index := Scalar.indexCast v981
  let c32_284 : Index := 32#32
  ![v982.toNat, 32]
def k0_off443 (v952 : BitVec 32) : Fin 2 → Nat :=
  let v987 : Index := Scalar.indexCast v952
  let c32_285 : Index := 32#32
  ![v987.toNat, 32]
def k0_off444 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c7_i32_287 : BitVec 32 := 7#32
  let v995 : BitVec 32 := Scalar.addi v74 c7_i32_287
  let v996 : Index := Scalar.indexCast v995
  let c48_288 : Index := 48#32
  ![v996.toNat, 48]
def k0_off445 (v952 : BitVec 32) : Fin 2 → Nat :=
  let v1001 : Index := Scalar.indexCast v952
  let c48_289 : Index := 48#32
  ![v1001.toNat, 48]
def k0_off446 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c7_i32_291 : BitVec 32 := 7#32
  let v1009 : BitVec 32 := Scalar.addi v74 c7_i32_291
  let v1010 : Index := Scalar.indexCast v1009
  let c64_292 : Index := 64#32
  ![v1010.toNat, 64]
def k0_off447 (v952 : BitVec 32) : Fin 2 → Nat :=
  let v1015 : Index := Scalar.indexCast v952
  let c64_293 : Index := 64#32
  ![v1015.toNat, 64]
def k0_off448 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c7_i32_295 : BitVec 32 := 7#32
  let v1023 : BitVec 32 := Scalar.addi v74 c7_i32_295
  let v1024 : Index := Scalar.indexCast v1023
  let c80_296 : Index := 80#32
  ![v1024.toNat, 80]
def k0_off449 (v952 : BitVec 32) : Fin 2 → Nat :=
  let v1029 : Index := Scalar.indexCast v952
  let c80_297 : Index := 80#32
  ![v1029.toNat, 80]
def k0_off450 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c7_i32_299 : BitVec 32 := 7#32
  let v1037 : BitVec 32 := Scalar.addi v74 c7_i32_299
  let v1038 : Index := Scalar.indexCast v1037
  let c96_300 : Index := 96#32
  ![v1038.toNat, 96]
def k0_off451 (v952 : BitVec 32) : Fin 2 → Nat :=
  let v1043 : Index := Scalar.indexCast v952
  let c96_301 : Index := 96#32
  ![v1043.toNat, 96]
def k0_off452 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c7_i32_303 : BitVec 32 := 7#32
  let v1051 : BitVec 32 := Scalar.addi v74 c7_i32_303
  let v1052 : Index := Scalar.indexCast v1051
  let c112_304 : Index := 112#32
  ![v1052.toNat, 112]
def k0_off453 (v952 : BitVec 32) : Fin 2 → Nat :=
  let v1057 : Index := Scalar.indexCast v952
  let c112_305 : Index := 112#32
  ![v1057.toNat, 112]

def k0_chk26 (i : grid0.Coords) (k0_t2 : Fin k0_t2_loop.trips) (v80 : BitVec 32) (v82 : BitVec 32) (v952 : BitVec 32) : Prop :=
  (∀ (k0_h9 : k0_cond9 i k0_t2 = 1#1), ∀ (k0_h11 : k0_cond11 v80 v82 = 1#1), ∀ a, (k0_off439 v952) a + S1x16.size a ≤ S64x128.size a) ∧
  (∀ (k0_h9 : k0_cond9 i k0_t2 = 1#1), ∀ (k0_h11 : k0_cond11 v80 v82 = 1#1), ∀ a, (k0_off441 v952) a + S1x16.size a ≤ S64x128.size a) ∧
  (∀ (k0_h9 : k0_cond9 i k0_t2 = 1#1), ∀ (k0_h11 : k0_cond11 v80 v82 = 1#1), ∀ a, (k0_off443 v952) a + S1x16.size a ≤ S64x128.size a) ∧
  (∀ (k0_h9 : k0_cond9 i k0_t2 = 1#1), ∀ (k0_h11 : k0_cond11 v80 v82 = 1#1), ∀ a, (k0_off445 v952) a + S1x16.size a ≤ S64x128.size a) ∧
  (∀ (k0_h9 : k0_cond9 i k0_t2 = 1#1), ∀ (k0_h11 : k0_cond11 v80 v82 = 1#1), ∀ a, (k0_off447 v952) a + S1x16.size a ≤ S64x128.size a) ∧
  (∀ (k0_h9 : k0_cond9 i k0_t2 = 1#1), ∀ (k0_h11 : k0_cond11 v80 v82 = 1#1), ∀ a, (k0_off449 v952) a + S1x16.size a ≤ S64x128.size a) ∧
  (∀ (k0_h9 : k0_cond9 i k0_t2 = 1#1), ∀ (k0_h11 : k0_cond11 v80 v82 = 1#1), ∀ a, (k0_off451 v952) a + S1x16.size a ≤ S64x128.size a) ∧
  (∀ (k0_h9 : k0_cond9 i k0_t2 = 1#1), ∀ (k0_h11 : k0_cond11 v80 v82 = 1#1), ∀ a, (k0_off453 v952) a + S1x16.size a ≤ S64x128.size a)
theorem k0_off439_inb : ∀ (i : grid0.Coords) (k0_t2 : Fin k0_t2_loop.trips) (v80 : BitVec 32) (v82 : BitVec 32) (v952 : BitVec 32) (k0_hw26 : k0_chk26 i k0_t2 v80 v82 v952), ∀ (k0_h9 : k0_cond9 i k0_t2 = 1#1), ∀ (k0_h11 : k0_cond11 v80 v82 = 1#1), ∀ a, (k0_off439 v952) a + S1x16.size a ≤ S64x128.size a := fun i k0_t2 v80 v82 v952 k0_hw26 k0_h9 k0_h11 => k0_hw26.1 k0_h9 k0_h11
theorem k0_off441_inb : ∀ (i : grid0.Coords) (k0_t2 : Fin k0_t2_loop.trips) (v80 : BitVec 32) (v82 : BitVec 32) (v952 : BitVec 32) (k0_hw26 : k0_chk26 i k0_t2 v80 v82 v952), ∀ (k0_h9 : k0_cond9 i k0_t2 = 1#1), ∀ (k0_h11 : k0_cond11 v80 v82 = 1#1), ∀ a, (k0_off441 v952) a + S1x16.size a ≤ S64x128.size a := fun i k0_t2 v80 v82 v952 k0_hw26 k0_h9 k0_h11 => k0_hw26.2.1 k0_h9 k0_h11
theorem k0_off443_inb : ∀ (i : grid0.Coords) (k0_t2 : Fin k0_t2_loop.trips) (v80 : BitVec 32) (v82 : BitVec 32) (v952 : BitVec 32) (k0_hw26 : k0_chk26 i k0_t2 v80 v82 v952), ∀ (k0_h9 : k0_cond9 i k0_t2 = 1#1), ∀ (k0_h11 : k0_cond11 v80 v82 = 1#1), ∀ a, (k0_off443 v952) a + S1x16.size a ≤ S64x128.size a := fun i k0_t2 v80 v82 v952 k0_hw26 k0_h9 k0_h11 => k0_hw26.2.2.1 k0_h9 k0_h11
theorem k0_off445_inb : ∀ (i : grid0.Coords) (k0_t2 : Fin k0_t2_loop.trips) (v80 : BitVec 32) (v82 : BitVec 32) (v952 : BitVec 32) (k0_hw26 : k0_chk26 i k0_t2 v80 v82 v952), ∀ (k0_h9 : k0_cond9 i k0_t2 = 1#1), ∀ (k0_h11 : k0_cond11 v80 v82 = 1#1), ∀ a, (k0_off445 v952) a + S1x16.size a ≤ S64x128.size a := fun i k0_t2 v80 v82 v952 k0_hw26 k0_h9 k0_h11 => k0_hw26.2.2.2.1 k0_h9 k0_h11
theorem k0_off447_inb : ∀ (i : grid0.Coords) (k0_t2 : Fin k0_t2_loop.trips) (v80 : BitVec 32) (v82 : BitVec 32) (v952 : BitVec 32) (k0_hw26 : k0_chk26 i k0_t2 v80 v82 v952), ∀ (k0_h9 : k0_cond9 i k0_t2 = 1#1), ∀ (k0_h11 : k0_cond11 v80 v82 = 1#1), ∀ a, (k0_off447 v952) a + S1x16.size a ≤ S64x128.size a := fun i k0_t2 v80 v82 v952 k0_hw26 k0_h9 k0_h11 => k0_hw26.2.2.2.2.1 k0_h9 k0_h11
theorem k0_off449_inb : ∀ (i : grid0.Coords) (k0_t2 : Fin k0_t2_loop.trips) (v80 : BitVec 32) (v82 : BitVec 32) (v952 : BitVec 32) (k0_hw26 : k0_chk26 i k0_t2 v80 v82 v952), ∀ (k0_h9 : k0_cond9 i k0_t2 = 1#1), ∀ (k0_h11 : k0_cond11 v80 v82 = 1#1), ∀ a, (k0_off449 v952) a + S1x16.size a ≤ S64x128.size a := fun i k0_t2 v80 v82 v952 k0_hw26 k0_h9 k0_h11 => k0_hw26.2.2.2.2.2.1 k0_h9 k0_h11
theorem k0_off451_inb : ∀ (i : grid0.Coords) (k0_t2 : Fin k0_t2_loop.trips) (v80 : BitVec 32) (v82 : BitVec 32) (v952 : BitVec 32) (k0_hw26 : k0_chk26 i k0_t2 v80 v82 v952), ∀ (k0_h9 : k0_cond9 i k0_t2 = 1#1), ∀ (k0_h11 : k0_cond11 v80 v82 = 1#1), ∀ a, (k0_off451 v952) a + S1x16.size a ≤ S64x128.size a := fun i k0_t2 v80 v82 v952 k0_hw26 k0_h9 k0_h11 => k0_hw26.2.2.2.2.2.2.1 k0_h9 k0_h11
theorem k0_off453_inb : ∀ (i : grid0.Coords) (k0_t2 : Fin k0_t2_loop.trips) (v80 : BitVec 32) (v82 : BitVec 32) (v952 : BitVec 32) (k0_hw26 : k0_chk26 i k0_t2 v80 v82 v952), ∀ (k0_h9 : k0_cond9 i k0_t2 = 1#1), ∀ (k0_h11 : k0_cond11 v80 v82 = 1#1), ∀ a, (k0_off453 v952) a + S1x16.size a ≤ S64x128.size a := fun i k0_t2 v80 v82 v952 k0_hw26 k0_h9 k0_h11 => k0_hw26.2.2.2.2.2.2.2 k0_h9 k0_h11

def k0_off454 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c8_i32_307 : BitVec 32 := 8#32
  let v1067 : BitVec 32 := Scalar.addi v74 c8_i32_307
  let v1068 : Index := Scalar.indexCast v1067
  let c0_308 : Index := 0#32
  ![v1068.toNat, 0]
def k0_off455 (v1066 : BitVec 32) : Fin 2 → Nat :=
  let v1073 : Index := Scalar.indexCast v1066
  let c0_309 : Index := 0#32
  ![v1073.toNat, 0]

def k0_off456 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c8_i32_311 : BitVec 32 := 8#32
  let v1081 : BitVec 32 := Scalar.addi v74 c8_i32_311
  let v1082 : Index := Scalar.indexCast v1081
  let c16_312 : Index := 16#32
  ![v1082.toNat, 16]
def k0_off457 (v1066 : BitVec 32) : Fin 2 → Nat :=
  let v1087 : Index := Scalar.indexCast v1066
  let c16_313 : Index := 16#32
  ![v1087.toNat, 16]
def k0_off458 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c8_i32_315 : BitVec 32 := 8#32
  let v1095 : BitVec 32 := Scalar.addi v74 c8_i32_315
  let v1096 : Index := Scalar.indexCast v1095
  let c32_316 : Index := 32#32
  ![v1096.toNat, 32]
def k0_off459 (v1066 : BitVec 32) : Fin 2 → Nat :=
  let v1101 : Index := Scalar.indexCast v1066
  let c32_317 : Index := 32#32
  ![v1101.toNat, 32]
def k0_off460 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c8_i32_319 : BitVec 32 := 8#32
  let v1109 : BitVec 32 := Scalar.addi v74 c8_i32_319
  let v1110 : Index := Scalar.indexCast v1109
  let c48_320 : Index := 48#32
  ![v1110.toNat, 48]
def k0_off461 (v1066 : BitVec 32) : Fin 2 → Nat :=
  let v1115 : Index := Scalar.indexCast v1066
  let c48_321 : Index := 48#32
  ![v1115.toNat, 48]
def k0_off462 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c8_i32_323 : BitVec 32 := 8#32
  let v1123 : BitVec 32 := Scalar.addi v74 c8_i32_323
  let v1124 : Index := Scalar.indexCast v1123
  let c64_324 : Index := 64#32
  ![v1124.toNat, 64]
def k0_off463 (v1066 : BitVec 32) : Fin 2 → Nat :=
  let v1129 : Index := Scalar.indexCast v1066
  let c64_325 : Index := 64#32
  ![v1129.toNat, 64]
def k0_off464 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c8_i32_327 : BitVec 32 := 8#32
  let v1137 : BitVec 32 := Scalar.addi v74 c8_i32_327
  let v1138 : Index := Scalar.indexCast v1137
  let c80_328 : Index := 80#32
  ![v1138.toNat, 80]
def k0_off465 (v1066 : BitVec 32) : Fin 2 → Nat :=
  let v1143 : Index := Scalar.indexCast v1066
  let c80_329 : Index := 80#32
  ![v1143.toNat, 80]
def k0_off466 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c8_i32_331 : BitVec 32 := 8#32
  let v1151 : BitVec 32 := Scalar.addi v74 c8_i32_331
  let v1152 : Index := Scalar.indexCast v1151
  let c96_332 : Index := 96#32
  ![v1152.toNat, 96]
def k0_off467 (v1066 : BitVec 32) : Fin 2 → Nat :=
  let v1157 : Index := Scalar.indexCast v1066
  let c96_333 : Index := 96#32
  ![v1157.toNat, 96]
def k0_off468 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c8_i32_335 : BitVec 32 := 8#32
  let v1165 : BitVec 32 := Scalar.addi v74 c8_i32_335
  let v1166 : Index := Scalar.indexCast v1165
  let c112_336 : Index := 112#32
  ![v1166.toNat, 112]
def k0_off469 (v1066 : BitVec 32) : Fin 2 → Nat :=
  let v1171 : Index := Scalar.indexCast v1066
  let c112_337 : Index := 112#32
  ![v1171.toNat, 112]

def k0_chk27 (i : grid0.Coords) (k0_t2 : Fin k0_t2_loop.trips) (v80 : BitVec 32) (v82 : BitVec 32) (v1066 : BitVec 32) : Prop :=
  (∀ (k0_h9 : k0_cond9 i k0_t2 = 1#1), ∀ (k0_h11 : k0_cond11 v80 v82 = 1#1), ∀ a, (k0_off455 v1066) a + S1x16.size a ≤ S64x128.size a) ∧
  (∀ (k0_h9 : k0_cond9 i k0_t2 = 1#1), ∀ (k0_h11 : k0_cond11 v80 v82 = 1#1), ∀ a, (k0_off457 v1066) a + S1x16.size a ≤ S64x128.size a) ∧
  (∀ (k0_h9 : k0_cond9 i k0_t2 = 1#1), ∀ (k0_h11 : k0_cond11 v80 v82 = 1#1), ∀ a, (k0_off459 v1066) a + S1x16.size a ≤ S64x128.size a) ∧
  (∀ (k0_h9 : k0_cond9 i k0_t2 = 1#1), ∀ (k0_h11 : k0_cond11 v80 v82 = 1#1), ∀ a, (k0_off461 v1066) a + S1x16.size a ≤ S64x128.size a) ∧
  (∀ (k0_h9 : k0_cond9 i k0_t2 = 1#1), ∀ (k0_h11 : k0_cond11 v80 v82 = 1#1), ∀ a, (k0_off463 v1066) a + S1x16.size a ≤ S64x128.size a) ∧
  (∀ (k0_h9 : k0_cond9 i k0_t2 = 1#1), ∀ (k0_h11 : k0_cond11 v80 v82 = 1#1), ∀ a, (k0_off465 v1066) a + S1x16.size a ≤ S64x128.size a) ∧
  (∀ (k0_h9 : k0_cond9 i k0_t2 = 1#1), ∀ (k0_h11 : k0_cond11 v80 v82 = 1#1), ∀ a, (k0_off467 v1066) a + S1x16.size a ≤ S64x128.size a) ∧
  (∀ (k0_h9 : k0_cond9 i k0_t2 = 1#1), ∀ (k0_h11 : k0_cond11 v80 v82 = 1#1), ∀ a, (k0_off469 v1066) a + S1x16.size a ≤ S64x128.size a)
theorem k0_off455_inb : ∀ (i : grid0.Coords) (k0_t2 : Fin k0_t2_loop.trips) (v80 : BitVec 32) (v82 : BitVec 32) (v1066 : BitVec 32) (k0_hw27 : k0_chk27 i k0_t2 v80 v82 v1066), ∀ (k0_h9 : k0_cond9 i k0_t2 = 1#1), ∀ (k0_h11 : k0_cond11 v80 v82 = 1#1), ∀ a, (k0_off455 v1066) a + S1x16.size a ≤ S64x128.size a := fun i k0_t2 v80 v82 v1066 k0_hw27 k0_h9 k0_h11 => k0_hw27.1 k0_h9 k0_h11
theorem k0_off457_inb : ∀ (i : grid0.Coords) (k0_t2 : Fin k0_t2_loop.trips) (v80 : BitVec 32) (v82 : BitVec 32) (v1066 : BitVec 32) (k0_hw27 : k0_chk27 i k0_t2 v80 v82 v1066), ∀ (k0_h9 : k0_cond9 i k0_t2 = 1#1), ∀ (k0_h11 : k0_cond11 v80 v82 = 1#1), ∀ a, (k0_off457 v1066) a + S1x16.size a ≤ S64x128.size a := fun i k0_t2 v80 v82 v1066 k0_hw27 k0_h9 k0_h11 => k0_hw27.2.1 k0_h9 k0_h11
theorem k0_off459_inb : ∀ (i : grid0.Coords) (k0_t2 : Fin k0_t2_loop.trips) (v80 : BitVec 32) (v82 : BitVec 32) (v1066 : BitVec 32) (k0_hw27 : k0_chk27 i k0_t2 v80 v82 v1066), ∀ (k0_h9 : k0_cond9 i k0_t2 = 1#1), ∀ (k0_h11 : k0_cond11 v80 v82 = 1#1), ∀ a, (k0_off459 v1066) a + S1x16.size a ≤ S64x128.size a := fun i k0_t2 v80 v82 v1066 k0_hw27 k0_h9 k0_h11 => k0_hw27.2.2.1 k0_h9 k0_h11
theorem k0_off461_inb : ∀ (i : grid0.Coords) (k0_t2 : Fin k0_t2_loop.trips) (v80 : BitVec 32) (v82 : BitVec 32) (v1066 : BitVec 32) (k0_hw27 : k0_chk27 i k0_t2 v80 v82 v1066), ∀ (k0_h9 : k0_cond9 i k0_t2 = 1#1), ∀ (k0_h11 : k0_cond11 v80 v82 = 1#1), ∀ a, (k0_off461 v1066) a + S1x16.size a ≤ S64x128.size a := fun i k0_t2 v80 v82 v1066 k0_hw27 k0_h9 k0_h11 => k0_hw27.2.2.2.1 k0_h9 k0_h11
theorem k0_off463_inb : ∀ (i : grid0.Coords) (k0_t2 : Fin k0_t2_loop.trips) (v80 : BitVec 32) (v82 : BitVec 32) (v1066 : BitVec 32) (k0_hw27 : k0_chk27 i k0_t2 v80 v82 v1066), ∀ (k0_h9 : k0_cond9 i k0_t2 = 1#1), ∀ (k0_h11 : k0_cond11 v80 v82 = 1#1), ∀ a, (k0_off463 v1066) a + S1x16.size a ≤ S64x128.size a := fun i k0_t2 v80 v82 v1066 k0_hw27 k0_h9 k0_h11 => k0_hw27.2.2.2.2.1 k0_h9 k0_h11
theorem k0_off465_inb : ∀ (i : grid0.Coords) (k0_t2 : Fin k0_t2_loop.trips) (v80 : BitVec 32) (v82 : BitVec 32) (v1066 : BitVec 32) (k0_hw27 : k0_chk27 i k0_t2 v80 v82 v1066), ∀ (k0_h9 : k0_cond9 i k0_t2 = 1#1), ∀ (k0_h11 : k0_cond11 v80 v82 = 1#1), ∀ a, (k0_off465 v1066) a + S1x16.size a ≤ S64x128.size a := fun i k0_t2 v80 v82 v1066 k0_hw27 k0_h9 k0_h11 => k0_hw27.2.2.2.2.2.1 k0_h9 k0_h11
theorem k0_off467_inb : ∀ (i : grid0.Coords) (k0_t2 : Fin k0_t2_loop.trips) (v80 : BitVec 32) (v82 : BitVec 32) (v1066 : BitVec 32) (k0_hw27 : k0_chk27 i k0_t2 v80 v82 v1066), ∀ (k0_h9 : k0_cond9 i k0_t2 = 1#1), ∀ (k0_h11 : k0_cond11 v80 v82 = 1#1), ∀ a, (k0_off467 v1066) a + S1x16.size a ≤ S64x128.size a := fun i k0_t2 v80 v82 v1066 k0_hw27 k0_h9 k0_h11 => k0_hw27.2.2.2.2.2.2.1 k0_h9 k0_h11
theorem k0_off469_inb : ∀ (i : grid0.Coords) (k0_t2 : Fin k0_t2_loop.trips) (v80 : BitVec 32) (v82 : BitVec 32) (v1066 : BitVec 32) (k0_hw27 : k0_chk27 i k0_t2 v80 v82 v1066), ∀ (k0_h9 : k0_cond9 i k0_t2 = 1#1), ∀ (k0_h11 : k0_cond11 v80 v82 = 1#1), ∀ a, (k0_off469 v1066) a + S1x16.size a ≤ S64x128.size a := fun i k0_t2 v80 v82 v1066 k0_hw27 k0_h9 k0_h11 => k0_hw27.2.2.2.2.2.2.2 k0_h9 k0_h11

def k0_off470 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c9_i32 : BitVec 32 := 9#32
  let v1181 : BitVec 32 := Scalar.addi v74 c9_i32
  let v1182 : Index := Scalar.indexCast v1181
  let c0_339 : Index := 0#32
  ![v1182.toNat, 0]
def k0_off471 (v1180 : BitVec 32) : Fin 2 → Nat :=
  let v1187 : Index := Scalar.indexCast v1180
  let c0_340 : Index := 0#32
  ![v1187.toNat, 0]

def k0_off472 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c9_i32_342 : BitVec 32 := 9#32
  let v1195 : BitVec 32 := Scalar.addi v74 c9_i32_342
  let v1196 : Index := Scalar.indexCast v1195
  let c16_343 : Index := 16#32
  ![v1196.toNat, 16]
def k0_off473 (v1180 : BitVec 32) : Fin 2 → Nat :=
  let v1201 : Index := Scalar.indexCast v1180
  let c16_344 : Index := 16#32
  ![v1201.toNat, 16]
def k0_off474 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c9_i32_346 : BitVec 32 := 9#32
  let v1209 : BitVec 32 := Scalar.addi v74 c9_i32_346
  let v1210 : Index := Scalar.indexCast v1209
  let c32_347 : Index := 32#32
  ![v1210.toNat, 32]
def k0_off475 (v1180 : BitVec 32) : Fin 2 → Nat :=
  let v1215 : Index := Scalar.indexCast v1180
  let c32_348 : Index := 32#32
  ![v1215.toNat, 32]
def k0_off476 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c9_i32_350 : BitVec 32 := 9#32
  let v1223 : BitVec 32 := Scalar.addi v74 c9_i32_350
  let v1224 : Index := Scalar.indexCast v1223
  let c48_351 : Index := 48#32
  ![v1224.toNat, 48]
def k0_off477 (v1180 : BitVec 32) : Fin 2 → Nat :=
  let v1229 : Index := Scalar.indexCast v1180
  let c48_352 : Index := 48#32
  ![v1229.toNat, 48]
def k0_off478 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c9_i32_354 : BitVec 32 := 9#32
  let v1237 : BitVec 32 := Scalar.addi v74 c9_i32_354
  let v1238 : Index := Scalar.indexCast v1237
  let c64_355 : Index := 64#32
  ![v1238.toNat, 64]
def k0_off479 (v1180 : BitVec 32) : Fin 2 → Nat :=
  let v1243 : Index := Scalar.indexCast v1180
  let c64_356 : Index := 64#32
  ![v1243.toNat, 64]
def k0_off480 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c9_i32_358 : BitVec 32 := 9#32
  let v1251 : BitVec 32 := Scalar.addi v74 c9_i32_358
  let v1252 : Index := Scalar.indexCast v1251
  let c80_359 : Index := 80#32
  ![v1252.toNat, 80]
def k0_off481 (v1180 : BitVec 32) : Fin 2 → Nat :=
  let v1257 : Index := Scalar.indexCast v1180
  let c80_360 : Index := 80#32
  ![v1257.toNat, 80]
def k0_off482 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c9_i32_362 : BitVec 32 := 9#32
  let v1265 : BitVec 32 := Scalar.addi v74 c9_i32_362
  let v1266 : Index := Scalar.indexCast v1265
  let c96_363 : Index := 96#32
  ![v1266.toNat, 96]
def k0_off483 (v1180 : BitVec 32) : Fin 2 → Nat :=
  let v1271 : Index := Scalar.indexCast v1180
  let c96_364 : Index := 96#32
  ![v1271.toNat, 96]
def k0_off484 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c9_i32_366 : BitVec 32 := 9#32
  let v1279 : BitVec 32 := Scalar.addi v74 c9_i32_366
  let v1280 : Index := Scalar.indexCast v1279
  let c112_367 : Index := 112#32
  ![v1280.toNat, 112]
def k0_off485 (v1180 : BitVec 32) : Fin 2 → Nat :=
  let v1285 : Index := Scalar.indexCast v1180
  let c112_368 : Index := 112#32
  ![v1285.toNat, 112]

def k0_chk28 (i : grid0.Coords) (k0_t2 : Fin k0_t2_loop.trips) (v80 : BitVec 32) (v82 : BitVec 32) (v1180 : BitVec 32) : Prop :=
  (∀ (k0_h9 : k0_cond9 i k0_t2 = 1#1), ∀ (k0_h11 : k0_cond11 v80 v82 = 1#1), ∀ a, (k0_off471 v1180) a + S1x16.size a ≤ S64x128.size a) ∧
  (∀ (k0_h9 : k0_cond9 i k0_t2 = 1#1), ∀ (k0_h11 : k0_cond11 v80 v82 = 1#1), ∀ a, (k0_off473 v1180) a + S1x16.size a ≤ S64x128.size a) ∧
  (∀ (k0_h9 : k0_cond9 i k0_t2 = 1#1), ∀ (k0_h11 : k0_cond11 v80 v82 = 1#1), ∀ a, (k0_off475 v1180) a + S1x16.size a ≤ S64x128.size a) ∧
  (∀ (k0_h9 : k0_cond9 i k0_t2 = 1#1), ∀ (k0_h11 : k0_cond11 v80 v82 = 1#1), ∀ a, (k0_off477 v1180) a + S1x16.size a ≤ S64x128.size a) ∧
  (∀ (k0_h9 : k0_cond9 i k0_t2 = 1#1), ∀ (k0_h11 : k0_cond11 v80 v82 = 1#1), ∀ a, (k0_off479 v1180) a + S1x16.size a ≤ S64x128.size a) ∧
  (∀ (k0_h9 : k0_cond9 i k0_t2 = 1#1), ∀ (k0_h11 : k0_cond11 v80 v82 = 1#1), ∀ a, (k0_off481 v1180) a + S1x16.size a ≤ S64x128.size a) ∧
  (∀ (k0_h9 : k0_cond9 i k0_t2 = 1#1), ∀ (k0_h11 : k0_cond11 v80 v82 = 1#1), ∀ a, (k0_off483 v1180) a + S1x16.size a ≤ S64x128.size a) ∧
  (∀ (k0_h9 : k0_cond9 i k0_t2 = 1#1), ∀ (k0_h11 : k0_cond11 v80 v82 = 1#1), ∀ a, (k0_off485 v1180) a + S1x16.size a ≤ S64x128.size a)
theorem k0_off471_inb : ∀ (i : grid0.Coords) (k0_t2 : Fin k0_t2_loop.trips) (v80 : BitVec 32) (v82 : BitVec 32) (v1180 : BitVec 32) (k0_hw28 : k0_chk28 i k0_t2 v80 v82 v1180), ∀ (k0_h9 : k0_cond9 i k0_t2 = 1#1), ∀ (k0_h11 : k0_cond11 v80 v82 = 1#1), ∀ a, (k0_off471 v1180) a + S1x16.size a ≤ S64x128.size a := fun i k0_t2 v80 v82 v1180 k0_hw28 k0_h9 k0_h11 => k0_hw28.1 k0_h9 k0_h11
theorem k0_off473_inb : ∀ (i : grid0.Coords) (k0_t2 : Fin k0_t2_loop.trips) (v80 : BitVec 32) (v82 : BitVec 32) (v1180 : BitVec 32) (k0_hw28 : k0_chk28 i k0_t2 v80 v82 v1180), ∀ (k0_h9 : k0_cond9 i k0_t2 = 1#1), ∀ (k0_h11 : k0_cond11 v80 v82 = 1#1), ∀ a, (k0_off473 v1180) a + S1x16.size a ≤ S64x128.size a := fun i k0_t2 v80 v82 v1180 k0_hw28 k0_h9 k0_h11 => k0_hw28.2.1 k0_h9 k0_h11
theorem k0_off475_inb : ∀ (i : grid0.Coords) (k0_t2 : Fin k0_t2_loop.trips) (v80 : BitVec 32) (v82 : BitVec 32) (v1180 : BitVec 32) (k0_hw28 : k0_chk28 i k0_t2 v80 v82 v1180), ∀ (k0_h9 : k0_cond9 i k0_t2 = 1#1), ∀ (k0_h11 : k0_cond11 v80 v82 = 1#1), ∀ a, (k0_off475 v1180) a + S1x16.size a ≤ S64x128.size a := fun i k0_t2 v80 v82 v1180 k0_hw28 k0_h9 k0_h11 => k0_hw28.2.2.1 k0_h9 k0_h11
theorem k0_off477_inb : ∀ (i : grid0.Coords) (k0_t2 : Fin k0_t2_loop.trips) (v80 : BitVec 32) (v82 : BitVec 32) (v1180 : BitVec 32) (k0_hw28 : k0_chk28 i k0_t2 v80 v82 v1180), ∀ (k0_h9 : k0_cond9 i k0_t2 = 1#1), ∀ (k0_h11 : k0_cond11 v80 v82 = 1#1), ∀ a, (k0_off477 v1180) a + S1x16.size a ≤ S64x128.size a := fun i k0_t2 v80 v82 v1180 k0_hw28 k0_h9 k0_h11 => k0_hw28.2.2.2.1 k0_h9 k0_h11
theorem k0_off479_inb : ∀ (i : grid0.Coords) (k0_t2 : Fin k0_t2_loop.trips) (v80 : BitVec 32) (v82 : BitVec 32) (v1180 : BitVec 32) (k0_hw28 : k0_chk28 i k0_t2 v80 v82 v1180), ∀ (k0_h9 : k0_cond9 i k0_t2 = 1#1), ∀ (k0_h11 : k0_cond11 v80 v82 = 1#1), ∀ a, (k0_off479 v1180) a + S1x16.size a ≤ S64x128.size a := fun i k0_t2 v80 v82 v1180 k0_hw28 k0_h9 k0_h11 => k0_hw28.2.2.2.2.1 k0_h9 k0_h11
theorem k0_off481_inb : ∀ (i : grid0.Coords) (k0_t2 : Fin k0_t2_loop.trips) (v80 : BitVec 32) (v82 : BitVec 32) (v1180 : BitVec 32) (k0_hw28 : k0_chk28 i k0_t2 v80 v82 v1180), ∀ (k0_h9 : k0_cond9 i k0_t2 = 1#1), ∀ (k0_h11 : k0_cond11 v80 v82 = 1#1), ∀ a, (k0_off481 v1180) a + S1x16.size a ≤ S64x128.size a := fun i k0_t2 v80 v82 v1180 k0_hw28 k0_h9 k0_h11 => k0_hw28.2.2.2.2.2.1 k0_h9 k0_h11
theorem k0_off483_inb : ∀ (i : grid0.Coords) (k0_t2 : Fin k0_t2_loop.trips) (v80 : BitVec 32) (v82 : BitVec 32) (v1180 : BitVec 32) (k0_hw28 : k0_chk28 i k0_t2 v80 v82 v1180), ∀ (k0_h9 : k0_cond9 i k0_t2 = 1#1), ∀ (k0_h11 : k0_cond11 v80 v82 = 1#1), ∀ a, (k0_off483 v1180) a + S1x16.size a ≤ S64x128.size a := fun i k0_t2 v80 v82 v1180 k0_hw28 k0_h9 k0_h11 => k0_hw28.2.2.2.2.2.2.1 k0_h9 k0_h11
theorem k0_off485_inb : ∀ (i : grid0.Coords) (k0_t2 : Fin k0_t2_loop.trips) (v80 : BitVec 32) (v82 : BitVec 32) (v1180 : BitVec 32) (k0_hw28 : k0_chk28 i k0_t2 v80 v82 v1180), ∀ (k0_h9 : k0_cond9 i k0_t2 = 1#1), ∀ (k0_h11 : k0_cond11 v80 v82 = 1#1), ∀ a, (k0_off485 v1180) a + S1x16.size a ≤ S64x128.size a := fun i k0_t2 v80 v82 v1180 k0_hw28 k0_h9 k0_h11 => k0_hw28.2.2.2.2.2.2.2 k0_h9 k0_h11

def k0_off486 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c10_i32 : BitVec 32 := 10#32
  let v1295 : BitVec 32 := Scalar.addi v74 c10_i32
  let v1296 : Index := Scalar.indexCast v1295
  let c0_370 : Index := 0#32
  ![v1296.toNat, 0]
def k0_off487 (v1294 : BitVec 32) : Fin 2 → Nat :=
  let v1301 : Index := Scalar.indexCast v1294
  let c0_371 : Index := 0#32
  ![v1301.toNat, 0]

def k0_off488 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c10_i32_373 : BitVec 32 := 10#32
  let v1309 : BitVec 32 := Scalar.addi v74 c10_i32_373
  let v1310 : Index := Scalar.indexCast v1309
  let c16_374 : Index := 16#32
  ![v1310.toNat, 16]
def k0_off489 (v1294 : BitVec 32) : Fin 2 → Nat :=
  let v1315 : Index := Scalar.indexCast v1294
  let c16_375 : Index := 16#32
  ![v1315.toNat, 16]
def k0_off490 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c10_i32_377 : BitVec 32 := 10#32
  let v1323 : BitVec 32 := Scalar.addi v74 c10_i32_377
  let v1324 : Index := Scalar.indexCast v1323
  let c32_378 : Index := 32#32
  ![v1324.toNat, 32]
def k0_off491 (v1294 : BitVec 32) : Fin 2 → Nat :=
  let v1329 : Index := Scalar.indexCast v1294
  let c32_379 : Index := 32#32
  ![v1329.toNat, 32]
def k0_off492 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c10_i32_381 : BitVec 32 := 10#32
  let v1337 : BitVec 32 := Scalar.addi v74 c10_i32_381
  let v1338 : Index := Scalar.indexCast v1337
  let c48_382 : Index := 48#32
  ![v1338.toNat, 48]
def k0_off493 (v1294 : BitVec 32) : Fin 2 → Nat :=
  let v1343 : Index := Scalar.indexCast v1294
  let c48_383 : Index := 48#32
  ![v1343.toNat, 48]
def k0_off494 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c10_i32_385 : BitVec 32 := 10#32
  let v1351 : BitVec 32 := Scalar.addi v74 c10_i32_385
  let v1352 : Index := Scalar.indexCast v1351
  let c64_386 : Index := 64#32
  ![v1352.toNat, 64]
def k0_off495 (v1294 : BitVec 32) : Fin 2 → Nat :=
  let v1357 : Index := Scalar.indexCast v1294
  let c64_387 : Index := 64#32
  ![v1357.toNat, 64]
def k0_off496 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c10_i32_389 : BitVec 32 := 10#32
  let v1365 : BitVec 32 := Scalar.addi v74 c10_i32_389
  let v1366 : Index := Scalar.indexCast v1365
  let c80_390 : Index := 80#32
  ![v1366.toNat, 80]
def k0_off497 (v1294 : BitVec 32) : Fin 2 → Nat :=
  let v1371 : Index := Scalar.indexCast v1294
  let c80_391 : Index := 80#32
  ![v1371.toNat, 80]
def k0_off498 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c10_i32_393 : BitVec 32 := 10#32
  let v1379 : BitVec 32 := Scalar.addi v74 c10_i32_393
  let v1380 : Index := Scalar.indexCast v1379
  let c96_394 : Index := 96#32
  ![v1380.toNat, 96]
def k0_off499 (v1294 : BitVec 32) : Fin 2 → Nat :=
  let v1385 : Index := Scalar.indexCast v1294
  let c96_395 : Index := 96#32
  ![v1385.toNat, 96]
def k0_off500 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c10_i32_397 : BitVec 32 := 10#32
  let v1393 : BitVec 32 := Scalar.addi v74 c10_i32_397
  let v1394 : Index := Scalar.indexCast v1393
  let c112_398 : Index := 112#32
  ![v1394.toNat, 112]
def k0_off501 (v1294 : BitVec 32) : Fin 2 → Nat :=
  let v1399 : Index := Scalar.indexCast v1294
  let c112_399 : Index := 112#32
  ![v1399.toNat, 112]

def k0_chk29 (i : grid0.Coords) (k0_t2 : Fin k0_t2_loop.trips) (v80 : BitVec 32) (v82 : BitVec 32) (v1294 : BitVec 32) : Prop :=
  (∀ (k0_h9 : k0_cond9 i k0_t2 = 1#1), ∀ (k0_h11 : k0_cond11 v80 v82 = 1#1), ∀ a, (k0_off487 v1294) a + S1x16.size a ≤ S64x128.size a) ∧
  (∀ (k0_h9 : k0_cond9 i k0_t2 = 1#1), ∀ (k0_h11 : k0_cond11 v80 v82 = 1#1), ∀ a, (k0_off489 v1294) a + S1x16.size a ≤ S64x128.size a) ∧
  (∀ (k0_h9 : k0_cond9 i k0_t2 = 1#1), ∀ (k0_h11 : k0_cond11 v80 v82 = 1#1), ∀ a, (k0_off491 v1294) a + S1x16.size a ≤ S64x128.size a) ∧
  (∀ (k0_h9 : k0_cond9 i k0_t2 = 1#1), ∀ (k0_h11 : k0_cond11 v80 v82 = 1#1), ∀ a, (k0_off493 v1294) a + S1x16.size a ≤ S64x128.size a) ∧
  (∀ (k0_h9 : k0_cond9 i k0_t2 = 1#1), ∀ (k0_h11 : k0_cond11 v80 v82 = 1#1), ∀ a, (k0_off495 v1294) a + S1x16.size a ≤ S64x128.size a) ∧
  (∀ (k0_h9 : k0_cond9 i k0_t2 = 1#1), ∀ (k0_h11 : k0_cond11 v80 v82 = 1#1), ∀ a, (k0_off497 v1294) a + S1x16.size a ≤ S64x128.size a) ∧
  (∀ (k0_h9 : k0_cond9 i k0_t2 = 1#1), ∀ (k0_h11 : k0_cond11 v80 v82 = 1#1), ∀ a, (k0_off499 v1294) a + S1x16.size a ≤ S64x128.size a) ∧
  (∀ (k0_h9 : k0_cond9 i k0_t2 = 1#1), ∀ (k0_h11 : k0_cond11 v80 v82 = 1#1), ∀ a, (k0_off501 v1294) a + S1x16.size a ≤ S64x128.size a)
theorem k0_off487_inb : ∀ (i : grid0.Coords) (k0_t2 : Fin k0_t2_loop.trips) (v80 : BitVec 32) (v82 : BitVec 32) (v1294 : BitVec 32) (k0_hw29 : k0_chk29 i k0_t2 v80 v82 v1294), ∀ (k0_h9 : k0_cond9 i k0_t2 = 1#1), ∀ (k0_h11 : k0_cond11 v80 v82 = 1#1), ∀ a, (k0_off487 v1294) a + S1x16.size a ≤ S64x128.size a := fun i k0_t2 v80 v82 v1294 k0_hw29 k0_h9 k0_h11 => k0_hw29.1 k0_h9 k0_h11
theorem k0_off489_inb : ∀ (i : grid0.Coords) (k0_t2 : Fin k0_t2_loop.trips) (v80 : BitVec 32) (v82 : BitVec 32) (v1294 : BitVec 32) (k0_hw29 : k0_chk29 i k0_t2 v80 v82 v1294), ∀ (k0_h9 : k0_cond9 i k0_t2 = 1#1), ∀ (k0_h11 : k0_cond11 v80 v82 = 1#1), ∀ a, (k0_off489 v1294) a + S1x16.size a ≤ S64x128.size a := fun i k0_t2 v80 v82 v1294 k0_hw29 k0_h9 k0_h11 => k0_hw29.2.1 k0_h9 k0_h11
theorem k0_off491_inb : ∀ (i : grid0.Coords) (k0_t2 : Fin k0_t2_loop.trips) (v80 : BitVec 32) (v82 : BitVec 32) (v1294 : BitVec 32) (k0_hw29 : k0_chk29 i k0_t2 v80 v82 v1294), ∀ (k0_h9 : k0_cond9 i k0_t2 = 1#1), ∀ (k0_h11 : k0_cond11 v80 v82 = 1#1), ∀ a, (k0_off491 v1294) a + S1x16.size a ≤ S64x128.size a := fun i k0_t2 v80 v82 v1294 k0_hw29 k0_h9 k0_h11 => k0_hw29.2.2.1 k0_h9 k0_h11
theorem k0_off493_inb : ∀ (i : grid0.Coords) (k0_t2 : Fin k0_t2_loop.trips) (v80 : BitVec 32) (v82 : BitVec 32) (v1294 : BitVec 32) (k0_hw29 : k0_chk29 i k0_t2 v80 v82 v1294), ∀ (k0_h9 : k0_cond9 i k0_t2 = 1#1), ∀ (k0_h11 : k0_cond11 v80 v82 = 1#1), ∀ a, (k0_off493 v1294) a + S1x16.size a ≤ S64x128.size a := fun i k0_t2 v80 v82 v1294 k0_hw29 k0_h9 k0_h11 => k0_hw29.2.2.2.1 k0_h9 k0_h11
theorem k0_off495_inb : ∀ (i : grid0.Coords) (k0_t2 : Fin k0_t2_loop.trips) (v80 : BitVec 32) (v82 : BitVec 32) (v1294 : BitVec 32) (k0_hw29 : k0_chk29 i k0_t2 v80 v82 v1294), ∀ (k0_h9 : k0_cond9 i k0_t2 = 1#1), ∀ (k0_h11 : k0_cond11 v80 v82 = 1#1), ∀ a, (k0_off495 v1294) a + S1x16.size a ≤ S64x128.size a := fun i k0_t2 v80 v82 v1294 k0_hw29 k0_h9 k0_h11 => k0_hw29.2.2.2.2.1 k0_h9 k0_h11
theorem k0_off497_inb : ∀ (i : grid0.Coords) (k0_t2 : Fin k0_t2_loop.trips) (v80 : BitVec 32) (v82 : BitVec 32) (v1294 : BitVec 32) (k0_hw29 : k0_chk29 i k0_t2 v80 v82 v1294), ∀ (k0_h9 : k0_cond9 i k0_t2 = 1#1), ∀ (k0_h11 : k0_cond11 v80 v82 = 1#1), ∀ a, (k0_off497 v1294) a + S1x16.size a ≤ S64x128.size a := fun i k0_t2 v80 v82 v1294 k0_hw29 k0_h9 k0_h11 => k0_hw29.2.2.2.2.2.1 k0_h9 k0_h11
theorem k0_off499_inb : ∀ (i : grid0.Coords) (k0_t2 : Fin k0_t2_loop.trips) (v80 : BitVec 32) (v82 : BitVec 32) (v1294 : BitVec 32) (k0_hw29 : k0_chk29 i k0_t2 v80 v82 v1294), ∀ (k0_h9 : k0_cond9 i k0_t2 = 1#1), ∀ (k0_h11 : k0_cond11 v80 v82 = 1#1), ∀ a, (k0_off499 v1294) a + S1x16.size a ≤ S64x128.size a := fun i k0_t2 v80 v82 v1294 k0_hw29 k0_h9 k0_h11 => k0_hw29.2.2.2.2.2.2.1 k0_h9 k0_h11
theorem k0_off501_inb : ∀ (i : grid0.Coords) (k0_t2 : Fin k0_t2_loop.trips) (v80 : BitVec 32) (v82 : BitVec 32) (v1294 : BitVec 32) (k0_hw29 : k0_chk29 i k0_t2 v80 v82 v1294), ∀ (k0_h9 : k0_cond9 i k0_t2 = 1#1), ∀ (k0_h11 : k0_cond11 v80 v82 = 1#1), ∀ a, (k0_off501 v1294) a + S1x16.size a ≤ S64x128.size a := fun i k0_t2 v80 v82 v1294 k0_hw29 k0_h9 k0_h11 => k0_hw29.2.2.2.2.2.2.2 k0_h9 k0_h11

def k0_off502 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c11_i32 : BitVec 32 := 11#32
  let v1409 : BitVec 32 := Scalar.addi v74 c11_i32
  let v1410 : Index := Scalar.indexCast v1409
  let c0_401 : Index := 0#32
  ![v1410.toNat, 0]
def k0_off503 (v1408 : BitVec 32) : Fin 2 → Nat :=
  let v1415 : Index := Scalar.indexCast v1408
  let c0_402 : Index := 0#32
  ![v1415.toNat, 0]

def k0_off504 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c11_i32_404 : BitVec 32 := 11#32
  let v1423 : BitVec 32 := Scalar.addi v74 c11_i32_404
  let v1424 : Index := Scalar.indexCast v1423
  let c16_405 : Index := 16#32
  ![v1424.toNat, 16]
def k0_off505 (v1408 : BitVec 32) : Fin 2 → Nat :=
  let v1429 : Index := Scalar.indexCast v1408
  let c16_406 : Index := 16#32
  ![v1429.toNat, 16]
def k0_off506 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c11_i32_408 : BitVec 32 := 11#32
  let v1437 : BitVec 32 := Scalar.addi v74 c11_i32_408
  let v1438 : Index := Scalar.indexCast v1437
  let c32_409 : Index := 32#32
  ![v1438.toNat, 32]
def k0_off507 (v1408 : BitVec 32) : Fin 2 → Nat :=
  let v1443 : Index := Scalar.indexCast v1408
  let c32_410 : Index := 32#32
  ![v1443.toNat, 32]
def k0_off508 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c11_i32_412 : BitVec 32 := 11#32
  let v1451 : BitVec 32 := Scalar.addi v74 c11_i32_412
  let v1452 : Index := Scalar.indexCast v1451
  let c48_413 : Index := 48#32
  ![v1452.toNat, 48]
def k0_off509 (v1408 : BitVec 32) : Fin 2 → Nat :=
  let v1457 : Index := Scalar.indexCast v1408
  let c48_414 : Index := 48#32
  ![v1457.toNat, 48]
def k0_off510 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c11_i32_416 : BitVec 32 := 11#32
  let v1465 : BitVec 32 := Scalar.addi v74 c11_i32_416
  let v1466 : Index := Scalar.indexCast v1465
  let c64_417 : Index := 64#32
  ![v1466.toNat, 64]
def k0_off511 (v1408 : BitVec 32) : Fin 2 → Nat :=
  let v1471 : Index := Scalar.indexCast v1408
  let c64_418 : Index := 64#32
  ![v1471.toNat, 64]
def k0_off512 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c11_i32_420 : BitVec 32 := 11#32
  let v1479 : BitVec 32 := Scalar.addi v74 c11_i32_420
  let v1480 : Index := Scalar.indexCast v1479
  let c80_421 : Index := 80#32
  ![v1480.toNat, 80]
def k0_off513 (v1408 : BitVec 32) : Fin 2 → Nat :=
  let v1485 : Index := Scalar.indexCast v1408
  let c80_422 : Index := 80#32
  ![v1485.toNat, 80]
def k0_off514 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c11_i32_424 : BitVec 32 := 11#32
  let v1493 : BitVec 32 := Scalar.addi v74 c11_i32_424
  let v1494 : Index := Scalar.indexCast v1493
  let c96_425 : Index := 96#32
  ![v1494.toNat, 96]
def k0_off515 (v1408 : BitVec 32) : Fin 2 → Nat :=
  let v1499 : Index := Scalar.indexCast v1408
  let c96_426 : Index := 96#32
  ![v1499.toNat, 96]
def k0_off516 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c11_i32_428 : BitVec 32 := 11#32
  let v1507 : BitVec 32 := Scalar.addi v74 c11_i32_428
  let v1508 : Index := Scalar.indexCast v1507
  let c112_429 : Index := 112#32
  ![v1508.toNat, 112]
def k0_off517 (v1408 : BitVec 32) : Fin 2 → Nat :=
  let v1513 : Index := Scalar.indexCast v1408
  let c112_430 : Index := 112#32
  ![v1513.toNat, 112]

def k0_chk30 (i : grid0.Coords) (k0_t2 : Fin k0_t2_loop.trips) (v80 : BitVec 32) (v82 : BitVec 32) (v1408 : BitVec 32) : Prop :=
  (∀ (k0_h9 : k0_cond9 i k0_t2 = 1#1), ∀ (k0_h11 : k0_cond11 v80 v82 = 1#1), ∀ a, (k0_off503 v1408) a + S1x16.size a ≤ S64x128.size a) ∧
  (∀ (k0_h9 : k0_cond9 i k0_t2 = 1#1), ∀ (k0_h11 : k0_cond11 v80 v82 = 1#1), ∀ a, (k0_off505 v1408) a + S1x16.size a ≤ S64x128.size a) ∧
  (∀ (k0_h9 : k0_cond9 i k0_t2 = 1#1), ∀ (k0_h11 : k0_cond11 v80 v82 = 1#1), ∀ a, (k0_off507 v1408) a + S1x16.size a ≤ S64x128.size a) ∧
  (∀ (k0_h9 : k0_cond9 i k0_t2 = 1#1), ∀ (k0_h11 : k0_cond11 v80 v82 = 1#1), ∀ a, (k0_off509 v1408) a + S1x16.size a ≤ S64x128.size a) ∧
  (∀ (k0_h9 : k0_cond9 i k0_t2 = 1#1), ∀ (k0_h11 : k0_cond11 v80 v82 = 1#1), ∀ a, (k0_off511 v1408) a + S1x16.size a ≤ S64x128.size a) ∧
  (∀ (k0_h9 : k0_cond9 i k0_t2 = 1#1), ∀ (k0_h11 : k0_cond11 v80 v82 = 1#1), ∀ a, (k0_off513 v1408) a + S1x16.size a ≤ S64x128.size a) ∧
  (∀ (k0_h9 : k0_cond9 i k0_t2 = 1#1), ∀ (k0_h11 : k0_cond11 v80 v82 = 1#1), ∀ a, (k0_off515 v1408) a + S1x16.size a ≤ S64x128.size a) ∧
  (∀ (k0_h9 : k0_cond9 i k0_t2 = 1#1), ∀ (k0_h11 : k0_cond11 v80 v82 = 1#1), ∀ a, (k0_off517 v1408) a + S1x16.size a ≤ S64x128.size a)
theorem k0_off503_inb : ∀ (i : grid0.Coords) (k0_t2 : Fin k0_t2_loop.trips) (v80 : BitVec 32) (v82 : BitVec 32) (v1408 : BitVec 32) (k0_hw30 : k0_chk30 i k0_t2 v80 v82 v1408), ∀ (k0_h9 : k0_cond9 i k0_t2 = 1#1), ∀ (k0_h11 : k0_cond11 v80 v82 = 1#1), ∀ a, (k0_off503 v1408) a + S1x16.size a ≤ S64x128.size a := fun i k0_t2 v80 v82 v1408 k0_hw30 k0_h9 k0_h11 => k0_hw30.1 k0_h9 k0_h11
theorem k0_off505_inb : ∀ (i : grid0.Coords) (k0_t2 : Fin k0_t2_loop.trips) (v80 : BitVec 32) (v82 : BitVec 32) (v1408 : BitVec 32) (k0_hw30 : k0_chk30 i k0_t2 v80 v82 v1408), ∀ (k0_h9 : k0_cond9 i k0_t2 = 1#1), ∀ (k0_h11 : k0_cond11 v80 v82 = 1#1), ∀ a, (k0_off505 v1408) a + S1x16.size a ≤ S64x128.size a := fun i k0_t2 v80 v82 v1408 k0_hw30 k0_h9 k0_h11 => k0_hw30.2.1 k0_h9 k0_h11
theorem k0_off507_inb : ∀ (i : grid0.Coords) (k0_t2 : Fin k0_t2_loop.trips) (v80 : BitVec 32) (v82 : BitVec 32) (v1408 : BitVec 32) (k0_hw30 : k0_chk30 i k0_t2 v80 v82 v1408), ∀ (k0_h9 : k0_cond9 i k0_t2 = 1#1), ∀ (k0_h11 : k0_cond11 v80 v82 = 1#1), ∀ a, (k0_off507 v1408) a + S1x16.size a ≤ S64x128.size a := fun i k0_t2 v80 v82 v1408 k0_hw30 k0_h9 k0_h11 => k0_hw30.2.2.1 k0_h9 k0_h11
theorem k0_off509_inb : ∀ (i : grid0.Coords) (k0_t2 : Fin k0_t2_loop.trips) (v80 : BitVec 32) (v82 : BitVec 32) (v1408 : BitVec 32) (k0_hw30 : k0_chk30 i k0_t2 v80 v82 v1408), ∀ (k0_h9 : k0_cond9 i k0_t2 = 1#1), ∀ (k0_h11 : k0_cond11 v80 v82 = 1#1), ∀ a, (k0_off509 v1408) a + S1x16.size a ≤ S64x128.size a := fun i k0_t2 v80 v82 v1408 k0_hw30 k0_h9 k0_h11 => k0_hw30.2.2.2.1 k0_h9 k0_h11
theorem k0_off511_inb : ∀ (i : grid0.Coords) (k0_t2 : Fin k0_t2_loop.trips) (v80 : BitVec 32) (v82 : BitVec 32) (v1408 : BitVec 32) (k0_hw30 : k0_chk30 i k0_t2 v80 v82 v1408), ∀ (k0_h9 : k0_cond9 i k0_t2 = 1#1), ∀ (k0_h11 : k0_cond11 v80 v82 = 1#1), ∀ a, (k0_off511 v1408) a + S1x16.size a ≤ S64x128.size a := fun i k0_t2 v80 v82 v1408 k0_hw30 k0_h9 k0_h11 => k0_hw30.2.2.2.2.1 k0_h9 k0_h11
theorem k0_off513_inb : ∀ (i : grid0.Coords) (k0_t2 : Fin k0_t2_loop.trips) (v80 : BitVec 32) (v82 : BitVec 32) (v1408 : BitVec 32) (k0_hw30 : k0_chk30 i k0_t2 v80 v82 v1408), ∀ (k0_h9 : k0_cond9 i k0_t2 = 1#1), ∀ (k0_h11 : k0_cond11 v80 v82 = 1#1), ∀ a, (k0_off513 v1408) a + S1x16.size a ≤ S64x128.size a := fun i k0_t2 v80 v82 v1408 k0_hw30 k0_h9 k0_h11 => k0_hw30.2.2.2.2.2.1 k0_h9 k0_h11
theorem k0_off515_inb : ∀ (i : grid0.Coords) (k0_t2 : Fin k0_t2_loop.trips) (v80 : BitVec 32) (v82 : BitVec 32) (v1408 : BitVec 32) (k0_hw30 : k0_chk30 i k0_t2 v80 v82 v1408), ∀ (k0_h9 : k0_cond9 i k0_t2 = 1#1), ∀ (k0_h11 : k0_cond11 v80 v82 = 1#1), ∀ a, (k0_off515 v1408) a + S1x16.size a ≤ S64x128.size a := fun i k0_t2 v80 v82 v1408 k0_hw30 k0_h9 k0_h11 => k0_hw30.2.2.2.2.2.2.1 k0_h9 k0_h11
theorem k0_off517_inb : ∀ (i : grid0.Coords) (k0_t2 : Fin k0_t2_loop.trips) (v80 : BitVec 32) (v82 : BitVec 32) (v1408 : BitVec 32) (k0_hw30 : k0_chk30 i k0_t2 v80 v82 v1408), ∀ (k0_h9 : k0_cond9 i k0_t2 = 1#1), ∀ (k0_h11 : k0_cond11 v80 v82 = 1#1), ∀ a, (k0_off517 v1408) a + S1x16.size a ≤ S64x128.size a := fun i k0_t2 v80 v82 v1408 k0_hw30 k0_h9 k0_h11 => k0_hw30.2.2.2.2.2.2.2 k0_h9 k0_h11

def k0_off518 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c12_i32 : BitVec 32 := 12#32
  let v1523 : BitVec 32 := Scalar.addi v74 c12_i32
  let v1524 : Index := Scalar.indexCast v1523
  let c0_432 : Index := 0#32
  ![v1524.toNat, 0]
def k0_off519 (v1522 : BitVec 32) : Fin 2 → Nat :=
  let v1529 : Index := Scalar.indexCast v1522
  let c0_433 : Index := 0#32
  ![v1529.toNat, 0]

def k0_off520 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c12_i32_435 : BitVec 32 := 12#32
  let v1537 : BitVec 32 := Scalar.addi v74 c12_i32_435
  let v1538 : Index := Scalar.indexCast v1537
  let c16_436 : Index := 16#32
  ![v1538.toNat, 16]
def k0_off521 (v1522 : BitVec 32) : Fin 2 → Nat :=
  let v1543 : Index := Scalar.indexCast v1522
  let c16_437 : Index := 16#32
  ![v1543.toNat, 16]
def k0_off522 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c12_i32_439 : BitVec 32 := 12#32
  let v1551 : BitVec 32 := Scalar.addi v74 c12_i32_439
  let v1552 : Index := Scalar.indexCast v1551
  let c32_440 : Index := 32#32
  ![v1552.toNat, 32]
def k0_off523 (v1522 : BitVec 32) : Fin 2 → Nat :=
  let v1557 : Index := Scalar.indexCast v1522
  let c32_441 : Index := 32#32
  ![v1557.toNat, 32]
def k0_off524 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c12_i32_443 : BitVec 32 := 12#32
  let v1565 : BitVec 32 := Scalar.addi v74 c12_i32_443
  let v1566 : Index := Scalar.indexCast v1565
  let c48_444 : Index := 48#32
  ![v1566.toNat, 48]
def k0_off525 (v1522 : BitVec 32) : Fin 2 → Nat :=
  let v1571 : Index := Scalar.indexCast v1522
  let c48_445 : Index := 48#32
  ![v1571.toNat, 48]
def k0_off526 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c12_i32_447 : BitVec 32 := 12#32
  let v1579 : BitVec 32 := Scalar.addi v74 c12_i32_447
  let v1580 : Index := Scalar.indexCast v1579
  let c64_448 : Index := 64#32
  ![v1580.toNat, 64]
def k0_off527 (v1522 : BitVec 32) : Fin 2 → Nat :=
  let v1585 : Index := Scalar.indexCast v1522
  let c64_449 : Index := 64#32
  ![v1585.toNat, 64]
def k0_off528 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c12_i32_451 : BitVec 32 := 12#32
  let v1593 : BitVec 32 := Scalar.addi v74 c12_i32_451
  let v1594 : Index := Scalar.indexCast v1593
  let c80_452 : Index := 80#32
  ![v1594.toNat, 80]
def k0_off529 (v1522 : BitVec 32) : Fin 2 → Nat :=
  let v1599 : Index := Scalar.indexCast v1522
  let c80_453 : Index := 80#32
  ![v1599.toNat, 80]
def k0_off530 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c12_i32_455 : BitVec 32 := 12#32
  let v1607 : BitVec 32 := Scalar.addi v74 c12_i32_455
  let v1608 : Index := Scalar.indexCast v1607
  let c96_456 : Index := 96#32
  ![v1608.toNat, 96]
def k0_off531 (v1522 : BitVec 32) : Fin 2 → Nat :=
  let v1613 : Index := Scalar.indexCast v1522
  let c96_457 : Index := 96#32
  ![v1613.toNat, 96]
def k0_off532 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c12_i32_459 : BitVec 32 := 12#32
  let v1621 : BitVec 32 := Scalar.addi v74 c12_i32_459
  let v1622 : Index := Scalar.indexCast v1621
  let c112_460 : Index := 112#32
  ![v1622.toNat, 112]
def k0_off533 (v1522 : BitVec 32) : Fin 2 → Nat :=
  let v1627 : Index := Scalar.indexCast v1522
  let c112_461 : Index := 112#32
  ![v1627.toNat, 112]

def k0_chk31 (i : grid0.Coords) (k0_t2 : Fin k0_t2_loop.trips) (v80 : BitVec 32) (v82 : BitVec 32) (v1522 : BitVec 32) : Prop :=
  (∀ (k0_h9 : k0_cond9 i k0_t2 = 1#1), ∀ (k0_h11 : k0_cond11 v80 v82 = 1#1), ∀ a, (k0_off519 v1522) a + S1x16.size a ≤ S64x128.size a) ∧
  (∀ (k0_h9 : k0_cond9 i k0_t2 = 1#1), ∀ (k0_h11 : k0_cond11 v80 v82 = 1#1), ∀ a, (k0_off521 v1522) a + S1x16.size a ≤ S64x128.size a) ∧
  (∀ (k0_h9 : k0_cond9 i k0_t2 = 1#1), ∀ (k0_h11 : k0_cond11 v80 v82 = 1#1), ∀ a, (k0_off523 v1522) a + S1x16.size a ≤ S64x128.size a) ∧
  (∀ (k0_h9 : k0_cond9 i k0_t2 = 1#1), ∀ (k0_h11 : k0_cond11 v80 v82 = 1#1), ∀ a, (k0_off525 v1522) a + S1x16.size a ≤ S64x128.size a) ∧
  (∀ (k0_h9 : k0_cond9 i k0_t2 = 1#1), ∀ (k0_h11 : k0_cond11 v80 v82 = 1#1), ∀ a, (k0_off527 v1522) a + S1x16.size a ≤ S64x128.size a) ∧
  (∀ (k0_h9 : k0_cond9 i k0_t2 = 1#1), ∀ (k0_h11 : k0_cond11 v80 v82 = 1#1), ∀ a, (k0_off529 v1522) a + S1x16.size a ≤ S64x128.size a) ∧
  (∀ (k0_h9 : k0_cond9 i k0_t2 = 1#1), ∀ (k0_h11 : k0_cond11 v80 v82 = 1#1), ∀ a, (k0_off531 v1522) a + S1x16.size a ≤ S64x128.size a) ∧
  (∀ (k0_h9 : k0_cond9 i k0_t2 = 1#1), ∀ (k0_h11 : k0_cond11 v80 v82 = 1#1), ∀ a, (k0_off533 v1522) a + S1x16.size a ≤ S64x128.size a)
theorem k0_off519_inb : ∀ (i : grid0.Coords) (k0_t2 : Fin k0_t2_loop.trips) (v80 : BitVec 32) (v82 : BitVec 32) (v1522 : BitVec 32) (k0_hw31 : k0_chk31 i k0_t2 v80 v82 v1522), ∀ (k0_h9 : k0_cond9 i k0_t2 = 1#1), ∀ (k0_h11 : k0_cond11 v80 v82 = 1#1), ∀ a, (k0_off519 v1522) a + S1x16.size a ≤ S64x128.size a := fun i k0_t2 v80 v82 v1522 k0_hw31 k0_h9 k0_h11 => k0_hw31.1 k0_h9 k0_h11
theorem k0_off521_inb : ∀ (i : grid0.Coords) (k0_t2 : Fin k0_t2_loop.trips) (v80 : BitVec 32) (v82 : BitVec 32) (v1522 : BitVec 32) (k0_hw31 : k0_chk31 i k0_t2 v80 v82 v1522), ∀ (k0_h9 : k0_cond9 i k0_t2 = 1#1), ∀ (k0_h11 : k0_cond11 v80 v82 = 1#1), ∀ a, (k0_off521 v1522) a + S1x16.size a ≤ S64x128.size a := fun i k0_t2 v80 v82 v1522 k0_hw31 k0_h9 k0_h11 => k0_hw31.2.1 k0_h9 k0_h11
theorem k0_off523_inb : ∀ (i : grid0.Coords) (k0_t2 : Fin k0_t2_loop.trips) (v80 : BitVec 32) (v82 : BitVec 32) (v1522 : BitVec 32) (k0_hw31 : k0_chk31 i k0_t2 v80 v82 v1522), ∀ (k0_h9 : k0_cond9 i k0_t2 = 1#1), ∀ (k0_h11 : k0_cond11 v80 v82 = 1#1), ∀ a, (k0_off523 v1522) a + S1x16.size a ≤ S64x128.size a := fun i k0_t2 v80 v82 v1522 k0_hw31 k0_h9 k0_h11 => k0_hw31.2.2.1 k0_h9 k0_h11
theorem k0_off525_inb : ∀ (i : grid0.Coords) (k0_t2 : Fin k0_t2_loop.trips) (v80 : BitVec 32) (v82 : BitVec 32) (v1522 : BitVec 32) (k0_hw31 : k0_chk31 i k0_t2 v80 v82 v1522), ∀ (k0_h9 : k0_cond9 i k0_t2 = 1#1), ∀ (k0_h11 : k0_cond11 v80 v82 = 1#1), ∀ a, (k0_off525 v1522) a + S1x16.size a ≤ S64x128.size a := fun i k0_t2 v80 v82 v1522 k0_hw31 k0_h9 k0_h11 => k0_hw31.2.2.2.1 k0_h9 k0_h11
theorem k0_off527_inb : ∀ (i : grid0.Coords) (k0_t2 : Fin k0_t2_loop.trips) (v80 : BitVec 32) (v82 : BitVec 32) (v1522 : BitVec 32) (k0_hw31 : k0_chk31 i k0_t2 v80 v82 v1522), ∀ (k0_h9 : k0_cond9 i k0_t2 = 1#1), ∀ (k0_h11 : k0_cond11 v80 v82 = 1#1), ∀ a, (k0_off527 v1522) a + S1x16.size a ≤ S64x128.size a := fun i k0_t2 v80 v82 v1522 k0_hw31 k0_h9 k0_h11 => k0_hw31.2.2.2.2.1 k0_h9 k0_h11
theorem k0_off529_inb : ∀ (i : grid0.Coords) (k0_t2 : Fin k0_t2_loop.trips) (v80 : BitVec 32) (v82 : BitVec 32) (v1522 : BitVec 32) (k0_hw31 : k0_chk31 i k0_t2 v80 v82 v1522), ∀ (k0_h9 : k0_cond9 i k0_t2 = 1#1), ∀ (k0_h11 : k0_cond11 v80 v82 = 1#1), ∀ a, (k0_off529 v1522) a + S1x16.size a ≤ S64x128.size a := fun i k0_t2 v80 v82 v1522 k0_hw31 k0_h9 k0_h11 => k0_hw31.2.2.2.2.2.1 k0_h9 k0_h11
theorem k0_off531_inb : ∀ (i : grid0.Coords) (k0_t2 : Fin k0_t2_loop.trips) (v80 : BitVec 32) (v82 : BitVec 32) (v1522 : BitVec 32) (k0_hw31 : k0_chk31 i k0_t2 v80 v82 v1522), ∀ (k0_h9 : k0_cond9 i k0_t2 = 1#1), ∀ (k0_h11 : k0_cond11 v80 v82 = 1#1), ∀ a, (k0_off531 v1522) a + S1x16.size a ≤ S64x128.size a := fun i k0_t2 v80 v82 v1522 k0_hw31 k0_h9 k0_h11 => k0_hw31.2.2.2.2.2.2.1 k0_h9 k0_h11
theorem k0_off533_inb : ∀ (i : grid0.Coords) (k0_t2 : Fin k0_t2_loop.trips) (v80 : BitVec 32) (v82 : BitVec 32) (v1522 : BitVec 32) (k0_hw31 : k0_chk31 i k0_t2 v80 v82 v1522), ∀ (k0_h9 : k0_cond9 i k0_t2 = 1#1), ∀ (k0_h11 : k0_cond11 v80 v82 = 1#1), ∀ a, (k0_off533 v1522) a + S1x16.size a ≤ S64x128.size a := fun i k0_t2 v80 v82 v1522 k0_hw31 k0_h9 k0_h11 => k0_hw31.2.2.2.2.2.2.2 k0_h9 k0_h11

def k0_off534 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c13_i32 : BitVec 32 := 13#32
  let v1637 : BitVec 32 := Scalar.addi v74 c13_i32
  let v1638 : Index := Scalar.indexCast v1637
  let c0_463 : Index := 0#32
  ![v1638.toNat, 0]
def k0_off535 (v1636 : BitVec 32) : Fin 2 → Nat :=
  let v1643 : Index := Scalar.indexCast v1636
  let c0_464 : Index := 0#32
  ![v1643.toNat, 0]

def k0_off536 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c13_i32_466 : BitVec 32 := 13#32
  let v1651 : BitVec 32 := Scalar.addi v74 c13_i32_466
  let v1652 : Index := Scalar.indexCast v1651
  let c16_467 : Index := 16#32
  ![v1652.toNat, 16]
def k0_off537 (v1636 : BitVec 32) : Fin 2 → Nat :=
  let v1657 : Index := Scalar.indexCast v1636
  let c16_468 : Index := 16#32
  ![v1657.toNat, 16]
def k0_off538 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c13_i32_470 : BitVec 32 := 13#32
  let v1665 : BitVec 32 := Scalar.addi v74 c13_i32_470
  let v1666 : Index := Scalar.indexCast v1665
  let c32_471 : Index := 32#32
  ![v1666.toNat, 32]
def k0_off539 (v1636 : BitVec 32) : Fin 2 → Nat :=
  let v1671 : Index := Scalar.indexCast v1636
  let c32_472 : Index := 32#32
  ![v1671.toNat, 32]
def k0_off540 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c13_i32_474 : BitVec 32 := 13#32
  let v1679 : BitVec 32 := Scalar.addi v74 c13_i32_474
  let v1680 : Index := Scalar.indexCast v1679
  let c48_475 : Index := 48#32
  ![v1680.toNat, 48]
def k0_off541 (v1636 : BitVec 32) : Fin 2 → Nat :=
  let v1685 : Index := Scalar.indexCast v1636
  let c48_476 : Index := 48#32
  ![v1685.toNat, 48]
def k0_off542 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c13_i32_478 : BitVec 32 := 13#32
  let v1693 : BitVec 32 := Scalar.addi v74 c13_i32_478
  let v1694 : Index := Scalar.indexCast v1693
  let c64_479 : Index := 64#32
  ![v1694.toNat, 64]
def k0_off543 (v1636 : BitVec 32) : Fin 2 → Nat :=
  let v1699 : Index := Scalar.indexCast v1636
  let c64_480 : Index := 64#32
  ![v1699.toNat, 64]
def k0_off544 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c13_i32_482 : BitVec 32 := 13#32
  let v1707 : BitVec 32 := Scalar.addi v74 c13_i32_482
  let v1708 : Index := Scalar.indexCast v1707
  let c80_483 : Index := 80#32
  ![v1708.toNat, 80]
def k0_off545 (v1636 : BitVec 32) : Fin 2 → Nat :=
  let v1713 : Index := Scalar.indexCast v1636
  let c80_484 : Index := 80#32
  ![v1713.toNat, 80]
def k0_off546 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c13_i32_486 : BitVec 32 := 13#32
  let v1721 : BitVec 32 := Scalar.addi v74 c13_i32_486
  let v1722 : Index := Scalar.indexCast v1721
  let c96_487 : Index := 96#32
  ![v1722.toNat, 96]
def k0_off547 (v1636 : BitVec 32) : Fin 2 → Nat :=
  let v1727 : Index := Scalar.indexCast v1636
  let c96_488 : Index := 96#32
  ![v1727.toNat, 96]
def k0_off548 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c13_i32_490 : BitVec 32 := 13#32
  let v1735 : BitVec 32 := Scalar.addi v74 c13_i32_490
  let v1736 : Index := Scalar.indexCast v1735
  let c112_491 : Index := 112#32
  ![v1736.toNat, 112]
def k0_off549 (v1636 : BitVec 32) : Fin 2 → Nat :=
  let v1741 : Index := Scalar.indexCast v1636
  let c112_492 : Index := 112#32
  ![v1741.toNat, 112]

def k0_chk32 (i : grid0.Coords) (k0_t2 : Fin k0_t2_loop.trips) (v80 : BitVec 32) (v82 : BitVec 32) (v1636 : BitVec 32) : Prop :=
  (∀ (k0_h9 : k0_cond9 i k0_t2 = 1#1), ∀ (k0_h11 : k0_cond11 v80 v82 = 1#1), ∀ a, (k0_off535 v1636) a + S1x16.size a ≤ S64x128.size a) ∧
  (∀ (k0_h9 : k0_cond9 i k0_t2 = 1#1), ∀ (k0_h11 : k0_cond11 v80 v82 = 1#1), ∀ a, (k0_off537 v1636) a + S1x16.size a ≤ S64x128.size a) ∧
  (∀ (k0_h9 : k0_cond9 i k0_t2 = 1#1), ∀ (k0_h11 : k0_cond11 v80 v82 = 1#1), ∀ a, (k0_off539 v1636) a + S1x16.size a ≤ S64x128.size a) ∧
  (∀ (k0_h9 : k0_cond9 i k0_t2 = 1#1), ∀ (k0_h11 : k0_cond11 v80 v82 = 1#1), ∀ a, (k0_off541 v1636) a + S1x16.size a ≤ S64x128.size a) ∧
  (∀ (k0_h9 : k0_cond9 i k0_t2 = 1#1), ∀ (k0_h11 : k0_cond11 v80 v82 = 1#1), ∀ a, (k0_off543 v1636) a + S1x16.size a ≤ S64x128.size a) ∧
  (∀ (k0_h9 : k0_cond9 i k0_t2 = 1#1), ∀ (k0_h11 : k0_cond11 v80 v82 = 1#1), ∀ a, (k0_off545 v1636) a + S1x16.size a ≤ S64x128.size a) ∧
  (∀ (k0_h9 : k0_cond9 i k0_t2 = 1#1), ∀ (k0_h11 : k0_cond11 v80 v82 = 1#1), ∀ a, (k0_off547 v1636) a + S1x16.size a ≤ S64x128.size a) ∧
  (∀ (k0_h9 : k0_cond9 i k0_t2 = 1#1), ∀ (k0_h11 : k0_cond11 v80 v82 = 1#1), ∀ a, (k0_off549 v1636) a + S1x16.size a ≤ S64x128.size a)
theorem k0_off535_inb : ∀ (i : grid0.Coords) (k0_t2 : Fin k0_t2_loop.trips) (v80 : BitVec 32) (v82 : BitVec 32) (v1636 : BitVec 32) (k0_hw32 : k0_chk32 i k0_t2 v80 v82 v1636), ∀ (k0_h9 : k0_cond9 i k0_t2 = 1#1), ∀ (k0_h11 : k0_cond11 v80 v82 = 1#1), ∀ a, (k0_off535 v1636) a + S1x16.size a ≤ S64x128.size a := fun i k0_t2 v80 v82 v1636 k0_hw32 k0_h9 k0_h11 => k0_hw32.1 k0_h9 k0_h11
theorem k0_off537_inb : ∀ (i : grid0.Coords) (k0_t2 : Fin k0_t2_loop.trips) (v80 : BitVec 32) (v82 : BitVec 32) (v1636 : BitVec 32) (k0_hw32 : k0_chk32 i k0_t2 v80 v82 v1636), ∀ (k0_h9 : k0_cond9 i k0_t2 = 1#1), ∀ (k0_h11 : k0_cond11 v80 v82 = 1#1), ∀ a, (k0_off537 v1636) a + S1x16.size a ≤ S64x128.size a := fun i k0_t2 v80 v82 v1636 k0_hw32 k0_h9 k0_h11 => k0_hw32.2.1 k0_h9 k0_h11
theorem k0_off539_inb : ∀ (i : grid0.Coords) (k0_t2 : Fin k0_t2_loop.trips) (v80 : BitVec 32) (v82 : BitVec 32) (v1636 : BitVec 32) (k0_hw32 : k0_chk32 i k0_t2 v80 v82 v1636), ∀ (k0_h9 : k0_cond9 i k0_t2 = 1#1), ∀ (k0_h11 : k0_cond11 v80 v82 = 1#1), ∀ a, (k0_off539 v1636) a + S1x16.size a ≤ S64x128.size a := fun i k0_t2 v80 v82 v1636 k0_hw32 k0_h9 k0_h11 => k0_hw32.2.2.1 k0_h9 k0_h11
theorem k0_off541_inb : ∀ (i : grid0.Coords) (k0_t2 : Fin k0_t2_loop.trips) (v80 : BitVec 32) (v82 : BitVec 32) (v1636 : BitVec 32) (k0_hw32 : k0_chk32 i k0_t2 v80 v82 v1636), ∀ (k0_h9 : k0_cond9 i k0_t2 = 1#1), ∀ (k0_h11 : k0_cond11 v80 v82 = 1#1), ∀ a, (k0_off541 v1636) a + S1x16.size a ≤ S64x128.size a := fun i k0_t2 v80 v82 v1636 k0_hw32 k0_h9 k0_h11 => k0_hw32.2.2.2.1 k0_h9 k0_h11
theorem k0_off543_inb : ∀ (i : grid0.Coords) (k0_t2 : Fin k0_t2_loop.trips) (v80 : BitVec 32) (v82 : BitVec 32) (v1636 : BitVec 32) (k0_hw32 : k0_chk32 i k0_t2 v80 v82 v1636), ∀ (k0_h9 : k0_cond9 i k0_t2 = 1#1), ∀ (k0_h11 : k0_cond11 v80 v82 = 1#1), ∀ a, (k0_off543 v1636) a + S1x16.size a ≤ S64x128.size a := fun i k0_t2 v80 v82 v1636 k0_hw32 k0_h9 k0_h11 => k0_hw32.2.2.2.2.1 k0_h9 k0_h11
theorem k0_off545_inb : ∀ (i : grid0.Coords) (k0_t2 : Fin k0_t2_loop.trips) (v80 : BitVec 32) (v82 : BitVec 32) (v1636 : BitVec 32) (k0_hw32 : k0_chk32 i k0_t2 v80 v82 v1636), ∀ (k0_h9 : k0_cond9 i k0_t2 = 1#1), ∀ (k0_h11 : k0_cond11 v80 v82 = 1#1), ∀ a, (k0_off545 v1636) a + S1x16.size a ≤ S64x128.size a := fun i k0_t2 v80 v82 v1636 k0_hw32 k0_h9 k0_h11 => k0_hw32.2.2.2.2.2.1 k0_h9 k0_h11
theorem k0_off547_inb : ∀ (i : grid0.Coords) (k0_t2 : Fin k0_t2_loop.trips) (v80 : BitVec 32) (v82 : BitVec 32) (v1636 : BitVec 32) (k0_hw32 : k0_chk32 i k0_t2 v80 v82 v1636), ∀ (k0_h9 : k0_cond9 i k0_t2 = 1#1), ∀ (k0_h11 : k0_cond11 v80 v82 = 1#1), ∀ a, (k0_off547 v1636) a + S1x16.size a ≤ S64x128.size a := fun i k0_t2 v80 v82 v1636 k0_hw32 k0_h9 k0_h11 => k0_hw32.2.2.2.2.2.2.1 k0_h9 k0_h11
theorem k0_off549_inb : ∀ (i : grid0.Coords) (k0_t2 : Fin k0_t2_loop.trips) (v80 : BitVec 32) (v82 : BitVec 32) (v1636 : BitVec 32) (k0_hw32 : k0_chk32 i k0_t2 v80 v82 v1636), ∀ (k0_h9 : k0_cond9 i k0_t2 = 1#1), ∀ (k0_h11 : k0_cond11 v80 v82 = 1#1), ∀ a, (k0_off549 v1636) a + S1x16.size a ≤ S64x128.size a := fun i k0_t2 v80 v82 v1636 k0_hw32 k0_h9 k0_h11 => k0_hw32.2.2.2.2.2.2.2 k0_h9 k0_h11

def k0_off550 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c14_i32 : BitVec 32 := 14#32
  let v1751 : BitVec 32 := Scalar.addi v74 c14_i32
  let v1752 : Index := Scalar.indexCast v1751
  let c0_494 : Index := 0#32
  ![v1752.toNat, 0]
def k0_off551 (v1750 : BitVec 32) : Fin 2 → Nat :=
  let v1757 : Index := Scalar.indexCast v1750
  let c0_495 : Index := 0#32
  ![v1757.toNat, 0]

def k0_off552 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c14_i32_497 : BitVec 32 := 14#32
  let v1765 : BitVec 32 := Scalar.addi v74 c14_i32_497
  let v1766 : Index := Scalar.indexCast v1765
  let c16_498 : Index := 16#32
  ![v1766.toNat, 16]
def k0_off553 (v1750 : BitVec 32) : Fin 2 → Nat :=
  let v1771 : Index := Scalar.indexCast v1750
  let c16_499 : Index := 16#32
  ![v1771.toNat, 16]
def k0_off554 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c14_i32_501 : BitVec 32 := 14#32
  let v1779 : BitVec 32 := Scalar.addi v74 c14_i32_501
  let v1780 : Index := Scalar.indexCast v1779
  let c32_502 : Index := 32#32
  ![v1780.toNat, 32]
def k0_off555 (v1750 : BitVec 32) : Fin 2 → Nat :=
  let v1785 : Index := Scalar.indexCast v1750
  let c32_503 : Index := 32#32
  ![v1785.toNat, 32]
def k0_off556 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c14_i32_505 : BitVec 32 := 14#32
  let v1793 : BitVec 32 := Scalar.addi v74 c14_i32_505
  let v1794 : Index := Scalar.indexCast v1793
  let c48_506 : Index := 48#32
  ![v1794.toNat, 48]
def k0_off557 (v1750 : BitVec 32) : Fin 2 → Nat :=
  let v1799 : Index := Scalar.indexCast v1750
  let c48_507 : Index := 48#32
  ![v1799.toNat, 48]
def k0_off558 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c14_i32_509 : BitVec 32 := 14#32
  let v1807 : BitVec 32 := Scalar.addi v74 c14_i32_509
  let v1808 : Index := Scalar.indexCast v1807
  let c64_510 : Index := 64#32
  ![v1808.toNat, 64]
def k0_off559 (v1750 : BitVec 32) : Fin 2 → Nat :=
  let v1813 : Index := Scalar.indexCast v1750
  let c64_511 : Index := 64#32
  ![v1813.toNat, 64]
def k0_off560 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c14_i32_513 : BitVec 32 := 14#32
  let v1821 : BitVec 32 := Scalar.addi v74 c14_i32_513
  let v1822 : Index := Scalar.indexCast v1821
  let c80_514 : Index := 80#32
  ![v1822.toNat, 80]
def k0_off561 (v1750 : BitVec 32) : Fin 2 → Nat :=
  let v1827 : Index := Scalar.indexCast v1750
  let c80_515 : Index := 80#32
  ![v1827.toNat, 80]
def k0_off562 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c14_i32_517 : BitVec 32 := 14#32
  let v1835 : BitVec 32 := Scalar.addi v74 c14_i32_517
  let v1836 : Index := Scalar.indexCast v1835
  let c96_518 : Index := 96#32
  ![v1836.toNat, 96]
def k0_off563 (v1750 : BitVec 32) : Fin 2 → Nat :=
  let v1841 : Index := Scalar.indexCast v1750
  let c96_519 : Index := 96#32
  ![v1841.toNat, 96]
def k0_off564 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c14_i32_521 : BitVec 32 := 14#32
  let v1849 : BitVec 32 := Scalar.addi v74 c14_i32_521
  let v1850 : Index := Scalar.indexCast v1849
  let c112_522 : Index := 112#32
  ![v1850.toNat, 112]
def k0_off565 (v1750 : BitVec 32) : Fin 2 → Nat :=
  let v1855 : Index := Scalar.indexCast v1750
  let c112_523 : Index := 112#32
  ![v1855.toNat, 112]

def k0_chk33 (i : grid0.Coords) (k0_t2 : Fin k0_t2_loop.trips) (v80 : BitVec 32) (v82 : BitVec 32) (v1750 : BitVec 32) : Prop :=
  (∀ (k0_h9 : k0_cond9 i k0_t2 = 1#1), ∀ (k0_h11 : k0_cond11 v80 v82 = 1#1), ∀ a, (k0_off551 v1750) a + S1x16.size a ≤ S64x128.size a) ∧
  (∀ (k0_h9 : k0_cond9 i k0_t2 = 1#1), ∀ (k0_h11 : k0_cond11 v80 v82 = 1#1), ∀ a, (k0_off553 v1750) a + S1x16.size a ≤ S64x128.size a) ∧
  (∀ (k0_h9 : k0_cond9 i k0_t2 = 1#1), ∀ (k0_h11 : k0_cond11 v80 v82 = 1#1), ∀ a, (k0_off555 v1750) a + S1x16.size a ≤ S64x128.size a) ∧
  (∀ (k0_h9 : k0_cond9 i k0_t2 = 1#1), ∀ (k0_h11 : k0_cond11 v80 v82 = 1#1), ∀ a, (k0_off557 v1750) a + S1x16.size a ≤ S64x128.size a) ∧
  (∀ (k0_h9 : k0_cond9 i k0_t2 = 1#1), ∀ (k0_h11 : k0_cond11 v80 v82 = 1#1), ∀ a, (k0_off559 v1750) a + S1x16.size a ≤ S64x128.size a) ∧
  (∀ (k0_h9 : k0_cond9 i k0_t2 = 1#1), ∀ (k0_h11 : k0_cond11 v80 v82 = 1#1), ∀ a, (k0_off561 v1750) a + S1x16.size a ≤ S64x128.size a) ∧
  (∀ (k0_h9 : k0_cond9 i k0_t2 = 1#1), ∀ (k0_h11 : k0_cond11 v80 v82 = 1#1), ∀ a, (k0_off563 v1750) a + S1x16.size a ≤ S64x128.size a) ∧
  (∀ (k0_h9 : k0_cond9 i k0_t2 = 1#1), ∀ (k0_h11 : k0_cond11 v80 v82 = 1#1), ∀ a, (k0_off565 v1750) a + S1x16.size a ≤ S64x128.size a)
theorem k0_off551_inb : ∀ (i : grid0.Coords) (k0_t2 : Fin k0_t2_loop.trips) (v80 : BitVec 32) (v82 : BitVec 32) (v1750 : BitVec 32) (k0_hw33 : k0_chk33 i k0_t2 v80 v82 v1750), ∀ (k0_h9 : k0_cond9 i k0_t2 = 1#1), ∀ (k0_h11 : k0_cond11 v80 v82 = 1#1), ∀ a, (k0_off551 v1750) a + S1x16.size a ≤ S64x128.size a := fun i k0_t2 v80 v82 v1750 k0_hw33 k0_h9 k0_h11 => k0_hw33.1 k0_h9 k0_h11
theorem k0_off553_inb : ∀ (i : grid0.Coords) (k0_t2 : Fin k0_t2_loop.trips) (v80 : BitVec 32) (v82 : BitVec 32) (v1750 : BitVec 32) (k0_hw33 : k0_chk33 i k0_t2 v80 v82 v1750), ∀ (k0_h9 : k0_cond9 i k0_t2 = 1#1), ∀ (k0_h11 : k0_cond11 v80 v82 = 1#1), ∀ a, (k0_off553 v1750) a + S1x16.size a ≤ S64x128.size a := fun i k0_t2 v80 v82 v1750 k0_hw33 k0_h9 k0_h11 => k0_hw33.2.1 k0_h9 k0_h11
theorem k0_off555_inb : ∀ (i : grid0.Coords) (k0_t2 : Fin k0_t2_loop.trips) (v80 : BitVec 32) (v82 : BitVec 32) (v1750 : BitVec 32) (k0_hw33 : k0_chk33 i k0_t2 v80 v82 v1750), ∀ (k0_h9 : k0_cond9 i k0_t2 = 1#1), ∀ (k0_h11 : k0_cond11 v80 v82 = 1#1), ∀ a, (k0_off555 v1750) a + S1x16.size a ≤ S64x128.size a := fun i k0_t2 v80 v82 v1750 k0_hw33 k0_h9 k0_h11 => k0_hw33.2.2.1 k0_h9 k0_h11
theorem k0_off557_inb : ∀ (i : grid0.Coords) (k0_t2 : Fin k0_t2_loop.trips) (v80 : BitVec 32) (v82 : BitVec 32) (v1750 : BitVec 32) (k0_hw33 : k0_chk33 i k0_t2 v80 v82 v1750), ∀ (k0_h9 : k0_cond9 i k0_t2 = 1#1), ∀ (k0_h11 : k0_cond11 v80 v82 = 1#1), ∀ a, (k0_off557 v1750) a + S1x16.size a ≤ S64x128.size a := fun i k0_t2 v80 v82 v1750 k0_hw33 k0_h9 k0_h11 => k0_hw33.2.2.2.1 k0_h9 k0_h11
theorem k0_off559_inb : ∀ (i : grid0.Coords) (k0_t2 : Fin k0_t2_loop.trips) (v80 : BitVec 32) (v82 : BitVec 32) (v1750 : BitVec 32) (k0_hw33 : k0_chk33 i k0_t2 v80 v82 v1750), ∀ (k0_h9 : k0_cond9 i k0_t2 = 1#1), ∀ (k0_h11 : k0_cond11 v80 v82 = 1#1), ∀ a, (k0_off559 v1750) a + S1x16.size a ≤ S64x128.size a := fun i k0_t2 v80 v82 v1750 k0_hw33 k0_h9 k0_h11 => k0_hw33.2.2.2.2.1 k0_h9 k0_h11
theorem k0_off561_inb : ∀ (i : grid0.Coords) (k0_t2 : Fin k0_t2_loop.trips) (v80 : BitVec 32) (v82 : BitVec 32) (v1750 : BitVec 32) (k0_hw33 : k0_chk33 i k0_t2 v80 v82 v1750), ∀ (k0_h9 : k0_cond9 i k0_t2 = 1#1), ∀ (k0_h11 : k0_cond11 v80 v82 = 1#1), ∀ a, (k0_off561 v1750) a + S1x16.size a ≤ S64x128.size a := fun i k0_t2 v80 v82 v1750 k0_hw33 k0_h9 k0_h11 => k0_hw33.2.2.2.2.2.1 k0_h9 k0_h11
theorem k0_off563_inb : ∀ (i : grid0.Coords) (k0_t2 : Fin k0_t2_loop.trips) (v80 : BitVec 32) (v82 : BitVec 32) (v1750 : BitVec 32) (k0_hw33 : k0_chk33 i k0_t2 v80 v82 v1750), ∀ (k0_h9 : k0_cond9 i k0_t2 = 1#1), ∀ (k0_h11 : k0_cond11 v80 v82 = 1#1), ∀ a, (k0_off563 v1750) a + S1x16.size a ≤ S64x128.size a := fun i k0_t2 v80 v82 v1750 k0_hw33 k0_h9 k0_h11 => k0_hw33.2.2.2.2.2.2.1 k0_h9 k0_h11
theorem k0_off565_inb : ∀ (i : grid0.Coords) (k0_t2 : Fin k0_t2_loop.trips) (v80 : BitVec 32) (v82 : BitVec 32) (v1750 : BitVec 32) (k0_hw33 : k0_chk33 i k0_t2 v80 v82 v1750), ∀ (k0_h9 : k0_cond9 i k0_t2 = 1#1), ∀ (k0_h11 : k0_cond11 v80 v82 = 1#1), ∀ a, (k0_off565 v1750) a + S1x16.size a ≤ S64x128.size a := fun i k0_t2 v80 v82 v1750 k0_hw33 k0_h9 k0_h11 => k0_hw33.2.2.2.2.2.2.2 k0_h9 k0_h11

def k0_off566 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c15_i32 : BitVec 32 := 15#32
  let v1865 : BitVec 32 := Scalar.addi v74 c15_i32
  let v1866 : Index := Scalar.indexCast v1865
  let c0_525 : Index := 0#32
  ![v1866.toNat, 0]
def k0_off567 (v1864 : BitVec 32) : Fin 2 → Nat :=
  let v1871 : Index := Scalar.indexCast v1864
  let c0_526 : Index := 0#32
  ![v1871.toNat, 0]

def k0_off568 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c15_i32_528 : BitVec 32 := 15#32
  let v1879 : BitVec 32 := Scalar.addi v74 c15_i32_528
  let v1880 : Index := Scalar.indexCast v1879
  let c16_529 : Index := 16#32
  ![v1880.toNat, 16]
def k0_off569 (v1864 : BitVec 32) : Fin 2 → Nat :=
  let v1885 : Index := Scalar.indexCast v1864
  let c16_530 : Index := 16#32
  ![v1885.toNat, 16]
def k0_off570 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c15_i32_532 : BitVec 32 := 15#32
  let v1893 : BitVec 32 := Scalar.addi v74 c15_i32_532
  let v1894 : Index := Scalar.indexCast v1893
  let c32_533 : Index := 32#32
  ![v1894.toNat, 32]
def k0_off571 (v1864 : BitVec 32) : Fin 2 → Nat :=
  let v1899 : Index := Scalar.indexCast v1864
  let c32_534 : Index := 32#32
  ![v1899.toNat, 32]
def k0_off572 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c15_i32_536 : BitVec 32 := 15#32
  let v1907 : BitVec 32 := Scalar.addi v74 c15_i32_536
  let v1908 : Index := Scalar.indexCast v1907
  let c48_537 : Index := 48#32
  ![v1908.toNat, 48]
def k0_off573 (v1864 : BitVec 32) : Fin 2 → Nat :=
  let v1913 : Index := Scalar.indexCast v1864
  let c48_538 : Index := 48#32
  ![v1913.toNat, 48]
def k0_off574 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c15_i32_540 : BitVec 32 := 15#32
  let v1921 : BitVec 32 := Scalar.addi v74 c15_i32_540
  let v1922 : Index := Scalar.indexCast v1921
  let c64_541 : Index := 64#32
  ![v1922.toNat, 64]
def k0_off575 (v1864 : BitVec 32) : Fin 2 → Nat :=
  let v1927 : Index := Scalar.indexCast v1864
  let c64_542 : Index := 64#32
  ![v1927.toNat, 64]
def k0_off576 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c15_i32_544 : BitVec 32 := 15#32
  let v1935 : BitVec 32 := Scalar.addi v74 c15_i32_544
  let v1936 : Index := Scalar.indexCast v1935
  let c80_545 : Index := 80#32
  ![v1936.toNat, 80]
def k0_off577 (v1864 : BitVec 32) : Fin 2 → Nat :=
  let v1941 : Index := Scalar.indexCast v1864
  let c80_546 : Index := 80#32
  ![v1941.toNat, 80]
def k0_off578 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c15_i32_548 : BitVec 32 := 15#32
  let v1949 : BitVec 32 := Scalar.addi v74 c15_i32_548
  let v1950 : Index := Scalar.indexCast v1949
  let c96_549 : Index := 96#32
  ![v1950.toNat, 96]
def k0_off579 (v1864 : BitVec 32) : Fin 2 → Nat :=
  let v1955 : Index := Scalar.indexCast v1864
  let c96_550 : Index := 96#32
  ![v1955.toNat, 96]
def k0_off580 (k0_t4 : Fin k0_t4_loop.trips) : Fin 2 → Nat :=
  let c0_i32_35 : BitVec 32 := 0#32
  let c1_i32_36 : BitVec 32 := 1#32
  let arg24 : BitVec 32 := Scf.iv c0_i32_35 c1_i32_36 k0_t4
  let c16_i32_38 : BitVec 32 := 16#32
  let v74 : BitVec 32 := Scalar.muli arg24 c16_i32_38
  let c15_i32_552 : BitVec 32 := 15#32
  let v1963 : BitVec 32 := Scalar.addi v74 c15_i32_552
  let v1964 : Index := Scalar.indexCast v1963
  let c112_553 : Index := 112#32
  ![v1964.toNat, 112]
def k0_off581 (v1864 : BitVec 32) : Fin 2 → Nat :=
  let v1969 : Index := Scalar.indexCast v1864
  let c112_554 : Index := 112#32
  ![v1969.toNat, 112]

def k0_chk34 (i : grid0.Coords) (k0_t2 : Fin k0_t2_loop.trips) (v80 : BitVec 32) (v82 : BitVec 32) (v1864 : BitVec 32) : Prop :=
  (∀ (k0_h9 : k0_cond9 i k0_t2 = 1#1), ∀ (k0_h11 : k0_cond11 v80 v82 = 1#1), ∀ a, (k0_off567 v1864) a + S1x16.size a ≤ S64x128.size a) ∧
  (∀ (k0_h9 : k0_cond9 i k0_t2 = 1#1), ∀ (k0_h11 : k0_cond11 v80 v82 = 1#1), ∀ a, (k0_off569 v1864) a + S1x16.size a ≤ S64x128.size a) ∧
  (∀ (k0_h9 : k0_cond9 i k0_t2 = 1#1), ∀ (k0_h11 : k0_cond11 v80 v82 = 1#1), ∀ a, (k0_off571 v1864) a + S1x16.size a ≤ S64x128.size a) ∧
  (∀ (k0_h9 : k0_cond9 i k0_t2 = 1#1), ∀ (k0_h11 : k0_cond11 v80 v82 = 1#1), ∀ a, (k0_off573 v1864) a + S1x16.size a ≤ S64x128.size a) ∧
  (∀ (k0_h9 : k0_cond9 i k0_t2 = 1#1), ∀ (k0_h11 : k0_cond11 v80 v82 = 1#1), ∀ a, (k0_off575 v1864) a + S1x16.size a ≤ S64x128.size a) ∧
  (∀ (k0_h9 : k0_cond9 i k0_t2 = 1#1), ∀ (k0_h11 : k0_cond11 v80 v82 = 1#1), ∀ a, (k0_off577 v1864) a + S1x16.size a ≤ S64x128.size a) ∧
  (∀ (k0_h9 : k0_cond9 i k0_t2 = 1#1), ∀ (k0_h11 : k0_cond11 v80 v82 = 1#1), ∀ a, (k0_off579 v1864) a + S1x16.size a ≤ S64x128.size a) ∧
  (∀ (k0_h9 : k0_cond9 i k0_t2 = 1#1), ∀ (k0_h11 : k0_cond11 v80 v82 = 1#1), ∀ a, (k0_off581 v1864) a + S1x16.size a ≤ S64x128.size a)
theorem k0_off567_inb : ∀ (i : grid0.Coords) (k0_t2 : Fin k0_t2_loop.trips) (v80 : BitVec 32) (v82 : BitVec 32) (v1864 : BitVec 32) (k0_hw34 : k0_chk34 i k0_t2 v80 v82 v1864), ∀ (k0_h9 : k0_cond9 i k0_t2 = 1#1), ∀ (k0_h11 : k0_cond11 v80 v82 = 1#1), ∀ a, (k0_off567 v1864) a + S1x16.size a ≤ S64x128.size a := fun i k0_t2 v80 v82 v1864 k0_hw34 k0_h9 k0_h11 => k0_hw34.1 k0_h9 k0_h11
theorem k0_off569_inb : ∀ (i : grid0.Coords) (k0_t2 : Fin k0_t2_loop.trips) (v80 : BitVec 32) (v82 : BitVec 32) (v1864 : BitVec 32) (k0_hw34 : k0_chk34 i k0_t2 v80 v82 v1864), ∀ (k0_h9 : k0_cond9 i k0_t2 = 1#1), ∀ (k0_h11 : k0_cond11 v80 v82 = 1#1), ∀ a, (k0_off569 v1864) a + S1x16.size a ≤ S64x128.size a := fun i k0_t2 v80 v82 v1864 k0_hw34 k0_h9 k0_h11 => k0_hw34.2.1 k0_h9 k0_h11
theorem k0_off571_inb : ∀ (i : grid0.Coords) (k0_t2 : Fin k0_t2_loop.trips) (v80 : BitVec 32) (v82 : BitVec 32) (v1864 : BitVec 32) (k0_hw34 : k0_chk34 i k0_t2 v80 v82 v1864), ∀ (k0_h9 : k0_cond9 i k0_t2 = 1#1), ∀ (k0_h11 : k0_cond11 v80 v82 = 1#1), ∀ a, (k0_off571 v1864) a + S1x16.size a ≤ S64x128.size a := fun i k0_t2 v80 v82 v1864 k0_hw34 k0_h9 k0_h11 => k0_hw34.2.2.1 k0_h9 k0_h11
theorem k0_off573_inb : ∀ (i : grid0.Coords) (k0_t2 : Fin k0_t2_loop.trips) (v80 : BitVec 32) (v82 : BitVec 32) (v1864 : BitVec 32) (k0_hw34 : k0_chk34 i k0_t2 v80 v82 v1864), ∀ (k0_h9 : k0_cond9 i k0_t2 = 1#1), ∀ (k0_h11 : k0_cond11 v80 v82 = 1#1), ∀ a, (k0_off573 v1864) a + S1x16.size a ≤ S64x128.size a := fun i k0_t2 v80 v82 v1864 k0_hw34 k0_h9 k0_h11 => k0_hw34.2.2.2.1 k0_h9 k0_h11
theorem k0_off575_inb : ∀ (i : grid0.Coords) (k0_t2 : Fin k0_t2_loop.trips) (v80 : BitVec 32) (v82 : BitVec 32) (v1864 : BitVec 32) (k0_hw34 : k0_chk34 i k0_t2 v80 v82 v1864), ∀ (k0_h9 : k0_cond9 i k0_t2 = 1#1), ∀ (k0_h11 : k0_cond11 v80 v82 = 1#1), ∀ a, (k0_off575 v1864) a + S1x16.size a ≤ S64x128.size a := fun i k0_t2 v80 v82 v1864 k0_hw34 k0_h9 k0_h11 => k0_hw34.2.2.2.2.1 k0_h9 k0_h11
theorem k0_off577_inb : ∀ (i : grid0.Coords) (k0_t2 : Fin k0_t2_loop.trips) (v80 : BitVec 32) (v82 : BitVec 32) (v1864 : BitVec 32) (k0_hw34 : k0_chk34 i k0_t2 v80 v82 v1864), ∀ (k0_h9 : k0_cond9 i k0_t2 = 1#1), ∀ (k0_h11 : k0_cond11 v80 v82 = 1#1), ∀ a, (k0_off577 v1864) a + S1x16.size a ≤ S64x128.size a := fun i k0_t2 v80 v82 v1864 k0_hw34 k0_h9 k0_h11 => k0_hw34.2.2.2.2.2.1 k0_h9 k0_h11
theorem k0_off579_inb : ∀ (i : grid0.Coords) (k0_t2 : Fin k0_t2_loop.trips) (v80 : BitVec 32) (v82 : BitVec 32) (v1864 : BitVec 32) (k0_hw34 : k0_chk34 i k0_t2 v80 v82 v1864), ∀ (k0_h9 : k0_cond9 i k0_t2 = 1#1), ∀ (k0_h11 : k0_cond11 v80 v82 = 1#1), ∀ a, (k0_off579 v1864) a + S1x16.size a ≤ S64x128.size a := fun i k0_t2 v80 v82 v1864 k0_hw34 k0_h9 k0_h11 => k0_hw34.2.2.2.2.2.2.1 k0_h9 k0_h11
theorem k0_off581_inb : ∀ (i : grid0.Coords) (k0_t2 : Fin k0_t2_loop.trips) (v80 : BitVec 32) (v82 : BitVec 32) (v1864 : BitVec 32) (k0_hw34 : k0_chk34 i k0_t2 v80 v82 v1864), ∀ (k0_h9 : k0_cond9 i k0_t2 = 1#1), ∀ (k0_h11 : k0_cond11 v80 v82 = 1#1), ∀ a, (k0_off581 v1864) a + S1x16.size a ≤ S64x128.size a := fun i k0_t2 v80 v82 v1864 k0_hw34 k0_h9 k0_h11 => k0_hw34.2.2.2.2.2.2.2 k0_h9 k0_h11

def k0_off582 (i : grid0.Coords) : Fin 3 → Nat :=
  let arg1 : BitVec 32 := BitVec.ofNat 32 (i 1).val
  let c0_i32_11_r0 : BitVec 32 := 0#32
  let arg0 : BitVec 32 := BitVec.ofNat 32 (i 0).val
  let c128_i32 : BitVec 32 := 128#32
  let v0 : BitVec 32 := Scalar.muli arg0 c128_i32
  ![arg1.toNat, 0, v0.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== TilesReferenceIdeal.lean ====
abbrev S50000x256 : Shape := ⟨2, ![50000, 256]⟩
abbrev S50000x8 : Shape := ⟨2, ![50000, 8]⟩
abbrev S50000 : Shape := ⟨1, ![50000]⟩
abbrev S14160x1 : Shape := ⟨2, ![14160, 1]⟩
abbrev S14160 : Shape := ⟨1, ![14160]⟩
abbrev S14160x256 : Shape := ⟨2, ![14160, 256]⟩
abbrev S_ : Shape := ⟨0, ![]⟩
abbrev S64x256 : Shape := ⟨2, ![64, 256]⟩

abbrev nBuf : Space → Nat
  | .hbm => 14
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x8, .f32⟩
  | .hbm, ⟨2, _⟩ => ⟨S50000, .i32⟩
  | .hbm, ⟨3, _⟩ => ⟨S14160x1, .f32⟩
  | .hbm, ⟨4, _⟩ => ⟨S14160, .f32⟩
  | .hbm, ⟨5, _⟩ => ⟨S14160x1, .f32⟩
  | .hbm, ⟨6, _⟩ => ⟨S14160x256, .f32⟩
  | .hbm, ⟨7, _⟩ => ⟨S14160x256, .f32⟩
  | .hbm, ⟨8, _⟩ => ⟨S14160x256, .f32⟩
  | .hbm, ⟨9, _⟩ => ⟨S14160, .i32⟩
  | .hbm, ⟨10, _⟩ => ⟨S_, .f32⟩
  | .hbm, ⟨11, _⟩ => ⟨S64x256, .f32⟩
  | .hbm, ⟨12, _⟩ => ⟨S14160x1, .i32⟩
  | .hbm, ⟨13, _⟩ => ⟨S64x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.PoolMath.lean ====
/-
  The mathematics of the pooled sums, apart from any run of a program.

  `term` is what node `k` adds to the entry (g, d) of the pooled sums: its feature `d` times its direction (column 1 of
  the table of directions) when the node's graph is `g`, and nothing otherwise. Two programs add these terms up. The
  kernel adds, per block of 1024 nodes, a product of matrices whose left factor is 1 where the node's graph is the row
  and 0 elsewhere (`block_step`). The reference scatters the rows of products over the graphs (`reference_entry`).
-/
module

public import proofs.«01_k».proof.Proof.Gen.KernelIdeal.Value
public import proofs.«01_k».proof.Proof.Gen.ReferenceIdeal.Run
public import Idealize.ShloMosaic.Lib.Pointwise
public import Idealize.ShloMosaic.Lib.ValueIdx
public import Idealize.ShloMosaic.Lib.WordCmp
public import Idealize.ShloMosaic.Lib.Routing.OpsPair

@[expose] public section

noncomputable section

open Idealize.ShloMosaic
open Idealize.ShloMosaic.Routing (shape1 shape2)

namespace Cert.Pool

/-- What node `k` adds to the entry (g, d): the product of its feature and its direction if it belongs to graph `g`. -/
def term (feat : Vec Ideal (shape2 50000 256) .f32) (pos : Vec Ideal (shape2 50000 8) .f32) (gid : Vec Ideal (shape1 50000) .i32)
    (g : Fin 64) (d : Fin 256) (k : ℕ) : EReal :=
  if h : k < 50000 then
    if gid (ix1 (⟨k, h⟩ : Fin 50000)) = BitVec.ofNat 32 g.val then
      feat (ix2 (⟨k, h⟩ : Fin 50000) d) * pos (ix2 (⟨k, h⟩ : Fin 50000) (1 : Fin 8))
    else 0
  else 0

/-- The term of one of the array's nodes. -/
theorem term_of_lt (feat : Vec Ideal (shape2 50000 256) .f32) (pos : Vec Ideal (shape2 50000 8) .f32) (gid : Vec Ideal (shape1 50000) .i32)
    (g : Fin 64) (d : Fin 256) {k : ℕ} (h : k < 50000) :
    term feat pos gid g d k = if gid (ix1 (⟨k, h⟩ : Fin 50000)) = BitVec.ofNat 32 g.val then
      feat (ix2 (⟨k, h⟩ : Fin 50000) d) * pos (ix2 (⟨k, h⟩ : Fin 50000) (1 : Fin 8)) else 0 := by
  unfold term
  rw [dif_pos h]

/-- The comparison of two words, widened and converted to a float, is 1 if they are equal and 0 if not. -/
theorem indicator (a b : BitVec 32) :
    (FloatOps.sitofp (F := Ideal) FTy.f32 (BitVec.setWidth 32 (IntOp.cmpi .eq a b)) : EReal) = if a = b then 1 else 0 := by
  rw [WordCmp.cmpi_eq_eq]
  by_cases h : a = b
  · rw [decide_eq_true h, if_pos h]
    show ((((BitVec.setWidth 32 (BitVec.ofBool true)).toInt : ℝ)) : EReal) = 1
    rw [show (BitVec.setWidth 32 (BitVec.ofBool true)).toInt = 1 from by decide]
    simp
  · rw [decide_eq_false h, if_neg h]
    show ((((BitVec.setWidth 32 (BitVec.ofBool false)).toInt : ℝ)) : EReal) = 0
    rw [show (BitVec.setWidth 32 (BitVec.ofBool false)).toInt = 0 from by decide]
    simp

/-- One grid point: the block's product of matrices adds, to each entry, the products of the block's nodes that belong
    to the entry's graph. -/
theorem block_step (x2 : Vec Ideal (shape1 1024) .i32) (x1 : Vec Ideal (shape2 1024 8) .f32) (x0 : Vec Ideal (shape2 1024 256) .f32)
    (acc : Vec Ideal (shape2 64 256) .f32) (g : Fin 64) (d : Fin 256) :
    Cert.KernelIdeal.Gen.k0_pay2 (F := Ideal) x2 x1 x0 acc (ix2 g d)
      = acc (ix2 g d) + ∑ r : Fin 1024, if x2 (ix1 r) = BitVec.ofNat 32 g.val then x0 (ix2 r d) * x1 (ix2 r (1 : Fin 8)) else 0 := by
  unfold Cert.KernelIdeal.Gen.k0_pay2
  pointwise [Cert.KernelIdeal.dot_S64x1024_S1024x256_S64x256_1_0_0_1_n_n]
  refine congrArg _ (Finset.sum_congr rfl fun r _ => ?_)
  rw [indicator]
  by_cases h : x2 (ix1 r) = BitVec.ofNat 32 g.val
  · rw [if_pos h.symm, if_pos h, one_mul]
  · rw [if_neg (Ne.symm h), if_neg h, zero_mul]

/-- A word read as a signed integer is the graph number `g` exactly when it is the word of `g`. -/
theorem toInt_eq_graph (w : BitVec 32) (g : Fin 64) : w.toInt = (g.val : Int) ↔ w = BitVec.ofNat 32 g.val := by
  have hg : (BitVec.ofNat 32 g.val).toInt = (g.val : Int) := WordCmp.toInt_ofNat_of_lt (by have := g.isLt; omega)
  rw [← hg]
  exact ⟨fun h => BitVec.eq_of_toInt_eq h, fun h => by rw [h]⟩

/-- Row `n` of the scattered rows goes to the row its index word names, each column to itself: its entry in column `d'`
    lands on (g, d) exactly when the word, read signed, is `g` and the columns agree. -/
theorem row_lands {R N C : ℕ} (s : ScatterDims (shape2 R C) (shape2 N 1) (shape2 N C)) (huw : s.updateWindowDims = [1])
    (hiw : s.insertedWindowDims = [0]) (hsd : s.scatterDimsToOperandDims = [0]) (hivd : s.indexVectorDim = 1)
    (idx : IVec (shape2 N 1) 32) (n : Fin N) (d' : Fin C) (g : Fin R) (d : Fin C) :
    s.resultIdx? (ix2 n d') idx = some (ix2 g d) ↔ (idx (ix2 n (0 : Fin 1))).toInt = (g.val : Int) ∧ d' = d := by
  obtain ⟨uw, iw, sd, ivd, wf⟩ := s
  dsimp only at huw hiw hsd hivd
  subst huw hiw hsd hivd
  rw [Routing.resultIdx?_eq_some]
  have s0 : ScatterDims.start ⟨[1], [0], [0], 1, wf⟩ (ix2 n d') idx 0 = (idx (ix2 n (0 : Fin 1))).toInt := by
    unfold ScatterDims.start
    rw [dif_pos (List.mem_singleton.2 rfl)]
    refine congrArg (fun q => (idx q).toInt) ?_
    funext b
    apply Fin.ext
    match b with
    | ⟨0, _⟩ => rfl
    | ⟨1, _⟩ => rfl
  have s1 : ScatterDims.start ⟨[1], [0], [0], 1, wf⟩ (ix2 n d') idx 1 = 0 := by
    unfold ScatterDims.start
    rw [dif_neg (fun h => Fin.zero_ne_one (List.mem_singleton.1 h).symm)]
  have w0 : ScatterDims.window (si := shape2 N 1) ⟨[1], [0], [0], 1, wf⟩ (ix2 n d') 0 = 0 := rfl
  have w1 : ScatterDims.window (si := shape2 N 1) ⟨[1], [0], [0], 1, wf⟩ (ix2 n d') 1 = d'.val := rfl
  constructor
  · intro h
    have h0 := h 0
    have h1 := h 1
    rw [s0, w0, ix2_0] at h0
    rw [s1, w1, ix2_1] at h1
    exact ⟨by omega, Fin.ext (by omega)⟩
  · rintro ⟨h0, rfl⟩ a
    match a with
    | ⟨0, _⟩ =>
      show ScatterDims.start ⟨[1], [0], [0], 1, wf⟩ (ix2 n d') idx 0 + (ScatterDims.window (si := shape2 N 1) ⟨[1], [0], [0], 1, wf⟩ (ix2 n d') 0 : Int) = (g.val : Int)
      rw [s0, w0]; omega
    | ⟨1, _⟩ =>
      show ScatterDims.start ⟨[1], [0], [0], 1, wf⟩ (ix2 n d') idx 1 + (ScatterDims.window (si := shape2 N 1) ⟨[1], [0], [0], 1, wf⟩ (ix2 n d') 1 : Int) = (d'.val : Int)
      rw [s1, w1]; omega

/-- A scatter of rows that adds up, read at one entry: the entry before, and the entries in the same column of the rows
    whose index word is the row. -/
theorem scatter_entry {N C : ℕ} (s : ScatterDims (shape2 64 C) (shape2 N 1) (shape2 N C)) (huw : s.updateWindowDims = [1])
    (hiw : s.insertedWindowDims = [0]) (hsd : s.scatterDimsToOperandDims = [0]) (hivd : s.indexVectorDim = 1)
    (x : FVec Ideal (shape2 64 C) .f32) (idx : IVec (shape2 N 1) 32) (u : FVec Ideal (shape2 N C) .f32) (g : Fin 64) (d : Fin C) :
    Host.scatterAdd s x idx u (ix2 g d)
      = x (ix2 g d) + ∑ n : Fin N, if idx (ix2 n (0 : Fin 1)) = BitVec.ofNat 32 g.val then u (ix2 n d) else (0 : EReal) := by
  show Ideal.hostScatterAdd s x idx u (ix2 g d) = _
  unfold Ideal.hostScatterAdd
  refine congrArg (x (ix2 g d) + ·) ?_
  rw [Finset.sum_filter, sum_idx2]
  refine Finset.sum_congr rfl fun n _ => ?_
  simp only [row_lands s huw hiw hsd hivd, toInt_eq_graph]
  by_cases h : idx (ix2 n (0 : Fin 1)) = BitVec.ofNat 32 g.val
  · simp only [h, true_and, if_true]
    rw [Finset.sum_ite_eq' Finset.univ d, if_pos (Finset.mem_univ d)]
  · simp only [h, false_and, if_false, Finset.sum_const_zero]

/-- The reference's array, as its operations compose it. -/
abbrev refArray (feat : Vec Ideal (shape2 50000 256) .f32) (pos : Vec Ideal (shape2 50000 8) .f32) (gid : Vec Ideal (shape1 50000) .i32) :
    Vec Ideal (shape2 64 256) .f32 :=
  open Cert.ReferenceIdeal Cert.ReferenceIdeal.Facts₀ in
  Host.scatterAdd scatter_S64x256_S35840x1_S35840x256_1_0_0_1
    (broadcastInDim S64x256 ![] bcast_S_S64x256 (constant (F := Ideal) S_ .f32 0x00000000#32))
    (broadcastInDim S35840x1 ![0] bcast_S35840_S35840x1_0 (extractStridedSlice S35840 ![0] gid slices_S50000_S35840_0))
    (mulf (F := Ideal) (extractStridedSlice S35840x256 ![0, 0] feat slices_S50000x256_S35840x256_0_0)
      (broadcastInDim S35840x256 ![0, 1] bcast_S35840x1_S35840x256_0_1
        (broadcastInDim S35840x1 ![0] bcast_S35840_S35840x1_0
          (shapeCast S35840 (extractStridedSlice S35840x1 ![0, 1] pos slices_S50000x8_S35840x1_0_1) shapeCasts_S35840x1_S35840))))

/-- The reference's entry (g, d) is the sum of the terms of the first 35840 nodes. -/
theorem reference_entry (feat : Vec Ideal (shape2 50000 256) .f32) (pos : Vec Ideal (shape2 50000 8) .f32) (gid : Vec Ideal (shape1 50000) .i32)
    (g : Fin 64) (d : Fin 256) : refArray feat pos gid (ix2 g d) = ∑ k ∈ Finset.range 35840, term feat pos gid g d k := by
  rw [Finset.sum_range]
  unfold refArray
  rw [scatter_entry _ rfl rfl rfl rfl]
  pointwise
  refine Finset.sum_congr rfl fun n _ => ?_
  have hn : n.val < 50000 := by have := n.isLt; omega
  exact (term_of_lt feat pos gid g d hn).symm

end Cert.Pool

end
-- ==== Proof.PoolKernel.lean ====
/-
  What the kernel's result array holds: entry (g, d) is the sum of the terms of the first 35840 nodes.

  The kernel runs over 35 blocks of 1024 nodes, the output's one block staying in place. The first point clears it
  (`first_point`); every point adds its block's product of matrices to it (`later_point`). So after point n it holds the
  sum over the first 1024 (n + 1) nodes (`partial_sums`), and the last point writes it to the result array (`final`).
-/
module

public import proofs.«01_k».proof.Proof.PoolMath
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Pool

open Cert.KernelIdeal Cert.KernelIdeal.Gen

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a; rfl

/-- The output block after a later point: the one store's value, over the input blocks and what the block held. -/
theorem later_point (c : Dev nD) (i : grid0.Coords) (a1 : Memref sig .tc .vmem S1024x256 .f32) (h1 : a1.IsWhole)
    (a2 : Memref sig .tc .vmem S1024x8 .f32) (h2 : a2.IsWhole) (a3 : Memref sig .tc .vmem S1024 .i32) (h3 : a3.IsWhole)
    (a4 : Memref sig .tc .vmem S64x256 .f32) (h4 : a4.IsWhole) (hc : ¬cond0_0 i)
    (x0 : Vec Ideal S1024x256 .f32) (x1 : Vec Ideal S1024x8 .f32) (x2 : Vec Ideal S1024 .i32) (xo : Vec Ideal S64x256 .f32) :
    out0_B_3 c i a1 h1 a2 h2 a3 h3 a4 h4 hc x0 x1 x2 xo = k0_pay2 x2 x1 x0 xo := by
  unfold out0_B_3
  rw [View.read_writes_eq_canon _ _ _ (cover0_B_3 c i a1 h1 a2 h2 a3 h3 a4 h4 hc x0 x1 x2 xo)]
  unfold kernelRun0_B
  dsimp only
  rw [View.canon_unit_zero zero2]
  simp only [View.readAt_eq_ld, h1.read_unread, h2.read_unread, h3.read_unread, h4.read_unread,
    View.ld_unit_zero (S := S64x256) zero2, View.ld_unit_zero (S := S1024x256) zero2, View.ld_unit_zero (S := S1024x8) zero2,
    View.ld_unit_zero (S := S1024) zero1]

/-- The output block after the first point: the same over a cleared block. -/
theorem first_point (c : Dev nD) (i : grid0.Coords) (a1 : Memref sig .tc .vmem S1024x256 .f32) (h1 : a1.IsWhole)
    (a2 : Memref sig .tc .vmem S1024x8 .f32) (h2 : a2.IsWhole) (a3 : Memref sig .tc .vmem S1024 .i32) (h3 : a3.IsWhole)
    (a4 : Memref sig .tc .vmem S64x256 .f32) (h4 : a4.IsWhole) (hc : cond0_0 i)
    (x0 : Vec Ideal S1024x256 .f32) (x1 : Vec Ideal S1024x8 .f32) (x2 : Vec Ideal S1024 .i32) :
    out0_A_3 c i a1 h1 a2 h2 a3 h3 a4 h4 hc x0 x1 x2 = k0_pay2 x2 x1 x0 (k0_pay1 (F := Ideal)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S64x256) zero2, View.readCov_unit_zero (S := S64x256) _ zero2]
  simp only [View.readAt_eq_ld, h1.read_unread, h2.read_unread, h3.read_unread,
    View.ld_unit_zero (S := S1024x256) zero2, View.ld_unit_zero (S := S1024x8) zero2,
    View.ld_unit_zero (S := S1024) zero1]

/-- The windows' block numbers: the point's own for each input. -/
theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = t.val := by decide +kernel

/-- A node of block `t` is one of the array's nodes. -/
theorem node_lt (t : Fin cfg0.N) (r : Fin 1024) : 1024 * t.val + r.val < 50000 := by
  have := t.isLt; have hN : cfg0.N = 35 := N_0; have := r.isLt; omega

/-- The feature block at point `t`: rows 1024 t … 1024 t + 1023 of the features. -/
theorem feat_block (c : Dev nD) (t : Fin cfg0.N) (r : Fin 1024) (d : Fin 256) :
    (X0_0 m c t : Vec Ideal S1024x256 .f32) (ix2 r d)
      = (m ((c : Thread nD τ).loc main_arg0) : Vec Ideal S50000x256 .f32) (ix2 (⟨1024 * t.val + r.val, node_lt t r⟩ : Fin 50000) d) := by
  unfold X0_0 Pipeline.Window.fill
  rw [dif_pos (moved0_0 t _)]
  unfold iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * r.val = 1024 * t.val + r.val; rw [(index_0 t).1]; omega
  | ⟨1, _⟩ => show win0_0.index t 1 * 256 + 1 * d.val = d.val; rw [(index_0 t).2]; omega

/-- The block of directions at point `t`: the same rows of the table of directions. -/
theorem pos_block (c : Dev nD) (t : Fin cfg0.N) (r : Fin 1024) (q : Fin 8) :
    (X0_1 m c t : Vec Ideal S1024x8 .f32) (ix2 r q)
      = (m ((c : Thread nD τ).loc main_arg1) : Vec Ideal S50000x8 .f32) (ix2 (⟨1024 * t.val + r.val, node_lt t r⟩ : Fin 50000) q) := by
  unfold X0_1 Pipeline.Window.fill
  rw [dif_pos (moved0_1 t _)]
  unfold iblk
  rw [View.read_apply]
  show m ((c : Thread nD τ).loc main_arg1) _ = m ((c : Thread nD τ).loc main_arg1) _
  congr 1
  funext a
  apply Fin.ext
  match a with
  | ⟨0, _⟩ => show win0_1.index t 0 * 1024 + 1 * r.val = 1024 * t.val + r.val; rw [(index_1 t).1]; omega
  | ⟨1, _⟩ => show win0_1.index t 1 * 8 + 1 * q.val = q.val; rw [(index_1 t).2]; omega

/-- The block of graph numbers at point `t`: the same nodes' graphs. -/
theorem gid_block (c : Dev nD) (t : Fin cfg0.N) (r : Fin 1024) :
    (X0_2 m c t : Vec Ideal S1024 .i32) (ix1 r)
      = (m ((c : Thread nD τ).loc main_arg2) : Vec Ideal S50000 .i32) (ix1 (⟨1024 * t.val + r.val, node_lt t r⟩ : Fin 50000)) := by
  unfold X0_2 Pipeline.Window.fill
  rw [dif_pos (moved0_2 t _)]
  unfold iblk
  rw [View.read_apply]
  show m ((c : Thread nD τ).loc main_arg2) _ = m ((c : Thread nD τ).loc main_arg2) _
  congr 1
  funext a
  apply Fin.ext
  match a with
  | ⟨0, _⟩ => show win0_2.index t 0 * 1024 + 1 * r.val = 1024 * t.val + r.val; rw [index_2 t]; omega

/-- What node `k` adds to the entry (g, d), of the contents the arguments have. -/
abbrev termAt (c : Dev nD) (g : Fin 64) (d : Fin 256) (k : ℕ) : EReal :=
  term (m ((c : Thread nD τ).loc main_arg0)) (m ((c : Thread nD τ).loc main_arg1)) (m ((c : Thread nD τ).loc main_arg2)) g d k

/-- The step at point `t` adds the terms of the nodes of block `t`. -/
theorem step_entry (c : Dev nD) (t : Fin cfg0.N) (acc : Vec Ideal S64x256 .f32) (g : Fin 64) (d : Fin 256) :
    k0_pay2 (F := Ideal) (X0_2 m c t) (X0_1 m c t) (X0_0 m c t) acc (ix2 g d)
      = acc (ix2 g d) + ∑ r ∈ Finset.range 1024, termAt m c g d (1024 * t.val + r) := by
  refine (block_step _ _ _ acc g d).trans (congrArg (acc (ix2 g d) + ·) ?_)
  rw [Finset.sum_range]
  refine Finset.sum_congr rfl fun r _ => ?_
  rw [feat_block m c t r d, pos_block m c t r 1, gid_block m c t r]
  exact (term_of_lt _ _ _ g d (node_lt t r)).symm

/-- After point `n` the output block holds, at each entry, the sum of the terms of the first 1024 (n + 1) nodes. -/
theorem partial_sums (c : Dev nD) (g : Fin 64) (d : Fin 256) : ∀ (n : ℕ) (h : n < cfg0.N),
    (outsAt0 m c n h : Vec Ideal S64x256 .f32) (ix2 g d) = ∑ k ∈ Finset.range (1024 * (n + 1)), termAt m c g d k
  | 0, h => by
    rw [outsAt0_A m c ⟨0, h⟩ rfl, first_point, step_entry]
    have hz : k0_pay1 (F := Ideal) (ix2 g d) = (0 : EReal) := by
      unfold k0_pay1
      pointwise
    rw [hz, zero_add]
    simp only [Nat.mul_zero, Nat.zero_add, Nat.mul_one]
  | n + 1, h => by
    have hN : cfg0.N = 35 := N_0
    have hB : ¬(⟨n + 1, h⟩ : Fin cfg0.N).val % 35 = 0 := by dsimp only; omega
    rw [outsAt0_B m c ⟨n + 1, h⟩ hB, later_point, step_entry]
    show (outsAt0 m c n _ : Vec Ideal S64x256 .f32) (ix2 g d) + _ = _
    rw [partial_sums c g d n, show 1024 * (n + 1 + 1) = 1024 * (n + 1) + 1024 from by omega, Finset.sum_range_add]

/-- The kernel's result: at each entry, the sum of the terms of the first 35840 nodes. -/
def pooled (c : Dev nD) : Vec Ideal S64x256 .f32 := fun i => ∑ k ∈ Finset.range 35840, termAt m c (i 0) (i 1) k

/-- The last point. -/
abbrev last : Fin cfg0.N := ⟨34, by rw [show cfg0.N = 35 from N_0]; decide⟩

/-- The one write-back, at the last point, writes the pooled sums: the output's block is the whole array. -/
theorem flushed_pooled (c : Dev nD) (t : Fin cfg0.N) (hf : (cfg0.win 3).flush t = true) :
    (dats m 0 c).flushed 3 t = ((cfg0.win 3).blk t).view.read (Elt Ideal) (pooled m c) := by
  have hN : cfg0.N = 35 := N_0
  have h34 : t.val = 34 := by have := (flush0_3 t).mp hf; have := t.isLt; omega
  obtain rfl : t = last := Fin.ext h34
  show (cfg0.win 3).cut (grid0.coords last) ((dats m 0 c).after 3 last) = _
  rw [after0_3]
  have hl : (outsAt0 m c 34 last.isLt : Vec Ideal S64x256 .f32) = pooled m c := by
    funext i
    rw [eq_ix2 i]
    exact partial_sums m c (i 0) (i 1) 34 last.isLt
  have hz' : (fun a => win0_3.index last a * main_v0.ty.shape.size a) = fun _ => 0 := funext fun a => by fin_cases a <;> decide +kernel
  exact hl.trans (Memref.read_access_unit_zero (Elt Ideal) main_v0 hz' (fun a => by rw [congrFun hz' a]; simp) (pooled m c)).symm

/-- So the result array ends holding the pooled sums. -/
theorem final (c : Dev nD) : (dats m 0 c).arrAt 3 cfg0.N = pooled m c :=
  (dats m 0 c).arrAt_eq_of_cover 3 (pooled m c) (flushed_pooled m c) fun i =>
    ⟨last, (flush0_3 last).mpr rfl, by
      show i ∈ ((View.whole main_v0).slice (win0_3.rect last)).set
      rw [View.set_slice_whole, Rect.mem_set_unit]
      intro a
      have h0 : (i 0 : Nat) < 64 := (i 0).isLt
      have h1 : (i 1 : Nat) < 256 := (i 1).isLt
      match a with
      | ⟨0, _⟩ =>
        show win0_3.index last 0 * win0_3.size 0 ≤ (i 0 : Nat) ∧ (i 0 : Nat) < win0_3.index last 0 * win0_3.size 0 + win0_3.xsize (grid0.coords last) 0
        rw [show win0_3.index last 0 * win0_3.size 0 = 0 from by decide +kernel, show win0_3.xsize (grid0.coords last) 0 = 64 from by decide +kernel]
        omega
      | ⟨1, _⟩ =>
        show win0_3.index last 1 * win0_3.size 1 ≤ (i 1 : Nat) ∧ (i 1 : Nat) < win0_3.index last 1 * win0_3.size 1 + win0_3.xsize (grid0.coords last) 1
        rw [show win0_3.index last 1 * win0_3.size 1 = 0 from by decide +kernel, show win0_3.xsize (grid0.coords last) 1 = 256 from by decide +kernel]
        omega⟩

end Cert.Pool

end
-- ==== Proof.PoolClaims.lean ====
/-
  The claims about the two TensorCore calls: the references' runs, and that each call's kernel and its reference end
  with the same array. `pool_equal` is the pooling of the first 35840 nodes, `combine_equal` the sum of the halves.
-/
module

public import proofs.«01_k».proof.Defs
public import proofs.«01_k».proof.Proof.PoolKernel
public import proofs.«01_k».proof.Proof.Gen.CombineIdeal.Value
public import proofs.«01_k».proof.Proof.Gen.CombineRefIdeal.Run
public import Idealize.ShloMosaic.Lib.Quiescent

@[expose] public section

noncomputable section

open Idealize.ShloMosaic Idealize.ShloMosaic.TcCoe Idealize.SL.Sem

namespace Cert.Pool

/-- The pooling reference runs, keeps its arguments, and leaves every semaphore at zero: it declares none. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The combining reference runs, keeps its arguments, and leaves every semaphore at zero: it declares none. -/
theorem frame_combine_reference : Cert.quiescent_CombineRefIdeal := fun m ρ _ =>
  (θ_run Cert.CombineRefIdeal.defs _ _).mono (fun r h => ⟨fun c => (h c).2, sem_eq_zero_of_no_sems (by decide) r.2⟩)
    (Cert.CombineRefIdeal.Value.run (F := Ideal) m ρ)

/-- The pooling kernel and the pooling reference end with the same array: at each entry the sum of the products of the
    first 35840 nodes that belong to the entry's graph. -/
theorem pool_equal : Cert.algebraic_KernelIdeal_ReferenceIdeal := by
  intro m g m' g' _ hargs
  refine ⟨fun c => pooled m c, ?_, ?_⟩
  · exact (θ_run Cert.KernelIdeal.defs _ _).mono (fun r h c => ⟨(h c).1.trans (final m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    rw [(hargs c).1, (hargs c).2.1, (hargs c).2.2]
    funext i
    rw [eq_ix2 i]
    exact reference_entry _ _ _ (i 0) (i 1)

/-- The combining kernel and its reference end with the same array: the absolute value of the sum of the two halves. -/
theorem combine_equal : Cert.algebraic_CombineIdeal_CombineRefIdeal := by
  intro m g m' g' _ hargs
  refine ⟨fun c => Cert.CombineIdeal.Value.G2 (F := Ideal) (m ((c.tc : Thread _ _).loc Cert.CombineIdeal.main_arg0)) (m ((c.tc : Thread _ _).loc Cert.CombineIdeal.main_arg1)), ?_, ?_⟩
  · exact Cert.CombineIdeal.Value.run (F := Ideal) m g
  · refine (θ_run Cert.CombineRefIdeal.defs _ _).mono (fun r h c => ⟨(h c).1.trans ?_, (h c).2⟩)
      (Cert.CombineRefIdeal.Value.run (F := Ideal) m' g')
    rw [(hargs c).1, (hargs c).2]
    rfl

end Cert.Pool

end
-- ==== Proof.TilesProg.lean ====
/-
  A tile's task in functions: the copies in, the groups of sixteen nodes with their two paths, a block's step, the loop.
-/
module

public import proofs.«01_k».proof.Tiles

@[expose] public section

noncomputable section

namespace Cert.Tiles

open Idealize.ShloMosaic Idealize.SL.Sem

variable {F : FTy → Type} [FloatOps F] [Facts]
open Facts₀ Facts

/-- Programs of the tile at the coordinates `i`. -/
abbrev TileProg (F : FTy → Type) [Facts] (i : grid0.Coords) (α : Type) :=
  Prog (TpuEff nD τ sig (Elt F) Λ₀ (.scVector ((i 0).castLE hcore0) ((i 1).castLE hsub0))) α

/-- Do `f` for every member of a list, in order. -/
def inOrder {i : grid0.Coords} {α : Type} (f : α → TileProg F i PUnit) : List α → TileProg F i PUnit
  | [] => pure ⟨⟩
  | a :: l => f a >>= fun _ => inOrder f l

/-- Do `A` if the bit is set. -/
def maybe {i : grid0.Coords} {β : Type} (c : BitVec 1) (A : c = 1#1 → TileProg F i β) : TileProg F i PUnit :=
  if h : c = 1#1 then A h >>= fun _ => pure ⟨⟩ else pure ⟨⟩

/-- Do `A` if the bit is set, and then `k`. -/
def maybeThen {i : grid0.Coords} {α β : Type} (c : BitVec 1) (A : c = 1#1 → TileProg F i β) (k : TileProg F i α) : TileProg F i α :=
  if h : c = 1#1 then A h >>= fun _ => k else k

theorem maybeThen_eq {i : grid0.Coords} {α β : Type} (c : BitVec 1) (A : c = 1#1 → TileProg F i β) (k : TileProg F i α) :
    maybeThen c A k = maybe c A >>= fun _ => k := by
  unfold maybeThen maybe
  split
  · rw [bind_assoc]; rfl
  · rfl

/-- The place of sixteen lanes: chunk `c` of the row a word names. -/
def lanes (r : BitVec 32) (c : Fin 8) : Fin 2 → Nat := ![(Scalar.indexCast r : Index).toNat, 16 * c.val]

def chunks : List (Fin 8) := [0, 1, 2, 3, 4, 5, 6, 7]
def rows : List (Fin 16) := [0, 1, 2, 3, 4, 5, 6, 7, 8, 9, 10, 11, 12, 13, 14, 15]

/-- The first row of group `t`, and its row `j`. -/
def baseWord (t : Nat) : BitVec 32 := Scalar.muli (Scf.iv 0#32 1#32 t) 16#32
def rowWord (t : Nat) (j : Fin 16) : BitVec 32 := Scalar.addi (baseWord t) (BitVec.ofNat 32 j.val)

variable (i : grid0.Coords)
variable (x : Memref sig .scVector .vmem S80x128 .f32) (acc : Memref sig .scVector .vmem S64x128 .f32)

/-- Sixteen lanes of a row of features. -/
def loadLanes (r : BitVec 32) (c : Fin 8) (h : ∀ a, lanes r c a + S1x16.size a ≤ S80x128.size a) : TileProg F i (Vec F S1x16 .f32) :=
  Prog.lift (.load x (Rect.unit (s := S80x128) (lanes r c) S1x16.size h).toLoadRect (View.loadsAt_vmem h_S1x16))

/-- Add sixteen lanes to a row of the sums. -/
def addLanes (g : BitVec 32) (c : Fin 8) (h : ∀ a, lanes g c a + S1x16.size a ≤ S64x128.size a) (v : FVec F S16 .f32) : TileProg F i PUnit := do
  let a : Vec F S1x16 .f32 ← Prog.lift (.load acc (Rect.unit (s := S64x128) (lanes g c) S1x16.size h).toLoadRect (View.loadsAt_vmem h_S1x16))
  let _ : Vec F S1x16 .f32 ← Prog.lift (.load acc (Rect.unit (s := S64x128) (lanes g c) S1x16.size h).toLoadRect (View.loadsAt_vmem h_S1x16))
  Prog.lift (.store acc (Rect.unit (s := S64x128) (lanes g c) S1x16.size h)
    (shapeCast S1x16 (addf (shapeCast S16 a shapeCasts_S1x16_S16) v) shapeCasts_S16_S1x16) Finset.univ (View.stores_vmem_bits_univ h_S1x16 rfl) (.inl rfl))

theorem rowWord_toNat (t : Nat) (ht : t < 5) (j : Fin 16) : (rowWord t j).toNat = 16 * t + j.val := by
  have h : ∀ (t : Fin 5) (j : Fin 16), (rowWord t.val j).toNat = 16 * t.val + j.val := by decide +kernel
  exact h ⟨t, ht⟩ j

theorem rowWord_fits (t : Nat) (ht : t < 5) (j : Fin 16) (c : Fin 8) : ∀ a, lanes (rowWord t j) c a + S1x16.size a ≤ S80x128.size a := by
  have h : ∀ (t : Fin 5) (j : Fin 16) (c : Fin 8), ∀ a, lanes (rowWord t.val j) c a + S1x16.size a ≤ S80x128.size a := by decide +kernel
  exact h ⟨t, ht⟩ j c

theorem lane_slices (j : Fin 16) : S16.Slices ![j.val] S1 := by revert j; decide

/-- Lane `j` of sixteen. -/
def lane {α : Type} (v : S16.Idx → α) (j : Fin 16) : α := extractAt ![0] (extractStridedSlice S1 ![j.val] v (lane_slices j)) inpos_S1_p0

/-- The groups whose rows may belong to different graphs: every row is added to its own graph's. -/
def rowByRow (t : Nat) (ht : t < 5) (w : Fin 16 → F .f32) (g : IVec S16 32) (chk : BitVec 32 → Prop) (dec : ∀ b, Decidable (chk b))
    (fits : ∀ b, chk b → ∀ c a, lanes b c a + S1x16.size a ≤ S64x128.size a) : TileProg F i PUnit :=
  inOrder (fun j => do
    let h ← (Prog.lift (TpuEff.assume (chk (lane g j)) (dec (lane g j))) : TileProg F i (PLift (chk (lane g j))))
    inOrder (fun c => do
      let v ← loadLanes (F := F) i x (rowWord t j) c (rowWord_fits t ht j c)
      addLanes i acc (lane g j) c (fits _ h.down c) (mulf (shapeCast S16 v shapeCasts_S1x16_S16) (broadcast S16 (w j)))) chunks) rows

theorem baseWord_fits (t : Nat) (ht : t < 5) (c : Fin 8) : ∀ a, lanes (baseWord t) c a + S1x16.size a ≤ S80x128.size a := by
  have h : ∀ (t : Fin 5) (c : Fin 8), ∀ a, lanes (baseWord t.val) c a + S1x16.size a ≤ S80x128.size a := by decide +kernel
  exact h ⟨t, ht⟩ c

/-- The rows of a group after its first. -/
def laterRows : List (Fin 16) := [1, 2, 3, 4, 5, 6, 7, 8, 9, 10, 11, 12, 13, 14, 15]

/-- Add the weighted rows of a list to sixteen lanes. -/
def addRows (t : Nat) (ht : t < 5) (w : Fin 16 → F .f32) (c : Fin 8) : List (Fin 16) → FVec F S16 .f32 → TileProg F i (FVec F S16 .f32)
  | [], s => pure s
  | j :: l, s => loadLanes (F := F) i x (rowWord t j) c (rowWord_fits t ht j c) >>= fun v =>
      addRows t ht w c l (addf s (mulf (shapeCast S16 v shapeCasts_S1x16_S16) (broadcast S16 (w j))))

/-- The groups whose rows all belong to one graph: their weighted sum is added to that graph's. -/
def oneGraph (t : Nat) (ht : t < 5) (w : Fin 16 → F .f32) (g : BitVec 32)
    (fits : ∀ c a, lanes g c a + S1x16.size a ≤ S64x128.size a) : TileProg F i PUnit :=
  inOrder (fun c => do
    let v ← loadLanes (F := F) i x (baseWord t) c (baseWord_fits t ht c)
    let s ← addRows (F := F) i x t ht w c laterRows (mulf (shapeCast S16 v shapeCasts_S1x16_S16) (broadcast S16 (w 0)))
    addLanes i acc g c (fits c) s) chunks

/-- Row `k` of the eight rows of weights of group `t`. -/
def halfWord (t : Nat) (k : BitVec 32) : BitVec 32 := Scalar.addi (Scalar.muli (Scf.iv 0#32 1#32 t) 8#32) k

def halfPlace (t : Nat) (k : BitVec 32) : Fin 2 → Nat := ![(Scalar.indexCast (halfWord t k) : Index).toNat, 0]

theorem halfPlace_fits (t : Nat) (ht : t < 5) (k : Fin 8) : ∀ a, halfPlace t (BitVec.ofNat 32 k.val) a + S1x16.size a ≤ S40x16.size a := by
  have h : ∀ (t : Fin 5) (k : Fin 8), ∀ a, halfPlace t.val (BitVec.ofNat 32 k.val) a + S1x16.size a ≤ S40x16.size a := by decide +kernel
  exact h ⟨t, ht⟩ k

def idPlace (t : Nat) : Fin 1 → Nat := ![(Scalar.indexCast (baseWord t) : Index).toNat]

theorem idPlace_fits (t : Nat) (ht : t < 5) : ∀ a, idPlace t a + S16.size a ≤ S128.size a := by
  have h : ∀ (t : Fin 5), ∀ a, idPlace t.val a + S16.size a ≤ S128.size a := by decide +kernel
  exact h ⟨t, ht⟩

/-- Whether two words agree, and whether they differ, as the kernel asks it. -/
def agree (a b : BitVec 32) : BitVec 1 := Scalar.cmpi .ne (Scalar.extui (Scalar.cmpi .eq a b) : BitVec 32) 0#32
def differ (a b : BitVec 32) : BitVec 1 := Scalar.cmpi .ne (Scalar.extui (Scalar.cmpi .ne a b) : BitVec 32) 0#32

variable (p : Memref sig .scVector .vmem S40x16 .f32) (g : Memref sig .scVector .vmem S128 .i32)

/-- A row of weights: two nodes' eight. -/
def loadHalf (t : Nat) (ht : t < 5) (k : Fin 8) : TileProg F i (Vec F S1x16 .f32) :=
  Prog.lift (.load p (Rect.unit (s := S40x16) (halfPlace t (BitVec.ofNat 32 k.val)) S1x16.size (halfPlace_fits t ht k)).toLoadRect (View.loadsAt_vmem h_S1x16))

/-- The second of a node's eight weights, of the node in the first or the second half of a row. -/
def weight (v : Vec F S1x16 .f32) (j : Fin 16) : F .f32 := lane (shapeCast S16 v shapeCasts_S1x16_S16) j

/-- What a tile does with one group of sixteen nodes. -/
def group (t : Nat) (ht : t < 5) (chkA : BitVec 32 → BitVec 32 → Prop) (decA : ∀ a b, Decidable (chkA a b))
    (fitsA : ∀ a b, chkA a b → agree a b = 1#1 → ∀ c a', lanes a c a' + S1x16.size a' ≤ S64x128.size a')
    (chkB : BitVec 32 → BitVec 32 → BitVec 32 → Prop) (decB : ∀ a b r, Decidable (chkB a b r))
    (fitsB : ∀ a b, differ a b = 1#1 → ∀ r, chkB a b r → ∀ c a', lanes r c a' + S1x16.size a' ≤ S64x128.size a') : TileProg F i (BitVec 32) := do
  let gv : Vec F S16 .i32 ← Prog.lift (.load g (Rect.unit (s := S128) (idPlace t) S16.size (idPlace_fits t ht)).toLoadRect (View.loadsAt_vmem h_S16))
  have gs : IVec S16 32 := shapeCast S16 gv shapeCasts_S16_S16
  let h ← (Prog.lift (TpuEff.assume (chkA (lane gs 0) (lane gs 15)) (decA (lane gs 0) (lane gs 15))) : TileProg F i (PLift (chkA (lane gs 0) (lane gs 15))))
  let w0 ← loadHalf (F := F) i p t ht 0
  let w1 ← loadHalf (F := F) i p t ht 1
  let w2 ← loadHalf (F := F) i p t ht 2
  let w3 ← loadHalf (F := F) i p t ht 3
  let w4 ← loadHalf (F := F) i p t ht 4
  let w5 ← loadHalf (F := F) i p t ht 5
  let w6 ← loadHalf (F := F) i p t ht 6
  let w7 ← loadHalf (F := F) i p t ht 7
  have w : Fin 16 → F .f32 := ![weight w0 1, weight w0 9, weight w1 1, weight w1 9, weight w2 1, weight w2 9, weight w3 1, weight w3 9,
    weight w4 1, weight w4 9, weight w5 1, weight w5 9, weight w6 1, weight w6 9, weight w7 1, weight w7 9]
  maybeThen (agree (lane gs 0) (lane gs 15)) (fun h5 => oneGraph i x acc t ht w (lane gs 0) (fitsA _ _ h.down h5))
    (maybeThen (differ (lane gs 0) (lane gs 15)) (fun h6 => rowByRow i x acc t ht w gs (chkB (lane gs 0) (lane gs 15)) (decB (lane gs 0) (lane gs 15)) (fitsB _ _ h6))
      (pure 0#32))

section Copies

variable (feat : Memref sig .scVector .hbm S50000x256 .f32) (pd : Memref sig .scVector .hbm S25000x16 .f32) (gid : Memref sig .scVector .hbm S50000 .i32)
variable (hx : x.IsWhole) (hp : p.IsWhole) (semx semp semg : DmaSems sig S_)

/-- The part of a block of ids. -/
abbrev idsOf (g : Memref sig .scVector .vmem S128 .i32) : Memref sig .scVector .vmem S80 .i32 :=
  g.slice (Rect.unit (s := S128) ![0] S80.size inb_S128_S80_0) (fun _ => rfl)

/-- Start the three copies of a block of eighty nodes. -/
def fetch (ox : Fin 2 → Nat) (hox : ∀ a, ox a + S80x128.size a ≤ S50000x256.size a)
    (op : Fin 2 → Nat) (hop : ∀ a, op a + S40x16.size a ≤ S25000x16.size a)
    (og : Fin 1 → Nat) (hog : ∀ a, og a + S80.size a ≤ S50000.size a) : TileProg F i PUnit := do
  Prog.lift (.enqueueDma (feat.slice (Rect.unit (s := S50000x256) ox S80x128.size hox) (fun _ => rfl)) (.here x) (.dma semx.sem)
    (View.wordExact_bits rfl) hx.wordExact ⟨Or.inl rfl, trivial⟩)
  Prog.lift (.enqueueDma (pd.slice (Rect.unit (s := S25000x16) op S40x16.size hop) (fun _ => rfl)) (.here p) (.dma semp.sem)
    (View.wordExact_bits rfl) hp.wordExact ⟨Or.inl rfl, trivial⟩)
  Prog.lift (.enqueueDma (gid.slice (Rect.unit (s := S50000) og S80.size hog) (fun _ => rfl)) (.here (idsOf g)) (.dma semg.sem)
    (View.wordExact_bits rfl) (View.wordExact_bits rfl) ⟨Or.inl rfl, trivial⟩)

/-- Wait for the three copies of a block. -/
def await : TileProg F i PUnit := do
  Prog.lift (.waitDma2 semx.sem (feat.slice (Rect.unit (s := S50000x256) ![0, 0] S80x128.size inb_S50000x256_S80x128_0_0) (fun _ => rfl)) x
    (View.wordExact_bits rfl) hx.wordExact)
  Prog.lift (.waitDma2 semp.sem (pd.slice (Rect.unit (s := S25000x16) ![0, 0] S40x16.size inb_S25000x16_S40x16_0_0) (fun _ => rfl)) p
    (View.wordExact_bits rfl) hp.wordExact)
  Prog.lift (.waitDma2 semg.sem (gid.slice (Rect.unit (s := S50000) ![0] S80.size inb_S50000_S80_0) (fun _ => rfl)) (idsOf g)
    (View.wordExact_bits rfl) (View.wordExact_bits rfl))

end Copies

/-- What the first checks of a group give. -/
theorem fitsA0 (k0_t2 : Fin k0_t2_loop.trips) (h4 : k0_cond4 i k0_t2 = 1#1) (a b : BitVec 32) (h : k0_chk1 i k0_t2 a b) (h5 : agree a b = 1#1) :
    ∀ c a', lanes a c a' + S1x16.size a' ≤ S64x128.size a' := by
  intro c; fin_cases c
  exacts [h.1 h4 h5, h.2.1 h4 h5, h.2.2.1 h4 h5, h.2.2.2.1 h4 h5, h.2.2.2.2.1 h4 h5, h.2.2.2.2.2.1 h4 h5, h.2.2.2.2.2.2.1 h4 h5, h.2.2.2.2.2.2.2 h4 h5]

theorem fitsB0 (k0_t2 : Fin k0_t2_loop.trips) (h4 : k0_cond4 i k0_t2 = 1#1) (a b : BitVec 32) (h6 : differ a b = 1#1) (r : BitVec 32) (h : k0_chk2 i k0_t2 a b r) :
    ∀ c a', lanes r c a' + S1x16.size a' ≤ S64x128.size a' := by
  intro c; fin_cases c
  exacts [h.1 h4 h6, h.2.1 h4 h6, h.2.2.1 h4 h6, h.2.2.2.1 h4 h6, h.2.2.2.2.1 h4 h6, h.2.2.2.2.2.1 h4 h6, h.2.2.2.2.2.2.1 h4 h6, h.2.2.2.2.2.2.2 h4 h6]

theorem fitsA1 (k0_t2 : Fin k0_t2_loop.trips) (h4 : k0_cond9 i k0_t2 = 1#1) (a b : BitVec 32) (h : k0_chk18 i k0_t2 a b) (h5 : agree a b = 1#1) :
    ∀ c a', lanes a c a' + S1x16.size a' ≤ S64x128.size a' := by
  intro c; fin_cases c
  exacts [h.1 h4 h5, h.2.1 h4 h5, h.2.2.1 h4 h5, h.2.2.2.1 h4 h5, h.2.2.2.2.1 h4 h5, h.2.2.2.2.2.1 h4 h5, h.2.2.2.2.2.2.1 h4 h5, h.2.2.2.2.2.2.2 h4 h5]

theorem fitsB1 (k0_t2 : Fin k0_t2_loop.trips) (h4 : k0_cond9 i k0_t2 = 1#1) (a b : BitVec 32) (h6 : differ a b = 1#1) (r : BitVec 32) (h : k0_chk19 i k0_t2 a b r) :
    ∀ c a', lanes r c a' + S1x16.size a' ≤ S64x128.size a' := by
  intro c; fin_cases c
  exacts [h.1 h4 h6, h.2.1 h4 h6, h.2.2.1 h4 h6, h.2.2.2.1 h4 h6, h.2.2.2.2.1 h4 h6, h.2.2.2.2.2.1 h4 h6, h.2.2.2.2.2.2.1 h4 h6, h.2.2.2.2.2.2.2 h4 h6]

theorem zeroRow_fits (t : Nat) (ht : t < 64) (c : Fin 8) : ∀ a, lanes (Scf.iv 0#32 1#32 t) c a + S1x16.size a ≤ S64x128.size a := by
  have h : ∀ (t : Fin 64) (c : Fin 8), ∀ a, lanes (Scf.iv 0#32 1#32 t.val) c a + S1x16.size a ≤ S64x128.size a := by decide +kernel
  exact h ⟨t, ht⟩ c

/-- Make a row of the sums zero. -/
def zeroRow (t : Nat) (ht : t < 64) : TileProg F i (BitVec 32) := do
  inOrder (fun c => do
    let _ : Vec F S1x16 .f32 ← Prog.lift (.load acc (Rect.unit (s := S64x128) (lanes (Scf.iv 0#32 1#32 t) c) S1x16.size (zeroRow_fits t ht c)).toLoadRect (View.loadsAt_vmem h_S1x16))
    Prog.lift (.store acc (Rect.unit (s := S64x128) (lanes (Scf.iv 0#32 1#32 t) c) S1x16.size (zeroRow_fits t ht c))
      (shapeCast S1x16 (broadcast S16 (Scalar.ofBits (F := F) .f32 0x00000000#32)) shapeCasts_S16_S1x16) Finset.univ (View.stores_vmem_bits_univ h_S1x16 rfl) (.inl rfl))) chunks
  pure 0#32

theorem sixteen_fits (k : Fin 4) : ∀ a, (![16 * k.val] : Fin 1 → Nat) a + S16.size a ≤ S64.size a := by revert k; decide +kernel

/-- The numbers of sixteen graphs, written where the adding copies will look for them. -/
def number (idx : Memref sig .scVector .vmem S64 .i32) (k : Fin 4) (w : BitVec 32) : TileProg F i PUnit := do
  let _ : Vec F S16 .i32 ← Prog.lift (.load idx (Rect.unit (s := S64) ![16 * k.val] S16.size (sixteen_fits k)).toLoadRect (View.loadsAt_vmem h_S16))
  Prog.lift (.store idx (Rect.unit (s := S64) ![16 * k.val] S16.size (sixteen_fits k))
    (shapeCast S16 (addi (iota .scVector S16 32 [0] iota_S16_d0_w32_scVector) (broadcast S16 w)) shapeCasts_S16_S16) Finset.univ (View.stores_vmem_bits_univ h_S16 rfl) (.inl rfl))

/-- Whether the tile has a block beyond the loop's, as the kernel asks it. -/
def oneMore (i : grid0.Coords) : BitVec 1 := Scalar.cmpi .ne (Scalar.extui (Scalar.cmpi .slt (Scalar.addi (BitVec.ofNat 32 (i 1).val) 192#32) 177#32) : BitVec 32) 0#32

/-- The tile's part of the result. -/
abbrev partOf (arg5 : Memref sig .scVector .hbm S16x64x256 .f32) : Memref sig .scVector .hbm S64x128 .f32 :=
  (arg5.slice (Rect.unit (s := S16x64x256) (k0_off582 i) S1x64x128.size (k0_off582_inb i)) (fun _ => rfl)).squeeze S64x128 squeezes_S1x64x128_S64x128

section Tile

variable (arg2 : Memref sig .scVector .hbm S50000x256 .f32) (harg2 : arg2.IsWhole) (arg3 : Memref sig .scVector .hbm S25000x16 .f32) (harg3 : arg3.IsWhole) (arg4 : Memref sig .scVector .hbm S50000 .i32) (harg4 : arg4.IsWhole) (arg5 : Memref sig .scVector .hbm S16x64x256 .f32) (harg5 : arg5.IsWhole) (arg6 : Memref sig .scVector .vmem S80x128 .f32) (harg6 : arg6.IsWhole) (arg7 : Memref sig .scVector .vmem S80x128 .f32) (harg7 : arg7.IsWhole) (arg8 : Memref sig .scVector .vmem S40x16 .f32) (harg8 : arg8.IsWhole) (arg9 : Memref sig .scVector .vmem S40x16 .f32) (harg9 : arg9.IsWhole) (arg10 : Memref sig .scVector .vmem S128 .i32) (harg10 : arg10.IsWhole) (arg11 : Memref sig .scVector .vmem S128 .i32) (harg11 : arg11.IsWhole) (arg12 : Memref sig .scVector .vmem S64x128 .f32) (harg12 : arg12.IsWhole) (arg13 : Memref sig .scVector .shared S64x128 .f32) (harg13 : arg13.IsWhole) (arg14 : Memref sig .scVector .vmem S64 .i32) (harg14 : arg14.IsWhole) (arg15 : Memref sig .scVector .vmem S4x128 .f32) (harg15 : arg15.IsWhole) (arg16 : DmaSems sig S_) (arg17 : DmaSems sig S_) (arg18 : DmaSems sig S_) (arg19 : DmaSems sig S_) (arg20 : DmaSems sig S_) (arg21 : DmaSems sig S_) (v37_r0 : DmaSems sig S_)

/-- The first five steps on two blocks. -/
def firstSteps (k0_t2 : Fin k0_t2_loop.trips) : TileProg F i PUnit := do
  maybe (k0_cond2 i k0_t2) fun h2 =>
    fetch i arg7 arg9 arg11 arg2 arg3 arg4 harg7 harg9 arg17 arg19 arg21 (k0_off12 i k0_t2) (k0_off12_inb i k0_t2 h2) (k0_off13 i k0_t2) (k0_off13_inb i k0_t2 h2) (k0_off14 i k0_t2) (k0_off14_inb i k0_t2 h2)
  maybe (k0_cond4 i k0_t2) fun _ => await i arg6 arg8 arg10 arg2 arg3 arg4 harg6 harg8 arg16 arg18 arg20
  maybe (k0_cond4 i k0_t2) fun h4 =>
    Scf.Loop.for k0_t3_loop (k0_t3_ok i k0_t2 h4) 0#32 (fun t _ =>
      group i arg6 arg12 arg8 arg10 t.val t.isLt (k0_chk1 i k0_t2) (k0_chk1.dec i k0_t2) (fitsA0 i k0_t2 h4) (k0_chk2 i k0_t2) (k0_chk2.dec i k0_t2) (fitsB0 i k0_t2 h4))
  maybe (k0_cond7 i k0_t2) fun h7 =>
    fetch i arg6 arg8 arg10 arg2 arg3 arg4 harg6 harg8 arg16 arg18 arg20 (k0_off297 i k0_t2) (k0_off297_inb i k0_t2 h7) (k0_off298 i k0_t2) (k0_off298_inb i k0_t2 h7) (k0_off299 i k0_t2) (k0_off299_inb i k0_t2 h7)
  maybe (k0_cond9 i k0_t2) fun _ => await i arg7 arg9 arg11 arg2 arg3 arg4 harg7 harg9 arg17 arg19 arg21

/-- The sixth: the second block's groups. -/
def lastStep (k0_t2 : Fin k0_t2_loop.trips) : TileProg F i PUnit :=
  maybe (k0_cond9 i k0_t2) fun h9 =>
    Scf.Loop.for k0_t4_loop (k0_t4_ok i k0_t2 h9) 0#32 (fun t _ =>
      group i arg7 arg12 arg9 arg11 t.val t.isLt (k0_chk18 i k0_t2) (k0_chk18.dec i k0_t2) (fitsA1 i k0_t2 h9) (k0_chk19 i k0_t2) (k0_chk19.dec i k0_t2) (fitsB1 i k0_t2 h9))

/-- The copy of a tile's sums to its part of the result. -/
def copyOut : TileProg F i PUnit := do
  Prog.lift (.enqueueDma arg12 (.here (partOf i arg5)) (.dma v37_r0.sem) harg12.wordExact ((View.wordExact_bits rfl).reshape _ _) ⟨Or.inl rfl, trivial⟩)
  Prog.lift (.waitDma2 v37_r0.sem arg12 (partOf i arg5) harg12.wordExact ((View.wordExact_bits rfl).reshape _ _))

/-- Zero sums, the graphs' numbers, and the first block's copies. -/
def opening : TileProg F i PUnit := do
  let _ ← Scf.Loop.for k0_t1_loop k0_t1_ok 0#32 (fun t _ => zeroRow i arg12 t.val t.isLt)
  number i arg14 0 0#32
  number i arg14 1 16#32
  number i arg14 2 32#32
  number i arg14 3 48#32
  maybe (k0_cond1 i) fun h1 =>
    fetch i arg6 arg8 arg10 arg2 arg3 arg4 harg6 harg8 arg16 arg18 arg20 (k0_off9 i) (k0_off9_inb i h1) (k0_off10 i) (k0_off10_inb i h1) (k0_off11 i) (k0_off11_inb i h1)

/-- What a tile does. -/
def tile : TileProg F i PUnit := do
  opening i arg2 arg3 arg4 arg6 harg6 arg8 harg8 arg10 arg12 arg14 arg16 arg18 arg20
  let _ ← Scf.Loop.for k0_t2_loop k0_t2_ok 0#32 (fun k0_t2 _ => do
    firstSteps i arg2 arg3 arg4 arg6 harg6 arg7 harg7 arg8 harg8 arg9 harg9 arg10 arg11 arg12 arg16 arg17 arg18 arg19 arg20 arg21 k0_t2
    lastStep i arg7 arg9 arg11 arg12 k0_t2
    pure 0#32)
  maybe (oneMore i) fun _ => await i arg6 arg8 arg10 arg2 arg3 arg4 harg6 harg8 arg16 arg18 arg20
  copyOut i arg5 arg12 harg12 v37_r0

end Tile

end Cert.Tiles
-- ==== Proof.TilesStep.lean ====
/-
  A tile's context, and the rules for the reads and the stores of its sums.
-/
module

public import proofs.«01_k».proof.Proof.TilesProg
public import proofs.«01_k».proof.Proof.Gen.Tiles
public import Idealize.ShloMosaic.Lib.SparseCore.Quiescent
public import Idealize.ShloMosaic.Lib.SparseCore.Ops
public import Idealize.ShloMosaic.Lib.Pipeline.Kit
public import Idealize.ShloMosaic.Lib.Tactic

@[expose] public section

noncomputable section

namespace Cert.Tiles

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
open Facts₀ Facts

abbrev UH : Type := URounds (GSem nD τ sig) ℕ
abbrev UU : Type := UH × Counters

local notation "𝕄" => MT nD τ sig (HIx 1) (Elt F) ℕ UU ℕ

/-! ## The steps of a tile over buffers whose contents are known -/

section Step

variable (d : Dev nD) (i : grid0.Coords)

abbrev core (i : grid0.Coords) : Fin τ.nSC := (i 0).castLE hcore0
abbrev sub (i : grid0.Coords) : Fin τ.nSub := (i 1).castLE hsub0

/-- The tile's weakest precondition. -/
abbrev WP {α : Type} (p : TileProg F i α) (Q : α → sProp 𝕄) : sProp 𝕄 :=
  wp frame (wpE (defs₀ (F := F)) Variants.none (V d (core i) (sub i)) none) Set.univ p Q

/-- The buffer under a window is the tile's, and reads `A` through it. -/
def holds {sp : Space} {s : Shape} {e : EltTy} (m : Memref sig .scVector sp s e) (A : s.Idx → Elt F e) : sProp 𝕄 :=
  iprop(∃ f, ⌜m.view.read (Elt F) f = A⌝ ∗ (m.view.loc (V d (core i) (sub i)) ↦[m.view.set]{fullShare} f))

theorem load_step {s : Shape} {e : EltTy} {m : Memref sig .scVector .vmem s e} {r : Rect s} {hl} (A : s.Idx → Elt F e)
    {Q : (r.shape.Idx → Elt F e) → sProp 𝕄} :
    iprop(holds d i m A ∗ (holds d i m A -∗ Q fun x => A (r.emb x)))
      ⊢ WP (F := F) d i (Prog.lift (.load m r.toLoadRect hl)) Q := by
  unfold holds
  iintro ⟨⟨%f, %h, H⟩, HQ⟩
  iapply (wp_load_rect Variants.none (V d (core i) (sub i)) none Set.univ (m := m) (r := r) (S := m.view.set) (View.set_slice_subset _ _)) $$ H
  iintro H
  rw [wp_ret]
  imodintro
  ispecialize HQ $$ [H]
  · iexists f
    isplitr
    · ipureintro; exact h
    · iexact H
  subst h
  rw [show View.read (Elt F) (m.access r) f = fun x => View.read (Elt F) m.view f (r.emb x) from rfl]
  iexact HQ

/-- A store of all of a rectangle. -/
theorem store_step {s : Shape} {e : EltTy} {m : Memref sig .scVector .vmem s e} {r : Rect s} {w : r.shape.Idx → Elt F e} {hx hm} (A A' : s.Idx → Elt F e)
    (hin : ∀ x, A' (r.emb x) = w x) (hout : ∀ y, (∀ x, r.emb x ≠ y) → A' y = A y)
    {Q : PUnit → sProp 𝕄} :
    iprop(holds d i m A ∗ (holds d i m A' -∗ Q ⟨⟩))
      ⊢ WP (F := F) d i (Prog.lift (.store m r w Finset.univ hx hm)) Q := by
  unfold holds
  iintro ⟨⟨%f, %h, H⟩, HQ⟩
  iapply (wp_store Variants.none (V d (core i) (sub i)) none Set.univ (m := m) (r := r) (S := m.view.set) (by rw [View.setOn_univ]; exact View.set_slice_subset _ _)) $$ H
  iintro H
  rw [wp_ret]
  imodintro
  iapply HQ
  iexists _
  isplitr
  swap
  · iexact H
  ipureintro
  funext y
  by_cases hy : ∃ x, r.emb x = y
  · obtain ⟨x, rfl⟩ := hy
    rw [hin]
    exact View.read_slice_write_emb r f w (Finset.mem_univ x)
  · replace hy : ∀ x, r.emb x ≠ y := fun x hx => hy ⟨x, hx⟩
    rw [hout y hy, ← h]
    refine View.read_slice_write_of_not_mem r f w Finset.univ ?_
    intro hm
    obtain ⟨x, -, hx⟩ := Finset.mem_map.mp hm
    exact hy x hx

theorem assume_step {P : Prop} {dec : Decidable P} (h : P) {Q : PLift P → sProp 𝕄} :
    Q ⟨h⟩ ⊢ WP (F := F) d i (Prog.lift (TpuEff.assume P dec)) Q := by
  refine BIBase.Entails.trans ?_ (wp_assume Variants.none (V d (core i) (sub i)) none Set.univ h)
  iintro H
  rw [wp_ret]
  imodintro
  iexact H

/-- A list's steps, each changing the state as `step` says. -/
theorem inOrder_step {α S : Type} (I : S → sProp 𝕄) (f : α → TileProg F i PUnit) (step : S → α → S)
    (hf : ∀ a s (Q : PUnit → sProp 𝕄), iprop(I s ∗ (I (step s a) -∗ Q ⟨⟩)) ⊢ WP (F := F) d i (f a) Q) :
    ∀ (l : List α) (s : S) (Q : PUnit → sProp 𝕄), iprop(I s ∗ (I (l.foldl step s) -∗ Q ⟨⟩)) ⊢ WP (F := F) d i (inOrder f l) Q
  | [], s, Q => by
    simp only [inOrder, WP, wp_pure, List.foldl]
    iintro ⟨H, HQ⟩
    imodintro
    iapply HQ
    iexact H
  | a :: l, s, Q => by
    simp only [inOrder, WP, wp_bind, List.foldl]
    iintro ⟨H, HQ⟩
    iapply (hf a s _)
    isplitl [H]; · iexact H
    iintro H
    iapply (inOrder_step I f step hf l (step s a) Q)
    isplitl [H]; · iexact H
    iexact HQ

end Step

end Cert.Tiles
-- ==== Proof.TilesSums.lean ====
/-
  What a group of sixteen nodes does to a tile's sums, on either path and on any floats, and that its steps run.
-/
module

public import proofs.«01_k».proof.Proof.TilesStep
public import Idealize.ShloMosaic.Lib.ValueIdxCore

@[expose] public section

noncomputable section

namespace Cert.Tiles

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
open Facts₀ Facts

local notation "𝕄" => MT nD τ sig (HIx 1) (Elt F) ℕ UU ℕ

/-! ## What a group of sixteen nodes does to the sums -/

/-- Lane `l` of sixteen. -/
abbrev ln (l : Fin 16) : S16.Idx := ix1 l

theorem cast_to_lanes (h : S1x16.ShapeCasts S16) (x : S16.Idx) : Shape.reshapeEquiv h x = (ix2 (0 : Fin 1) (x 0) : S1x16.Idx) := by
  have e : ∀ (h : S1x16.ShapeCasts S16) (l : Fin 16), Shape.reshapeEquiv h (ln l) = (ix2 (0 : Fin 1) l : S1x16.Idx) := by decide +kernel
  rw [eq_ix1 x]
  exact e h (x 0)

theorem cast_of_lanes (h : S16.ShapeCasts S1x16) (x : S1x16.Idx) : Shape.reshapeEquiv h x = ln (x 1) := by
  have e : ∀ (h : S16.ShapeCasts S1x16) (a : Fin 1) (l : Fin 16), Shape.reshapeEquiv h (ix2 a l : S1x16.Idx) = ln l := by decide +kernel
  rw [eq_ix2 x]
  exact e h (x 0) (x 1)

/-- Add sixteen lanes to chunk `c` of row `r` of the sums. -/
def addTo (r : BitVec 32) (c : Fin 8) (v : FVec F S16 .f32) (A : FVec F S64x128 .f32) : FVec F S64x128 .f32 := fun y =>
  if (y 0).val = (Scalar.indexCast r : Index).toNat ∧ (y 1).val / 16 = c.val then
    FloatOps.addf (A y) (v (ln ⟨(y 1).val % 16, Nat.mod_lt _ (by decide)⟩))
  else A y

/-- Chunk `c` of row `j` of group `t`. -/
def rowLanes (X : FVec F S80x128 .f32) (t : Nat) (ht : t < 5) (j : Fin 16) (c : Fin 8) : FVec F S16 .f32 :=
  shapeCast S16 (fun x => X ((Rect.unit (s := S80x128) (lanes (rowWord t j) c) S1x16.size (rowWord_fits t ht j c)).emb x)) shapeCasts_S1x16_S16

/-- The same, weighted. -/
def weighted (X : FVec F S80x128 .f32) (w : Fin 16 → F .f32) (t : Nat) (ht : t < 5) (j : Fin 16) (c : Fin 8) : FVec F S16 .f32 :=
  mulf (rowLanes X t ht j c) (broadcast S16 (w j))

/-- Every row added to its own graph's. -/
def rowByRowVal (X : FVec F S80x128 .f32) (w : Fin 16 → F .f32) (g : IVec S16 32) (t : Nat) (ht : t < 5) (A : FVec F S64x128 .f32) : FVec F S64x128 .f32 :=
  rows.foldl (fun A j => chunks.foldl (fun A c => addTo (lane g j) c (weighted X w t ht j c) A) A) A

/-- The sum of the rows added to one graph's. -/
def oneGraphVal (X : FVec F S80x128 .f32) (w : Fin 16 → F .f32) (g : BitVec 32) (t : Nat) (ht : t < 5) (A : FVec F S64x128 .f32) : FVec F S64x128 .f32 :=
  chunks.foldl (fun A c => addTo g c (laterRows.foldl (fun s j => addf s (weighted X w t ht j c)) (weighted X w t ht 0 c)) A) A

/-- The ids of a group. -/
def groupIds (G : IVec S128 32) (t : Nat) (ht : t < 5) : IVec S16 32 :=
  shapeCast S16 (fun x => G ((Rect.unit (s := S128) (idPlace t) S16.size (idPlace_fits t ht)).emb x)) shapeCasts_S16_S16

/-- A row of weights of a group. -/
def halfRow (P : FVec F S40x16 .f32) (t : Nat) (ht : t < 5) (k : Fin 8) : Vec F S1x16 .f32 := fun x =>
  P ((Rect.unit (s := S40x16) (halfPlace t (BitVec.ofNat 32 k.val)) S1x16.size (halfPlace_fits t ht k)).emb x)

/-- The weights of a group. -/
def groupWeights (P : FVec F S40x16 .f32) (t : Nat) (ht : t < 5) : Fin 16 → F .f32 :=
  ![weight (halfRow P t ht 0) 1, weight (halfRow P t ht 0) 9, weight (halfRow P t ht 1) 1, weight (halfRow P t ht 1) 9,
    weight (halfRow P t ht 2) 1, weight (halfRow P t ht 2) 9, weight (halfRow P t ht 3) 1, weight (halfRow P t ht 3) 9,
    weight (halfRow P t ht 4) 1, weight (halfRow P t ht 4) 9, weight (halfRow P t ht 5) 1, weight (halfRow P t ht 5) 9,
    weight (halfRow P t ht 6) 1, weight (halfRow P t ht 6) 9, weight (halfRow P t ht 7) 1, weight (halfRow P t ht 7) 9]

/-- A group's change of the sums. -/
def groupVal (X : FVec F S80x128 .f32) (P : FVec F S40x16 .f32) (gs : IVec S16 32) (t : Nat) (ht : t < 5) (A : FVec F S64x128 .f32) : FVec F S64x128 .f32 :=
  if lane gs 0 = lane gs 15 then oneGraphVal X (groupWeights P t ht) (lane gs 0) t ht A
  else rowByRowVal X (groupWeights P t ht) gs t ht A

theorem addTo_in (A : FVec F S64x128 .f32) (r : BitVec 32) (c : Fin 8) (h : ∀ a, lanes r c a + S1x16.size a ≤ S64x128.size a) (v : FVec F S16 .f32)
    (k : (Rect.unit (s := S64x128) (lanes r c) S1x16.size h).shape.Idx) :
    addTo r c v A ((Rect.unit (s := S64x128) (lanes r c) S1x16.size h).emb k)
      = shapeCast S1x16 (addf (shapeCast S16 (fun x => A ((Rect.unit (s := S64x128) (lanes r c) S1x16.size h).emb x)) shapeCasts_S1x16_S16) v) shapeCasts_S16_S1x16 k := by
  have h0 : (((Rect.unit (s := S64x128) (lanes r c) S1x16.size h).emb k) 0).val = (Scalar.indexCast r : Index).toNat := by
    show (Scalar.indexCast r : Index).toNat + 1 * (k 0).val = _
    have : (k 0).val < 1 := (k 0).isLt
    omega
  have h1 : (((Rect.unit (s := S64x128) (lanes r c) S1x16.size h).emb k) 1).val = 16 * c.val + (k 1).val := by
    show 16 * c.val + 1 * (k 1).val = _
    omega
  have hk : (k 1).val < 16 := (k 1).isLt
  unfold addTo
  rw [if_pos ⟨h0, by rw [h1]; omega⟩]
  show FloatOps.addf _ _ = FloatOps.addf (A ((Rect.unit (s := S64x128) (lanes r c) S1x16.size h).emb (Shape.reshapeEquiv _ (Shape.reshapeEquiv _ k)))) (v (Shape.reshapeEquiv _ k))
  rw [Shape.reshapeEquiv_reshapeEquiv, Shape.reshapeEquiv_self, cast_of_lanes]
  congr 2
  show ix1 _ = ix1 _
  congr 1
  apply Fin.ext
  show _ % 16 = (k 1).val
  rw [h1]
  omega

theorem addTo_out (A : FVec F S64x128 .f32) (r : BitVec 32) (c : Fin 8) (h : ∀ a, lanes r c a + S1x16.size a ≤ S64x128.size a) (v : FVec F S16 .f32)
    (y : S64x128.Idx) (hy : ∀ k, (Rect.unit (s := S64x128) (lanes r c) S1x16.size h).emb k ≠ y) : addTo r c v A y = A y := by
  unfold addTo
  rw [if_neg]
  rintro ⟨h0, h1⟩
  refine hy (ix2 (0 : Fin 1) (⟨(y 1).val % 16, Nat.mod_lt _ (by decide)⟩ : Fin 16)) ?_
  funext a
  apply Fin.ext
  match a with
  | 0 => show (Scalar.indexCast r : Index).toNat + 1 * 0 = _; omega
  | 1 => show 16 * c.val + 1 * ((y 1).val % 16) = _; omega

theorem agree_iff (a b : BitVec 32) : agree a b = 1#1 ↔ a = b := by
  unfold agree
  simp only [Scalar.cmpi, Scalar.extui, IntOp.cmpi]
  by_cases h : a = b
  · subst h; simp
  · have e : (a == b) = false := beq_eq_false_iff_ne.mpr h
    simp [h, e, bne]

theorem differ_iff (a b : BitVec 32) : differ a b = 1#1 ↔ a ≠ b := by
  unfold differ
  simp only [Scalar.cmpi, Scalar.extui, IntOp.cmpi]
  by_cases h : a = b
  · subst h; simp
  · have e : (a == b) = false := beq_eq_false_iff_ne.mpr h
    simp [h, e, bne]

/-! ## The programs -/

section Run

variable (d : Dev nD) (i : grid0.Coords)
variable (x : Memref sig .scVector .vmem S80x128 .f32) (acc : Memref sig .scVector .vmem S64x128 .f32)
variable (p : Memref sig .scVector .vmem S40x16 .f32) (g : Memref sig .scVector .vmem S128 .i32)

theorem maybe_no {β : Type} (c : BitVec 1) (A : c = 1#1 → TileProg F i β) (h : ¬ c = 1#1) : maybe c A = pure ⟨⟩ := by
  unfold maybe; rw [dif_neg h]

theorem maybe_yes {β : Type} (c : BitVec 1) (A : c = 1#1 → TileProg F i β) (h : c = 1#1) : maybe c A = A h >>= fun _ => pure ⟨⟩ := by
  unfold maybe; rw [dif_pos h]

theorem loadLanes_step (X : FVec F S80x128 .f32) (r : BitVec 32) (c : Fin 8) (h) {Q : (S1x16.Idx → F .f32) → sProp 𝕄} :
    iprop(holds d i x X ∗ (holds d i x X -∗ Q fun k => X ((Rect.unit (s := S80x128) (lanes r c) S1x16.size h).emb k)))
      ⊢ WP (F := F) d i (loadLanes i x r c h) Q := by
  unfold loadLanes
  exact load_step d i (m := x) (r := Rect.unit (s := S80x128) (lanes r c) S1x16.size h) (hl := View.loadsAt_vmem h_S1x16) X (Q := Q)

theorem addLanes_step (A : FVec F S64x128 .f32) (r : BitVec 32) (c : Fin 8) (h) (v : FVec F S16 .f32) {Q : PUnit → sProp 𝕄} :
    iprop(holds d i acc A ∗ (holds d i acc (addTo r c v A) -∗ Q ⟨⟩)) ⊢ WP (F := F) d i (addLanes i acc r c h v) Q := by
  unfold addLanes
  simp only [WP, wp_bind]
  iintro ⟨H, HQ⟩
  iapply (load_step d i (m := acc) A)
  isplitl [H]; · iexact H
  iintro H
  iapply (load_step d i (m := acc) A)
  isplitl [H]; · iexact H
  iintro H
  iapply (store_step d i (m := acc) A (addTo r c v A) (addTo_in A r c h v) (addTo_out A r c h v))
  isplitl [H]; · iexact H
  iexact HQ

/-- The buffers of a group: the rows and the sums. -/
def twoBufs (X : FVec F S80x128 .f32) (A : FVec F S64x128 .f32) : sProp 𝕄 := iprop(holds d i x X ∗ holds d i acc A)

theorem rowByRow_one (X : FVec F S80x128 .f32) (t : Nat) (ht : t < 5) (w : Fin 16 → F .f32) (gs : IVec S16 32) (j : Fin 16)
    (fits : ∀ c a, lanes (lane gs j) c a + S1x16.size a ≤ S64x128.size a) (c : Fin 8) (A : FVec F S64x128 .f32) (Q : PUnit → sProp 𝕄) :
    iprop(twoBufs d i x acc X A ∗ (twoBufs d i x acc X (addTo (lane gs j) c (weighted X w t ht j c) A) -∗ Q ⟨⟩))
      ⊢ WP (F := F) d i (loadLanes (F := F) i x (rowWord t j) c (rowWord_fits t ht j c) >>= fun v =>
          addLanes i acc (lane gs j) c (fits c) (mulf (shapeCast S16 v shapeCasts_S1x16_S16) (broadcast S16 (w j)))) Q := by
  simp only [WP, wp_bind, twoBufs]
  iintro ⟨⟨HX, HA⟩, HQ⟩
  iapply (loadLanes_step d i x X)
  isplitl [HX]; · iexact HX
  iintro HX
  iapply (addLanes_step d i acc A)
  isplitl [HA]; · iexact HA
  iintro HA
  iapply HQ
  isplitl [HX]; · iexact HX
  iexact HA

theorem rowByRow_step (X : FVec F S80x128 .f32) (A : FVec F S64x128 .f32) (t : Nat) (ht : t < 5) (w : Fin 16 → F .f32) (gs : IVec S16 32)
    (chk : BitVec 32 → Prop) (dec) (fits) (hchk : ∀ j, chk (lane gs j)) {Q : PUnit → sProp 𝕄} :
    iprop(twoBufs d i x acc X A ∗ (twoBufs d i x acc X (rowByRowVal X w gs t ht A) -∗ Q ⟨⟩))
      ⊢ WP (F := F) d i (rowByRow i x acc t ht w gs chk dec fits) Q := by
  unfold rowByRow rowByRowVal
  refine inOrder_step d i (twoBufs d i x acc X) _ _ ?_ rows A Q
  intro j A Q
  simp only [WP, wp_bind]
  iintro ⟨H, HQ⟩
  iapply (assume_step d i (hchk j))
  iapply (inOrder_step d i (twoBufs d i x acc X) _ (fun A c => addTo (lane gs j) c (weighted X w t ht j c) A) (rowByRow_one d i x acc X t ht w gs j _) chunks A Q)
  isplitl [H]; · iexact H
  iexact HQ

theorem addRows_step (X : FVec F S80x128 .f32) (t : Nat) (ht : t < 5) (w : Fin 16 → F .f32) (c : Fin 8) :
    ∀ (l : List (Fin 16)) (s : FVec F S16 .f32) (Q : FVec F S16 .f32 → sProp 𝕄),
    iprop(holds d i x X ∗ (holds d i x X -∗ Q (l.foldl (fun s j => addf s (weighted X w t ht j c)) s)))
      ⊢ WP (F := F) d i (addRows i x t ht w c l s) Q
  | [], s, Q => by
    simp only [addRows, WP, wp_pure, List.foldl]
    iintro ⟨H, HQ⟩
    imodintro
    iapply HQ
    iexact H
  | j :: l, s, Q => by
    simp only [addRows, WP, wp_bind, List.foldl]
    iintro ⟨H, HQ⟩
    iapply (loadLanes_step d i x X)
    isplitl [H]; · iexact H
    iintro H
    iapply (addRows_step X t ht w c l _ Q)
    isplitl [H]; · iexact H
    iexact HQ

theorem baseWord_eq (t : Nat) : baseWord t = rowWord t 0 := by
  unfold rowWord Scalar.addi
  exact (BitVec.add_zero _).symm

theorem loadBase (t : Nat) (ht : t < 5) (c : Fin 8) (h) : loadLanes (F := F) i x (baseWord t) c h = loadLanes i x (rowWord t 0) c (rowWord_fits t ht 0 c) := by
  have : ∀ (r : BitVec 32) (h), r = rowWord t 0 → loadLanes (F := F) i x r c h = loadLanes i x (rowWord t 0) c (rowWord_fits t ht 0 c) := by
    intro r h e; subst e; rfl
  exact this _ _ (baseWord_eq t)

theorem oneGraph_step (X : FVec F S80x128 .f32) (A : FVec F S64x128 .f32) (t : Nat) (ht : t < 5) (w : Fin 16 → F .f32) (r : BitVec 32)
    (fits) {Q : PUnit → sProp 𝕄} :
    iprop(twoBufs d i x acc X A ∗ (twoBufs d i x acc X (oneGraphVal X w r t ht A) -∗ Q ⟨⟩))
      ⊢ WP (F := F) d i (oneGraph i x acc t ht w r fits) Q := by
  unfold oneGraph oneGraphVal
  refine inOrder_step d i (twoBufs d i x acc X) _ _ ?_ chunks A Q
  intro c A Q
  simp only [WP, wp_bind, twoBufs]
  rw [loadBase i x t ht c]
  iintro ⟨⟨HX, HA⟩, HQ⟩
  iapply (loadLanes_step d i x X)
  isplitl [HX]; · iexact HX
  iintro HX
  iapply (addRows_step d i x X t ht w c)
  isplitl [HX]; · iexact HX
  iintro HX
  iapply (addLanes_step d i acc A)
  isplitl [HA]; · iexact HA
  iintro HA
  iapply HQ
  isplitl [HX]; · iexact HX
  iexact HA

/-- The buffers of a group. -/
def fourBufs (X : FVec F S80x128 .f32) (P : FVec F S40x16 .f32) (G : IVec S128 32) (A : FVec F S64x128 .f32) : sProp 𝕄 :=
  iprop(holds d i x X ∗ holds d i p P ∗ holds d i g G ∗ holds d i acc A)

theorem group_step (X : FVec F S80x128 .f32) (P : FVec F S40x16 .f32) (G : IVec S128 32) (A : FVec F S64x128 .f32) (t : Nat) (ht : t < 5)
    (chkA) (decA) (fitsA) (chkB) (decB) (fitsB) (hA : chkA (lane (groupIds G t ht) 0) (lane (groupIds G t ht) 15))
    (hB : ∀ j, chkB (lane (groupIds G t ht) 0) (lane (groupIds G t ht) 15) (lane (groupIds G t ht) j)) {Q : BitVec 32 → sProp 𝕄} :
    iprop(fourBufs d i x acc p g X P G A ∗ (fourBufs d i x acc p g X P G (groupVal X P (groupIds G t ht) t ht A) -∗ Q 0#32))
      ⊢ WP (F := F) d i (group i x acc p g t ht chkA decA fitsA chkB decB fitsB) Q := by
  unfold group fourBufs
  simp only [WP, wp_bind, maybeThen_eq, loadHalf]
  iintro ⟨⟨HX, HP, HG, HA⟩, HQ⟩
  iapply (load_step d i (m := g) G)
  isplitl [HG]; · iexact HG
  iintro HG
  iapply (assume_step d i hA)
  iapply (load_step d i (m := p) P); isplitl [HP]; · iexact HP
  iintro HP
  iapply (load_step d i (m := p) P); isplitl [HP]; · iexact HP
  iintro HP
  iapply (load_step d i (m := p) P); isplitl [HP]; · iexact HP
  iintro HP
  iapply (load_step d i (m := p) P); isplitl [HP]; · iexact HP
  iintro HP
  iapply (load_step d i (m := p) P); isplitl [HP]; · iexact HP
  iintro HP
  iapply (load_step d i (m := p) P); isplitl [HP]; · iexact HP
  iintro HP
  iapply (load_step d i (m := p) P); isplitl [HP]; · iexact HP
  iintro HP
  iapply (load_step d i (m := p) P); isplitl [HP]; · iexact HP
  iintro HP
  by_cases h : lane (groupIds G t ht) 0 = lane (groupIds G t ht) 15
  · have e1 : groupVal X P (groupIds G t ht) t ht A = oneGraphVal X (groupWeights P t ht) (lane (groupIds G t ht) 0) t ht A := by
      unfold groupVal; rw [if_pos h]
    rw [e1]
    have c1 : agree (lane (groupIds G t ht) 0) (lane (groupIds G t ht) 15) = 1#1 := (agree_iff _ _).mpr h
    have c2 : ¬ differ (lane (groupIds G t ht) 0) (lane (groupIds G t ht) 15) = 1#1 := fun e => (differ_iff _ _).mp e h
    erw [maybe_yes i _ _ c1, maybe_no i _ _ c2]
    simp only [wp_bind, wp_pure]
    iapply (oneGraph_step d i x acc X A t ht (groupWeights P t ht) (lane (groupIds G t ht) 0))
    unfold twoBufs
    isplitl [HX HA]
    · isplitl [HX]; · iexact HX
      iexact HA
    iintro ⟨HX, HA⟩
    imodintro
    imodintro
    imodintro
    iapply HQ
    isplitl [HX]; · iexact HX
    isplitl [HP]; · iexact HP
    isplitl [HG]; · iexact HG
    iexact HA
  · have e1 : groupVal X P (groupIds G t ht) t ht A = rowByRowVal X (groupWeights P t ht) (groupIds G t ht) t ht A := by
      unfold groupVal; rw [if_neg h]
    rw [e1]
    have c1 : ¬ agree (lane (groupIds G t ht) 0) (lane (groupIds G t ht) 15) = 1#1 := fun e => h ((agree_iff _ _).mp e)
    have c2 : differ (lane (groupIds G t ht) 0) (lane (groupIds G t ht) 15) = 1#1 := (differ_iff _ _).mpr h
    erw [maybe_no i _ _ c1, maybe_yes i _ _ c2]
    simp only [wp_bind, wp_pure]
    imodintro
    iapply (rowByRow_step d i x acc X A t ht (groupWeights P t ht) (groupIds G t ht) _ _ _ hB)
    unfold twoBufs
    isplitl [HX HA]
    · isplitl [HX]; · iexact HX
      iexact HA
    iintro ⟨HX, HA⟩
    imodintro
    imodintro
    iapply HQ
    isplitl [HX]; · iexact HX
    isplitl [HP]; · iexact HP
    isplitl [HG]; · iexact HG
    iexact HA

end Run

end Cert.Tiles
-- ==== Proof.TilesCopies.lean ====
/-
  The three copies of a block into a buffer slot: issued, in flight, waited for.
-/
module

public import proofs.«01_k».proof.Proof.TilesSums

@[expose] public section

noncomputable section

namespace Cert.Tiles

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
open Facts₀ Facts

local notation "𝕄" => MT nD τ sig (HIx 1) (Elt F) ℕ UU ℕ

section Copies

variable (d : Dev nD) (i : grid0.Coords)

abbrev thr (d : Dev nD) (i : grid0.Coords) : Thread nD τ := V d (core i) (sub i)

/-- A share of an array in the main memory. -/
abbrev share {sp : Space} {s : Shape} {e : EltTy} (m : Memref sig .scVector sp s e) (q : PosShare TreeShare) (f : Buf (Elt F) (m.view.loc (thr d i))) : sProp 𝕄 :=
  m.view.loc (thr d i) ↦[m.view.set]{q} f

/-- A semaphore at zero. -/
abbrev zero (sem : DmaSem sig) : sProp 𝕄 := semVal (thr d i, .dma sem) 0

/-- What the tile has waited for beyond `W`: nothing of the call's. -/
def waited (O : CellTallies nD τ sig (HIx 1)) (W : Waits sig (HIx 1)) : sProp 𝕄 :=
  iprop(∃ W', ⌜∀ p ∈ W', p ∈ W ∨ p.2 = none⌝ ∗ owes (thr d i) O W')

/-- A copy under way into the elements `S` of the destination's buffer. -/
def flying {sp sp' : Space} {s : Shape} {e : EltTy} (src : Memref sig .scVector sp s e) (dst : Memref sig .scVector sp' s e) (sem : DmaSem sig)
    (S : Finset (Idx (dst.view.loc (thr d i)))) (q : PosShare TreeShare) (f : Buf (Elt F) (src.view.loc (thr d i))) : sProp 𝕄 :=
  iprop(∃ fd, Transfers.Flight countersEmb (thr d i) (.dma sem) (default : HIx 1) dst.view.dmaCredit
    iprop((dst.view.loc (thr d i) ↦[S]{fullShare} (dst.view.write (Elt F) fd (src.view.read (Elt F) f) Finset.univ)) ∗ share d i src q f))

theorem start_step {sp sp' : Space} {s : Shape} {e : EltTy} {src : Memref sig .scVector sp s e} {dst : Memref sig .scVector sp' s e} {sem : DmaSem sig} {h1 h2 h3}
    (S : Finset (Idx (dst.view.loc (thr d i)))) (hS : dst.view.set ⊆ S) (h0 : 0 < dst.view.dmaCredit) (q : PosShare TreeShare) (f : Buf (Elt F) (src.view.loc (thr d i)))
    (fd : Buf (Elt F) (dst.view.loc (thr d i))) {Q : PUnit → sProp 𝕄} :
    iprop(share d i src q f ∗ (dst.view.loc (thr d i) ↦[S]{fullShare} fd) ∗ zero d i sem ∗ (flying d i src dst sem S q f -∗ Q ⟨⟩))
      ⊢ WP (F := F) d i (Prog.lift (.enqueueDma src (.here dst) (.dma sem) h1 h2 h3)) Q := by
  iintro ⟨Hs, Hd, Hz, HQ⟩
  iapply (Transfers.wp_dmaLocal countersEmb Variants.none (thr d i) none (default : HIx 1) dst.view.dmaCredit rfl h0 hS) $$ [Hs Hd Hz]
  · isplitl [Hs]; · iexact Hs
    isplitl [Hd]; · iexact Hd
    iexact Hz
  iintro Hfl
  rw [wp_ret]
  imodintro
  iapply HQ
  unfold flying
  iexists fd
  iexact Hfl

theorem wait_step {sp sp' spw : Space} {s sw : Shape} {e ew : EltTy} {src : Memref sig .scVector sp s e} {dst : Memref sig .scVector sp' s e} {sem : DmaSem sig}
    {srcw : Memref sig .scVector spw sw ew} {h1 h2}
    (S : Finset (Idx (dst.view.loc (thr d i)))) (q : PosShare TreeShare) (f : Buf (Elt F) (src.view.loc (thr d i)))
    (O : CellTallies nD τ sig (HIx 1)) (W : Waits sig (HIx 1)) {Q : PUnit → sProp 𝕄} :
    iprop(flying d i src dst sem S q f ∗ waited d i O W ∗ Transfers.MayWaits (thr d i) (default : HIx 1) O
        ∗ (((∃ fd, dst.view.loc (thr d i) ↦[S]{fullShare} (dst.view.write (Elt F) fd (src.view.read (Elt F) f) Finset.univ)) ∗ share d i src q f ∗ zero d i sem ∗ waited d i O W) -∗ Q ⟨⟩))
      ⊢ WP (F := F) d i (Prog.lift (.waitDma2 sem srcw dst h1 h2)) Q := by
  unfold flying waited
  iintro ⟨⟨%fd, Hfl⟩, ⟨%W', %hW, HO⟩, #Hmw, HQ⟩
  iapply (Transfers.wp_waitLocalO countersEmb Variants.none (thr d i) none (default : HIx 1) (rfl : dst.view.dmaCredit = _)) $$ [Hfl HO]
  · isplitl [Hfl]; · iexact Hfl
    isplitl [HO]; · iexact HO
    iapply (Transfers.MayWaits.elim (SemLoc.dma sem)) $$ Hmw
  iintro ⟨⟨Hd, Hs⟩, Hz, HO⟩
  rw [wp_ret]
  imodintro
  iapply HQ
  isplitl [Hd]; · iexists fd; iexact Hd
  isplitl [Hs]; · iexact Hs
  isplitl [Hz]; · iexact Hz
  iexists _
  isplitr
  swap; · iexact HO
  ipureintro
  intro p hp
  rcases Finset.mem_insert.mp hp with hp | hp
  · exact .inr (hp ▸ rfl)
  · exact hW p hp

/-! ## A block's buffers -/

variable (x : Memref sig .scVector .vmem S80x128 .f32) (p : Memref sig .scVector .vmem S40x16 .f32) (g : Memref sig .scVector .vmem S128 .i32)
variable (feat : Memref sig .scVector .hbm S50000x256 .f32) (pd : Memref sig .scVector .hbm S25000x16 .f32) (gid : Memref sig .scVector .hbm S50000 .i32)
variable (hx : x.IsWhole) (hp : p.IsWhole) (semx semp semg : DmaSems sig S_)
variable (q : PosShare TreeShare) (f1 : Buf (Elt F) (feat.view.loc (thr d i))) (f2 : Buf (Elt F) (pd.view.loc (thr d i))) (f3 : Buf (Elt F) (gid.view.loc (thr d i)))

abbrev featAt (ox : Fin 2 → Nat) (hox : ∀ a, ox a + S80x128.size a ≤ S50000x256.size a) : Memref sig .scVector .hbm S80x128 .f32 :=
  feat.slice (Rect.unit (s := S50000x256) ox S80x128.size hox) (fun _ => rfl)
abbrev pdAt (op : Fin 2 → Nat) (hop : ∀ a, op a + S40x16.size a ≤ S25000x16.size a) : Memref sig .scVector .hbm S40x16 .f32 :=
  pd.slice (Rect.unit (s := S25000x16) op S40x16.size hop) (fun _ => rfl)
abbrev gidAt (og : Fin 1 → Nat) (hog : ∀ a, og a + S80.size a ≤ S50000.size a) : Memref sig .scVector .hbm S80 .i32 :=
  gid.slice (Rect.unit (s := S50000) og S80.size hog) (fun _ => rfl)

/-- A block's three semaphores at zero. -/
abbrev zeros : sProp 𝕄 := iprop(zero d i semx.sem ∗ zero d i semp.sem ∗ zero d i semg.sem)

/-- Shares of the three arrays. -/
abbrev shares : sProp 𝕄 := iprop(share d i feat q f1 ∗ share d i pd q f2 ∗ share d i gid q f3)

/-- A block's buffers with nothing of worth in them. -/
def idle : sProp 𝕄 :=
  iprop((∃ X, holds d i x X) ∗ (∃ P, holds d i p P) ∗ (∃ G, holds d i g G) ∗ zeros d i semx semp semg ∗ shares d i feat pd gid q f1 f2 f3)

/-- A part of an array flies to a buffer; the rest of the share is here. -/
def flyingOf {s s' : Shape} {e : EltTy} (m : Memref sig .scVector .hbm s' e) (src : Memref sig .scVector .hbm s e) (dst : Memref sig .scVector .vmem s e) (sem : DmaSem sig)
    (S : Finset (Idx (dst.view.loc (thr d i)))) (f : Buf (Elt F) (m.view.loc (thr d i))) (fs : Buf (Elt F) (src.view.loc (thr d i)))
    (R : Finset (Idx (m.view.loc (thr d i)))) : sProp 𝕄 :=
  iprop(flying d i src dst sem S q fs ∗ (m.view.loc (thr d i) ↦[R]{q} f))

/-- A block under way. -/
def busy (ox : Fin 2 → Nat) (hox : ∀ a, ox a + S80x128.size a ≤ S50000x256.size a)
    (op : Fin 2 → Nat) (hop : ∀ a, op a + S40x16.size a ≤ S25000x16.size a)
    (og : Fin 1 → Nat) (hog : ∀ a, og a + S80.size a ≤ S50000.size a) : sProp 𝕄 :=
  iprop(flyingOf d i q feat (featAt feat ox hox) x semx.sem x.view.set f1 f1 (feat.view.set \ (featAt feat ox hox).view.set)
    ∗ flyingOf d i q pd (pdAt pd op hop) p semp.sem p.view.set f2 f2 (pd.view.set \ (pdAt pd op hop).view.set)
    ∗ flyingOf d i q gid (gidAt gid og hog) (idsOf g) semg.sem g.view.set f3 f3 (gid.view.set \ (gidAt gid og hog).view.set))

/-- The first eighty of a block's words. -/
def firstEighty (G : IVec S128 32) : IVec S80 32 := fun y => G ((Rect.unit (s := S128) ![0] S80.size inb_S128_S80_0).emb y)

/-- A block arrived. -/
def ready (ox : Fin 2 → Nat) (hox : ∀ a, ox a + S80x128.size a ≤ S50000x256.size a)
    (op : Fin 2 → Nat) (hop : ∀ a, op a + S40x16.size a ≤ S25000x16.size a)
    (og : Fin 1 → Nat) (hog : ∀ a, og a + S80.size a ≤ S50000.size a) : sProp 𝕄 :=
  iprop(holds d i x ((featAt feat ox hox).view.read (Elt F) f1) ∗ holds d i p ((pdAt pd op hop).view.read (Elt F) f2)
    ∗ (∃ G, ⌜firstEighty G = (gidAt gid og hog).view.read (Elt F) f3⌝ ∗ holds d i g G) ∗ zeros d i semx semp semg ∗ shares d i feat pd gid q f1 f2 f3)

theorem fetch_step (ox hox op hop og hog) (h1 : 0 < x.view.dmaCredit) (h2 : 0 < p.view.dmaCredit) (h3 : 0 < (idsOf g).view.dmaCredit) {Q : PUnit → sProp 𝕄} :
    iprop(idle d i x p g feat pd gid semx semp semg q f1 f2 f3 ∗ (busy d i x p g feat pd gid semx semp semg q f1 f2 f3 ox hox op hop og hog -∗ Q ⟨⟩))
      ⊢ WP (F := F) d i (fetch i x p g feat pd gid hx hp semx semp semg ox hox op hop og hog) Q := by
  unfold fetch idle busy holds flyingOf
  simp only [WP, wp_bind]
  iintro ⟨⟨⟨%X, %fx, -, Hx⟩, ⟨%P, %fp, -, Hp⟩, ⟨%G, %fg, -, Hg⟩, ⟨Hzx, Hzp, Hzg⟩, ⟨H1, H2, H3⟩⟩, HQ⟩
  ihave H1 := (pointsTo_split_subset (q := q) (f := f1) (S := feat.view.set) (I := (featAt feat ox hox).view.set) (View.set_slice_subset _ _)).1 $$ H1
  icases H1 with ⟨H1, R1⟩
  ihave H2 := (pointsTo_split_subset (q := q) (f := f2) (S := pd.view.set) (I := (pdAt pd op hop).view.set) (View.set_slice_subset _ _)).1 $$ H2
  icases H2 with ⟨H2, R2⟩
  ihave H3 := (pointsTo_split_subset (q := q) (f := f3) (S := gid.view.set) (I := (gidAt gid og hog).view.set) (View.set_slice_subset _ _)).1 $$ H3
  icases H3 with ⟨H3, R3⟩
  iapply (start_step d i (src := featAt feat ox hox) (dst := x) x.view.set (Finset.Subset.refl _) h1 q f1 fx)
  isplitl [H1]; · iexact H1
  isplitl [Hx]; · iexact Hx
  isplitl [Hzx]; · iexact Hzx
  iintro F1
  iapply (start_step d i (src := pdAt pd op hop) (dst := p) p.view.set (Finset.Subset.refl _) h2 q f2 fp)
  isplitl [H2]; · iexact H2
  isplitl [Hp]; · iexact Hp
  isplitl [Hzp]; · iexact Hzp
  iintro F2
  iapply (start_step d i (src := gidAt gid og hog) (dst := idsOf g) g.view.set (View.set_slice_subset _ _) h3 q f3 fg)
  isplitl [H3]; · iexact H3
  isplitl [Hg]; · iexact Hg
  isplitl [Hzg]; · iexact Hzg
  iintro F3
  iapply HQ
  isplitl [F1 R1]; · isplitl [F1]; · iexact F1
                     iexact R1
  isplitl [F2 R2]; · isplitl [F2]; · iexact F2
                     iexact R2
  isplitl [F3]; · iexact F3
  iexact R3

theorem await_step (ox hox op hop og hog) (O : CellTallies nD τ sig (HIx 1)) (W : Waits sig (HIx 1)) {Q : PUnit → sProp 𝕄} :
    iprop(busy d i x p g feat pd gid semx semp semg q f1 f2 f3 ox hox op hop og hog ∗ waited d i O W ∗ Transfers.MayWaits (thr d i) (default : HIx 1) O
        ∗ ((ready d i x p g feat pd gid semx semp semg q f1 f2 f3 ox hox op hop og hog ∗ waited d i O W) -∗ Q ⟨⟩))
      ⊢ WP (F := F) d i (await i x p g feat pd gid hx hp semx semp semg) Q := by
  unfold await busy ready holds flyingOf
  simp only [WP, wp_bind]
  iintro ⟨⟨⟨F1, R1⟩, ⟨F2, R2⟩, ⟨F3, R3⟩⟩, HO, #Hmw, HQ⟩
  iapply (wait_step d i (src := featAt feat ox hox) (dst := x) (sem := semx.sem) x.view.set q f1 O W)
  isplitl [F1]; · iexact F1
  isplitl [HO]; · iexact HO
  isplitr; · iexact Hmw
  iintro ⟨⟨%fx, Hx⟩, H1, Hzx, HO⟩
  iapply (wait_step d i (src := pdAt pd op hop) (dst := p) (sem := semp.sem) p.view.set q f2 O W)
  isplitl [F2]; · iexact F2
  isplitl [HO]; · iexact HO
  isplitr; · iexact Hmw
  iintro ⟨⟨%fp, Hp⟩, H2, Hzp, HO⟩
  iapply (wait_step d i (src := gidAt gid og hog) (dst := idsOf g) (sem := semg.sem) g.view.set q f3 O W)
  isplitl [F3]; · iexact F3
  isplitl [HO]; · iexact HO
  isplitr; · iexact Hmw
  iintro ⟨⟨%fg, Hg⟩, H3, Hzg, HO⟩
  ihave H1 := (pointsTo_split_subset (q := q) (f := f1) (S := feat.view.set) (I := (featAt feat ox hox).view.set) (View.set_slice_subset _ _)).2 $$ [H1 R1]
  · isplitl [H1] <;> iassumption
  ihave H2 := (pointsTo_split_subset (q := q) (f := f2) (S := pd.view.set) (I := (pdAt pd op hop).view.set) (View.set_slice_subset _ _)).2 $$ [H2 R2]
  · isplitl [H2] <;> iassumption
  ihave H3 := (pointsTo_split_subset (q := q) (f := f3) (S := gid.view.set) (I := (gidAt gid og hog).view.set) (View.set_slice_subset _ _)).2 $$ [H3 R3]
  · isplitl [H3] <;> iassumption
  iapply HQ
  isplitr [HO]
  swap; · iexact HO
  isplitl [Hx]
  · iexists _; isplitr
    swap; · iexact Hx
    ipureintro; exact View.read_write_univ _ _
  isplitl [Hp]
  · iexists _; isplitr
    swap; · iexact Hp
    ipureintro; exact View.read_write_univ _ _
  isplitl [Hg]
  · iexists _; isplitr
    swap
    · iexists _; isplitr
      swap; · iexact Hg
      ipureintro; rfl
    ipureintro
    funext y
    exact View.read_slice_write_emb (Rect.unit (s := S128) ![0] S80.size inb_S128_S80_0) fg _ (Finset.mem_univ y)
  isplitl [Hzx Hzp Hzg]
  · isplitl [Hzx]; · iexact Hzx
    isplitl [Hzp]; · iexact Hzp
    iexact Hzg
  isplitl [H1]; · iexact H1
  isplitl [H2]; · iexact H2
  iexact H3

end Copies

end Cert.Tiles
-- ==== Proof.TilesLoop.lean ====
/-
  The loop over a tile's blocks: while one slot's block is added, the other slot's is copied in.
-/
module

public import proofs.«01_k».proof.Proof.TilesCopies

@[expose] public section

noncomputable section

namespace Cert.Tiles

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
open Facts₀ Facts

local notation "𝕄" => MT nD τ sig (HIx 1) (Elt F) ℕ UU ℕ

/-! ## The five groups of a block -/

/-- The ids of group `t` of eighty. -/
def idsAt (ids : IVec S80 32) (t : Nat) (ht : t < 5) : IVec S16 32 := fun l =>
  ids (ix1 (⟨16 * t + (l 0).val, by have : (l 0).val < 16 := (l 0).isLt; omega⟩ : Fin 80))

theorem idPlace_zero (t : Nat) (ht : t < 5) : idPlace t 0 = 16 * t := by
  have h : ∀ t : Fin 5, idPlace t.val 0 = 16 * t.val := by decide +kernel
  exact h ⟨t, ht⟩

theorem groupIds_eq (G : IVec S128 32) (t : Nat) (ht : t < 5) : groupIds G t ht = idsAt (firstEighty G) t ht := by
  funext l
  unfold groupIds idsAt firstEighty
  show G ((Rect.unit (s := S128) (idPlace t) S16.size (idPlace_fits t ht)).emb (Shape.reshapeEquiv _ l)) = _
  rw [Shape.reshapeEquiv_self]
  congr 1
  funext a
  apply Fin.ext
  match a with
  | 0 =>
    show idPlace t 0 + 1 * (l 0).val = 0 + 1 * (16 * t + (l 0).val)
    rw [idPlace_zero t ht]
    omega

/-- The sums after the first `n` groups of a block. -/
def partialVal (X : FVec F S80x128 .f32) (P : FVec F S40x16 .f32) (ids : IVec S80 32) (A : FVec F S64x128 .f32) : Nat → FVec F S64x128 .f32
  | 0 => A
  | n + 1 => if h : n < 5 then groupVal X P (idsAt ids n h) n h (partialVal X P ids A n) else partialVal X P ids A n

theorem lane_idsAt (ids : IVec S80 32) (h : ∀ y, (ids y).toNat < 64) (t : Nat) (ht : t < 5) (j : Fin 16) : (lane (idsAt ids t ht) j).toNat < 64 := h _

theorem lanes_fit (r : BitVec 32) (hr : r.toNat < 64) (c : Fin 8) : ∀ a, lanes r c a + S1x16.size a ≤ S64x128.size a := by
  have h : ∀ (n : Fin 64) (c : Fin 8), ∀ a, lanes (BitVec.ofNat 32 n.val) c a + S1x16.size a ≤ S64x128.size a := by decide +kernel
  have k := h ⟨r.toNat, hr⟩ c
  rw [show BitVec.ofNat 32 (⟨r.toNat, hr⟩ : Fin 64).val = r by simp] at k
  exact k

theorem chk1_ok (i : grid0.Coords) (k : Fin k0_t2_loop.trips) (a b : BitVec 32) (ha : a.toNat < 64) : k0_chk1 i k a b :=
  ⟨fun _ _ => lanes_fit a ha 0, fun _ _ => lanes_fit a ha 1, fun _ _ => lanes_fit a ha 2, fun _ _ => lanes_fit a ha 3,
    fun _ _ => lanes_fit a ha 4, fun _ _ => lanes_fit a ha 5, fun _ _ => lanes_fit a ha 6, fun _ _ => lanes_fit a ha 7⟩
theorem chk2_ok (i : grid0.Coords) (k : Fin k0_t2_loop.trips) (a b r : BitVec 32) (ha : r.toNat < 64) : k0_chk2 i k a b r :=
  ⟨fun _ _ => lanes_fit r ha 0, fun _ _ => lanes_fit r ha 1, fun _ _ => lanes_fit r ha 2, fun _ _ => lanes_fit r ha 3,
    fun _ _ => lanes_fit r ha 4, fun _ _ => lanes_fit r ha 5, fun _ _ => lanes_fit r ha 6, fun _ _ => lanes_fit r ha 7⟩
theorem chk18_ok (i : grid0.Coords) (k : Fin k0_t2_loop.trips) (a b : BitVec 32) (ha : a.toNat < 64) : k0_chk18 i k a b :=
  ⟨fun _ _ => lanes_fit a ha 0, fun _ _ => lanes_fit a ha 1, fun _ _ => lanes_fit a ha 2, fun _ _ => lanes_fit a ha 3,
    fun _ _ => lanes_fit a ha 4, fun _ _ => lanes_fit a ha 5, fun _ _ => lanes_fit a ha 6, fun _ _ => lanes_fit a ha 7⟩
theorem chk19_ok (i : grid0.Coords) (k : Fin k0_t2_loop.trips) (a b r : BitVec 32) (ha : r.toNat < 64) : k0_chk19 i k a b r :=
  ⟨fun _ _ => lanes_fit r ha 0, fun _ _ => lanes_fit r ha 1, fun _ _ => lanes_fit r ha 2, fun _ _ => lanes_fit r ha 3,
    fun _ _ => lanes_fit r ha 4, fun _ _ => lanes_fit r ha 5, fun _ _ => lanes_fit r ha 6, fun _ _ => lanes_fit r ha 7⟩

/-! ## Which blocks a tile has -/

/-- Whether the tile has a block `m`. -/
abbrev has (i : grid0.Coords) (m : Nat) : Prop := (i 1).val + 16 * m < 177

def xPlace (i : grid0.Coords) (m : Nat) : Fin 2 → Nat := ![80 * (i 1).val + 1280 * m + 35840, 128 * (i 0).val]
def pPlace (i : grid0.Coords) (m : Nat) : Fin 2 → Nat := ![40 * (i 1).val + 640 * m + 17920, 0]
def gPlace (i : grid0.Coords) (m : Nat) : Fin 1 → Nat := ![80 * (i 1).val + 1280 * m + 35840]

theorem xPlace_fits (i : grid0.Coords) (m : Nat) (h : has i m) : ∀ a, xPlace i m a + S80x128.size a ≤ S50000x256.size a
  | 0 => by show 80 * (i 1).val + 1280 * m + 35840 + 80 ≤ 50000; omega
  | 1 => by show 128 * (i 0).val + 128 ≤ 256; have : (i 0).val < 2 := (i 0).isLt; omega
theorem pPlace_fits (i : grid0.Coords) (m : Nat) (h : has i m) : ∀ a, pPlace i m a + S40x16.size a ≤ S25000x16.size a
  | 0 => by show 40 * (i 1).val + 640 * m + 17920 + 40 ≤ 25000; omega
  | 1 => by show 0 + 16 ≤ 16; omega
theorem gPlace_fits (i : grid0.Coords) (m : Nat) (h : has i m) : ∀ a, gPlace i m a + S80.size a ≤ S50000.size a
  | 0 => by show 80 * (i 1).val + 1280 * m + 35840 + 80 ≤ 50000; omega

theorem cond1_iff : ∀ i : grid0.Coords, k0_cond1 i = 1#1 ↔ has i 0 := by decide +kernel
theorem cond2_iff : ∀ (i : grid0.Coords) (k : Fin k0_t2_loop.trips), k0_cond2 i k = 1#1 ↔ has i (2 * k.val + 1) := by decide +kernel
theorem cond4_iff : ∀ (i : grid0.Coords) (k : Fin k0_t2_loop.trips), k0_cond4 i k = 1#1 ↔ has i (2 * k.val) := by decide +kernel
theorem cond7_iff : ∀ (i : grid0.Coords) (k : Fin k0_t2_loop.trips), k0_cond7 i k = 1#1 ↔ has i (2 * k.val + 2) := by decide +kernel
theorem cond9_iff : ∀ (i : grid0.Coords) (k : Fin k0_t2_loop.trips), k0_cond9 i k = 1#1 ↔ has i (2 * k.val + 1) := by decide +kernel
theorem oneMore_no : ∀ i : grid0.Coords, ¬ oneMore i = 1#1 := by decide +kernel

theorem off9_at : ∀ i : grid0.Coords, k0_off9 i = xPlace i 0 := by decide +kernel
theorem off10_at : ∀ i : grid0.Coords, k0_off10 i = pPlace i 0 := by decide +kernel
theorem off11_at : ∀ i : grid0.Coords, k0_off11 i = gPlace i 0 := by decide +kernel
theorem off12_at : ∀ (i : grid0.Coords) (k : Fin k0_t2_loop.trips), k0_off12 i k = xPlace i (2 * k.val + 1) := by decide +kernel
theorem off13_at : ∀ (i : grid0.Coords) (k : Fin k0_t2_loop.trips), k0_off13 i k = pPlace i (2 * k.val + 1) := by decide +kernel
theorem off14_at : ∀ (i : grid0.Coords) (k : Fin k0_t2_loop.trips), k0_off14 i k = gPlace i (2 * k.val + 1) := by decide +kernel
theorem off297_at : ∀ (i : grid0.Coords) (k : Fin k0_t2_loop.trips), k0_off297 i k = xPlace i (2 * k.val + 2) := by decide +kernel
theorem off298_at : ∀ (i : grid0.Coords) (k : Fin k0_t2_loop.trips), k0_off298 i k = pPlace i (2 * k.val + 2) := by decide +kernel
theorem off299_at : ∀ (i : grid0.Coords) (k : Fin k0_t2_loop.trips), k0_off299 i k = gPlace i (2 * k.val + 2) := by decide +kernel

section Slots

variable (d : Dev nD) (i : grid0.Coords)
variable (x : Memref sig .scVector .vmem S80x128 .f32) (p : Memref sig .scVector .vmem S40x16 .f32) (g : Memref sig .scVector .vmem S128 .i32)
variable (acc : Memref sig .scVector .vmem S64x128 .f32)
variable (feat : Memref sig .scVector .hbm S50000x256 .f32) (pd : Memref sig .scVector .hbm S25000x16 .f32) (gid : Memref sig .scVector .hbm S50000 .i32)
variable (hx : x.IsWhole) (hp : p.IsWhole) (semx semp semg : DmaSems sig S_)
variable (q : PosShare TreeShare) (f1 : Buf (Elt F) (feat.view.loc (thr d i))) (f2 : Buf (Elt F) (pd.view.loc (thr d i))) (f3 : Buf (Elt F) (gid.view.loc (thr d i)))

/-- A loop whose steps keep `I`. -/
theorem loop_step (l : Scf.Loop 32) (ok : l.OK) (body : Fin l.trips → BitVec 32 → TileProg F i (BitVec 32)) (I : Nat → sProp 𝕄)
    (hbody : ∀ (k : Fin l.trips) (a : BitVec 32), I k.val ⊢ WP (F := F) d i (body k a) fun _ => I (k.val + 1)) {Q : BitVec 32 → sProp 𝕄} :
    iprop(I 0 ∗ (∀ a, I l.trips -∗ Q a)) ⊢ WP (F := F) d i (Scf.Loop.for l ok 0#32 body) Q :=
  Scf.wp_for frame (wpE (defs₀ (F := F)) Variants.none (V d (core i) (sub i)) none) Set.univ l.lb l.ub l.st ok 0#32 body (fun k _ => I k) hbody

/-- Block `m`'s rows, weights and ids. -/
def blockX (m : Nat) (h : has i m) : FVec F S80x128 .f32 := (featAt feat (xPlace i m) (xPlace_fits i m h)).view.read (Elt F) f1
def blockP (m : Nat) (h : has i m) : FVec F S40x16 .f32 := (pdAt pd (pPlace i m) (pPlace_fits i m h)).view.read (Elt F) f2
def blockG (m : Nat) (h : has i m) : IVec S80 32 := (gidAt gid (gPlace i m) (gPlace_fits i m h)).view.read (Elt F) f3

/-- The sums after the tile's first `m` blocks. -/
def sumsAfter : Nat → FVec F S64x128 .f32
  | 0 => fun _ => Scalar.ofBits (F := F) .f32 0x00000000#32
  | m + 1 => if h : has i m then partialVal (blockX d i feat f1 m h) (blockP d i pd f2 m h) (blockG d i gid f3 m h) (sumsAfter m) 5 else sumsAfter m

/-- A slot when block `m` is its next: under way if there is one. -/
def slotAt (m : Nat) : sProp 𝕄 :=
  if h : has i m then busy d i x p g feat pd gid semx semp semg q f1 f2 f3 (xPlace i m) (xPlace_fits i m h) (pPlace i m) (pPlace_fits i m h) (gPlace i m) (gPlace_fits i m h)
  else idle d i x p g feat pd gid semx semp semg q f1 f2 f3

/-- A slot when block `m` arrived, if there is one. -/
def slotReady (m : Nat) : sProp 𝕄 :=
  if h : has i m then ready d i x p g feat pd gid semx semp semg q f1 f2 f3 (xPlace i m) (xPlace_fits i m h) (pPlace i m) (pPlace_fits i m h) (gPlace i m) (gPlace_fits i m h)
  else idle d i x p g feat pd gid semx semp semg q f1 f2 f3

theorem fetchMaybe (m : Nat) (c : BitVec 1) (hc : c = 1#1 ↔ has i m) (ox op og) (ex : ox = xPlace i m) (ep : op = pPlace i m) (eg : og = gPlace i m)
    (hox : c = 1#1 → ∀ a, ox a + S80x128.size a ≤ S50000x256.size a) (hop : c = 1#1 → ∀ a, op a + S40x16.size a ≤ S25000x16.size a)
    (hog : c = 1#1 → ∀ a, og a + S80.size a ≤ S50000.size a)
    (h1 : 0 < x.view.dmaCredit) (h2 : 0 < p.view.dmaCredit) (h3 : 0 < (idsOf g).view.dmaCredit) {Q : PUnit → sProp 𝕄} :
    iprop(idle d i x p g feat pd gid semx semp semg q f1 f2 f3 ∗ (slotAt d i x p g feat pd gid semx semp semg q f1 f2 f3 m -∗ Q ⟨⟩))
      ⊢ WP (F := F) d i (maybe c fun h => fetch i x p g feat pd gid hx hp semx semp semg ox (hox h) op (hop h) og (hog h)) Q := by
  subst ex; subst ep; subst eg
  unfold slotAt
  by_cases h : has i m
  · rw [maybe_yes i _ _ (hc.mpr h), dif_pos h]
    simp only [WP, wp_bind, wp_pure]
    iintro ⟨H, HQ⟩
    iapply (fetch_step d i x p g feat pd gid hx hp semx semp semg q f1 f2 f3 _ _ _ _ _ _ h1 h2 h3)
    isplitl [H]; · iexact H
    iintro H
    imodintro
    iapply HQ
    iexact H
  · rw [maybe_no i _ _ (fun e => h (hc.mp e)), dif_neg h]
    simp only [WP, wp_pure]
    iintro ⟨H, HQ⟩
    imodintro
    iapply HQ
    iexact H

theorem awaitMaybe (m : Nat) (c : BitVec 1) (hc : c = 1#1 ↔ has i m) (O : CellTallies nD τ sig (HIx 1)) (W : Waits sig (HIx 1)) {Q : PUnit → sProp 𝕄} :
    iprop(slotAt d i x p g feat pd gid semx semp semg q f1 f2 f3 m ∗ waited d i O W ∗ Transfers.MayWaits (thr d i) (default : HIx 1) O
        ∗ ((slotReady d i x p g feat pd gid semx semp semg q f1 f2 f3 m ∗ waited d i O W) -∗ Q ⟨⟩))
      ⊢ WP (F := F) d i (maybe c fun _ => await i x p g feat pd gid hx hp semx semp semg) Q := by
  unfold slotAt slotReady
  by_cases h : has i m
  · rw [maybe_yes i _ _ (hc.mpr h), dif_pos h, dif_pos h]
    simp only [WP, wp_bind, wp_pure]
    iintro ⟨H, HO, #Hmw, HQ⟩
    iapply (await_step d i x p g feat pd gid hx hp semx semp semg q f1 f2 f3 _ _ _ _ _ _ O W)
    isplitl [H]; · iexact H
    isplitl [HO]; · iexact HO
    isplitr; · iexact Hmw
    iintro H
    imodintro
    iapply HQ
    iexact H
  · rw [maybe_no i _ _ (fun e => h (hc.mp e)), dif_neg h, dif_neg h]
    simp only [WP, wp_pure]
    iintro ⟨H, HO, -, HQ⟩
    imodintro
    iapply HQ
    isplitl [H]; · iexact H
    iexact HO

/-- The groups of a block that arrived. -/
theorem groupsMaybe (m : Nat) (c : BitVec 1) (hc : c = 1#1 ↔ has i m) (l : Scf.Loop 32) (hl : l.trips = 5) (ok : c = 1#1 → l.OK)
    (chkA : BitVec 32 → BitVec 32 → Prop) (decA : ∀ a b, Decidable (chkA a b))
    (fitsA : c = 1#1 → ∀ a b, chkA a b → agree a b = 1#1 → ∀ c a', lanes a c a' + S1x16.size a' ≤ S64x128.size a')
    (chkB : BitVec 32 → BitVec 32 → BitVec 32 → Prop) (decB : ∀ a b r, Decidable (chkB a b r))
    (fitsB : c = 1#1 → ∀ a b, differ a b = 1#1 → ∀ r, chkB a b r → ∀ c a', lanes r c a' + S1x16.size a' ≤ S64x128.size a')
    (hA : ∀ a b : BitVec 32, a.toNat < 64 → chkA a b) (hB : ∀ a b r : BitVec 32, r.toNat < 64 → chkB a b r)
    (hids : ∀ y, (gid.view.read (Elt F) f3 y).toNat < 64) {Q : PUnit → sProp 𝕄} :
    iprop(slotReady d i x p g feat pd gid semx semp semg q f1 f2 f3 m ∗ holds d i acc (sumsAfter d i feat pd gid f1 f2 f3 m)
        ∗ ((idle d i x p g feat pd gid semx semp semg q f1 f2 f3 ∗ holds d i acc (sumsAfter d i feat pd gid f1 f2 f3 (m + 1))) -∗ Q ⟨⟩))
      ⊢ WP (F := F) d i (maybe c fun h => Scf.Loop.for l (ok h) 0#32 (fun t _ =>
          group i x acc p g t.val (Nat.lt_of_lt_of_eq t.isLt hl) chkA decA (fitsA h) chkB decB (fitsB h))) Q := by
  unfold slotReady
  by_cases h : has i m
  · have e : sumsAfter d i feat pd gid f1 f2 f3 (m + 1)
        = partialVal (blockX d i feat f1 m h) (blockP d i pd f2 m h) (blockG d i gid f3 m h) (sumsAfter d i feat pd gid f1 f2 f3 m) l.trips := by
      rw [hl, sumsAfter, dif_pos h]
    have hbody : ∀ (G : IVec S128 32), firstEighty G = (gidAt gid (gPlace i m) (gPlace_fits i m h)).view.read (Elt F) f3 →
        ∀ (k : Fin l.trips) (_ : BitVec 32), fourBufs d i x acc p g (blockX d i feat f1 m h) (blockP d i pd f2 m h) G
          (partialVal (blockX d i feat f1 m h) (blockP d i pd f2 m h) (blockG d i gid f3 m h) (sumsAfter d i feat pd gid f1 f2 f3 m) k.val)
        ⊢ WP (F := F) d i (group i x acc p g k.val (Nat.lt_of_lt_of_eq k.isLt hl) chkA decA (fitsA (hc.mpr h)) chkB decB (fitsB (hc.mpr h)))
          fun _ => fourBufs d i x acc p g (blockX d i feat f1 m h) (blockP d i pd f2 m h) G
            (partialVal (blockX d i feat f1 m h) (blockP d i pd f2 m h) (blockG d i gid f3 m h) (sumsAfter d i feat pd gid f1 f2 f3 m) (k.val + 1)) := by
      intro G hG k _
      have hk : k.val < 5 := Nat.lt_of_lt_of_eq k.isLt hl
      have hg : groupIds G k.val hk = idsAt (blockG d i gid f3 m h) k.val hk := by rw [groupIds_eq, hG]; rfl
      have hlt : ∀ j, (lane (groupIds G k.val hk) j).toNat < 64 := by
        rw [hg]
        exact lane_idsAt _ (fun y => hids _) _ _
      refine BIBase.Entails.trans ?_ (group_step d i x acc p g (blockX d i feat f1 m h) (blockP d i pd f2 m h) G (partialVal (blockX d i feat f1 m h) (blockP d i pd f2 m h) (blockG d i gid f3 m h) (sumsAfter d i feat pd gid f1 f2 f3 m) k.val) k.val hk chkA decA _ chkB decB _
        (hA _ _ (hlt 0)) (fun j => hB _ _ _ (hlt j)))
      have e1 : partialVal (blockX d i feat f1 m h) (blockP d i pd f2 m h) (blockG d i gid f3 m h) (sumsAfter d i feat pd gid f1 f2 f3 m) (k.val + 1)
          = groupVal (blockX d i feat f1 m h) (blockP d i pd f2 m h) (groupIds G k.val hk) k.val hk
              (partialVal (blockX d i feat f1 m h) (blockP d i pd f2 m h) (blockG d i gid f3 m h) (sumsAfter d i feat pd gid f1 f2 f3 m) k.val) := by
        rw [partialVal, dif_pos hk, hg]
      rw [e1]
      iintro H
      isplitl [H]; · iexact H
      iintro H
      iexact H
    rw [maybe_yes i _ _ (hc.mpr h), dif_pos h, e]
    simp only [WP, wp_bind, wp_pure]
    unfold ready idle
    iintro ⟨⟨HX, HP, ⟨%G, %hG, HG⟩, Hz, Hs⟩, HA, HQ⟩
    iapply (loop_step d i l (ok (hc.mpr h)) _
      (fun k => fourBufs d i x acc p g (blockX d i feat f1 m h) (blockP d i pd f2 m h) G
        (partialVal (blockX d i feat f1 m h) (blockP d i pd f2 m h) (blockG d i gid f3 m h) (sumsAfter d i feat pd gid f1 f2 f3 m) k))
      (hbody G hG))
    isplitl [HX HP HG HA]
    · unfold fourBufs
      isplitl [HX]; · iexact HX
      isplitl [HP]; · iexact HP
      isplitl [HG]; · iexact HG
      iexact HA
    unfold fourBufs
    iintro %_ ⟨HX, HP, HG, HA⟩
    imodintro
    iapply HQ
    isplitr [HA]
    swap; · iexact HA
    isplitl [HX]; · iexists _; iexact HX
    isplitl [HP]; · iexists _; iexact HP
    isplitl [HG]; · iexists _; iexact HG
    isplitl [Hz]; · iexact Hz
    iexact Hs
  · have e : sumsAfter d i feat pd gid f1 f2 f3 (m + 1) = sumsAfter d i feat pd gid f1 f2 f3 m := by
      rw [sumsAfter, dif_neg h]
    rw [maybe_no i _ _ (fun e => h (hc.mp e)), dif_neg h, e]
    simp only [WP, wp_pure]
    iintro ⟨H, HA, HQ⟩
    imodintro
    iapply HQ
    isplitl [H]; · iexact H
    iexact HA

end Slots

end Cert.Tiles
-- ==== Proof.TilesTile.lean ====
/-
  The whole task of a tile: its sums zeroed, its blocks added, its sums copied to their part of the result.
-/
module

public import proofs.«01_k».proof.Proof.TilesLoop

@[expose] public section

noncomputable section

namespace Cert.Tiles

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
open Facts₀ Facts

local notation "𝕄" => MT nD τ sig (HIx 1) (Elt F) ℕ UU ℕ

/-! ## Zero sums -/

/-- The float of the zero bits. -/
abbrev zf : F .f32 := Scalar.ofBits (F := F) .f32 0x00000000#32

/-- Make chunk `c` of row `r` zero. -/
def putZero (r : BitVec 32) (A : FVec F S64x128 .f32) (c : Fin 8) : FVec F S64x128 .f32 := fun y =>
  if (y 0).val = (Scalar.indexCast r : Index).toNat ∧ (y 1).val / 16 = c.val then zf else A y

theorem putZero_keep (r : BitVec 32) (y : S64x128.Idx) : ∀ (l : List (Fin 8)) (A : FVec F S64x128 .f32),
    (A y = zf ∨ ((y 0).val = (Scalar.indexCast r : Index).toNat ∧ ∃ c ∈ l, (y 1).val / 16 = c.val)) → (l.foldl (putZero r) A) y = zf
  | [], A, h => by
    rcases h with h | ⟨-, c, hc, -⟩
    · exact h
    · exact absurd hc (List.not_mem_nil)
  | c :: l, A, h => by
    refine putZero_keep r y l _ ?_
    by_cases hc : (y 0).val = (Scalar.indexCast r : Index).toNat ∧ (y 1).val / 16 = c.val
    · left; unfold putZero; rw [if_pos hc]
    · rcases h with h | ⟨h0, c', hc', h1⟩
      · left; unfold putZero; rw [if_neg hc]; exact h
      · rcases List.mem_cons.mp hc' with e | hm
        · exact absurd ⟨h0, e ▸ h1⟩ hc
        · exact .inr ⟨h0, c', hm, h1⟩

theorem mem_chunks (n : Nat) (h : n < 8) : ∃ c ∈ chunks, n = c.val := by
  have : ∀ n : Fin 8, ∃ c ∈ chunks, n.val = c.val := by decide
  exact this ⟨n, h⟩

theorem ivWord (t : Nat) (ht : t < 64) : (Scalar.indexCast (Scf.iv 0#32 1#32 t) : Index).toNat = t := by
  have h : ∀ t : Fin 64, (Scalar.indexCast (Scf.iv 0#32 1#32 t.val) : Index).toNat = t.val := by decide +kernel
  exact h ⟨t, ht⟩

section Run

variable (d : Dev nD) (i : grid0.Coords)
variable (acc : Memref sig .scVector .vmem S64x128 .f32) (idx : Memref sig .scVector .vmem S64 .i32)

theorem putZero_in (A : FVec F S64x128 .f32) (r : BitVec 32) (c : Fin 8) (h : ∀ a, lanes r c a + S1x16.size a ≤ S64x128.size a)
    (k : (Rect.unit (s := S64x128) (lanes r c) S1x16.size h).shape.Idx) : putZero r A c ((Rect.unit (s := S64x128) (lanes r c) S1x16.size h).emb k) = zf := by
  have h0 : (((Rect.unit (s := S64x128) (lanes r c) S1x16.size h).emb k) 0).val = (Scalar.indexCast r : Index).toNat := by
    show (Scalar.indexCast r : Index).toNat + 1 * (k 0).val = _
    have : (k 0).val < 1 := (k 0).isLt
    omega
  have h1 : (((Rect.unit (s := S64x128) (lanes r c) S1x16.size h).emb k) 1).val = 16 * c.val + (k 1).val := by
    show 16 * c.val + 1 * (k 1).val = _
    omega
  have hk : (k 1).val < 16 := (k 1).isLt
  unfold putZero
  rw [if_pos ⟨h0, by rw [h1]; omega⟩]

theorem putZero_out (A : FVec F S64x128 .f32) (r : BitVec 32) (c : Fin 8) (h : ∀ a, lanes r c a + S1x16.size a ≤ S64x128.size a)
    (y : S64x128.Idx) (hy : ∀ k, (Rect.unit (s := S64x128) (lanes r c) S1x16.size h).emb k ≠ y) : putZero r A c y = A y := by
  unfold putZero
  rw [if_neg]
  rintro ⟨h0, h1⟩
  refine hy (ix2 (0 : Fin 1) (⟨(y 1).val % 16, Nat.mod_lt _ (by decide)⟩ : Fin 16)) ?_
  funext a
  apply Fin.ext
  match a with
  | 0 => show (Scalar.indexCast r : Index).toNat + 1 * 0 = _; omega
  | 1 => show 16 * c.val + 1 * ((y 1).val % 16) = _; omega

/-- The sums with their first `t` rows zero. -/
def zeroed (t : Nat) : sProp 𝕄 := iprop(∃ A : FVec F S64x128 .f32, ⌜∀ y : S64x128.Idx, (y 0).val < t → A y = zf⌝ ∗ holds d i acc A)

theorem zeroChunk_step (t : Nat) (ht : t < 64) (c : Fin 8) (A : FVec F S64x128 .f32) (Q : PUnit → sProp 𝕄) :
    iprop(holds d i acc A ∗ (holds d i acc (putZero (Scf.iv 0#32 1#32 t) A c) -∗ Q ⟨⟩)) ⊢ WP (F := F) d i
      ((Prog.lift (.load acc (Rect.unit (s := S64x128) (lanes (Scf.iv 0#32 1#32 t) c) S1x16.size (zeroRow_fits t ht c)).toLoadRect (View.loadsAt_vmem h_S1x16)) : TileProg F i (Vec F S1x16 .f32)) >>= fun _ =>
        Prog.lift (.store acc (Rect.unit (s := S64x128) (lanes (Scf.iv 0#32 1#32 t) c) S1x16.size (zeroRow_fits t ht c))
          (shapeCast S1x16 (broadcast S16 (Scalar.ofBits (F := F) .f32 0x00000000#32)) shapeCasts_S16_S1x16) Finset.univ (View.stores_vmem_bits_univ h_S1x16 rfl) (.inl rfl))) Q := by
  simp only [WP, wp_bind]
  iintro ⟨H, HQ⟩
  iapply (load_step d i (m := acc) A)
  isplitl [H]; · iexact H
  iintro H
  iapply (store_step d i (m := acc) A (putZero (Scf.iv 0#32 1#32 t) A c) (putZero_in A _ c (zeroRow_fits t ht c)) (putZero_out A _ c (zeroRow_fits t ht c)))
  isplitl [H]; · iexact H
  iexact HQ

theorem zeroRow_step (t : Nat) (ht : t < 64) {Q : BitVec 32 → sProp 𝕄} :
    iprop(zeroed d i acc t ∗ (zeroed d i acc (t + 1) -∗ Q 0#32)) ⊢ WP (F := F) d i (zeroRow i acc t ht) Q := by
  unfold zeroRow zeroed
  simp only [WP, wp_bind, wp_pure]
  iintro ⟨⟨%A, %hA, H⟩, HQ⟩
  iapply (inOrder_step d i (fun A => holds d i acc A) _ (putZero (Scf.iv 0#32 1#32 t)) (zeroChunk_step d i acc t ht) chunks A _)
  isplitl [H]; · iexact H
  iintro H
  imodintro
  iapply HQ
  iexists _
  isplitr
  swap; · iexact H
  ipureintro
  intro y hy
  refine putZero_keep _ y chunks A ?_
  by_cases h : (y 0).val < t
  · exact .inl (hA y h)
  · refine .inr ⟨by rw [ivWord t ht]; omega, ?_⟩
    have : (y 1).val < 128 := (y 1).isLt
    exact mem_chunks _ (by omega)

theorem zeroLoop (k : Fin k0_t1_loop.trips) : zeroed d i acc k.val ⊢ WP (F := F) d i (zeroRow i acc k.val k.isLt) fun _ => zeroed d i acc (k.val + 1) := by
  refine BIBase.Entails.trans ?_ (zeroRow_step d i acc k.val k.isLt)
  iintro H
  isplitl [H]; · iexact H
  iintro H
  iexact H

theorem zeroed_all (feat : Memref sig .scVector .hbm S50000x256 .f32) (pd : Memref sig .scVector .hbm S25000x16 .f32) (gid : Memref sig .scVector .hbm S50000 .i32)
    (f1 : Buf (Elt F) (feat.view.loc (thr d i))) (f2 : Buf (Elt F) (pd.view.loc (thr d i))) (f3 : Buf (Elt F) (gid.view.loc (thr d i))) :
    zeroed (F := F) d i acc k0_t1_loop.trips ⊢ holds d i acc (sumsAfter d i feat pd gid f1 f2 f3 0) := by
  unfold zeroed
  iintro ⟨%A, %hA, H⟩
  rw [show A = sumsAfter d i feat pd gid f1 f2 f3 0 from funext fun y => hA y (y 0).isLt]
  iexact H

/-- A store whose outcome does not matter. -/
theorem store_any {s : Shape} {e : EltTy} {m : Memref sig .scVector .vmem s e} {r : Rect s} {w : r.shape.Idx → Elt F e} {hx hm} {Q : PUnit → sProp 𝕄} :
    iprop((∃ A, holds d i m A) ∗ ((∃ A, holds d i m A) -∗ Q ⟨⟩))
      ⊢ WP (F := F) d i (Prog.lift (.store m r w Finset.univ hx hm)) Q := by
  unfold holds
  iintro ⟨⟨%A, %f, %h, H⟩, HQ⟩
  iapply (wp_store Variants.none (V d (core i) (sub i)) none Set.univ (m := m) (r := r) (S := m.view.set) (by rw [View.setOn_univ]; exact View.set_slice_subset _ _)) $$ H
  iintro H
  rw [wp_ret]
  imodintro
  iapply HQ
  iexists _
  iexists _
  isplitr
  swap
  · iexact H
  ipureintro
  rfl

theorem number_step (k : Fin 4) (w : BitVec 32) {Q : PUnit → sProp 𝕄} :
    iprop((∃ A, holds d i idx A) ∗ ((∃ A, holds d i idx A) -∗ Q ⟨⟩)) ⊢ WP (F := F) d i (number i idx k w) Q := by
  unfold number
  simp only [WP, wp_bind]
  iintro ⟨⟨%A, H⟩, HQ⟩
  iapply (load_step d i (m := idx) A)
  isplitl [H]; · iexact H
  iintro H
  iapply (store_any d i (m := idx))
  isplitl [H]; · iexists A; iexact H
  iexact HQ

end Run

/-! ## The whole of a tile -/

section Tile

variable (d : Dev nD) (i : grid0.Coords)
variable (arg2 : Memref sig .scVector .hbm S50000x256 .f32) (arg3 : Memref sig .scVector .hbm S25000x16 .f32) (arg4 : Memref sig .scVector .hbm S50000 .i32) (arg5 : Memref sig .scVector .hbm S16x64x256 .f32)
  (arg6 : Memref sig .scVector .vmem S80x128 .f32) (harg6 : arg6.IsWhole) (arg7 : Memref sig .scVector .vmem S80x128 .f32) (harg7 : arg7.IsWhole) (arg8 : Memref sig .scVector .vmem S40x16 .f32) (harg8 : arg8.IsWhole) (arg9 : Memref sig .scVector .vmem S40x16 .f32) (harg9 : arg9.IsWhole)
  (arg10 : Memref sig .scVector .vmem S128 .i32) (arg11 : Memref sig .scVector .vmem S128 .i32) (arg12 : Memref sig .scVector .vmem S64x128 .f32) (harg12 : arg12.IsWhole) (arg14 : Memref sig .scVector .vmem S64 .i32)
  (arg16 : DmaSems sig S_) (arg17 : DmaSems sig S_) (arg18 : DmaSems sig S_) (arg19 : DmaSems sig S_) (arg20 : DmaSems sig S_) (arg21 : DmaSems sig S_) (v37_r0 : DmaSems sig S_)
variable (q q' : PosShare TreeShare) (f1 : Buf (Elt F) (arg2.view.loc (thr d i))) (f2 : Buf (Elt F) (arg3.view.loc (thr d i))) (f3 : Buf (Elt F) (arg4.view.loc (thr d i)))
variable (hx6 : 0 < arg6.view.dmaCredit) (hx7 : 0 < arg7.view.dmaCredit) (hx8 : 0 < arg8.view.dmaCredit) (hx9 : 0 < arg9.view.dmaCredit)
  (hx10 : 0 < (idsOf arg10).view.dmaCredit) (hx11 : 0 < (idsOf arg11).view.dmaCredit) (hx5 : 0 < (partOf i arg5).view.dmaCredit)
variable (hids : ∀ y, (arg4.view.read (Elt F) f3 y).toNat < 64)
variable (O : CellTallies nD τ sig (HIx 1)) (W : Waits sig (HIx 1))

/-- The two slots. -/
abbrev slotA (m : Nat) : sProp 𝕄 := slotAt d i arg6 arg8 arg10 arg2 arg3 arg4 arg16 arg18 arg20 q f1 f2 f3 m
abbrev idleA : sProp 𝕄 := idle d i arg6 arg8 arg10 arg2 arg3 arg4 arg16 arg18 arg20 q f1 f2 f3
abbrev idleB : sProp 𝕄 := idle d i arg7 arg9 arg11 arg2 arg3 arg4 arg17 arg19 arg21 q' f1 f2 f3

include hx6 hx8 hx10 in
theorem opening_step {Q : PUnit → sProp 𝕄} :
    iprop((∃ A, holds d i arg12 A) ∗ (∃ A, holds d i arg14 A) ∗ idleA d i arg2 arg3 arg4 arg6 arg8 arg10 arg16 arg18 arg20 q f1 f2 f3
        ∗ ((holds d i arg12 (sumsAfter d i arg2 arg3 arg4 f1 f2 f3 0) ∗ (∃ A, holds d i arg14 A) ∗ slotA d i arg2 arg3 arg4 arg6 arg8 arg10 arg16 arg18 arg20 q f1 f2 f3 0) -∗ Q ⟨⟩))
      ⊢ WP (F := F) d i (opening i arg2 arg3 arg4 arg6 harg6 arg8 harg8 arg10 arg12 arg14 arg16 arg18 arg20) Q := by
  unfold opening
  simp only [WP, wp_bind]
  iintro ⟨⟨%A, HA⟩, HI, HS, HQ⟩
  iapply (loop_step d i k0_t1_loop k0_t1_ok _ (zeroed d i arg12) (fun k a => zeroLoop d i arg12 k))
  isplitl [HA]
  · unfold zeroed
    iexists A
    isplitr
    · ipureintro; intro y hy; exact absurd hy (Nat.not_lt_zero _)
    iexact HA
  iintro %_ HA
  iapply (number_step d i arg14); isplitl [HI]; · iexact HI
  iintro HI
  iapply (number_step d i arg14); isplitl [HI]; · iexact HI
  iintro HI
  iapply (number_step d i arg14); isplitl [HI]; · iexact HI
  iintro HI
  iapply (number_step d i arg14); isplitl [HI]; · iexact HI
  iintro HI
  iapply (fetchMaybe d i arg6 arg8 arg10 arg2 arg3 arg4 harg6 harg8 arg16 arg18 arg20 q f1 f2 f3 0 (k0_cond1 i) (cond1_iff i) _ _ _ (off9_at i) (off10_at i) (off11_at i) (k0_off9_inb i) (k0_off10_inb i) (k0_off11_inb i) hx6 hx8 hx10)
  isplitl [HS]; · iexact HS
  iintro HS
  iapply HQ
  isplitl [HA]
  · iapply (zeroed_all d i arg12 arg2 arg3 arg4 f1 f2 f3); iexact HA
  isplitl [HI]; · iexact HI
  iexact HS

/-- What a trip of the loop keeps. -/
def trip (k : Nat) : sProp 𝕄 :=
  iprop(holds d i arg12 (sumsAfter d i arg2 arg3 arg4 f1 f2 f3 (2 * k)) ∗ slotA d i arg2 arg3 arg4 arg6 arg8 arg10 arg16 arg18 arg20 q f1 f2 f3 (2 * k)
    ∗ idleB d i arg2 arg3 arg4 arg7 arg9 arg11 arg17 arg19 arg21 q' f1 f2 f3 ∗ waited d i O W ∗ Transfers.MayWaits (thr d i) (default : HIx 1) O)

set_option maxHeartbeats 2000000 in
include hx6 hx7 hx8 hx9 hx10 hx11 hids in
theorem trip_step (k : Fin k0_t2_loop.trips) (a : BitVec 32) :
    trip d i arg2 arg3 arg4 arg6 arg7 arg8 arg9 arg10 arg11 arg12 arg16 arg17 arg18 arg19 arg20 arg21 q q' f1 f2 f3 O W k.val
      ⊢ WP (F := F) d i (firstSteps i arg2 arg3 arg4 arg6 harg6 arg7 harg7 arg8 harg8 arg9 harg9 arg10 arg11 arg12 arg16 arg17 arg18 arg19 arg20 arg21 k >>= fun _ =>
          lastStep i arg7 arg9 arg11 arg12 k >>= fun _ => pure 0#32)
        fun _ => trip d i arg2 arg3 arg4 arg6 arg7 arg8 arg9 arg10 arg11 arg12 arg16 arg17 arg18 arg19 arg20 arg21 q q' f1 f2 f3 O W (k.val + 1) := by
  unfold trip firstSteps lastStep
  simp only [WP, wp_bind, wp_pure]
  iintro ⟨HA, HS, HB, HO, #Hmw⟩
  iapply (fetchMaybe d i arg7 arg9 arg11 arg2 arg3 arg4 harg7 harg9 arg17 arg19 arg21 q' f1 f2 f3 (2 * k.val + 1) (k0_cond2 i k) (cond2_iff i k) _ _ _ (off12_at i k) (off13_at i k) (off14_at i k) (k0_off12_inb i k) (k0_off13_inb i k) (k0_off14_inb i k) hx7 hx9 hx11)
  isplitl [HB]; · iexact HB
  iintro HB
  iapply (awaitMaybe d i arg6 arg8 arg10 arg2 arg3 arg4 harg6 harg8 arg16 arg18 arg20 q f1 f2 f3 (2 * k.val) (k0_cond4 i k) (cond4_iff i k) O W)
  isplitl [HS]; · iexact HS
  isplitl [HO]; · iexact HO
  isplitr; · iexact Hmw
  iintro ⟨HS, HO⟩
  iapply (groupsMaybe d i arg6 arg8 arg10 arg12 arg2 arg3 arg4 arg16 arg18 arg20 q f1 f2 f3 (2 * k.val) (k0_cond4 i k) (cond4_iff i k) k0_t3_loop rfl (k0_t3_ok i k)
    (k0_chk1 i k) (k0_chk1.dec i k) (fitsA0 i k) (k0_chk2 i k) (k0_chk2.dec i k) (fitsB0 i k) (chk1_ok i k) (chk2_ok i k) hids)
  isplitl [HS]; · iexact HS
  isplitl [HA]; · iexact HA
  iintro ⟨HS, HA⟩
  iapply (fetchMaybe d i arg6 arg8 arg10 arg2 arg3 arg4 harg6 harg8 arg16 arg18 arg20 q f1 f2 f3 (2 * k.val + 2) (k0_cond7 i k) (cond7_iff i k) _ _ _ (off297_at i k) (off298_at i k) (off299_at i k) (k0_off297_inb i k) (k0_off298_inb i k) (k0_off299_inb i k) hx6 hx8 hx10)
  isplitl [HS]; · iexact HS
  iintro HS
  iapply (awaitMaybe d i arg7 arg9 arg11 arg2 arg3 arg4 harg7 harg9 arg17 arg19 arg21 q' f1 f2 f3 (2 * k.val + 1) (k0_cond9 i k) (cond9_iff i k) O W)
  isplitl [HB]; · iexact HB
  isplitl [HO]; · iexact HO
  isplitr; · iexact Hmw
  iintro ⟨HB, HO⟩
  iapply (groupsMaybe d i arg7 arg9 arg11 arg12 arg2 arg3 arg4 arg17 arg19 arg21 q' f1 f2 f3 (2 * k.val + 1) (k0_cond9 i k) (cond9_iff i k) k0_t4_loop rfl (k0_t4_ok i k)
    (k0_chk18 i k) (k0_chk18.dec i k) (fitsA1 i k) (k0_chk19 i k) (k0_chk19.dec i k) (fitsB1 i k) (chk18_ok i k) (chk19_ok i k) hids)
  isplitl [HB]; · iexact HB
  isplitl [HA]; · iexact HA
  iintro ⟨HB, HA⟩
  imodintro
  isplitl [HA]; · iexact HA
  isplitl [HS]; · iexact HS
  isplitl [HB]; · iexact HB
  isplitl [HO]; · iexact HO
  iexact Hmw

include hx5 in
theorem copyOut_step (A : FVec F S64x128 .f32) {Q : PUnit → sProp 𝕄} :
    iprop(holds d i arg12 A ∗ (∃ B, holds d i (partOf i arg5) B) ∗ zero d i v37_r0.sem ∗ waited d i O W ∗ Transfers.MayWaits (thr d i) (default : HIx 1) O
        ∗ ((holds d i arg12 A ∗ holds d i (partOf i arg5) A ∗ zero d i v37_r0.sem ∗ waited d i O W) -∗ Q ⟨⟩))
      ⊢ WP (F := F) d i (copyOut i arg5 arg12 harg12 v37_r0) Q := by
  unfold copyOut holds
  simp only [WP, wp_bind]
  iintro ⟨⟨%f, %hf, HA⟩, ⟨%B, %fb, -, HB⟩, Hz, HO, #Hmw, HQ⟩
  iapply (start_step d i (src := arg12) (dst := partOf i arg5) (partOf i arg5).view.set (Finset.Subset.refl _) hx5 fullShare f fb)
  isplitl [HA]; · iexact HA
  isplitl [HB]; · iexact HB
  isplitl [Hz]; · iexact Hz
  iintro Fl
  iapply (wait_step d i (src := arg12) (dst := partOf i arg5) (sem := v37_r0.sem) (partOf i arg5).view.set fullShare f O W)
  isplitl [Fl]; · iexact Fl
  isplitl [HO]; · iexact HO
  isplitr; · iexact Hmw
  iintro ⟨⟨%g, HB⟩, HA, Hz, HO⟩
  iapply HQ
  isplitl [HA]
  · iexists f; isplitr
    · ipureintro; exact hf
    iexact HA
  isplitl [HB]
  · iexists _; isplitr
    swap; · iexact HB
    ipureintro; exact (View.read_write_univ _ _).trans hf
  isplitl [Hz]; · iexact Hz
  iexact HO

set_option maxHeartbeats 2000000 in
include hx6 hx7 hx8 hx9 hx10 hx11 hx5 hids in
/-- A tile leaves in its part of the result the sums over its blocks. -/
theorem tile_step {Q : PUnit → sProp 𝕄} :
    iprop((∃ A, holds d i arg12 A) ∗ (∃ A, holds d i arg14 A) ∗ idleA d i arg2 arg3 arg4 arg6 arg8 arg10 arg16 arg18 arg20 q f1 f2 f3
        ∗ idleB d i arg2 arg3 arg4 arg7 arg9 arg11 arg17 arg19 arg21 q' f1 f2 f3 ∗ (∃ B, holds d i (partOf i arg5) B) ∗ zero d i v37_r0.sem
        ∗ waited d i O W ∗ Transfers.MayWaits (thr d i) (default : HIx 1) O
        ∗ (((∃ A, holds d i arg12 A) ∗ (∃ A, holds d i arg14 A) ∗ idleA d i arg2 arg3 arg4 arg6 arg8 arg10 arg16 arg18 arg20 q f1 f2 f3
            ∗ idleB d i arg2 arg3 arg4 arg7 arg9 arg11 arg17 arg19 arg21 q' f1 f2 f3 ∗ holds d i (partOf i arg5) (sumsAfter d i arg2 arg3 arg4 f1 f2 f3 12) ∗ zero d i v37_r0.sem
            ∗ waited d i O W) -∗ Q ⟨⟩))
      ⊢ WP (F := F) d i (tile i arg2 arg3 arg4 arg5 arg6 harg6 arg7 harg7 arg8 harg8 arg9 harg9 arg10 arg11 arg12 harg12 arg14 arg16 arg17 arg18 arg19 arg20 arg21 v37_r0) Q := by
  unfold tile
  rw [maybe_no i _ _ (oneMore_no i)]
  simp only [WP, wp_bind, wp_pure]
  iintro ⟨HA, HI, HS, HB, HP, Hz, HO, #Hmw, HQ⟩
  iapply (opening_step d i arg2 arg3 arg4 arg6 harg6 arg8 harg8 arg10 arg12 arg14 arg16 arg18 arg20 q f1 f2 f3 hx6 hx8 hx10)
  isplitl [HA]; · iexact HA
  isplitl [HI]; · iexact HI
  isplitl [HS]; · iexact HS
  iintro ⟨HA, HI, HS⟩
  iapply (loop_step d i k0_t2_loop k0_t2_ok _ (trip d i arg2 arg3 arg4 arg6 arg7 arg8 arg9 arg10 arg11 arg12 arg16 arg17 arg18 arg19 arg20 arg21 q q' f1 f2 f3 O W)
    (trip_step d i arg2 arg3 arg4 arg6 harg6 arg7 harg7 arg8 harg8 arg9 harg9 arg10 arg11 arg12 arg16 arg17 arg18 arg19 arg20 arg21 q q' f1 f2 f3 hx6 hx7 hx8 hx9 hx10 hx11 hids O W))
  isplitl [HA HS HB HO]
  · unfold trip
    isplitl [HA]; · iexact HA
    isplitl [HS]; · iexact HS
    isplitl [HB]; · iexact HB
    isplitl [HO]; · iexact HO
    iexact Hmw
  have e12 : ¬ has i 12 := by show ¬ ((i 1).val + 16 * 12 < 177); omega
  unfold trip
  rw [show 2 * k0_t2_loop.trips = 12 from rfl, show slotA d i arg2 arg3 arg4 arg6 arg8 arg10 arg16 arg18 arg20 q f1 f2 f3 12
    = idleA d i arg2 arg3 arg4 arg6 arg8 arg10 arg16 arg18 arg20 q f1 f2 f3 from by unfold slotA slotAt; rw [dif_neg e12]]
  iintro %_ ⟨HA, HS, HB, HO, -⟩
  imodintro
  iapply (copyOut_step d i arg5 arg12 harg12 v37_r0 hx5 O W)
  isplitl [HA]; · iexact HA
  isplitl [HP]; · iexact HP
  isplitl [Hz]; · iexact Hz
  isplitl [HO]; · iexact HO
  isplitr; · iexact Hmw
  iintro ⟨HA, HP, Hz, HO⟩
  iapply HQ
  isplitl [HA]; · iexists _; iexact HA
  isplitl [HI]; · iexact HI
  isplitl [HS]; · iexact HS
  isplitl [HB]; · iexact HB
  isplitl [HP]; · iexact HP
  isplitl [Hz]; · iexact Hz
  iexact HO

end Tile

end Cert.Tiles
-- ==== Proof.TilesLaunch.lean ====
/-
  The parts of the arrays that a tile is given, and the task's obligation in the launch.
-/
module

public import proofs.«01_k».proof.Proof.TilesTile
public import Idealize.ShloMosaic.Lib.SparseCore.Stream
public import Idealize.ShloMosaic.Lib.StableHlo.Run

@[expose] public section

noncomputable section

namespace Cert.Tiles

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
open Facts₀ Facts

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The arrays -/

abbrev fLoc (d : Dev nD) : Loc nD τ sig := (SparseCore.T d).loc main_arg0
abbrev pLoc (d : Dev nD) : Loc nD τ sig := (SparseCore.T d).loc main_v0
abbrev gLoc (d : Dev nD) : Loc nD τ sig := (SparseCore.T d).loc main_arg2
abbrev oLoc (d : Dev nD) : Loc nD τ sig := (SparseCore.T d).loc main_v1

abbrev fV : Memref sig .scVector .hbm S50000x256 .f32 := Memref.whole main_arg0_scv
abbrev pV : Memref sig .scVector .hbm S25000x16 .f32 := Memref.whole main_v0_scv
abbrev gV : Memref sig .scVector .hbm S50000 .i32 := Memref.whole main_arg2_scv
abbrev oV : Memref sig .scVector .hbm S16x64x256 .f32 := Memref.whole main_v1_scv

/-- The tile of SparseCore `c`'s vector subcore `s`. -/
def coords (c : Fin (grid0.bound 0)) (s : Fin (grid0.bound 1)) : grid0.Coords :=
  fun | 0 => c | 1 => s | ⟨_ + 2, h⟩ => absurd h (Nat.not_lt.2 (Nat.le_add_left _ _))

/-- One of a tile's two shares of an array. -/
def part (i : grid0.Coords) (b : Fin 2) : PosShare TreeShare :=
  pieceOf (pieceOf (pieceOf fullShare (grid0.bound 0) (by decide) (i 0)) (grid0.bound 1) (by decide) (i 1)) 2 (by decide) b

/-- A tile's part of the result. -/
abbrev partSet (i : grid0.Coords) : Finset S16x64x256.Idx := (partOf i oV).view.set

theorem mem_partSet (i : grid0.Coords) (y : S16x64x256.Idx) : y ∈ partSet i ↔ (y 0).val = (i 1).val ∧ (y 2).val / 128 = (i 0).val := by
  show y ∈ ((oV.view.slice (Rect.unit (s := S16x64x256) (k0_off582 i) S1x64x128.size (k0_off582_inb i))).reshape S64x128 squeezes_S1x64x128_S64x128.numel_eq).set ↔ _
  rw [View.set_reshape]
  show y ∈ ((View.whole (main_v1_scv : Ref sig .scVector)).slice (Rect.unit (s := S16x64x256) (k0_off582 i) S1x64x128.size (k0_off582_inb i))).set ↔ _
  rw [View.set_slice_whole, Rect.mem_set_unit, Gen.k0_off582_eq]
  have h1 : (y 1).val < 64 := (y 1).isLt
  constructor
  · intro h
    have h0 := h 0
    have h2 := h 2
    simp [S1x64x128] at h0 h2
    omega
  · rintro ⟨h0, h2⟩ a
    match a with
    | 0 => simp [S1x64x128]; omega
    | 1 => simp [S1x64x128]; omega
    | 2 => simp [S1x64x128]; omega

variable [FloatOps F]

/-- The sums that all the tiles leave. -/
def sumsOf (d : Dev nD) (f1 : Buf (Elt F) (fLoc d)) (f2 : Buf (Elt F) (pLoc d)) (f3 : Buf (Elt F) (gLoc d)) : Buf (Elt F) (oLoc d) :=
  show (⟨S16x64x256, .f32⟩ : BufTy).Contents (Elt F) from fun y =>
    sumsAfter d (coords ⟨(y 2).val / 128, by have : (y 2).val < 256 := (y 2).isLt; show _ < 2; omega⟩ (y 0)) fV pV gV f1 f2 f3 12
      (ix2 (y 1) (⟨(y 2).val % 128, Nat.mod_lt _ (by decide)⟩ : Fin 128))

section Tile

variable (m : (ℓ : Loc nD τ sig) → Buf (Elt F) ℓ) (d : Dev nD) (i : grid0.Coords)

theorem partOf_emb (y : S64x128.Idx) : (partOf i oV).view.emb y
    = ix3 (⟨(i 1).val, (i 1).isLt⟩ : Fin 16) (y 0) (⟨128 * (i 0).val + (y 1).val, by
        have h : (i 0).val < 2 := (i 0).isLt
        have h1 : (y 1).val < 128 := (y 1).isLt
        omega⟩ : Fin 256) := by
  have e : (partOf i oV).view.emb y = (Rect.unit (s := S16x64x256) (k0_off582 i) S1x64x128.size (k0_off582_inb i)).emb
      (Shape.reshapeEquiv squeezes_S1x64x128_S64x128.numel_eq y) := rfl
  rw [e, Shape.reshapeEquiv_cons_one]
  have h0 := congrFun (Gen.k0_off582_eq i) 0
  have h1 := congrFun (Gen.k0_off582_eq i) 1
  have h2 := congrFun (Gen.k0_off582_eq i) 2
  funext a
  apply Fin.ext
  match a with
  | 0 => show k0_off582 i 0 + 1 * 0 = (i 1).val; rw [h0]; rfl
  | 1 => show k0_off582 i 1 + 1 * (y 0).val = (y 0).val; rw [h1]; show 0 + 1 * _ = _; omega
  | 2 => show k0_off582 i 2 + 1 * (y 1).val = 128 * (i 0).val + (y 1).val; rw [h2]; show 128 * (i 0).val + 1 * _ = _; omega

theorem coords_eta (j : grid0.Coords) : coords (j 0) (j 1) = j := by
  funext a
  match a with
  | 0 => rfl
  | 1 => rfl

theorem read_sumsOf (f1 : Buf (Elt F) (fLoc d)) (f2 : Buf (Elt F) (pLoc d)) (f3 : Buf (Elt F) (gLoc d)) :
    (partOf i oV).view.read (Elt F) (sumsOf d f1 f2 f3) = sumsAfter d i fV pV gV f1 f2 f3 12 := by
  funext y
  have hc : (i 0).val < 2 := (i 0).isLt
  have hy : (y 1).val < 128 := (y 1).isLt
  refine (View.read_apply _ _).trans ((cast_eq _ _).trans ?_)
  rw [partOf_emb]
  unfold sumsOf
  show sumsAfter d (coords ⟨(128 * (i 0).val + (y 1).val) / 128, _⟩ ⟨(i 1).val, _⟩) fV pV gV f1 f2 f3 12
    (ix2 (y 0) (⟨(128 * (i 0).val + (y 1).val) % 128, _⟩ : Fin 128)) = _
  have e0 : (128 * (i 0).val + (y 1).val) / 128 = (i 0).val := by omega
  have e1 : (128 * (i 0).val + (y 1).val) % 128 = (y 1).val := by omega
  have ei : coords ⟨(128 * (i 0).val + (y 1).val) / 128, by rw [e0]; exact (i 0).isLt⟩ ⟨(i 1).val, (i 1).isLt⟩ = i := by
    rw [show (⟨(128 * (i 0).val + (y 1).val) / 128, by rw [e0]; exact (i 0).isLt⟩ : Fin (grid0.bound 0)) = i 0 from Fin.ext e0]
    exact coords_eta i
  rw [ei]
  congr 1
  funext a
  apply Fin.ext
  match a with
  | 0 => rfl
  | 1 => exact e1

/-! ## What a tile takes and brings back -/

/-- A tile's shares of the three arrays. -/
def inputs (f1 : Buf (Elt F) (fLoc d)) (f2 : Buf (Elt F) (pLoc d)) (f3 : Buf (Elt F) (gLoc d)) : sProp 𝕄 :=
  iprop(((fLoc d ↦{part i 0} f1) ∗ fLoc d ↦{part i 1} f1) ∗ ((pLoc d ↦{part i 0} f2) ∗ pLoc d ↦{part i 1} f2) ∗ ((gLoc d ↦{part i 0} f3) ∗ gLoc d ↦{part i 1} f3))

def taken (f1 : Buf (Elt F) (fLoc d)) (f2 : Buf (Elt F) (pLoc d)) (f3 : Buf (Elt F) (gLoc d)) (g : Buf (Elt F) (oLoc d)) : sProp 𝕄 :=
  iprop(inputs d i f1 f2 f3 ∗ oLoc d ↦[partSet i]{fullShare} g)

instance taken_storable (f1 : Buf (Elt F) (fLoc d)) (f2 : Buf (Elt F) (pLoc d)) (f3 : Buf (Elt F) (gLoc d)) (g : Buf (Elt F) (oLoc d)) :
    BI.Storable (upEmb : UEmb _ 𝕄) (taken d i f1 f2 f3 g) := by
  unfold taken inputs; infer_instance

/-- The tile's own buffers that it uses. -/
def scratch : Finset (Ref sig .scVector) :=
  {cc0_scratch0, cc0_scratch1, cc0_scratch2, cc0_scratch3, cc0_scratch4, cc0_scratch5, cc0_scratch6, cc0_scratch8}

/-- Its semaphores. -/
def sems : Finset (DmaSem sig) :=
  {cc0_scratch10.sem, cc0_scratch11.sem, cc0_scratch12.sem, cc0_scratch13.sem, cc0_scratch14.sem, cc0_scratch15.sem, cc0_scoped0.sem}

def restBufs : sProp 𝕄 :=
  bigSep (ownRefs (τ := τ) (.scVector (core i) (sub i)) \ scratch.map ⟨(Proc.scVector (core i) (sub i)).devRef, Proc.devRef_injective _⟩)
    fun b => iprop(∃ f, ((d, b) : Loc nD τ sig) ↦{fullShare} f)

def restSems : sProp 𝕄 :=
  bigSep (ownCells (thr d i) \ sems.map ⟨fun s => (thr d i, .dma s), fun a b h => by simpa using h⟩) fun g => semVal g 0

/-- A buffer whole, at some contents. -/
abbrev some_ (r : Ref sig .scVector) : sProp 𝕄 := iprop(∃ f, (thr d i).loc r ↦{fullShare} f)

theorem bigSep_scratch (Φ : Ref sig .scVector → sProp 𝕄) : bigSep scratch Φ
    = iprop(Φ cc0_scratch0 ∗ Φ cc0_scratch1 ∗ Φ cc0_scratch2 ∗ Φ cc0_scratch3 ∗ Φ cc0_scratch4 ∗ Φ cc0_scratch5 ∗ Φ cc0_scratch6 ∗ Φ cc0_scratch8) := by
  unfold scratch
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem ownBufs_tile : (ownBufs (thr d i) : sProp 𝕄)
    = iprop((some_ d i cc0_scratch0 ∗ some_ d i cc0_scratch1 ∗ some_ d i cc0_scratch2 ∗ some_ d i cc0_scratch3 ∗ some_ d i cc0_scratch4 ∗ some_ d i cc0_scratch5
        ∗ some_ d i cc0_scratch6 ∗ some_ d i cc0_scratch8) ∗ restBufs (F := F) d i) := by
  unfold SparseCore.Cfg.ownBufs restBufs
  rw [SparseCore.bigSep_sdiff_split' (t := scratch.map ⟨(Proc.scVector (core i) (sub i)).devRef, Proc.devRef_injective _⟩) ?_]
  · congr 1
    exact (BI.bigSep_map _).trans (bigSep_scratch _)
  · intro b hb
    obtain ⟨r, hr, rfl⟩ := Finset.mem_map.mp hb
    refine SparseCore.Cfg.mem_ownRefs.mpr ?_
    have h : ∀ r ∈ scratch, ((Proc.scVector (core i) (sub i)).devRef r : DevRef τ sig).owner.home = .scVector (core i) (sub i) := by
      intro r hr
      unfold scratch at hr
      simp only [Finset.mem_insert, Finset.mem_singleton] at hr
      rcases hr with h | h | h | h | h | h | h | h <;> subst h <;> rfl
    exact h r hr

theorem ownSems0_tile : (ownSems0 (thr d i) : sProp 𝕄)
    = iprop((zero d i cc0_scratch10.sem ∗ zero d i cc0_scratch11.sem ∗ zero d i cc0_scratch12.sem ∗ zero d i cc0_scratch13.sem ∗ zero d i cc0_scratch14.sem ∗ zero d i cc0_scratch15.sem
        ∗ zero d i cc0_scoped0.sem) ∗ restSems (F := F) d i) := by
  unfold SparseCore.Cfg.ownSems0 restSems
  rw [SparseCore.bigSep_sdiff_split' (t := sems.map ⟨fun s => (thr d i, .dma s), fun a b h => by simpa using h⟩) ?_]
  · congr 1
    rw [BI.bigSep_map]
    unfold sems
    rw [SparseCore.bigSep_insert' (by decide), SparseCore.bigSep_insert' (by decide), SparseCore.bigSep_insert' (by decide), SparseCore.bigSep_insert' (by decide),
      SparseCore.bigSep_insert' (by decide), SparseCore.bigSep_insert' (by decide), bigSep_singleton]
    rfl
  · intro b hb
    obtain ⟨s, hs, rfl⟩ := Finset.mem_map.mp hb
    refine SparseCore.Cfg.mem_ownCells.mpr ⟨rfl, ?_⟩
    have h : ∀ s ∈ sems, (SemLoc.dma s : SemLoc sig).isScoped .scVector = true := by decide
    exact h s hs

theorem some_holds {s : Shape} {e : EltTy} (x : Memref sig .scVector .vmem s e) (hx : x.view.set = Finset.univ) :
    iprop(∃ f, x.view.loc (thr d i) ↦{fullShare} f) ⊢ (iprop(∃ A, holds (F := F) d i x A) : sProp 𝕄) := by
  unfold holds
  rw [hx]
  iintro ⟨%f, H⟩
  iexists _
  iexists f
  isplitr
  swap; · iexact H
  ipureintro; rfl

theorem holds_some {s : Shape} {e : EltTy} (x : Memref sig .scVector .vmem s e) (hx : x.view.set = Finset.univ) :
    iprop(∃ A, holds (F := F) d i x A) ⊢ (iprop(∃ f, x.view.loc (thr d i) ↦{fullShare} f) : sProp 𝕄) := by
  unfold holds
  rw [hx]
  iintro ⟨%A, %f, -, H⟩
  iexists f
  iexact H

theorem share_whole {s : Shape} {e : EltTy} (x : Memref sig .scVector .hbm s e) (hx : x.view.set = Finset.univ) (q : PosShare TreeShare) (f : Buf (Elt F) (x.view.loc (thr d i))) :
    (share d i x q f : sProp 𝕄) = (x.view.loc (thr d i) ↦{q} f) := by
  unfold share
  rw [hx]

/-! ## The task of a tile -/

theorem credit_pos : 0 < (partOf i oV).view.dmaCredit := View.dmaCredit_pos _ (by decide)

theorem part_done (f1 : Buf (Elt F) (fLoc d)) (f2 : Buf (Elt F) (pLoc d)) (f3 : Buf (Elt F) (gLoc d)) :
    (holds d i (partOf i oV) (sumsAfter d i fV pV gV f1 f2 f3 12) : sProp 𝕄) ⊢ oLoc d ↦[partSet i]{fullShare} sumsOf d f1 f2 f3 := by
  unfold holds
  iintro ⟨%f, %hf, H⟩
  have e : ∀ y ∈ partSet i, f y = sumsOf d f1 f2 f3 y := by
    intro y hy
    obtain ⟨k, -, rfl⟩ := Finset.mem_map.mp hy
    have h := congrFun (hf.trans (read_sumsOf d i f1 f2 f3).symm) k
    rw [View.read_apply, View.read_apply] at h
    exact h
  iapply (Entails.of_eq (pointsTo_congr e))
  iexact H

/-- The tile's program on the call's buffers. -/
abbrev tileRun : TileProg F i PUnit :=
  tile i fV pV gV oV (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.whole cc0_scratch5) (Memref.whole cc0_scratch6) (Memref.isWhole_whole _) (Memref.whole cc0_scratch8)
    cc0_scratch10 cc0_scratch11 cc0_scratch12 cc0_scratch13 cc0_scratch14 cc0_scratch15 cc0_scoped0

set_option maxHeartbeats 2000000 in
theorem tile_body (f1 : Buf (Elt F) (fLoc d)) (f2 : Buf (Elt F) (pLoc d)) (f3 : Buf (Elt F) (gLoc d)) (g : Buf (Elt F) (oLoc d))
    (hids : ∀ y : S50000.Idx, ((show (⟨S50000, .i32⟩ : BufTy).Contents (Elt F) from f3) y : BitVec 32).toNat < 64)
    (O : CellTallies nD τ sig (HIx 1)) (W : Waits sig (HIx 1)) (hO : ∀ g, O g none = 0) :
    iprop(levAts (K (F := F)).L (K (F := F)).lev ∗ emp ∗ taken d i f1 f2 f3 g
        ∗ scopedBufs (thr d i) ∗ scopedSems0 (thr d i) ∗ owes (thr d i) O W)
      ⊢ WP (F := F) d i (tileRun i)
          fun _ => iprop(taken d i f1 f2 f3 (sumsOf d f1 f2 f3) ∗ scopedBufs (thr d i) ∗ scopedSems0 (thr d i)
            ∗ ∃ W', ⌜∀ p ∈ W', p ∈ W ∨ p.2 = none⌝ ∗ owes (thr d i) O W') := by
  rw [(K (F := F)).scopedBufs_V sc_facts d (core i) (sub i), SparseCore.Cfg.scopedSems0_V (Val := Elt F) d (core i) (sub i), ownSems0_tile, ownBufs_tile]
  unfold taken inputs
  iintro ⟨#Hlv, -, ⟨⟨⟨Hf, Hf'⟩, ⟨Hp, Hp'⟩, ⟨Hg, Hg'⟩⟩, Ho⟩, ⟨⟨B0, B1, B2, B3, B4, B5, B6, B8⟩, HrB⟩, ⟨⟨S0, S1, S2, S3, S4, S5, S6⟩, HrS⟩, HO⟩
  ihave #Hmw := (show levAts (K (F := F)).L (K (F := F)).lev ⊢ Transfers.MayWaits (thr d i) (default : HIx 1) O from
    (K (F := F)).mayWaits_none (thr := thr d i) hO) $$ Hlv
  have w {r : Ref sig .scVector} : (Memref.whole r).view.set = Finset.univ := View.set_whole _
  iapply (tile_step d i fV pV gV oV (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.whole cc0_scratch5) (Memref.whole cc0_scratch6) (Memref.isWhole_whole _) (Memref.whole cc0_scratch8)
    cc0_scratch10 cc0_scratch11 cc0_scratch12 cc0_scratch13 cc0_scratch14 cc0_scratch15 cc0_scoped0 (part i 0) (part i 1) f1 f2 f3
    (by decide) (by decide) (by decide) (by decide) (by decide) (by decide) (credit_pos i) hids O W)
  isplitl [B6]
  · iapply (some_holds d i (Memref.whole cc0_scratch6) w); iexact B6
  isplitl [B8]
  · iapply (some_holds d i (Memref.whole cc0_scratch8) w); iexact B8
  isplitl [B0 B2 B4 S0 S2 S4 Hf Hp Hg]
  · unfold idleA idle zeros shares
    isplitl [B0]
    · iapply (some_holds d i (Memref.whole cc0_scratch0) w); iexact B0
    isplitl [B2]
    · iapply (some_holds d i (Memref.whole cc0_scratch2) w); iexact B2
    isplitl [B4]
    · iapply (some_holds d i (Memref.whole cc0_scratch4) w); iexact B4
    isplitl [S0 S2 S4]
    · isplitl [S0]; · iexact S0
      isplitl [S2]; · iexact S2
      iexact S4
    isplitl [Hf]
    · iapply (Entails.of_eq (share_whole d i fV w (part i 0) f1).symm); iexact Hf
    isplitl [Hp]
    · iapply (Entails.of_eq (share_whole d i pV w (part i 0) f2).symm); iexact Hp
    iapply (Entails.of_eq (share_whole d i gV w (part i 0) f3).symm); iexact Hg
  isplitl [B1 B3 B5 S1 S3 S5 Hf' Hp' Hg']
  · unfold idleB idle zeros shares
    isplitl [B1]
    · iapply (some_holds d i (Memref.whole cc0_scratch1) w); iexact B1
    isplitl [B3]
    · iapply (some_holds d i (Memref.whole cc0_scratch3) w); iexact B3
    isplitl [B5]
    · iapply (some_holds d i (Memref.whole cc0_scratch5) w); iexact B5
    isplitl [S1 S3 S5]
    · isplitl [S1]; · iexact S1
      isplitl [S3]; · iexact S3
      iexact S5
    isplitl [Hf']
    · iapply (Entails.of_eq (share_whole d i fV w (part i 1) f1).symm); iexact Hf'
    isplitl [Hp']
    · iapply (Entails.of_eq (share_whole d i pV w (part i 1) f2).symm); iexact Hp'
    iapply (Entails.of_eq (share_whole d i gV w (part i 1) f3).symm); iexact Hg'
  isplitl [Ho]
  · unfold holds
    iexists _
    iexists g
    isplitr
    swap; · iexact Ho
    ipureintro; rfl
  isplitl [S6]; · iexact S6
  isplitl [HO]
  · unfold waited
    iexists W
    isplitr
    · ipureintro; exact fun p hp => .inl hp
    iexact HO
  isplitr; · iexact Hmw
  unfold idleA idleB idle zeros shares waited
  iintro ⟨B6, B8, ⟨B0, B2, B4, ⟨S0, S2, S4⟩, ⟨Hf, Hp, Hg⟩⟩, ⟨B1, B3, B5, ⟨S1, S3, S5⟩, ⟨Hf', Hp', Hg'⟩⟩, Ho, S6, HO⟩
  isplitl [Hf Hp Hg Hf' Hp' Hg' Ho]
  · isplitl [Hf Hp Hg Hf' Hp' Hg']
    · isplitl [Hf Hf']
      · isplitl [Hf]
        · iapply (Entails.of_eq (share_whole d i fV w (part i 0) f1)); iexact Hf
        iapply (Entails.of_eq (share_whole d i fV w (part i 1) f1)); iexact Hf'
      isplitl [Hp Hp']
      · isplitl [Hp]
        · iapply (Entails.of_eq (share_whole d i pV w (part i 0) f2)); iexact Hp
        iapply (Entails.of_eq (share_whole d i pV w (part i 1) f2)); iexact Hp'
      isplitl [Hg]
      · iapply (Entails.of_eq (share_whole d i gV w (part i 0) f3)); iexact Hg
      iapply (Entails.of_eq (share_whole d i gV w (part i 1) f3)); iexact Hg'
    iapply (part_done d i f1 f2 f3); iexact Ho
  isplitl [B0 B1 B2 B3 B4 B5 B6 B8 HrB]
  · isplitr [HrB]
    swap; · iexact HrB
    isplitl [B0]
    · iapply (holds_some d i (Memref.whole cc0_scratch0) w); iexact B0
    isplitl [B1]
    · iapply (holds_some d i (Memref.whole cc0_scratch1) w); iexact B1
    isplitl [B2]
    · iapply (holds_some d i (Memref.whole cc0_scratch2) w); iexact B2
    isplitl [B3]
    · iapply (holds_some d i (Memref.whole cc0_scratch3) w); iexact B3
    isplitl [B4]
    · iapply (holds_some d i (Memref.whole cc0_scratch4) w); iexact B4
    isplitl [B5]
    · iapply (holds_some d i (Memref.whole cc0_scratch5) w); iexact B5
    isplitl [B6]
    · iapply (holds_some d i (Memref.whole cc0_scratch6) w); iexact B6
    iapply (holds_some d i (Memref.whole cc0_scratch8) w); iexact B8
  isplitl [S0 S1 S2 S3 S4 S5 S6 HrS]
  · isplitr [HrS]
    swap; · iexact HrS
    isplitl [S0]; · iexact S0
    isplitl [S1]; · iexact S1
    isplitl [S2]; · iexact S2
    isplitl [S3]; · iexact S3
    isplitl [S4]; · iexact S4
    isplitl [S5]; · iexact S5
    iexact S6
  iexact HO

end Tile

end Cert.Tiles
-- ==== Proof.TilesMath.lean ====
/-
  What the tiles' sums are, at the extended reals: every entry is the sum of the terms of its tile's nodes.
-/
module

public import proofs.«01_k».proof.Proof.TilesLaunch
public import proofs.«01_k».proof.Proof.PoolMath

@[expose] public section

noncomputable section

namespace Cert.Tiles

open Idealize.ShloMosaic
open Facts₀ Facts

/-! ## Adding up in a list's order -/

/-- If every step adds its own number to an entry, the whole list adds their sum. -/
theorem foldl_entry {α : Type} (f : FVec Ideal S64x128 .f32 → α → FVec Ideal S64x128 .f32) (y : S64x128.Idx) (g : α → EReal)
    (h : ∀ A a, f A a y = (A y + g a : EReal)) : ∀ (l : List α) (A : FVec Ideal S64x128 .f32), l.foldl f A y = (A y + (l.map g).sum : EReal)
  | [], A => by simp
  | a :: l, A => by
    rw [List.foldl_cons, foldl_entry f y g h l, h, List.map_cons, List.sum_cons, add_assoc]

theorem sum_chunks (g : Fin 8 → EReal) : (chunks.map g).sum = ∑ c, g c := by
  rw [Fin.sum_univ_eight]
  simp [chunks, add_assoc]

theorem sum_rows (g : Fin 16 → EReal) : (rows.map g).sum = ∑ j, g j := by
  rw [Fin.sum_univ_def]
  rfl

theorem sum_later (g : Fin 16 → EReal) : g 0 + (laterRows.map g).sum = ∑ j, g j := by
  rw [← sum_rows]
  rfl

/-- An entry's row, chunk and lane. -/
def rowOf (y : S64x128.Idx) : Fin 64 := ⟨(y 0).val, (y 0).isLt⟩
def chunkOf (y : S64x128.Idx) : Fin 8 := ⟨(y 1).val / 16, by have : (y 1).val < 128 := (y 1).isLt; omega⟩
def laneOf (y : S64x128.Idx) : Fin 16 := ⟨(y 1).val % 16, Nat.mod_lt _ (by decide)⟩

theorem indexCast_toNat (r : BitVec 32) (hr : r.toNat < 64) : (Scalar.indexCast r : Index).toNat = r.toNat := by
  have h : ∀ n : Fin 64, (Scalar.indexCast (BitVec.ofNat 32 n.val) : Index).toNat = (BitVec.ofNat 32 n.val).toNat := by decide +kernel
  have k := h ⟨r.toNat, hr⟩
  rw [show BitVec.ofNat 32 (⟨r.toNat, hr⟩ : Fin 64).val = r by simp] at k
  exact k

theorem addTo_entry (r : BitVec 32) (hr : r.toNat < 64) (c : Fin 8) (v : FVec Ideal S16 .f32) (A : FVec Ideal S64x128 .f32) (y : S64x128.Idx) :
    addTo r c v A y = (A y + if r.toNat = (y 0).val ∧ chunkOf y = c then v (ln (laneOf y)) else 0 : EReal) := by
  unfold addTo
  rw [indexCast_toNat r hr]
  by_cases h : (y 0).val = r.toNat ∧ (y 1).val / 16 = c.val
  · rw [if_pos h, if_pos ⟨h.1.symm, Fin.ext h.2⟩]; rfl
  · rw [if_neg h, if_neg (fun k => h ⟨k.1.symm, congrArg Fin.val k.2⟩)]; exact (add_zero _).symm

/-- The eight chunks of a row. -/
theorem row_entry (r : BitVec 32) (hr : r.toNat < 64) (v : Fin 8 → FVec Ideal S16 .f32) (A : FVec Ideal S64x128 .f32) (y : S64x128.Idx) :
    chunks.foldl (fun A c => addTo r c (v c) A) A y = (A y + if r.toNat = (y 0).val then v (chunkOf y) (ln (laneOf y)) else 0 : EReal) := by
  rw [foldl_entry _ y (fun c => if r.toNat = (y 0).val ∧ chunkOf y = c then v c (ln (laneOf y)) else 0) (fun A c => addTo_entry r hr c (v c) A y), sum_chunks]
  congr 1
  by_cases h : r.toNat = (y 0).val
  · simp [h]
  · simp [h]

/-! ## A group of sixteen nodes -/

section Group

variable (X : FVec Ideal S80x128 .f32) (P : FVec Ideal S40x16 .f32)

/-- What row `j` of group `t` is worth at an entry. -/
def worth (w : Fin 16 → EReal) (t : Nat) (ht : t < 5) (j : Fin 16) (y : S64x128.Idx) : EReal := weighted (F := Ideal) X w t ht j (chunkOf y) (ln (laneOf y))

theorem rowByRow_entry (w : Fin 16 → EReal) (g : IVec S16 32) (hg : ∀ j, (lane g j).toNat < 64) (t : Nat) (ht : t < 5) (A : FVec Ideal S64x128 .f32) (y : S64x128.Idx) :
    rowByRowVal (F := Ideal) X w g t ht A y = (A y + ∑ j, if (lane g j).toNat = (y 0).val then worth X w t ht j y else 0 : EReal) := by
  unfold rowByRowVal
  rw [foldl_entry _ y (fun j => if (lane g j).toNat = (y 0).val then worth X w t ht j y else 0) (fun A j => row_entry (lane g j) (hg j) _ A y), sum_rows]

theorem later_entry (w : Fin 16 → EReal) (t : Nat) (ht : t < 5) (c : Fin 8) (x : S16.Idx) : ∀ (l : List (Fin 16)) (s : FVec Ideal S16 .f32),
    l.foldl (fun s j => addf s (weighted (F := Ideal) X w t ht j c)) s x = (s x + (l.map fun j => weighted (F := Ideal) X w t ht j c x).sum : EReal)
  | [], s => by simp
  | a :: l, s => by
    rw [List.foldl_cons, later_entry w t ht c x l, List.map_cons, List.sum_cons, ← add_assoc]
    rfl

theorem oneGraph_entry (w : Fin 16 → EReal) (r : BitVec 32) (hr : r.toNat < 64) (t : Nat) (ht : t < 5) (A : FVec Ideal S64x128 .f32) (y : S64x128.Idx) :
    oneGraphVal (F := Ideal) X w r t ht A y = (A y + ∑ j, if r.toNat = (y 0).val then worth X w t ht j y else 0 : EReal) := by
  unfold oneGraphVal
  rw [row_entry r hr, later_entry]
  congr 1
  by_cases h : r.toNat = (y 0).val
  · simp only [if_pos h]
    exact sum_later (fun j => worth X w t ht j y)
  · simp only [if_neg h, Finset.sum_const_zero]

/-- A group whose ids are in order adds to an entry what its nodes of the entry's graph are worth. -/
theorem group_entry (gs : IVec S16 32) (hg : ∀ j, (lane gs j).toNat < 64) (hs : ∀ j, (lane gs 0).toNat ≤ (lane gs j).toNat ∧ (lane gs j).toNat ≤ (lane gs 15).toNat)
    (t : Nat) (ht : t < 5) (A : FVec Ideal S64x128 .f32) (y : S64x128.Idx) :
    groupVal (F := Ideal) X P gs t ht A y = (A y + ∑ j, if (lane gs j).toNat = (y 0).val then worth X (groupWeights P t ht) t ht j y else 0 : EReal) := by
  unfold groupVal
  split
  · next h =>
    rw [oneGraph_entry X _ _ (hg 0)]
    congr 1
    refine Finset.sum_congr rfl fun j _ => ?_
    have e : (lane gs j).toNat = (lane gs 0).toNat := by
      have := hs j
      rw [← h] at this
      omega
    rw [e]
  · exact rowByRow_entry X _ gs hg t ht A y

theorem rowWord_index (t : Nat) (ht : t < 5) (j : Fin 16) : (Scalar.indexCast (rowWord t j) : Index).toNat = 16 * t + j.val := by
  have h : ∀ (t : Fin 5) (j : Fin 16), (Scalar.indexCast (rowWord t.val j) : Index).toNat = 16 * t.val + j.val := by decide +kernel
  exact h ⟨t, ht⟩ j

theorem rowLanes_entry (t : Nat) (ht : t < 5) (j : Fin 16) (y : S64x128.Idx) :
    rowLanes (F := Ideal) X t ht j (chunkOf y) (ln (laneOf y)) = X (ix2 (⟨16 * t + j.val, by have := j.isLt; omega⟩ : Fin 80) (y 1)) := by
  unfold rowLanes
  show X ((Rect.unit (s := S80x128) (lanes (rowWord t j) (chunkOf y)) S1x16.size (rowWord_fits t ht j (chunkOf y))).emb (Shape.reshapeEquiv shapeCasts_S1x16_S16 (ln (laneOf y)))) = _
  rw [cast_to_lanes]
  refine congrArg X ?_
  funext a
  apply Fin.ext
  match a with
  | 0 =>
    show (Scalar.indexCast (rowWord t j) : Index).toNat + 1 * 0 = 16 * t + j.val
    rw [rowWord_index t ht j, Nat.mul_zero, Nat.add_zero]
  | 1 =>
    show 16 * ((y 1).val / 16) + 1 * ((y 1).val % 16) = (y 1).val
    omega

theorem halfPlace_zero (t : Nat) (ht : t < 5) (k : Fin 8) : halfPlace t (BitVec.ofNat 32 k.val) 0 = 8 * t + k.val := by
  have h : ∀ (t : Fin 5) (k : Fin 8), halfPlace t.val (BitVec.ofNat 32 k.val) 0 = 8 * t.val + k.val := by decide +kernel
  exact h ⟨t, ht⟩ k

theorem lane_eq {α : Type} (v : S16.Idx → α) (j : Fin 16) : lane v j = v (ln j) := by
  unfold lane extractAt extractStridedSlice
  refine congrArg v ?_
  funext a
  apply Fin.ext
  match a with
  | 0 => rfl

theorem weight_entry (t : Nat) (ht : t < 5) (k : Fin 8) (l : Fin 16) :
    weight (F := Ideal) (halfRow P t ht k) l = P (ix2 (⟨8 * t + k.val, by have := k.isLt; omega⟩ : Fin 40) l) := by
  unfold weight halfRow
  rw [lane_eq]
  show P ((Rect.unit (s := S40x16) (halfPlace t (BitVec.ofNat 32 k.val)) S1x16.size (halfPlace_fits t ht k)).emb (Shape.reshapeEquiv shapeCasts_S1x16_S16 (ln l))) = _
  rw [cast_to_lanes]
  refine congrArg P ?_
  funext a
  apply Fin.ext
  match a with
  | 0 =>
    show halfPlace t (BitVec.ofNat 32 k.val) 0 + 1 * 0 = 8 * t + k.val
    rw [halfPlace_zero t ht k, Nat.mul_zero, Nat.add_zero]
  | 1 =>
    show 0 + 1 * l.val = l.val
    omega

theorem groupWeights_entry (t : Nat) (ht : t < 5) (j : Fin 16) :
    groupWeights (F := Ideal) P t ht j = P (ix2 (⟨8 * t + j.val / 2, by have := j.isLt; omega⟩ : Fin 40) (⟨8 * (j.val % 2) + 1, by omega⟩ : Fin 16)) := by
  have h : groupWeights (F := Ideal) P t ht j = weight (F := Ideal) (halfRow P t ht ⟨j.val / 2, by have := j.isLt; omega⟩) ⟨8 * (j.val % 2) + 1, by omega⟩ := by
    fin_cases j <;> rfl
  rw [h, weight_entry]

end Group

/-! ## A block of eighty nodes -/

/-- The numbers that tell when the ids are in order. -/
def InOrder (gid : IVec S50000 32) : Prop := ∀ a b : Fin 50000, a ≤ b → (gid (ix1 a)).toNat ≤ (gid (ix1 b)).toNat

theorem graph_iff (w : BitVec 32) (g : Fin 64) : w.toNat = g.val ↔ w = BitVec.ofNat 32 g.val := by
  have hg : (BitVec.ofNat 32 g.val).toNat = g.val := by rw [BitVec.toNat_ofNat]; have := g.isLt; omega
  exact ⟨fun h => BitVec.eq_of_toNat_eq (h.trans hg.symm), fun h => by rw [h, hg]⟩

section Block

variable (feat : FVec Ideal S50000x256 .f32) (pos : FVec Ideal S50000x8 .f32) (gid : IVec S50000 32)

/-- A block's rows, weights and ids: those of eighty nodes from `base`, and of 128 columns from `col`. -/
structure IsBlock (base col : ℕ) (hb : base + 80 ≤ 50000) (hc : col + 128 ≤ 256) (X : FVec Ideal S80x128 .f32) (P : FVec Ideal S40x16 .f32) (G : IVec S80 32) : Prop where
  rows : ∀ (n : Fin 80) (c : Fin 128), X (ix2 n c) = feat (ix2 (⟨base + n.val, by have := n.isLt; omega⟩ : Fin 50000) (⟨col + c.val, by have := c.isLt; omega⟩ : Fin 256))
  weights : ∀ (n : Fin 80), P (ix2 (⟨n.val / 2, by have := n.isLt; omega⟩ : Fin 40) (⟨8 * (n.val % 2) + 1, by omega⟩ : Fin 16))
    = pos (ix2 (⟨base + n.val, by have := n.isLt; omega⟩ : Fin 50000) (1 : Fin 8))
  ids : ∀ n : Fin 80, G (ix1 n) = gid (ix1 (⟨base + n.val, by have := n.isLt; omega⟩ : Fin 50000))

theorem idsAt_entry (G : IVec S80 32) (t : Nat) (ht : t < 5) (j : Fin 16) : lane (idsAt G t ht) j = G (ix1 (⟨16 * t + j.val, by have := j.isLt; omega⟩ : Fin 80)) := by
  rw [lane_eq]
  unfold idsAt
  refine congrArg G ?_
  funext a
  match a with
  | 0 => rfl

/-- A node's term of an entry of a tile's sums, whose columns are the features' from `col`. -/
def termAt (col : ℕ) (hc : col + 128 ≤ 256) (y : S64x128.Idx) (k : ℕ) : EReal :=
  Cert.Pool.term feat pos gid (rowOf y) (⟨col + (y 1).val, by have : (y 1).val < 128 := (y 1).isLt; omega⟩ : Fin 256) k

theorem node_entry {base col : ℕ} {hb : base + 80 ≤ 50000} {hc : col + 128 ≤ 256} {X : FVec Ideal S80x128 .f32} {P : FVec Ideal S40x16 .f32} {G : IVec S80 32}
    (hB : IsBlock feat pos gid base col hb hc X P G) (t : Nat) (ht : t < 5) (j : Fin 16) (y : S64x128.Idx) :
    (if (lane (idsAt G t ht) j).toNat = (y 0).val then worth X (groupWeights P t ht) t ht j y else 0 : EReal)
      = termAt feat pos gid col hc y (base + (16 * t + j.val)) := by
  have hn : 16 * t + j.val < 80 := by have := j.isLt; omega
  have hk : base + (16 * t + j.val) < 50000 := by omega
  unfold termAt
  rw [Cert.Pool.term_of_lt _ _ _ _ _ hk, idsAt_entry, hB.ids ⟨16 * t + j.val, hn⟩]
  have hw : worth X (groupWeights P t ht) t ht j y = (feat (ix2 (⟨base + (16 * t + j.val), hk⟩ : Fin 50000) (⟨col + (y 1).val, by have : (y 1).val < 128 := (y 1).isLt; omega⟩ : Fin 256))
      * pos (ix2 (⟨base + (16 * t + j.val), hk⟩ : Fin 50000) (1 : Fin 8)) : EReal) := by
    show (rowLanes (F := Ideal) X t ht j (chunkOf y) (ln (laneOf y)) * groupWeights P t ht j : EReal) = _
    rw [rowLanes_entry, groupWeights_entry, hB.rows ⟨16 * t + j.val, hn⟩ (y 1)]
    congr 1
    refine Eq.trans ?_ (hB.weights ⟨16 * t + j.val, hn⟩)
    have e0 : 8 * t + j.val / 2 = (16 * t + j.val) / 2 := by omega
    have e1 : 8 * (j.val % 2) + 1 = 8 * ((16 * t + j.val) % 2) + 1 := by omega
    simp only [e0, e1]
  rw [hw]
  by_cases h : (gid (ix1 (⟨base + (16 * t + j.val), hk⟩ : Fin 50000))).toNat = (y 0).val
  · rw [if_pos h, if_pos ((graph_iff _ (rowOf y)).mp h)]
  · rw [if_neg h, if_neg (fun k => h ((graph_iff _ (rowOf y)).mpr k))]

theorem block_entry {base col : ℕ} {hb : base + 80 ≤ 50000} {hc : col + 128 ≤ 256} {X : FVec Ideal S80x128 .f32} {P : FVec Ideal S40x16 .f32} {G : IVec S80 32}
    (hB : IsBlock feat pos gid base col hb hc X P G) (hlt : ∀ n, (gid n).toNat < 64) (ho : InOrder gid) (A : FVec Ideal S64x128 .f32) (y : S64x128.Idx) :
    ∀ n ≤ 5, partialVal X P G A n y = (A y + ∑ k ∈ Finset.range (16 * n),
      termAt feat pos gid col hc y (base + k) : EReal)
  | 0, _ => by simp [partialVal]
  | n + 1, h => by
    have hn : n < 5 := h
    rw [partialVal, dif_pos hn, group_entry, block_entry hB hlt ho A y n (by omega), show 16 * (n + 1) = 16 * n + 16 from rfl, Finset.sum_range_add, ← add_assoc]
    · congr 1
      rw [Finset.sum_range]
      exact Finset.sum_congr rfl fun j _ => node_entry feat pos gid hB n hn j y
    · intro j
      rw [idsAt_entry, hB.ids]
      exact hlt _
    · intro j
      have hj := j.isLt
      rw [idsAt_entry, idsAt_entry, idsAt_entry, hB.ids, hB.ids, hB.ids]
      refine ⟨ho _ _ ?_, ho _ _ ?_⟩
      · rw [Fin.le_def]; show base + (16 * n + 0) ≤ base + (16 * n + j.val); omega
      · rw [Fin.le_def]; show base + (16 * n + j.val) ≤ base + (16 * n + 15); omega

end Block

end Cert.Tiles
-- ==== Proof.TilesEq.lean ====
/-
  The task of TilesProg is the printed kernel's.
-/
module

public import proofs.«01_k».proof.Proof.TilesProg

@[expose] public section

noncomputable section

namespace Cert.Tiles

open Idealize.ShloMosaic Idealize.SL.Sem

variable {F : FTy → Type} [FloatOps F] [Facts]
open Facts₀ Facts

variable (i : grid0.Coords)

section Tile

variable (arg2 : Memref sig .scVector .hbm S50000x256 .f32) (harg2 : arg2.IsWhole) (arg3 : Memref sig .scVector .hbm S25000x16 .f32) (harg3 : arg3.IsWhole) (arg4 : Memref sig .scVector .hbm S50000 .i32) (harg4 : arg4.IsWhole) (arg5 : Memref sig .scVector .hbm S16x64x256 .f32) (harg5 : arg5.IsWhole) (arg6 : Memref sig .scVector .vmem S80x128 .f32) (harg6 : arg6.IsWhole) (arg7 : Memref sig .scVector .vmem S80x128 .f32) (harg7 : arg7.IsWhole) (arg8 : Memref sig .scVector .vmem S40x16 .f32) (harg8 : arg8.IsWhole) (arg9 : Memref sig .scVector .vmem S40x16 .f32) (harg9 : arg9.IsWhole) (arg10 : Memref sig .scVector .vmem S128 .i32) (harg10 : arg10.IsWhole) (arg11 : Memref sig .scVector .vmem S128 .i32) (harg11 : arg11.IsWhole) (arg12 : Memref sig .scVector .vmem S64x128 .f32) (harg12 : arg12.IsWhole) (arg13 : Memref sig .scVector .shared S64x128 .f32) (harg13 : arg13.IsWhole) (arg14 : Memref sig .scVector .vmem S64 .i32) (harg14 : arg14.IsWhole) (arg15 : Memref sig .scVector .vmem S4x128 .f32) (harg15 : arg15.IsWhole) (arg16 : DmaSems sig S_) (arg17 : DmaSems sig S_) (arg18 : DmaSems sig S_) (arg19 : DmaSems sig S_) (arg20 : DmaSems sig S_) (arg21 : DmaSems sig S_) (v37_r0 : DmaSems sig S_)

/-- The word of the second of a trip's blocks. -/
def secondWord (i : grid0.Coords) (k : Fin k0_t2_loop.trips) : BitVec 32 :=
  Scalar.addi (BitVec.ofNat 32 (i 1).val) (Scalar.muli (Scalar.addi (Scalar.muli 2#32 (Scf.iv 0#32 1#32 k)) 1#32) 16#32)

set_option maxRecDepth 100000 in
set_option maxHeartbeats 0 in
theorem opening_eq : k0_part129 (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v37_r0
    = opening i arg2 arg3 arg4 arg6 harg6 arg8 harg8 arg10 arg12 arg14 arg16 arg18 arg20 >>= fun _ => pure ⟨BitVec.ofNat 32 (i 1).val, 0#32, 0#32, 1#32⟩ := by
  unfold opening
  simp only [bind_assoc, ← maybeThen_eq]
  rfl

theorem op_congr {R : Type} {e : TpuEff nD τ sig (Elt F) Λ₀ (.scVector ((i 0).castLE hcore0) ((i 1).castLE hsub0)) R} {α : Type} {k k' : R → TileProg F i α}
    (h : ∀ r, k r = k' r) : (Prog.op e k : TileProg F i α) = Prog.op e k' := congrArg (Prog.op e) (funext h)

theorem dite_step {α β : Type} {c : BitVec 1} {dec : Decidable (c = 1#1)} {T : c = 1#1 → TileProg F i α} {k k' : TileProg F i α} {A : c = 1#1 → TileProg F i β}
    (hk : k = k') (hT : ∀ h, T h = A h >>= fun _ => k) : (dite (c = 1#1) T fun _ => k) = maybeThen c A k' := by
  subst hk
  unfold maybeThen
  by_cases h : c = 1#1
  · rw [dif_pos h, dif_pos h, hT h]
  · rw [dif_neg h, dif_neg h]

theorem loop_congr {α : Type} {l : Scf.Loop 32} {ok : l.OK} {z : BitVec 32} {b b' : Fin l.trips → BitVec 32 → TileProg F i (BitVec 32)} {k : TileProg F i α}
    (h : ∀ t a, b t a = b' t a) : (Scf.Loop.for l ok z b >>= fun _ => k) = Scf.Loop.for l ok z b' >>= fun _ => k := by
  rw [show b = b' from funext fun t => funext fun a => h t a]

set_option maxRecDepth 100000 in
set_option maxHeartbeats 0 in
theorem firstSteps_eq (k0_t2 : Fin k0_t2_loop.trips) : k0_part128 (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v37_r0 (BitVec.ofNat 32 (i 1).val) 0#32 1#32 k0_t2
    = firstSteps i arg2 arg3 arg4 arg6 harg6 arg7 harg7 arg8 harg8 arg9 harg9 arg10 arg11 arg12 arg16 arg17 arg18 arg19 arg20 arg21 k0_t2 >>= fun _ => pure ⟨secondWord i k0_t2, 177#32⟩ := by
  unfold firstSteps
  simp only [bind_assoc]
  simp only [← maybeThen_eq]
  refine dite_step i ?_ (fun _ => rfl)
  refine dite_step i ?_ (fun _ => rfl)
  refine dite_step i ?_ (fun h4 => ?_)
  · refine dite_step i ?_ (fun _ => rfl)
    refine dite_step i ?_ (fun _ => rfl)
    rfl
  refine loop_congr i (fun t a => ?_)
  iterate 10 refine op_congr i (fun _ => ?_)
  refine dite_step i ?_ (fun h5 => ?_)
  · refine dite_step i ?_ (fun h6 => ?_)
    · rfl
    · iterate 528 refine op_congr i (fun _ => ?_)
      rfl
  · rfl

theorem then_congr {α β : Type} {A A' : TileProg F i α} {k k' : α → TileProg F i β} (hA : A = A') (hk : ∀ r, k r = k' r) : (A >>= k) = A' >>= k' := by
  rw [hA, show k = k' from funext hk]

set_option maxRecDepth 100000 in
set_option maxHeartbeats 0 in
/-- The printed kernel is this program. -/
theorem tile_eq : cc0__sc_pool (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v37_r0
    = tile i arg2 arg3 arg4 arg5 arg6 harg6 arg7 harg7 arg8 harg8 arg9 harg9 arg10 arg11 arg12 harg12 arg14 arg16 arg17 arg18 arg19 arg20 arg21 v37_r0 := by
  unfold cc0__sc_pool
  rw [opening_eq]
  refine (bind_assoc _ _ _).trans ?_
  unfold tile
  refine then_congr i rfl (fun _ => ?_)
  refine (pure_bind _ _).trans ?_
  refine then_congr i ?_ (fun _ => ?_)
  · refine congrArg (Scf.Loop.for k0_t2_loop k0_t2_ok 0#32) (funext fun k0_t2 => funext fun _ => ?_)
    refine (congrArg (· >>= _) (firstSteps_eq i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v37_r0 k0_t2)).trans ?_
    refine (bind_assoc _ _ _).trans ?_
    refine then_congr i rfl (fun _ => ?_)
    refine (pure_bind _ _).trans ?_
    unfold lastStep
    simp only [← maybeThen_eq]
    refine dite_step i rfl (fun h9 => ?_)
    refine loop_congr i (fun t a => ?_)
    iterate 10 refine op_congr i (fun _ => ?_)
    refine dite_step i ?_ (fun h5 => ?_)
    · refine dite_step i rfl (fun h6 => ?_)
      iterate 528 refine op_congr i (fun _ => ?_)
      rfl
    · rfl
  · simp only [← maybeThen_eq]
    refine dite_step i ?_ (fun _ => ?_)
    · rfl
    · rfl

end Tile

end Cert.Tiles
-- ==== Proof.TilesRun.lean ====
/-
  The whole program's run: the arrays split among the tiles, the SparseCore call, and the sum over the tiles.
-/
module

public import proofs.«01_k».proof.Proof.TilesLaunch
public import proofs.«01_k».proof.Proof.TilesEq
public import Idealize.ShloMosaic.Lib.Pipeline.Frame

@[expose] public section

noncomputable section

namespace Cert.Tiles

open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
open Facts₀ Facts

local notation "𝕄" => MT nD τ sig (HIx 1) (Elt F) ℕ UU ℕ

/-! ## The arrays split among the tiles -/

/-- A family over the tiles. -/
abbrev overTiles (Φ : grid0.Coords → sProp 𝕄) : sProp 𝕄 :=
  bigSep Finset.univ fun c : Fin (grid0.bound 0) => bigSep Finset.univ fun s : Fin (grid0.bound 1) => Φ (coords c s)

theorem shares_split {ℓ : Loc nD τ sig} (f : Buf (Elt F) ℓ) :
    (ℓ ↦{fullShare} f : sProp 𝕄) = overTiles fun i => iprop((ℓ ↦{part i 0} f) ∗ ℓ ↦{part i 1} f) := by
  rw [pointsTo_piecesOf Finset.univ f (o := grid0.bound 0) (by decide) fullShare]
  refine bigSep_congr fun c _ => ?_
  rw [pointsTo_piecesOf Finset.univ f (o := grid0.bound 1) (by decide)]
  refine bigSep_congr fun s _ => ?_
  rw [pointsTo_piecesOf Finset.univ f (o := 2) (by decide)]
  exact BI.bigSep_fin_two _

theorem result_split (d : Dev nD) (f : Buf (Elt F) (oLoc d)) :
    (oLoc d ↦{fullShare} f : sProp 𝕄) = overTiles fun i => oLoc d ↦[partSet i]{fullShare} f := by
  have hc : ∀ c : Fin (grid0.bound 0), c.val < 2 := fun c => c.isLt
  have hd : ∀ t ∈ (Finset.univ : Finset (Fin (grid0.bound 0) × Fin (grid0.bound 1))), ∀ t' ∈ (Finset.univ : Finset (Fin (grid0.bound 0) × Fin (grid0.bound 1))),
      t ≠ t' → Disjoint (partSet (coords t.1 t.2)) (partSet (coords t'.1 t'.2)) := by
    intro t _ t' _ hne
    refine Finset.disjoint_left.mpr fun y h h' => hne ?_
    obtain ⟨h1, h0⟩ := (mem_partSet _ y).mp h
    obtain ⟨h1', h0'⟩ := (mem_partSet _ y).mp h'
    exact Prod.ext (Fin.ext (h0.symm.trans h0')) (Fin.ext (h1.symm.trans h1'))
  have hu : (Finset.univ : Finset (Fin (grid0.bound 0) × Fin (grid0.bound 1))).biUnion (fun t => partSet (coords t.1 t.2)) = (Finset.univ : Finset S16x64x256.Idx) := by
    refine Finset.eq_univ_of_forall fun y => Finset.mem_biUnion.mpr ?_
    have h2 : (y 2).val < 256 := (y 2).isLt
    exact ⟨(⟨(y 2).val / 128, by show _ < 2; omega⟩, y 0), Finset.mem_univ _, (mem_partSet _ y).mpr ⟨rfl, rfl⟩⟩
  refine Eq.trans ?_ (BI.bigSep_univ_prod (fun t : Fin (grid0.bound 0) × Fin (grid0.bound 1) => (oLoc d ↦[partSet (coords t.1 t.2)]{fullShare} f : sProp 𝕄)))
  refine Eq.trans ?_ (pointsTo_biUnion (ℓ := oLoc d) Finset.univ (fun t : Fin (grid0.bound 0) × Fin (grid0.bound 1) => partSet (coords t.1 t.2)) hd)
  exact congrArg (fun S => (oLoc d ↦[S]{fullShare} f : sProp 𝕄)) hu.symm

theorem overTiles_sep (Φ Ψ : grid0.Coords → sProp 𝕄) : overTiles (fun i => iprop(Φ i ∗ Ψ i)) = iprop(overTiles Φ ∗ overTiles Ψ) := by
  unfold overTiles
  rw [← BI.bigSep_sep']
  exact bigSep_congr fun c _ => BI.bigSep_sep' _ _ _

variable [FloatOps F]

theorem taken_split (d : Dev nD) (f1 : Buf (Elt F) (fLoc d)) (f2 : Buf (Elt F) (pLoc d)) (f3 : Buf (Elt F) (gLoc d)) (g : Buf (Elt F) (oLoc d)) :
    overTiles (fun i => taken d i f1 f2 f3 g)
      = iprop(((fLoc d ↦{fullShare} f1) ∗ (pLoc d ↦{fullShare} f2) ∗ gLoc d ↦{fullShare} f3) ∗ oLoc d ↦{fullShare} g) := by
  unfold taken inputs
  rw [shares_split f1, shares_split f2, shares_split f3, result_split, ← overTiles_sep, ← overTiles_sep, ← overTiles_sep]

/-! ## The launch memory and what the handshakes carry -/

variable (m : (ℓ : Loc nD τ sig) → Buf (Elt F) ℓ) (ρ : Dev nD → PrngReg)

/-- The operation before the call, -/
def op1 : HloOp τ sig (Elt F) := StableHlo.reshape main_arg1 main_v0 rfl shapeCasts_S50000x8_S25000x16
/-- and the two after it. -/
def op2 : HloOp τ sig (Elt F) := StableHlo.nullary main_cst (constant S_ .f32 0x00000000#32)
def op3 : HloOp τ sig (Elt F) := StableHlo.binary main_v1 main_cst main_v2 (fun x v => Host.reduceAdd x v reducesTo_S16x64x256_S64x256_d0 h_S_)

/-- The buffers at the start, -/
def V0 (d : Dev nD) : Valuation τ sig (Elt F) := fun b => m (d, b)
/-- with the weights' rows paired, -/
def V1 (d : Dev nD) : Valuation τ sig (Elt F) :=
  op1.result (V0 m d)
abbrev bF (d : Dev nD) : Buf (Elt F) (fLoc d) := V1 m d (Proc.devRef .tc main_arg0)
abbrev bP (d : Dev nD) : Buf (Elt F) (pLoc d) := V1 m d (Proc.devRef .tc main_v0)
abbrev bG (d : Dev nD) : Buf (Elt F) (gLoc d) := V1 m d (Proc.devRef .tc main_arg2)
abbrev bO (d : Dev nD) : Buf (Elt F) (oLoc d) := V1 m d (Proc.devRef .tc main_v1)
/-- after the tiles, -/
def V2 (d : Dev nD) : Valuation τ sig (Elt F) := Function.update (V1 m d) (Proc.devRef .tc main_v1) (sumsOf d (bF m d) (bP m d) (bG m d))
/-- and after the sum over them. -/
def V3 (d : Dev nD) : Valuation τ sig (Elt F) :=
  op2.result (V2 m d)
def V4 (d : Dev nD) : Valuation τ sig (Elt F) :=
  op3.result (V3 m d)

def P : (K (F := F)).Pay (nD := nD) (Val := Elt F) (Name := ℕ) (U := UU) where
  st := fun q d c => match q with | 0 => bigSep Finset.univ fun s : Fin (grid0.bound 1) => taken d (coords c s) (bF m d) (bP m d) (bG m d) (bO m d)
  dn := fun q d c => match q with
    | 0 => bigSep Finset.univ fun s : Fin (grid0.bound 1) => taken d (coords c s) (bF m d) (bP m d) (bG m d) (sumsOf d (bF m d) (bP m d) (bG m d))
  go := fun q d c s => match q with | 0 => taken d (coords c s) (bF m d) (bP m d) (bG m d) (bO m d)
  td := fun q d c s => match q with | 0 => taken d (coords c s) (bF m d) (bP m d) (bG m d) (sumsOf d (bF m d) (bP m d) (bG m d))
  x := fun _ _ => iprop(emp)

instance P_storable : (P (F := F) m).IsStorable where
  st q d c := match q with
    | 0 => (inferInstance : BI.Storable (upEmb : UEmb _ 𝕄) (bigSep Finset.univ fun s : Fin (grid0.bound 1) => taken d (coords c s) (bF m d) (bP m d) (bG m d) (bO m d)))
  dn q d c := match q with
    | 0 => (inferInstance : BI.Storable (upEmb : UEmb _ 𝕄)
      (bigSep Finset.univ fun s : Fin (grid0.bound 1) => taken d (coords c s) (bF m d) (bP m d) (bG m d) (sumsOf d (bF m d) (bP m d) (bG m d))))
  go q d c s := match q with
    | 0 => (inferInstance : BI.Storable (upEmb : UEmb _ 𝕄) (taken d (coords c s) (bF m d) (bP m d) (bG m d) (bO m d)))
  td q d c s := match q with
    | 0 => (inferInstance : BI.Storable (upEmb : UEmb _ 𝕄) (taken d (coords c s) (bF m d) (bP m d) (bG m d) (sumsOf d (bF m d) (bP m d) (bG m d))))

/-- Every graph id is the number of a graph. -/
def IdsOK : Prop := ∀ (d : Dev nD) (y : S50000.Idx), ((show (⟨S50000, .i32⟩ : BufTy).Contents (Elt F) from m (gLoc d)) y : BitVec 32).toNat < 64

theorem bG_eq (d : Dev nD) : bG m d = m (gLoc d) := by
  show V1 m d _ = _
  unfold V1
  rw [HloOp.result_of_not_mem]
  · rfl
  · unfold op1; rw [StableHlo.reshape_writes]; decide

/-! ## The task's obligation -/

theorem defs₀_vector (c : Fin τ.nSC) (s : Fin τ.nSub) :
    defs₀ (F := F) (.scVector c s) 0 ()
      = SparseCore.onTile hcore0 hsub0 (fun c s => cc0__sc_pool (coords c s)
          fV (Memref.isWhole_whole _) pV (Memref.isWhole_whole _) gV (Memref.isWhole_whole _) oV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _)
          (Memref.whole cc0_scratch8) (Memref.isWhole_whole _) (Memref.whole cc0_scratch9) (Memref.isWhole_whole _)
          cc0_scratch10 cc0_scratch11 cc0_scratch12 cc0_scratch13 cc0_scratch14 cc0_scratch15 cc0_scoped0) ⟨⟩ c s := rfl

omit [FloatOps F] in
theorem weaker {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  swap; · iexact HO
  ipureintro
  exact fun p hp => (hW' p hp).imp_right Or.inl

set_option maxRecDepth 16384 in
theorem tileObl (hids : IdsOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [tile_eq]
  exact (tile_body d (coords ⟨_, hci.1⟩ ⟨_, hci.2⟩) (bF m d) (bP m d) (bG m d) (bO m d) (by rw [bG_eq]; exact hids d) O W hO).trans (wp_mono frame _ _ fun _ => weaker)

theorem vecSplit : (K (F := F)).VecSplit' (P m) 0 := by
  intro d c
  show (bigSep Finset.univ fun s : Fin (grid0.bound 1) => taken d (coords c s) (bF m d) (bP m d) (bG m d) (bO m d)) ⊢ |={Set.univ}=> iprop(
      (bigSep Finset.univ fun s : Fin (grid0.bound 1) => taken d (coords c s) (bF m d) (bP m d) (bG m d) (bO m d))
      ∗ ((bigSep Finset.univ fun s : Fin (grid0.bound 1) => taken d (coords c s) (bF m d) (bP m d) (bG m d) (sumsOf d (bF m d) (bP m d) (bG m d)))
          -∗ (bigSep Finset.univ fun s : Fin (grid0.bound 1) => taken d (coords c s) (bF m d) (bP m d) (bG m d) (sumsOf d (bF m d) (bP m d) (bG m d)))))
  iintro H
  imodintro
  isplitl [H]; · iexact H
  iintro H
  iexact H

/-! ## The launch's ghost state -/

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The whole program on the TensorCore -/

/-- The four arrays of the call. -/
def callRefs : Finset (DevRef τ sig) := {Proc.devRef .tc main_arg0, Proc.devRef .tc main_v0, Proc.devRef .tc main_arg2, Proc.devRef .tc main_v1}

theorem callRefs_sub : callRefs ⊆ Pipeline.ucRefs τ sig := by decide

theorem held_call (d : Dev nD) (W : Valuation τ sig (Elt F)) : (held (d.tc : Thread nD τ) callRefs W : sProp 𝕄)
    = iprop((fLoc d ↦{fullShare} W (Proc.devRef .tc main_arg0)) ∗ (pLoc d ↦{fullShare} W (Proc.devRef .tc main_v0))
        ∗ (gLoc d ↦{fullShare} W (Proc.devRef .tc main_arg2)) ∗ oLoc d ↦{fullShare} W (Proc.devRef .tc main_v1)) := by
  unfold StableHlo.held callRefs
  rw [SparseCore.bigSep_insert' (by decide), SparseCore.bigSep_insert' (by decide), SparseCore.bigSep_insert' (by decide), bigSep_singleton]

omit [FloatOps F] in
theorem sep_eq (A B C : sProp 𝕄) : iprop((A ∗ B) ∗ C) = iprop(A ∗ B ∗ C) := Idealize.SL.BI.Entails.antisymm Idealize.SL.BI.sep_assoc Idealize.SL.BI.sep_assoc'

theorem call_in (d : Dev nD) : (held (d.tc : Thread nD τ) (Pipeline.ucRefs τ sig) (V1 m d) : sProp 𝕄)
    = iprop((bigSep Finset.univ fun c : Fin ((K (F := F)).nCore 0) => (P m).st 0 d c) ∗ held (d.tc : Thread nD τ) (Pipeline.ucRefs τ sig \ callRefs) (V1 m d)) := by
  rw [StableHlo.held_sub_split _ callRefs_sub, held_call]
  refine congrArg (fun A : sProp 𝕄 => iprop(A ∗ held (d.tc : Thread nD τ) (Pipeline.ucRefs τ sig \ callRefs) (V1 m d))) ?_
  refine Eq.trans ?_ (taken_split d (bF m d) (bP m d) (bG m d) (bO m d)).symm
  rw [sep_eq, sep_eq]

theorem call_out (d : Dev nD) : iprop((bigSep Finset.univ fun c : Fin ((K (F := F)).nCore 0) => (P m).dn 0 d c) ∗ held (d.tc : Thread nD τ) (Pipeline.ucRefs τ sig \ callRefs) (V1 m d))
    ⊢ (held (d.tc : Thread nD τ) (Pipeline.ucRefs τ sig) (V2 m d) : sProp 𝕄) := by
  have e : (held (d.tc : Thread nD τ) (Pipeline.ucRefs τ sig \ callRefs) (V1 m d) : sProp 𝕄) = held (d.tc : Thread nD τ) (Pipeline.ucRefs τ sig \ callRefs) (V2 m d) := by
    refine StableHlo.held_congr _ fun b hb => ?_
    unfold V2
    rw [Function.update_of_ne]
    rintro rfl
    exact (Finset.mem_sdiff.mp hb).2 (by decide)
  rw [StableHlo.held_sub_split _ callRefs_sub (V2 m d), held_call, e]
  have e0 : V2 m d (Proc.devRef .tc main_arg0) = bF m d := Function.update_of_ne (by decide) _ _
  have e1 : V2 m d (Proc.devRef .tc main_v0) = bP m d := Function.update_of_ne (by decide) _ _
  have e2 : V2 m d (Proc.devRef .tc main_arg2) = bG m d := Function.update_of_ne (by decide) _ _
  have e3 : V2 m d (Proc.devRef .tc main_v1) = sumsOf d (bF m d) (bP m d) (bG m d) := Function.update_self _ _ _
  rw [e0, e1, e2, e3]
  refine BIBase.Entails.trans (sep_mono (Entails.of_eq (taken_split d (bF m d) (bP m d) (bG m d) (sumsOf d (bF m d) (bP m d) (bG m d)))) .rfl) ?_
  iintro ⟨⟨⟨H1, H2, H3⟩, H4⟩, HR⟩
  isplitr [HR]
  swap; · iexact HR
  isplitl [H1]; · iexact H1
  isplitl [H2]; · iexact H2
  isplitl [H3]; · iexact H3
  iexact H4

/-- The arguments and the result. -/
def endRefs : Finset (DevRef τ sig) := {Proc.devRef .tc main_arg0, Proc.devRef .tc main_arg1, Proc.devRef .tc main_arg2, Proc.devRef .tc main_v2}

theorem endRefs_sub : endRefs ⊆ Pipeline.ucRefs τ sig := by decide

abbrev endAt (d : Dev nD) (b : Ref sig .tc) : sProp 𝕄 := ((SparseCore.T d : Thread nD τ).loc b) ↦{fullShare} V4 m d (Proc.devRef .tc b)

abbrev FIN (d : Dev nD) : sProp 𝕄 := iprop(endAt m d main_arg0 ∗ endAt m d main_arg1 ∗ endAt m d main_arg2 ∗ endAt m d main_v2)

theorem held_end (d : Dev nD) : (held (d.tc : Thread nD τ) (Pipeline.ucRefs τ sig) (V4 m d) : sProp 𝕄)
    = iprop(FIN m d ∗ held (d.tc : Thread nD τ) (Pipeline.ucRefs τ sig \ endRefs) (V4 m d)) := by
  rw [StableHlo.held_sub_split _ endRefs_sub]
  refine congrArg (fun A : sProp 𝕄 => iprop(A ∗ held (d.tc : Thread nD τ) (Pipeline.ucRefs τ sig \ endRefs) (V4 m d))) ?_
  unfold StableHlo.held endRefs
  rw [SparseCore.bigSep_insert' (by decide), SparseCore.bigSep_insert' (by decide), SparseCore.bigSep_insert' (by decide), bigSep_singleton]

theorem unscoped_start (d : Dev nD) : (unscopedBufs d (fun b => m ((SparseCore.T d).loc b)) : sProp 𝕄) = held (d.tc : Thread nD τ) (Pipeline.ucRefs τ sig) (V0 m d) :=
  Pipeline.unscopedBufs_held d (V0 m d)

theorem op1_sub : (op1 (F := F)).bufs ⊆ Pipeline.ucRefs τ sig := Pipeline.sub_ucRefs _ (StableHlo.reshape_bufs_sub _ _ _ _ _ _)
theorem op2_sub : (op2 (F := F)).bufs ⊆ Pipeline.ucRefs τ sig := Pipeline.sub_ucRefs _ (StableHlo.nullary_bufs_sub _ _ _)
theorem op3_sub : (op3 (F := F)).bufs ⊆ Pipeline.ucRefs τ sig := Pipeline.sub_ucRefs _ (StableHlo.binary_bufs_sub _ _ _ _ _ _ _)

/-- The program by its operations. -/
theorem main_eq (d : Dev nD) : main (F := F) d = (do
  hlo rfl op1 (fun _ => .ret ⟨⟩)
  sc.run d 0
  hlo rfl op2 (fun _ => .ret ⟨⟩)
  hlo rfl op3 (fun _ => .ret ⟨⟩)
  pure ⟨⟩) := rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_start]
  rw [main_eq]
  simp only [wp_bind, wp_pure]
  iintro ⟨#Hctx, Hst, ⟨Hb, HH, Hts, -⟩, -⟩
  iapply (StableHlo.wp_hlo_within 𝒱 (d.tc : Thread nD τ) none Set.univ (S := Pipeline.ucRefs τ sig) (V := V0 m d) op1_sub) $$ [Hb HH]
  · isplitl [Hb]; · iexact Hb
    iexact HH
  iintro ⟨Hb, HH⟩
  rw [wp_ret]
  imodintro
  ihave HH := (show (held (d.tc : Thread nD τ) (Pipeline.ucRefs τ sig) (op1.result (V0 m d)) : sProp 𝕄) ⊢ _ from Entails.of_eq (call_in m d)) $$ HH
  icases HH with ⟨HC, HR⟩
  iapply ((K (F := F)).wp_run (D (F := F)) 𝒱 (EH := EH) (P := P m) κ d 0) $$ [Hst HC Hb Hts HR]
  isplitr; · iexact Hctx
  isplitl [Hst]; · iexact Hst
  isplitl [HC]; · iexact HC
  iintro ⟨Hst, Hdn⟩
  ihave HH := (call_out m d) $$ [Hdn HR]
  · isplitl [Hdn]; · iexact Hdn
    iexact HR
  iapply (StableHlo.wp_hlo_within 𝒱 (d.tc : Thread nD τ) none Set.univ (S := Pipeline.ucRefs τ sig) (V := V2 m d) op2_sub) $$ [Hb HH]
  · isplitl [Hb]; · iexact Hb
    iexact HH
  iintro ⟨Hb, HH⟩
  rw [wp_ret]
  imodintro
  iapply (StableHlo.wp_hlo_within 𝒱 (d.tc : Thread nD τ) none Set.univ (S := Pipeline.ucRefs τ sig) (V := V3 m d) op3_sub) $$ [Hb HH]
  · isplitl [Hb]; · iexact Hb
    iexact HH
  iintro ⟨Hb, HH⟩
  rw [wp_ret]
  imodintro
  imodintro
  ihave HH := (show (held (d.tc : Thread nD τ) (Pipeline.ucRefs τ sig) (op3.result (V3 m d)) : sProp 𝕄) ⊢ _ from Entails.of_eq (held_end m d)) $$ HH
  icases HH with ⟨HF, -⟩
  isplitl [Hst]; · iexact Hst
  isplitl [HF]; · iexact HF
  isplitl [Hb]; · iexact Hb
  iexact Hts

/-- What the run leaves in an array. -/
def endsAt (d : Dev nD) (s' : MemSt nD τ sig (Elt F)) (b : Ref sig .tc) : Prop := s'.mem ((SparseCore.T d : Thread nD τ).loc b) = V4 m d (Proc.devRef .tc b)

def fq (d : Dev nD) (s' : MemSt nD τ sig (Elt F)) : Prop := endsAt m d s' main_arg0 ∧ endsAt m d s' main_arg1 ∧ endsAt m d s' main_arg2 ∧ endsAt m d s' main_v2

theorem read_end (d : Dev nD) (b : Ref sig .tc) (s' : Phys nD τ sig (Elt F)) :
    iprop(SI s' ∗ endAt m d b) ⊢ iprop(⌜endsAt m d s'.mem b⌝ ∗ (SI s' : sProp 𝕄)) := by
  iintro H
  ihave H := (persistent_entails_right (SI_pointsTo_agree (st := s') (ℓ := (SparseCore.T d : Thread nD τ).loc b) (I := Finset.univ) (q := fullShare) (f := V4 m d (Proc.devRef .tc b)))) $$ H
  icases H with ⟨%h, HSI, -⟩
  isplitr; · ipureintro; exact funext fun y => h y (Finset.mem_univ y)
  iexact HSI

theorem hfin (d : Dev nD) (s' : Phys nD τ sig (Elt F)) : iprop(FIN m d ∗ SI s') ⊢ (⌜fq m d s'.mem⌝ : sProp 𝕄) := by
  iintro ⟨⟨H0, H1, H2, H3⟩, HSI⟩
  ihave H := (read_end m d main_arg0 s') $$ [HSI H0]
  · isplitl [HSI] <;> iassumption
  icases H with ⟨%h0, HSI⟩
  ihave H := (read_end m d main_arg1 s') $$ [HSI H1]
  · isplitl [HSI] <;> iassumption
  icases H with ⟨%h1, HSI⟩
  ihave H := (read_end m d main_arg2 s') $$ [HSI H2]
  · isplitl [HSI] <;> iassumption
  icases H with ⟨%h2, HSI⟩
  ihave H := (read_end m d main_v2 s') $$ [HSI H3]
  · isplitl [HSI] <;> iassumption
  icases H with ⟨%h3, HSI⟩
  ipureintro
  exact ⟨h0, h1, h2, h3⟩

/-! ## The program's run -/

def QC : PUnit × MemSt nD τ sig (Elt F) → Prop := fun r => (∀ d : Dev nD, fq m d r.2) ∧ r.2.sem = fun _ => 0

theorem run_main [∀ e, Nonempty (Elt F e)] (hids : IdsOK m) :
    θ_run (Cert.Tiles.defs (F := F)) (Cert.Tiles.threads (F := F)) ⟨m, fun _ => 0, ρ⟩ (QC m) :=
  SparseCore.Cfg.θ_run_sc_quiescent (K := K (F := F)) (D := D (F := F)) (𝒱 := 𝒱) (EH := EH) (P := P m) (A := ∅) sc_facts v₀
    (fun q hq => match q with | 0 => nomatch hq)
    (fun q _ => match q with | 0 => tileObl m hids)
    (fun q _ => match q with | 0 => SparseCore.Cfg.VecSplit.of_plain (vecSplit m))
    m ρ main (fun _ => iprop(emp)) (FIN m) (u₀ (F := F)) (sep_elim_left.trans (hu₀ m)) (hmain m ρ) (fun d s' => fq m d s'.mem) (hfin m) (QC m) (fun _ h hz => ⟨h, hz⟩)

end Cert.Tiles
-- ==== Proof.TilesValue.lean ====
/-
  The tiles' value: the sums of the sixteen tiles of a column's core, added up, are the sums over the last 14160 nodes.
-/
module

public import proofs.«01_k».proof.Proof.TilesMath
public import proofs.«01_k».proof.Proof.TilesRun

@[expose] public section

noncomputable section

namespace Cert.Tiles

open Idealize.ShloMosaic
open Facts₀ Facts

section Tile

variable (feat : FVec Ideal S50000x256 .f32) (pos : FVec Ideal S50000x8 .f32) (paired : FVec Ideal S25000x16 .f32) (gid : IVec S50000 32)
variable (d : Dev nD) (i : grid0.Coords)

/-- Two nodes' weights to a row. -/
def IsPaired : Prop := ∀ (r : Fin 25000) (l : Fin 16),
  paired (ix2 r l) = pos (ix2 (⟨2 * r.val + l.val / 8, by have := r.isLt; have := l.isLt; omega⟩ : Fin 50000) (⟨l.val % 8, Nat.mod_lt _ (by decide)⟩ : Fin 8))

theorem core_lt : (i 0).val < 2 := (i 0).isLt
theorem tile_lt : (i 1).val < 16 := (i 1).isLt

theorem col_fits : 128 * (i 0).val + 128 ≤ 256 := by have := core_lt i; omega
theorem base_fits (m : ℕ) (h : has i m) : 80 * (i 1).val + 1280 * m + 35840 + 80 ≤ 50000 := by
  have h' : (i 1).val + 16 * m < 177 := h
  omega

theorem blockX_entry (m : ℕ) (h : has i m) (y : S80x128.Idx) : blockX (F := Ideal) d i fV feat m h y
    = feat (ix2 (⟨80 * (i 1).val + 1280 * m + 35840 + (y 0).val, by have := base_fits i m h; have : (y 0).val < 80 := (y 0).isLt; omega⟩ : Fin 50000)
        (⟨128 * (i 0).val + (y 1).val, by have := col_fits i; have : (y 1).val < 128 := (y 1).isLt; omega⟩ : Fin 256)) := by
  unfold blockX
  refine (View.read_apply _ _).trans ((cast_eq _ _).trans ?_)
  refine congrArg feat ?_
  funext a
  apply Fin.ext
  match a with
  | 0 => show 80 * (i 1).val + 1280 * m + 35840 + 1 * (y 0).val = 80 * (i 1).val + 1280 * m + 35840 + (y 0).val; omega
  | 1 => show 128 * (i 0).val + 1 * (y 1).val = 128 * (i 0).val + (y 1).val; omega

theorem blockP_entry (m : ℕ) (h : has i m) (y : S40x16.Idx) : blockP (F := Ideal) d i pV paired m h y
    = paired (ix2 (⟨40 * (i 1).val + 640 * m + 17920 + (y 0).val, by have := base_fits i m h; have : (y 0).val < 40 := (y 0).isLt; omega⟩ : Fin 25000)
        (⟨(y 1).val, (y 1).isLt⟩ : Fin 16)) := by
  unfold blockP
  refine (View.read_apply _ _).trans ((cast_eq _ _).trans ?_)
  refine congrArg paired ?_
  funext a
  apply Fin.ext
  match a with
  | 0 => show 40 * (i 1).val + 640 * m + 17920 + 1 * (y 0).val = 40 * (i 1).val + 640 * m + 17920 + (y 0).val; omega
  | 1 => show 0 + 1 * (y 1).val = (y 1).val; omega

theorem blockG_entry (m : ℕ) (h : has i m) (y : S80.Idx) : blockG (F := Ideal) d i gV gid m h y
    = gid (ix1 (⟨80 * (i 1).val + 1280 * m + 35840 + (y 0).val, by have := base_fits i m h; have : (y 0).val < 80 := (y 0).isLt; omega⟩ : Fin 50000)) := by
  unfold blockG
  refine (View.read_apply _ _).trans ((cast_eq _ _).trans ?_)
  refine congrArg gid ?_
  funext a
  apply Fin.ext
  match a with
  | 0 => show 80 * (i 1).val + 1280 * m + 35840 + 1 * (y 0).val = 80 * (i 1).val + 1280 * m + 35840 + (y 0).val; omega

theorem isBlock (hp : IsPaired pos paired) (m : ℕ) (h : has i m) :
    IsBlock feat pos gid (80 * (i 1).val + 1280 * m + 35840) (128 * (i 0).val) (base_fits i m h) (col_fits i)
      (blockX (F := Ideal) d i fV feat m h) (blockP (F := Ideal) d i pV paired m h) (blockG (F := Ideal) d i gV gid m h) where
  rows n c := blockX_entry feat d i m h (ix2 n c)
  weights n := by
    rw [blockP_entry]
    refine (hp _ _).trans (congrArg pos ?_)
    funext a
    apply Fin.ext
    match a with
    | 0 =>
      show 2 * (40 * (i 1).val + 640 * m + 17920 + n.val / 2) + (8 * (n.val % 2) + 1) / 8 = 80 * (i 1).val + 1280 * m + 35840 + n.val
      omega
    | 1 =>
      show (8 * (n.val % 2) + 1) % 8 = 1
      omega
  ids n := blockG_entry gid d i m h (ix1 n)

/-- What the eighty nodes of block `b` add to an entry of a tile's sums, if there is such a block. -/
def blockTerm (T : ℕ → EReal) (b : ℕ) : EReal := if b < 177 then ∑ n ∈ Finset.range 80, T (35840 + (b * 80 + n)) else 0

theorem sums_entry (hp : IsPaired pos paired) (hlt : ∀ n, (gid n).toNat < 64) (ho : InOrder gid) (y : S64x128.Idx) : ∀ M,
    sumsAfter (F := Ideal) d i fV pV gV feat paired gid M y
      = ∑ m ∈ Finset.range M, blockTerm (termAt feat pos gid (128 * (i 0).val) (col_fits i) y) ((i 1).val + 16 * m)
  | 0 => by
    rw [Finset.sum_range_zero]
    show Ideal.ofBits .f32 0x00000000#32 = 0
    exact Ideal.ofBits_zero_f32
  | M + 1 => by
    rw [Finset.sum_range_succ, ← sums_entry hp hlt ho y M, sumsAfter]
    by_cases h : has i M
    · have h' : (i 1).val + 16 * M < 177 := h
      rw [dif_pos h, block_entry feat pos gid (isBlock feat pos paired gid d i hp M h) hlt ho _ y 5 le_rfl]
      refine congrArg (_ + ·) ?_
      unfold blockTerm
      rw [if_pos h']
      refine Finset.sum_congr rfl fun n _ => ?_
      refine congrArg (termAt feat pos gid (128 * (i 0).val) (col_fits i) y) ?_
      omega
    · have h' : ¬ (i 1).val + 16 * M < 177 := h
      rw [dif_neg h]
      unfold blockTerm
      rw [if_neg h', add_zero]

end Tile

/-! ## All tiles -/

/-- A sum over the first `a * b` numbers, by rows of `b`. -/
theorem sum_by_rows (f : ℕ → EReal) (b : ℕ) : ∀ a, ∑ k ∈ Finset.range (a * b), f k = ∑ r ∈ Finset.range a, ∑ n ∈ Finset.range b, f (r * b + n)
  | 0 => by simp
  | a + 1 => by rw [Nat.succ_mul, Finset.sum_range_add, Finset.sum_range_succ, sum_by_rows f b a]

/-- The sixteen tiles' blocks are all 177, and they are the last 14160 nodes. -/
theorem tiles_sum (T : ℕ → EReal) : ∑ s : Fin 16, ∑ m ∈ Finset.range 12, blockTerm T (s.val + 16 * m) = ∑ k ∈ Finset.range 14160, T (35840 + k) := by
  rw [← Finset.sum_range (fun s => ∑ m ∈ Finset.range 12, blockTerm T (s + 16 * m)), Finset.sum_comm]
  have e : ∀ m ∈ Finset.range 12, ∑ s ∈ Finset.range 16, blockTerm T (s + 16 * m) = ∑ s ∈ Finset.range 16, blockTerm T (m * 16 + s) := fun m _ =>
    Finset.sum_congr rfl fun s _ => by rw [Nat.mul_comm, Nat.add_comm]
  rw [Finset.sum_congr rfl e, ← sum_by_rows (blockTerm T) 16 12, show 12 * 16 = 177 + 15 from rfl, Finset.sum_range_add]
  rw [Finset.sum_eq_zero (s := Finset.range 15) fun k _ => by unfold blockTerm; rw [if_neg (by omega)], add_zero]
  refine Eq.trans ?_ (sum_by_rows (fun k => T (35840 + k)) 80 177).symm
  refine Finset.sum_congr rfl fun b hb => ?_
  unfold blockTerm
  rw [if_pos (Finset.mem_range.mp hb)]

section All

variable (feat : FVec Ideal S50000x256 .f32) (pos : FVec Ideal S50000x8 .f32) (paired : FVec Ideal S25000x16 .f32) (gid : IVec S50000 32)
variable (d : Dev nD)

theorem sumsOf_entry (hp : IsPaired pos paired) (hlt : ∀ n, (gid n).toNat < 64) (ho : InOrder gid) (s : Fin 16) (g : Fin 64) (c : Fin 256) :
    (show FVec Ideal S16x64x256 .f32 from sumsOf (F := Ideal) d feat paired gid) (ix3 s g c)
      = ∑ m ∈ Finset.range 12, blockTerm (Cert.Pool.term feat pos gid g c) (s.val + 16 * m) := by
  have hc := c.isLt
  refine (sums_entry feat pos paired gid d _ hp hlt ho _ 12).trans ?_
  have e : termAt feat pos gid (128 * (c.val / 128)) (by omega) (ix2 g (⟨c.val % 128, Nat.mod_lt _ (by decide)⟩ : Fin 128)) = Cert.Pool.term feat pos gid g c := by
    funext k
    unfold termAt
    have : (⟨128 * (c.val / 128) + c.val % 128, by omega⟩ : Fin 256) = c := Fin.ext (by show 128 * (c.val / 128) + c.val % 128 = c.val; omega)
    exact congrArg (fun c => Cert.Pool.term feat pos gid g c k) this
  exact Finset.sum_congr rfl fun m _ => congrArg (fun T => blockTerm T (s.val + 16 * m)) e

/-- The sum over the tiles, at an entry. -/
theorem total_entry (hp : IsPaired pos paired) (hlt : ∀ n, (gid n).toNat < 64) (ho : InOrder gid) (g : Fin 64) (c : Fin 256) :
    Host.reduceAdd (F := Ideal) (sumsOf (F := Ideal) d feat paired gid) (constant (F := Ideal) S_ .f32 0x00000000#32) reducesTo_S16x64x256_S64x256_d0 h_S_ (ix2 g c)
      = ∑ k ∈ Finset.range 14160, Cert.Pool.term feat pos gid g c (35840 + k) := by
  show Ideal.hostReduceAdd _ _ _ _ = _
  rw [Ideal.hostReduceAdd_r3_a0]
  rw [show (constant (F := Ideal) S_ .f32 0x00000000#32 (Shape.Idx.first h_S_) : EReal) = 0 from Ideal.ofBits_zero_f32, zero_add, ← tiles_sum]
  exact Finset.sum_congr rfl fun s _ => sumsOf_entry feat pos paired gid d hp hlt ho s g c

end All

/-! ## The arrays that the tiles read -/

section Arrays

variable {F : FTy → Type} [FloatOps F] (m : (ℓ : Loc nD τ sig) → Buf (Elt F) ℓ) (d : Dev nD)

theorem V1_of_ne {r : Ref sig .tc} (h : r ≠ main_v0) : V1 m d (Proc.devRef .tc r) = m (d, Proc.devRef .tc r) := by
  unfold V1 op1
  rw [StableHlo.reshape_result_ne (h := h)]
  rfl

theorem V4_of_ne {r : Ref sig .tc} (h0 : r ≠ main_v0) (h1 : r ≠ main_v1) (h2 : r ≠ main_cst) (h3 : r ≠ main_v2) :
    V4 m d (Proc.devRef .tc r) = m (d, Proc.devRef .tc r) := by
  unfold V4 V3 V2 op2 op3
  rw [StableHlo.binary_result_ne (h := h3), StableHlo.nullary_result_ne (h := h2), Function.update_of_ne (StableHlo.devRef_ne_of_ne h1), V1_of_ne m d h0]

theorem V4_out : V4 m d (Proc.devRef .tc main_v2)
    = Host.reduceAdd (F := F) (sumsOf d (bF m d) (bP m d) (bG m d)) (constant (F := F) S_ .f32 0x00000000#32) reducesTo_S16x64x256_S64x256_d0 h_S_ := by
  unfold V4 op3
  rw [StableHlo.binary_result]
  unfold V3 op2
  rw [StableHlo.nullary_result, StableHlo.nullary_result_ne (h := (by decide : main_v1 ≠ main_cst))]
  unfold V2
  rw [Function.update_self]

theorem bF_eq : bF m d = m (fLoc d) := V1_of_ne m d (by decide)

theorem bP_eq : bP m d = shapeCast S25000x16 (show Vec F S50000x8 .f32 from m (d, Proc.devRef .tc main_arg1)) shapeCasts_S50000x8_S25000x16 := by
  show V1 m d _ = _
  unfold V1 op1
  rw [StableHlo.reshape_result]
  rfl

end Arrays

theorem paired_cast (pos : FVec Ideal S50000x8 .f32) : IsPaired pos (shapeCast S25000x16 pos shapeCasts_S50000x8_S25000x16) := by
  intro r l
  refine shapeCast_apply _ _ _ _ ?_
  rw [Shape.rowMajor_val_two, Shape.rowMajor_val_two]
  show (2 * r.val + l.val / 8) * 8 + l.val % 8 = r.val * 16 + l.val
  omega

/-- The kernel's result at an entry: the products of the last 14160 nodes that belong to the entry's graph. -/
theorem result_entry (m : (ℓ : Loc nD τ sig) → Buf (Elt Ideal) ℓ) (d : Dev nD) (hlt : IdsOK m)
    (ho : InOrder (show IVec S50000 32 from m (gLoc d))) (g : Fin 64) (c : Fin 256) :
    (show FVec Ideal S64x256 .f32 from V4 m d (Proc.devRef .tc main_v2)) (ix2 g c)
      = ∑ k ∈ Finset.range 14160, Cert.Pool.term (show FVec Ideal S50000x256 .f32 from m (d, Proc.devRef .tc main_arg0))
          (show FVec Ideal S50000x8 .f32 from m (d, Proc.devRef .tc main_arg1)) (show IVec S50000 32 from m (gLoc d)) g c (35840 + k) := by
  rw [V4_out, bG_eq, bF_eq, bP_eq]
  exact total_entry _ _ _ _ d (paired_cast _) (hlt d) ho g c

end Cert.Tiles
-- ==== Proof.TilesRef.lean ====
/-
  The side conditions of the tiles' programs and of their reference, and the reference's run.
-/
module

public import proofs.«01_k».proof.Defs
public import proofs.«01_k».proof.Proof.Gen.TilesReferenceIdeal
public import proofs.«01_k».proof.Proof.Gen.TilesReferenceIdeal.Run
public import proofs.«01_k».proof.Proof.Gen.Pre_graphs_in_order
public import proofs.«01_k».proof.Proof.Gen.Tiles
public import proofs.«01_k».proof.Proof.Gen.TilesIdeal
-- ==== Proof.TilesClaims.lean ====
/-
  The claims about the SparseCore's tiles: what the precondition says of the graph ids, the runs, and that the kernel and
  its reference end with the same array.
-/
module

public import proofs.«01_k».proof.Defs
public import proofs.«01_k».proof.Proof.TilesValue
public import proofs.«01_k».proof.Proof.TilesRef
public import Idealize.ShloMosaic.Lib.Quiescent

@[expose] public section

noncomputable section

open Idealize.ShloMosaic Idealize.ShloMosaic.TcCoe Idealize.SL.Sem

namespace Cert.Tiles

/-! ## The precondition -/

section Pre

variable {F : FTy → Type} [FloatOps F] (feat : FVec F S50000x256 .f32) (pos : FVec F S50000x8 .f32) (gid : IVec S50000 32)

open Cert.Pre_graphs_in_order in
/-- The id after a node's, and the last id after itself. -/
def following : IVec S50000 32 :=
  concatenate S50000 0 [⟨S49999, extractStridedSlice S49999 ![1] gid Facts.slices_S50000_S49999_1⟩, ⟨S1, extractStridedSlice S1 ![49999] gid Facts.slices_S50000_S1_49999⟩]
    Facts.concatenates_S49999_S1_S50000_d0

theorem following_entry (n : ℕ) (h : n + 1 < 50000) : following gid (ix1 (⟨n, by omega⟩ : Fin 50000)) = gid (ix1 (⟨n + 1, h⟩ : Fin 50000)) := by
  unfold following
  refine (concatenate_pair_apply_left (t := S50000) (s₁ := Cert.Pre_graphs_in_order.S49999) 0 _ _ _ _ rfl (ix1 (⟨n, by omega⟩ : Fin 49999)) fun b => ?_).trans ?_
  · match b with
    | 0 => rfl
  · refine congrArg gid ?_
    funext a
    apply Fin.ext
    match a with
    | 0 => show 1 + n = n + 1; omega

theorem pre_entry (h : Cert.Pre_graphs_in_order.fn feat pos gid = fun _ => 1#1) (n : S50000.Idx) :
    IntOp.andi (IntOp.andi (IntOp.cmpi .sge (gid n) 0#32) (IntOp.cmpi .slt (gid n) 64#32)) (IntOp.cmpi .sle (gid n) (following gid n)) = 1#1 :=
  congrFun h n

theorem andi_one {a b : BitVec 1} (h : IntOp.andi a b = 1#1) : a = 1#1 ∧ b = 1#1 := by
  revert h; revert a b; decide

theorem ids_lt (h : Cert.Pre_graphs_in_order.fn feat pos gid = fun _ => 1#1) (n : S50000.Idx) : (gid n).toNat < 64 := by
  have e := (andi_one (pre_entry feat pos gid h n)).1
  rw [show (64#32 : BitVec 32) = BitVec.ofNat 32 64 from rfl, WordCmp.andi_sge_zero_slt_ofNat (by decide), WordCmp.ofBool_decide_eq_one_iff] at e
  exact e

theorem ids_next (h : Cert.Pre_graphs_in_order.fn feat pos gid = fun _ => 1#1) (n : ℕ) (hn : n + 1 < 50000) :
    (gid (ix1 (⟨n, by omega⟩ : Fin 50000))).toNat ≤ (gid (ix1 (⟨n + 1, hn⟩ : Fin 50000))).toNat := by
  have e := (andi_one (pre_entry feat pos gid h (ix1 (⟨n, by omega⟩ : Fin 50000)))).2
  have l := ids_lt feat pos gid h
  rw [following_entry gid n hn, WordCmp.cmpi_sle_of_lt ((l _).trans (by decide)) ((l _).trans (by decide)), WordCmp.ofBool_decide_eq_one_iff] at e
  exact e

theorem ids_in_order (h : Cert.Pre_graphs_in_order.fn feat pos gid = fun _ => 1#1) : InOrder gid := by
  have up : ∀ (k n : ℕ) (hn : n + k < 50000), (gid (ix1 (⟨n, by omega⟩ : Fin 50000))).toNat ≤ (gid (ix1 (⟨n + k, hn⟩ : Fin 50000))).toNat := by
    intro k
    induction k with
    | zero => exact fun n hn => le_refl _
    | succ k ih => exact fun n hn => (ih n (by omega)).trans (ids_next feat pos gid h (n + k) hn)
  intro a b hab
  have := up (b.val - a.val) a.val (by have := b.isLt; have : a.val ≤ b.val := hab; omega)
  have e : (⟨a.val + (b.val - a.val), by have := b.isLt; have : a.val ≤ b.val := hab; omega⟩ : Fin 50000) = b :=
    Fin.ext (by have : a.val ≤ b.val := hab; show a.val + (b.val - a.val) = b.val; omega)
  rwa [e] at this

end Pre

/-! ## The runs -/

section Runs

variable {F : FTy → Type} [FloatOps F] [∀ e, Nonempty (Elt F e)]

/-- What a run ends with: the result as the operations compose it, the arguments as they were, every semaphore at zero. -/
abbrev Kept (m : (ℓ : Loc nD τ sig) → Buf (Elt F) ℓ) (r : PUnit × MemSt nD τ sig (Elt F)) : Prop := (∀ c : Dev nD,
  r.2.mem ((c.tc : Thread nD τ).loc main_v2) = V4 m c (Proc.devRef .tc main_v2)
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)) ∧ r.2.sem = fun _ => 0

/-- The tiles' run. -/
theorem run_keeps (m : (ℓ : Loc nD τ sig) → Buf (Elt F) ℓ) (ρ : Dev nD → PrngReg) (hids : IdsOK m) :
    θ_run (Cert.Tiles.defs (F := F)) (Cert.Tiles.threads (F := F)) ⟨m, fun _ => 0, ρ⟩ (Kept m) :=
  (θ_run _ _ _).mono (fun r h => ⟨fun c => ⟨(h.1 c).2.2.2,
      (h.1 c).1.trans (V4_of_ne m c (by decide) (by decide) (by decide) (by decide)),
      (h.1 c).2.1.trans (V4_of_ne m c (by decide) (by decide) (by decide) (by decide)),
      (h.1 c).2.2.1.trans (V4_of_ne m c (by decide) (by decide) (by decide) (by decide))⟩, h.2⟩) (run_main m ρ hids)

end Runs

/-- The tiles run on hardware floats, keep their arguments, and leave every semaphore at zero. -/
theorem frame_tiles : Cert.quiescent_Tiles := fun m ρ hp =>
  (θ_run _ _ _).mono (fun r h => ⟨fun c => (h.1 c).2, h.2⟩) (run_keeps (F := Bits) m ρ fun d y => ids_lt _ _ _ (hp d) y)

/-! ## The idealized program is the same program -/

theorem ids_ok (m : (ℓ : Loc nD τ sig) → Buf (Elt Ideal) ℓ) (hp : Cert.Pre_TilesIdeal m) : IdsOK (F := Ideal) m := fun d y => ids_lt _ _ _ (hp d) y

set_option maxHeartbeats 4000000 in
/-- The run, said of the idealized program: its text is that of the program on exact reals. -/
theorem run_ideal (m : (ℓ : Loc Cert.TilesIdeal.nD Cert.TilesIdeal.τ Cert.TilesIdeal.sig) → Buf (Elt Ideal) ℓ) (ρ : Dev Cert.TilesIdeal.nD → PrngReg)
    (hids : IdsOK (F := Ideal) m) (Q : PUnit × MemSt Cert.TilesIdeal.nD Cert.TilesIdeal.τ Cert.TilesIdeal.sig (Elt Ideal) → Prop)
    (hQ : ∀ r : PUnit × MemSt nD τ sig (Elt Ideal), Kept (F := Ideal) m r → Q r) :
    θ_run (Cert.TilesIdeal.defs (F := Ideal)) (Cert.TilesIdeal.threads (F := Ideal)) ⟨m, fun _ => 0, ρ⟩ Q :=
  (θ_run (Cert.Tiles.defs (F := Ideal)) (Cert.Tiles.threads (F := Ideal)) ⟨m, fun _ => 0, ρ⟩).mono hQ (run_keeps (F := Ideal) m ρ hids)

/-- The tiles run on exact reals, keep their arguments, and leave every semaphore at zero. -/
theorem frame_tiles_ideal : Cert.quiescent_TilesIdeal := fun m ρ hp =>
  run_ideal m ρ (ids_ok m hp) _ fun r h => ⟨fun c => (h.1 c).2, h.2⟩

/-! ## The reference -/

/-- The reference runs, keeps its arguments, and leaves every semaphore at zero: it declares none. -/
theorem frame_tiles_reference : Cert.quiescent_TilesReferenceIdeal := fun m ρ _ =>
  (θ_run Cert.TilesReferenceIdeal.defs _ _).mono (fun r h => ⟨fun c => (h c).2, sem_eq_zero_of_no_sems (by decide) r.2⟩)
    (Cert.TilesReferenceIdeal.Value.run (F := Ideal) m ρ)

theorem frame_tiles_reference_pre : Cert.quiescent_TilesReferenceIdeal_pre_graphs_in_order := fun m ρ _ =>
  frame_tiles_reference m ρ trivial

/-- The reference's array, as its operations compose it. -/
abbrev refTiles (feat : FVec Ideal S50000x256 .f32) (pos : FVec Ideal S50000x8 .f32) (gid : IVec S50000 32) : FVec Ideal S64x256 .f32 :=
  open Cert.TilesReferenceIdeal Cert.TilesReferenceIdeal.Facts₀ Cert.TilesReferenceIdeal.Facts in
  Host.scatterAdd scatter_S64x256_S14160x1_S14160x256_1_0_0_1
    (broadcastInDim S64x256 ![] bcast_S_S64x256 (constant (F := Ideal) S_ .f32 0x00000000#32))
    (broadcastInDim S14160x1 ![0] bcast_S14160_S14160x1_0 (extractStridedSlice S14160 ![35840] gid slices_S50000_S14160_35840))
    (mulf (F := Ideal) (extractStridedSlice S14160x256 ![35840, 0] feat slices_S50000x256_S14160x256_35840_0)
      (broadcastInDim S14160x256 ![0, 1] bcast_S14160x1_S14160x256_0_1
        (broadcastInDim S14160x1 ![0] bcast_S14160_S14160x1_0
          (shapeCast S14160 (extractStridedSlice S14160x1 ![35840, 1] pos slices_S50000x8_S14160x1_35840_1) shapeCasts_S14160x1_S14160))))

/-- The reference's entry (g, c) is the sum of the terms of the last 14160 nodes. -/
theorem refTiles_entry (feat : FVec Ideal S50000x256 .f32) (pos : FVec Ideal S50000x8 .f32) (gid : IVec S50000 32) (g : Fin 64) (c : Fin 256) :
    refTiles feat pos gid (ix2 g c) = ∑ k ∈ Finset.range 14160, Cert.Pool.term feat pos gid g c (35840 + k) := by
  rw [Finset.sum_range]
  unfold refTiles
  rw [Cert.Pool.scatter_entry _ rfl rfl rfl rfl]
  pointwise
  refine Finset.sum_congr rfl fun n _ => ?_
  have hn : 35840 + n.val < 50000 := by have := n.isLt; omega
  exact (Cert.Pool.term_of_lt feat pos gid g c hn).symm

/-- The tiles and their reference end with the same array: at each entry the sum of the products of the last 14160 nodes
    that belong to the entry's graph. -/
theorem tiles_equal : Cert.algebraic_TilesIdeal_TilesReferenceIdeal := by
  intro m g m' g' hp hargs
  refine ⟨fun c => V4 (F := Ideal) m c (Proc.devRef .tc main_v2), ?_, ?_⟩
  · exact run_ideal m g (ids_ok m hp) _ fun r h => h.1
  · refine (θ_run Cert.TilesReferenceIdeal.defs _ _).mono (fun r h c => ⟨(h c).1.trans ?_, (h c).2⟩)
      (Cert.TilesReferenceIdeal.Value.run (F := Ideal) m' g')
    rw [(hargs c).1, (hargs c).2.1, (hargs c).2.2]
    funext i
    rw [eq_ix2 i]
    exact (refTiles_entry _ _ _ (i 0) (i 1)).trans (result_entry m c (ids_ok m hp) (ids_in_order _ _ _ (hp c)) (i 0) (i 1)).symm

end Cert.Tiles

end
-- ==== Proof.lean ====
/-
  The claim: the runs of the three kernels and of their references, and that each kernel computes what its reference does.
  Proof/PoolClaims.lean has the two TensorCore calls, Proof/TilesClaims.lean the SparseCore's tiles.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.KernelIdeal.Value
public import proofs.«01_k».proof.Proof.PoolClaims
public import proofs.«01_k».proof.Proof.TilesClaims
public import proofs.«01_k».proof.Proof.Gen.ReferenceIdeal.Run
public import proofs.«01_k».proof.Proof.Gen.CombineIdeal.Value
public import proofs.«01_k».proof.Proof.Gen.CombineRefIdeal.Run
public import Idealize.ShloMosaic.Adequacy
public import Idealize.ShloMosaic.Init

@[expose] public section

noncomputable section

namespace Cert.Proof

open Idealize.ShloMosaic Idealize.SL.Sem Cert.Kernel

/-- The whole claim: the runs of all nine programs, the two equalities of Proof/PoolClaims.lean and the one of
    Proof/TilesClaims.lean. -/
theorem claim : Cert.Claim :=
  ⟨Cert.Kernel.Gen.facts, Cert.KernelIdeal.Gen.facts, Cert.ReferenceIdeal.Gen.facts, Cert.Combine.Gen.facts,
    Cert.CombineIdeal.Gen.facts, Cert.CombineRefIdeal.Gen.facts, Cert.Tiles.Gen.facts, Cert.TilesIdeal.Gen.facts,
    Cert.TilesReferenceIdeal.Gen.facts, Cert.Pre_graphs_in_order.Gen.facts,
    fun m ρ _ => Cert.Kernel.Gen.frame m ρ, fun m ρ _ => Cert.KernelIdeal.Gen.frame m ρ, Cert.Pool.frame_reference,
    fun m ρ _ => Cert.Combine.Gen.frame m ρ, fun m ρ _ => Cert.CombineIdeal.Gen.frame m ρ, Cert.Pool.frame_combine_reference,
    Cert.Tiles.frame_tiles, Cert.Tiles.frame_tiles_ideal, Cert.Tiles.frame_tiles_reference, Cert.Tiles.frame_tiles_reference_pre,
    trivial, Cert.Pool.pool_equal, trivial, Cert.Pool.combine_equal, trivial, Cert.Tiles.tiles_equal⟩

end Cert.Proof

end
